-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_gqa_inputs_ok [hPre_gqa_inputs_ok : Cert.Pre_gqa_inputs_ok.Facts] (m : (ℓ : Loc Cert.GqaIdeal.nD Cert.GqaIdeal.τ Cert.GqaIdeal.sig) → Buf (Elt Ideal) ℓ) : Prop :=
  ∀ c : Dev Cert.GqaIdeal.nD,
    (Cert.Pre_gqa_inputs_ok.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_gqa_inputs_ok [hPre_gqa_inputs_ok : Cert.Pre_gqa_inputs_ok.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_gqa_inputs_ok.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))) = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_inputs_ok [hPre_mla_inputs_ok : Cert.Pre_mla_inputs_ok.Facts] (m : (ℓ : Loc Cert.MlaIdeal.nD Cert.MlaIdeal.τ Cert.MlaIdeal.sig) → Buf (Elt Ideal) ℓ) : Prop :=
  ∀ c : Dev Cert.MlaIdeal.nD,
    (Cert.Pre_mla_inputs_ok.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_inputs_ok [hPre_mla_inputs_ok : Cert.Pre_mla_inputs_ok.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_inputs_ok.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_merge_inputs_ok [hPre_merge_inputs_ok : Cert.Pre_merge_inputs_ok.Facts] (m : (ℓ : Loc Cert.MergeIdeal.nD Cert.MergeIdeal.τ Cert.MergeIdeal.sig) → Buf (Elt Ideal) ℓ) : Prop :=
  ∀ c : Dev Cert.MergeIdeal.nD,
    (Cert.Pre_merge_inputs_ok.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_merge_inputs_ok [hPre_merge_inputs_ok : Cert.Pre_merge_inputs_ok.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_merge_inputs_ok.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13))) = (fun _ => 1#1)

def Pre_Moe [hPre_moe_inputs_ok : Cert.Pre_moe_inputs_ok.Facts] (m : (ℓ : Loc Cert.Moe.nD Cert.Moe.τ Cert.Moe.sig) → Buf (Elt Bits) ℓ) : Prop :=
  ∀ c : Dev Cert.Moe.nD,
    (Cert.Pre_moe_inputs_ok.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))) = (fun _ => 1#1)

def Pre_MoeIdeal [hPre_moe_inputs_ok : Cert.Pre_moe_inputs_ok.Facts] (m : (ℓ : Loc Cert.MoeIdeal.nD Cert.MoeIdeal.τ Cert.MoeIdeal.sig) → Buf (Elt Ideal) ℓ) : Prop :=
  ∀ c : Dev Cert.MoeIdeal.nD,
    (Cert.Pre_moe_inputs_ok.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_moe_inputs_ok [hPre_moe_inputs_ok : Cert.Pre_moe_inputs_ok.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_moe_inputs_ok.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_qkv_inputs_ok [hPre_qkv_inputs_ok : Cert.Pre_qkv_inputs_ok.Facts] (m : (ℓ : Loc Cert.QkvIdeal.nD Cert.QkvIdeal.τ Cert.QkvIdeal.sig) → Buf (Elt Ideal) ℓ) : Prop :=
  ∀ c : Dev Cert.QkvIdeal.nD,
    (Cert.Pre_qkv_inputs_ok.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11))) = (fun _ => 1#1)

def Pre_QkvRefIdeal (m : (ℓ : Loc Cert.QkvRefIdeal.nD Cert.QkvRefIdeal.τ Cert.QkvRefIdeal.sig) → Buf (Elt Ideal) ℓ) : Prop :=
  True

def Pre_QkvRefIdeal_qkv_inputs_ok [hPre_qkv_inputs_ok : Cert.Pre_qkv_inputs_ok.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_qkv_inputs_ok.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4)) (m ((c.tc : Thread Cert.QkvRefIdeal.nD Cert.QkvRefIdeal.τ).loc Cert.QkvRefIdeal.main_arg5)) (m ((c.tc : Thread Cert.QkvRefIdeal.nD Cert.QkvRefIdeal.τ).loc Cert.QkvRefIdeal.main_arg6)) (m ((c.tc : Thread Cert.QkvRefIdeal.nD Cert.QkvRefIdeal.τ).loc Cert.QkvRefIdeal.main_arg7)) (m ((c.tc : Thread Cert.QkvRefIdeal.nD Cert.QkvRefIdeal.τ).loc Cert.QkvRefIdeal.main_arg8)) (m ((c.tc : Thread Cert.QkvRefIdeal.nD Cert.QkvRefIdeal.τ).loc Cert.QkvRefIdeal.main_arg9)) (m ((c.tc : Thread Cert.QkvRefIdeal.nD Cert.QkvRefIdeal.τ).loc Cert.QkvRefIdeal.main_arg10)) (m ((c.tc : Thread Cert.QkvRefIdeal.nD Cert.QkvRefIdeal.τ).loc Cert.QkvRefIdeal.main_arg11))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Na (m : (ℓ : Loc Cert.Na.nD Cert.Na.τ Cert.Na.sig) → Buf (Elt Bits) ℓ) : Prop :=
  True

def Pre_NaIdeal (m : (ℓ : Loc Cert.NaIdeal.nD Cert.NaIdeal.τ Cert.NaIdeal.sig) → Buf (Elt Ideal) ℓ) : Prop :=
  True

def Pre_NaIdeal_na_inputs_ok [hPre_na_inputs_ok : Cert.Pre_na_inputs_ok.Facts] (m : (ℓ : Loc Cert.NaIdeal.nD Cert.NaIdeal.τ Cert.NaIdeal.sig) → Buf (Elt Ideal) ℓ) : Prop :=
  ∀ c : Dev Cert.NaIdeal.nD,
    (Cert.Pre_na_inputs_ok.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2)) (m ((c.tc : Thread Cert.NaIdeal.nD Cert.NaIdeal.τ).loc Cert.NaIdeal.main_arg3))) = (fun _ => 1#1)

def Pre_NaRefIdeal (m : (ℓ : Loc Cert.NaRefIdeal.nD Cert.NaRefIdeal.τ Cert.NaRefIdeal.sig) → Buf (Elt Ideal) ℓ) : Prop :=
  True

def Pre_NaRefIdeal_na_inputs_ok [hPre_na_inputs_ok : Cert.Pre_na_inputs_ok.Facts] (m : (ℓ : Loc Cert.NaRefIdeal.nD Cert.NaRefIdeal.τ Cert.NaRefIdeal.sig) → Buf (Elt Ideal) ℓ) : Prop :=
  ∀ c : Dev Cert.NaRefIdeal.nD,
    (Cert.Pre_na_inputs_ok.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1)) (m ((c.tc : Thread Cert.NaRefIdeal.nD Cert.NaRefIdeal.τ).loc Cert.NaRefIdeal.main_arg2)) (m ((c.tc : Thread Cert.NaRefIdeal.nD Cert.NaRefIdeal.τ).loc Cert.NaRefIdeal.main_arg3))) = (fun _ => 1#1)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaIdeal_pre_gqa_inputs_ok [hGqaIdeal : Cert.GqaIdeal.Facts] [hPre_gqa_inputs_ok : Cert.Pre_gqa_inputs_ok.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_gqa_inputs_ok m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_GqaRefIdeal_pre_gqa_inputs_ok [hGqaRefIdeal : Cert.GqaRefIdeal.Facts] [hPre_gqa_inputs_ok : Cert.Pre_gqa_inputs_ok.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_gqa_inputs_ok m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_mla_inputs_ok [hMlaIdeal : Cert.MlaIdeal.Facts] [hPre_mla_inputs_ok : Cert.Pre_mla_inputs_ok.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_inputs_ok m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_mla_inputs_ok [hMlaRefIdeal : Cert.MlaRefIdeal.Facts] [hPre_mla_inputs_ok : Cert.Pre_mla_inputs_ok.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_inputs_ok m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeIdeal_pre_merge_inputs_ok [hMergeIdeal : Cert.MergeIdeal.Facts] [hPre_merge_inputs_ok : Cert.Pre_merge_inputs_ok.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_merge_inputs_ok m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_MergeRefIdeal_pre_merge_inputs_ok [hMergeRefIdeal : Cert.MergeRefIdeal.Facts] [hPre_merge_inputs_ok : Cert.Pre_merge_inputs_ok.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_merge_inputs_ok m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_Moe [hMoe : Cert.Moe.Facts] [hPre_moe_inputs_ok : Cert.Pre_moe_inputs_ok.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] [hPre_moe_inputs_ok : Cert.Pre_moe_inputs_ok.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_MoeRefIdeal_pre_moe_inputs_ok [hMoeRefIdeal : Cert.MoeRefIdeal.Facts] [hPre_moe_inputs_ok : Cert.Pre_moe_inputs_ok.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_moe_inputs_ok m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9)
      ∧ r.2.mem ((c.tc : Thread Cert.Qkv.nD Cert.Qkv.τ).loc Cert.Qkv.main_arg10) = m ((c.tc : Thread Cert.Qkv.nD Cert.Qkv.τ).loc Cert.Qkv.main_arg10)
      ∧ r.2.mem ((c.tc : Thread Cert.Qkv.nD Cert.Qkv.τ).loc Cert.Qkv.main_arg11) = m ((c.tc : Thread Cert.Qkv.nD Cert.Qkv.τ).loc Cert.Qkv.main_arg11))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11))
      ∧ r.2.sem = fun _ => 0)

def quiescent_QkvIdeal_pre_qkv_inputs_ok [hQkvIdeal : Cert.QkvIdeal.Facts] [hPre_qkv_inputs_ok : Cert.Pre_qkv_inputs_ok.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_qkv_inputs_ok m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10)
      ∧ r.2.mem ((c.tc : Thread Cert.QkvRefIdeal.nD Cert.QkvRefIdeal.τ).loc Cert.QkvRefIdeal.main_arg11) = m ((c.tc : Thread Cert.QkvRefIdeal.nD Cert.QkvRefIdeal.τ).loc Cert.QkvRefIdeal.main_arg11))
      ∧ r.2.sem = fun _ => 0)

def quiescent_QkvRefIdeal_pre_qkv_inputs_ok [hQkvRefIdeal : Cert.QkvRefIdeal.Facts] [hPre_qkv_inputs_ok : Cert.Pre_qkv_inputs_ok.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal_qkv_inputs_ok m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10)
      ∧ r.2.mem ((c.tc : Thread Cert.QkvRefIdeal.nD Cert.QkvRefIdeal.τ).loc Cert.QkvRefIdeal.main_arg11) = m ((c.tc : Thread Cert.QkvRefIdeal.nD Cert.QkvRefIdeal.τ).loc Cert.QkvRefIdeal.main_arg11))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4))
      ∧ r.2.sem = fun _ => 0)

def quiescent_Na [hNa : Cert.Na.Facts] : Prop :=
  ∀ (m : (ℓ : Loc Cert.Na.nD Cert.Na.τ Cert.Na.sig) → Buf (Elt Bits) ℓ) (g : Dev Cert.Na.nD → PrngReg), Pre_Na m →
    θ_run (Cert.Na.defs (F := Bits)) (onTc (τ := Cert.Na.τ) (Cert.Na.main (F := Bits))) ⟨m, fun _ => 0, g⟩ (fun r => (∀ c : Dev Cert.Na.nD,
      r.2.mem ((c.tc : Thread Cert.Na.nD Cert.Na.τ).loc Cert.Na.main_arg0) = m ((c.tc : Thread Cert.Na.nD Cert.Na.τ).loc Cert.Na.main_arg0)
      ∧ r.2.mem ((c.tc : Thread Cert.Na.nD Cert.Na.τ).loc Cert.Na.main_arg1) = m ((c.tc : Thread Cert.Na.nD Cert.Na.τ).loc Cert.Na.main_arg1)
      ∧ r.2.mem ((c.tc : Thread Cert.Na.nD Cert.Na.τ).loc Cert.Na.main_arg2) = m ((c.tc : Thread Cert.Na.nD Cert.Na.τ).loc Cert.Na.main_arg2)
      ∧ r.2.mem ((c.tc : Thread Cert.Na.nD Cert.Na.τ).loc Cert.Na.main_arg3) = m ((c.tc : Thread Cert.Na.nD Cert.Na.τ).loc Cert.Na.main_arg3))
      ∧ r.2.sem = fun _ => 0)

def quiescent_NaIdeal [hNaIdeal : Cert.NaIdeal.Facts] : Prop :=
  ∀ (m : (ℓ : Loc Cert.NaIdeal.nD Cert.NaIdeal.τ Cert.NaIdeal.sig) → Buf (Elt Ideal) ℓ) (g : Dev Cert.NaIdeal.nD → PrngReg), Pre_NaIdeal m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
      ∧ r.2.mem ((c.tc : Thread Cert.NaIdeal.nD Cert.NaIdeal.τ).loc Cert.NaIdeal.main_arg3) = m ((c.tc : Thread Cert.NaIdeal.nD Cert.NaIdeal.τ).loc Cert.NaIdeal.main_arg3))
      ∧ r.2.sem = fun _ => 0)

def quiescent_NaIdeal_pre_na_inputs_ok [hNaIdeal : Cert.NaIdeal.Facts] [hPre_na_inputs_ok : Cert.Pre_na_inputs_ok.Facts] : Prop :=
  ∀ (m : (ℓ : Loc Cert.NaIdeal.nD Cert.NaIdeal.τ Cert.NaIdeal.sig) → Buf (Elt Ideal) ℓ) (g : Dev Cert.NaIdeal.nD → PrngReg), Pre_NaIdeal_na_inputs_ok m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
      ∧ r.2.mem ((c.tc : Thread Cert.NaIdeal.nD Cert.NaIdeal.τ).loc Cert.NaIdeal.main_arg3) = m ((c.tc : Thread Cert.NaIdeal.nD Cert.NaIdeal.τ).loc Cert.NaIdeal.main_arg3))
      ∧ r.2.sem = fun _ => 0)

def quiescent_NaRefIdeal [hNaRefIdeal : Cert.NaRefIdeal.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1)
      ∧ r.2.mem ((c.tc : Thread Cert.NaRefIdeal.nD Cert.NaRefIdeal.τ).loc Cert.NaRefIdeal.main_arg2) = m ((c.tc : Thread Cert.NaRefIdeal.nD Cert.NaRefIdeal.τ).loc Cert.NaRefIdeal.main_arg2)
      ∧ r.2.mem ((c.tc : Thread Cert.NaRefIdeal.nD Cert.NaRefIdeal.τ).loc Cert.NaRefIdeal.main_arg3) = m ((c.tc : Thread Cert.NaRefIdeal.nD Cert.NaRefIdeal.τ).loc Cert.NaRefIdeal.main_arg3))
      ∧ r.2.sem = fun _ => 0)

def quiescent_NaRefIdeal_pre_na_inputs_ok [hNaRefIdeal : Cert.NaRefIdeal.Facts] [hPre_na_inputs_ok : Cert.Pre_na_inputs_ok.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal_na_inputs_ok m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1)
      ∧ r.2.mem ((c.tc : Thread Cert.NaRefIdeal.nD Cert.NaRefIdeal.τ).loc Cert.NaRefIdeal.main_arg2) = m ((c.tc : Thread Cert.NaRefIdeal.nD Cert.NaRefIdeal.τ).loc Cert.NaRefIdeal.main_arg2)
      ∧ r.2.mem ((c.tc : Thread Cert.NaRefIdeal.nD Cert.NaRefIdeal.τ).loc Cert.NaRefIdeal.main_arg3) = m ((c.tc : Thread Cert.NaRefIdeal.nD Cert.NaRefIdeal.τ).loc Cert.NaRefIdeal.main_arg3))
      ∧ r.2.sem = fun _ => 0)

def preserves_Gqa_GqaIdeal : Prop :=
  True

def algebraic_GqaIdeal_GqaRefIdeal_pre_gqa_inputs_ok [hGqaIdeal : Cert.GqaIdeal.Facts] [hGqaRefIdeal : Cert.GqaRefIdeal.Facts] [hPre_gqa_inputs_ok : Cert.Pre_gqa_inputs_ok.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_gqa_inputs_ok m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)) →
    ∃ (v0 : (c : Dev Cert.GqaIdeal.nD) → Buf (Elt Ideal) ((c.tc : Thread Cert.GqaIdeal.nD Cert.GqaIdeal.τ).loc Cert.GqaIdeal.main_v0)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v0) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v22) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2))

def preserves_Mla_MlaIdeal : Prop :=
  True

def algebraic_MlaIdeal_MlaRefIdeal_pre_mla_inputs_ok [hMlaIdeal : Cert.MlaIdeal.Facts] [hMlaRefIdeal : Cert.MlaRefIdeal.Facts] [hPre_mla_inputs_ok : Cert.Pre_mla_inputs_ok.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_inputs_ok m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v22) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Merge_MergeIdeal : Prop :=
  True

def algebraic_MergeIdeal_MergeRefIdeal_pre_merge_inputs_ok [hMergeIdeal : Cert.MergeIdeal.Facts] [hMergeRefIdeal : Cert.MergeRefIdeal.Facts] [hPre_merge_inputs_ok : Cert.Pre_merge_inputs_ok.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_merge_inputs_ok m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v55) = v0 c
          ∧ r.2.mem ((c.tc : Thread Cert.MergeRefIdeal.nD Cert.MergeRefIdeal.τ).loc Cert.MergeRefIdeal.main_v62) = v1 c
          ∧ r.2.mem ((c.tc : Thread Cert.MergeRefIdeal.nD Cert.MergeRefIdeal.τ).loc Cert.MergeRefIdeal.main_v61) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def preserves_Moe_MoeIdeal : Prop :=
  True

def algebraic_MoeIdeal_MoeRefIdeal_on_active_rows [hMoeIdeal : Cert.MoeIdeal.Facts] [hMoeRefIdeal : Cert.MoeRefIdeal.Facts] [hPre_moe_inputs_ok : Cert.Pre_moe_inputs_ok.Facts] [hOn_active_rows : Cert.On_active_rows.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          (∀ i : (⟨2, ![147456, 1024]⟩ : Shape).Idx, (Cert.On_active_rows.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) i = 1#1 → r.2.mem ((c.tc : Thread Cert.MoeIdeal.nD Cert.MoeIdeal.τ).loc Cert.MoeIdeal.main_v0) i = v0 c i)
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          (∀ i : (⟨2, ![147456, 1024]⟩ : Shape).Idx, (Cert.On_active_rows.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) i = 1#1 → r.2.mem ((c.tc : Thread Cert.MoeRefIdeal.nD Cert.MoeRefIdeal.τ).loc Cert.MoeRefIdeal.main_v55) i = v0 c i)
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Qkv_QkvIdeal : Prop :=
  True

def algebraic_QkvIdeal_QkvRefIdeal_pre_qkv_inputs_ok [hQkvIdeal : Cert.QkvIdeal.Facts] [hQkvRefIdeal : Cert.QkvRefIdeal.Facts] [hPre_qkv_inputs_ok : Cert.Pre_qkv_inputs_ok.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal_qkv_inputs_ok m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)
      ∧ m' ((c.tc : Thread Cert.QkvRefIdeal.nD Cert.QkvRefIdeal.τ).loc Cert.QkvRefIdeal.main_arg10) = m ((c.tc : Thread Cert.QkvIdeal.nD Cert.QkvIdeal.τ).loc Cert.QkvIdeal.main_arg10)
      ∧ m' ((c.tc : Thread Cert.QkvRefIdeal.nD Cert.QkvRefIdeal.τ).loc Cert.QkvRefIdeal.main_arg11) = m ((c.tc : Thread Cert.QkvIdeal.nD Cert.QkvIdeal.τ).loc Cert.QkvIdeal.main_arg11)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)) (v2 : (c : Dev Cert.QkvIdeal.nD) → Buf (Elt Ideal) ((c.tc : Thread Cert.QkvIdeal.nD Cert.QkvIdeal.τ).loc Cert.QkvIdeal.main_v0_2)) (v3 : (c : Dev Cert.QkvIdeal.nD) → Buf (Elt Ideal) ((c.tc : Thread Cert.QkvIdeal.nD Cert.QkvIdeal.τ).loc Cert.QkvIdeal.main_v0_3)) (v4 : (c : Dev Cert.QkvIdeal.nD) → Buf (Elt Ideal) ((c.tc : Thread Cert.QkvIdeal.nD Cert.QkvIdeal.τ).loc Cert.QkvIdeal.main_v0_4)) (v5 : (c : Dev Cert.QkvIdeal.nD) → Buf (Elt Ideal) ((c.tc : Thread Cert.QkvIdeal.nD Cert.QkvIdeal.τ).loc Cert.QkvIdeal.main_v0_5)) (v6 : (c : Dev Cert.QkvIdeal.nD) → Buf (Elt Ideal) ((c.tc : Thread Cert.QkvIdeal.nD Cert.QkvIdeal.τ).loc Cert.QkvIdeal.main_v0_6)) (v7 : (c : Dev Cert.QkvIdeal.nD) → Buf (Elt Ideal) ((c.tc : Thread Cert.QkvIdeal.nD Cert.QkvIdeal.τ).loc Cert.QkvIdeal.main_v0_7)) (v8 : (c : Dev Cert.QkvIdeal.nD) → Buf (Elt Ideal) ((c.tc : Thread Cert.QkvIdeal.nD Cert.QkvIdeal.τ).loc Cert.QkvIdeal.main_v0_8)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_v0_2) = v2 c
          ∧ r.2.mem ((c.tc : Thread Cert.QkvIdeal.nD Cert.QkvIdeal.τ).loc Cert.QkvIdeal.main_v0_3) = v3 c
          ∧ r.2.mem ((c.tc : Thread Cert.QkvIdeal.nD Cert.QkvIdeal.τ).loc Cert.QkvIdeal.main_v0_4) = v4 c
          ∧ r.2.mem ((c.tc : Thread Cert.QkvIdeal.nD Cert.QkvIdeal.τ).loc Cert.QkvIdeal.main_v0_5) = v5 c
          ∧ r.2.mem ((c.tc : Thread Cert.QkvIdeal.nD Cert.QkvIdeal.τ).loc Cert.QkvIdeal.main_v0_6) = v6 c
          ∧ r.2.mem ((c.tc : Thread Cert.QkvIdeal.nD Cert.QkvIdeal.τ).loc Cert.QkvIdeal.main_v0_7) = v7 c
          ∧ r.2.mem ((c.tc : Thread Cert.QkvIdeal.nD Cert.QkvIdeal.τ).loc Cert.QkvIdeal.main_v0_8) = v8 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
          ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
          ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v176) = v0 c
          ∧ r.2.mem ((c.tc : Thread Cert.QkvRefIdeal.nD Cert.QkvRefIdeal.τ).loc Cert.QkvRefIdeal.main_v177) = v1 c
          ∧ r.2.mem ((c.tc : Thread Cert.QkvRefIdeal.nD Cert.QkvRefIdeal.τ).loc Cert.QkvRefIdeal.main_v178) = v2 c
          ∧ r.2.mem ((c.tc : Thread Cert.QkvRefIdeal.nD Cert.QkvRefIdeal.τ).loc Cert.QkvRefIdeal.main_v182) = v3 c
          ∧ r.2.mem ((c.tc : Thread Cert.QkvRefIdeal.nD Cert.QkvRefIdeal.τ).loc Cert.QkvRefIdeal.main_v186) = v4 c
          ∧ r.2.mem ((c.tc : Thread Cert.QkvRefIdeal.nD Cert.QkvRefIdeal.τ).loc Cert.QkvRefIdeal.main_v192) = v5 c
          ∧ r.2.mem ((c.tc : Thread Cert.QkvRefIdeal.nD Cert.QkvRefIdeal.τ).loc Cert.QkvRefIdeal.main_v196) = v6 c
          ∧ r.2.mem ((c.tc : Thread Cert.QkvRefIdeal.nD Cert.QkvRefIdeal.τ).loc Cert.QkvRefIdeal.main_v200) = v7 c
          ∧ r.2.mem ((c.tc : Thread Cert.QkvRefIdeal.nD Cert.QkvRefIdeal.τ).loc Cert.QkvRefIdeal.main_v206) = v8 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9)
          ∧ r.2.mem ((c.tc : Thread Cert.QkvRefIdeal.nD Cert.QkvRefIdeal.τ).loc Cert.QkvRefIdeal.main_arg10) = m' ((c.tc : Thread Cert.QkvRefIdeal.nD Cert.QkvRefIdeal.τ).loc Cert.QkvRefIdeal.main_arg10)
          ∧ r.2.mem ((c.tc : Thread Cert.QkvRefIdeal.nD Cert.QkvRefIdeal.τ).loc Cert.QkvRefIdeal.main_arg11) = m' ((c.tc : Thread Cert.QkvRefIdeal.nD Cert.QkvRefIdeal.τ).loc Cert.QkvRefIdeal.main_arg11))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)) →
    ∃ (v0 : (c : Dev Cert.FinalIdeal.nD) → Buf (Elt Ideal) ((c.tc : Thread Cert.FinalIdeal.nD Cert.FinalIdeal.τ).loc Cert.FinalIdeal.main_v0)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v29) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4))

def preserves_Na_NaIdeal : Prop :=
  True

def algebraic_NaIdeal_NaRefIdeal_pre_na_inputs_ok [hNaIdeal : Cert.NaIdeal.Facts] [hNaRefIdeal : Cert.NaRefIdeal.Facts] [hPre_na_inputs_ok : Cert.Pre_na_inputs_ok.Facts] : Prop :=
  ∀ (m : (ℓ : Loc Cert.NaIdeal.nD Cert.NaIdeal.τ Cert.NaIdeal.sig) → Buf (Elt Ideal) ℓ) (g : Dev Cert.NaIdeal.nD → PrngReg)
    (m' : (ℓ : Loc Cert.NaRefIdeal.nD Cert.NaRefIdeal.τ Cert.NaRefIdeal.sig) → Buf (Elt Ideal) ℓ) (g' : Dev Cert.NaRefIdeal.nD → PrngReg), Pre_NaIdeal_na_inputs_ok m →
    (∀ c : Dev Cert.NaIdeal.nD,
      m' ((c.tc : Thread Cert.NaRefIdeal.nD Cert.NaRefIdeal.τ).loc Cert.NaRefIdeal.main_arg0) = m ((c.tc : Thread Cert.NaIdeal.nD Cert.NaIdeal.τ).loc Cert.NaIdeal.main_arg0)
      ∧ m' ((c.tc : Thread Cert.NaRefIdeal.nD Cert.NaRefIdeal.τ).loc Cert.NaRefIdeal.main_arg1) = m ((c.tc : Thread Cert.NaIdeal.nD Cert.NaIdeal.τ).loc Cert.NaIdeal.main_arg1)
      ∧ m' ((c.tc : Thread Cert.NaRefIdeal.nD Cert.NaRefIdeal.τ).loc Cert.NaRefIdeal.main_arg2) = m ((c.tc : Thread Cert.NaIdeal.nD Cert.NaIdeal.τ).loc Cert.NaIdeal.main_arg2)
      ∧ m' ((c.tc : Thread Cert.NaRefIdeal.nD Cert.NaRefIdeal.τ).loc Cert.NaRefIdeal.main_arg3) = m ((c.tc : Thread Cert.NaIdeal.nD Cert.NaIdeal.τ).loc Cert.NaIdeal.main_arg3)) →
    ∃ (v0 : (c : Dev Cert.NaIdeal.nD) → Buf (Elt Ideal) ((c.tc : Thread Cert.NaIdeal.nD Cert.NaIdeal.τ).loc Cert.NaIdeal.main_v0)),
      θ_run (Cert.NaIdeal.defs (F := Ideal)) (onTc (τ := Cert.NaIdeal.τ) (Cert.NaIdeal.main (F := Ideal))) ⟨m, fun _ => 0, g⟩ (fun r => ∀ c : Dev Cert.NaIdeal.nD,
          r.2.mem ((c.tc : Thread Cert.NaIdeal.nD Cert.NaIdeal.τ).loc Cert.NaIdeal.main_v0) = v0 c
          ∧ r.2.mem ((c.tc : Thread Cert.NaIdeal.nD Cert.NaIdeal.τ).loc Cert.NaIdeal.main_arg0) = m ((c.tc : Thread Cert.NaIdeal.nD Cert.NaIdeal.τ).loc Cert.NaIdeal.main_arg0)
          ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
          ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
          ∧ r.2.mem ((c.tc : Thread Cert.NaIdeal.nD Cert.NaIdeal.τ).loc Cert.NaIdeal.main_arg3) = m ((c.tc : Thread Cert.NaIdeal.nD Cert.NaIdeal.τ).loc Cert.NaIdeal.main_arg3))
      ∧ θ_run (Cert.NaRefIdeal.defs (F := Ideal)) (onTc (τ := Cert.NaRefIdeal.τ) (Cert.NaRefIdeal.main (F := Ideal))) ⟨m', fun _ => 0, g'⟩ (fun r => ∀ c : Dev Cert.NaRefIdeal.nD,
          r.2.mem ((c.tc : Thread Cert.NaRefIdeal.nD Cert.NaRefIdeal.τ).loc Cert.NaRefIdeal.main_v58) = v0 c
          ∧ r.2.mem ((c.tc : Thread Cert.NaRefIdeal.nD Cert.NaRefIdeal.τ).loc Cert.NaRefIdeal.main_arg0) = m' ((c.tc : Thread Cert.NaRefIdeal.nD Cert.NaRefIdeal.τ).loc Cert.NaRefIdeal.main_arg0)
          ∧ r.2.mem ((c.tc : Thread Cert.NaRefIdeal.nD Cert.NaRefIdeal.τ).loc Cert.NaRefIdeal.main_arg1) = m' ((c.tc : Thread Cert.NaRefIdeal.nD Cert.NaRefIdeal.τ).loc Cert.NaRefIdeal.main_arg1)
          ∧ r.2.mem ((c.tc : Thread Cert.NaRefIdeal.nD Cert.NaRefIdeal.τ).loc Cert.NaRefIdeal.main_arg2) = m' ((c.tc : Thread Cert.NaRefIdeal.nD Cert.NaRefIdeal.τ).loc Cert.NaRefIdeal.main_arg2)
          ∧ r.2.mem ((c.tc : Thread Cert.NaRefIdeal.nD Cert.NaRefIdeal.τ).loc Cert.NaRefIdeal.main_arg3) = m' ((c.tc : Thread Cert.NaRefIdeal.nD Cert.NaRefIdeal.τ).loc Cert.NaRefIdeal.main_arg3))

def Claim : Prop :=
  ∃ (hGqa : Cert.Gqa.Facts) (hGqaIdeal : Cert.GqaIdeal.Facts) (hGqaRefIdeal : Cert.GqaRefIdeal.Facts) (hMla : Cert.Mla.Facts) (hMlaIdeal : Cert.MlaIdeal.Facts) (hMlaRefIdeal : Cert.MlaRefIdeal.Facts) (hMerge : Cert.Merge.Facts) (hMergeIdeal : Cert.MergeIdeal.Facts) (hMergeRefIdeal : Cert.MergeRefIdeal.Facts) (hMoe : Cert.Moe.Facts) (hMoeIdeal : Cert.MoeIdeal.Facts) (hMoeRefIdeal : Cert.MoeRefIdeal.Facts) (hQkv : Cert.Qkv.Facts) (hQkvIdeal : Cert.QkvIdeal.Facts) (hQkvRefIdeal : Cert.QkvRefIdeal.Facts) (hFinal : Cert.Final.Facts) (hFinalIdeal : Cert.FinalIdeal.Facts) (hFinalRefIdeal : Cert.FinalRefIdeal.Facts) (hNa : Cert.Na.Facts) (hNaIdeal : Cert.NaIdeal.Facts) (hNaRefIdeal : Cert.NaRefIdeal.Facts) (hPre_gqa_inputs_ok : Cert.Pre_gqa_inputs_ok.Facts) (hPre_mla_inputs_ok : Cert.Pre_mla_inputs_ok.Facts) (hPre_merge_inputs_ok : Cert.Pre_merge_inputs_ok.Facts) (hPre_moe_inputs_ok : Cert.Pre_moe_inputs_ok.Facts) (hPre_qkv_inputs_ok : Cert.Pre_qkv_inputs_ok.Facts) (hPre_na_inputs_ok : Cert.Pre_na_inputs_ok.Facts) (hOn_active_rows : Cert.On_active_rows.Facts),
    quiescent_Gqa (hGqa := hGqa)
    ∧ quiescent_GqaIdeal (hGqaIdeal := hGqaIdeal)
    ∧ quiescent_GqaIdeal_pre_gqa_inputs_ok (hGqaIdeal := hGqaIdeal) (hPre_gqa_inputs_ok := hPre_gqa_inputs_ok)
    ∧ quiescent_GqaRefIdeal (hGqaRefIdeal := hGqaRefIdeal)
    ∧ quiescent_GqaRefIdeal_pre_gqa_inputs_ok (hGqaRefIdeal := hGqaRefIdeal) (hPre_gqa_inputs_ok := hPre_gqa_inputs_ok)
    ∧ quiescent_Mla (hMla := hMla)
    ∧ quiescent_MlaIdeal (hMlaIdeal := hMlaIdeal)
    ∧ quiescent_MlaIdeal_pre_mla_inputs_ok (hMlaIdeal := hMlaIdeal) (hPre_mla_inputs_ok := hPre_mla_inputs_ok)
    ∧ quiescent_MlaRefIdeal (hMlaRefIdeal := hMlaRefIdeal)
    ∧ quiescent_MlaRefIdeal_pre_mla_inputs_ok (hMlaRefIdeal := hMlaRefIdeal) (hPre_mla_inputs_ok := hPre_mla_inputs_ok)
    ∧ quiescent_Merge (hMerge := hMerge)
    ∧ quiescent_MergeIdeal (hMergeIdeal := hMergeIdeal)
    ∧ quiescent_MergeIdeal_pre_merge_inputs_ok (hMergeIdeal := hMergeIdeal) (hPre_merge_inputs_ok := hPre_merge_inputs_ok)
    ∧ quiescent_MergeRefIdeal (hMergeRefIdeal := hMergeRefIdeal)
    ∧ quiescent_MergeRefIdeal_pre_merge_inputs_ok (hMergeRefIdeal := hMergeRefIdeal) (hPre_merge_inputs_ok := hPre_merge_inputs_ok)
    ∧ quiescent_Moe (hMoe := hMoe) (hPre_moe_inputs_ok := hPre_moe_inputs_ok)
    ∧ quiescent_MoeIdeal (hMoeIdeal := hMoeIdeal) (hPre_moe_inputs_ok := hPre_moe_inputs_ok)
    ∧ quiescent_MoeRefIdeal (hMoeRefIdeal := hMoeRefIdeal)
    ∧ quiescent_MoeRefIdeal_pre_moe_inputs_ok (hMoeRefIdeal := hMoeRefIdeal) (hPre_moe_inputs_ok := hPre_moe_inputs_ok)
    ∧ quiescent_Qkv (hQkv := hQkv)
    ∧ quiescent_QkvIdeal (hQkvIdeal := hQkvIdeal)
    ∧ quiescent_QkvIdeal_pre_qkv_inputs_ok (hQkvIdeal := hQkvIdeal) (hPre_qkv_inputs_ok := hPre_qkv_inputs_ok)
    ∧ quiescent_QkvRefIdeal (hQkvRefIdeal := hQkvRefIdeal)
    ∧ quiescent_QkvRefIdeal_pre_qkv_inputs_ok (hQkvRefIdeal := hQkvRefIdeal) (hPre_qkv_inputs_ok := hPre_qkv_inputs_ok)
    ∧ quiescent_Final (hFinal := hFinal)
    ∧ quiescent_FinalIdeal (hFinalIdeal := hFinalIdeal)
    ∧ quiescent_FinalRefIdeal (hFinalRefIdeal := hFinalRefIdeal)
    ∧ quiescent_Na (hNa := hNa)
    ∧ quiescent_NaIdeal (hNaIdeal := hNaIdeal)
    ∧ quiescent_NaIdeal_pre_na_inputs_ok (hNaIdeal := hNaIdeal) (hPre_na_inputs_ok := hPre_na_inputs_ok)
    ∧ quiescent_NaRefIdeal (hNaRefIdeal := hNaRefIdeal)
    ∧ quiescent_NaRefIdeal_pre_na_inputs_ok (hNaRefIdeal := hNaRefIdeal) (hPre_na_inputs_ok := hPre_na_inputs_ok)
    ∧ preserves_Gqa_GqaIdeal
    ∧ algebraic_GqaIdeal_GqaRefIdeal_pre_gqa_inputs_ok (hGqaIdeal := hGqaIdeal) (hGqaRefIdeal := hGqaRefIdeal) (hPre_gqa_inputs_ok := hPre_gqa_inputs_ok)
    ∧ preserves_Mla_MlaIdeal
    ∧ algebraic_MlaIdeal_MlaRefIdeal_pre_mla_inputs_ok (hMlaIdeal := hMlaIdeal) (hMlaRefIdeal := hMlaRefIdeal) (hPre_mla_inputs_ok := hPre_mla_inputs_ok)
    ∧ preserves_Merge_MergeIdeal
    ∧ algebraic_MergeIdeal_MergeRefIdeal_pre_merge_inputs_ok (hMergeIdeal := hMergeIdeal) (hMergeRefIdeal := hMergeRefIdeal) (hPre_merge_inputs_ok := hPre_merge_inputs_ok)
    ∧ preserves_Moe_MoeIdeal
    ∧ algebraic_MoeIdeal_MoeRefIdeal_on_active_rows (hMoeIdeal := hMoeIdeal) (hMoeRefIdeal := hMoeRefIdeal) (hPre_moe_inputs_ok := hPre_moe_inputs_ok) (hOn_active_rows := hOn_active_rows)
    ∧ preserves_Qkv_QkvIdeal
    ∧ algebraic_QkvIdeal_QkvRefIdeal_pre_qkv_inputs_ok (hQkvIdeal := hQkvIdeal) (hQkvRefIdeal := hQkvRefIdeal) (hPre_qkv_inputs_ok := hPre_qkv_inputs_ok)
    ∧ preserves_Final_FinalIdeal
    ∧ algebraic_FinalIdeal_FinalRefIdeal (hFinalIdeal := hFinalIdeal) (hFinalRefIdeal := hFinalRefIdeal)
    ∧ preserves_Na_NaIdeal
    ∧ algebraic_NaIdeal_NaRefIdeal_pre_na_inputs_ok (hNaIdeal := hNaIdeal) (hNaRefIdeal := hNaRefIdeal) (hPre_na_inputs_ok := hPre_na_inputs_ok)
-- ==== On_active_rows.lean ====
abbrev S288 : Shape := ⟨1, ![288]⟩
abbrev S1 : Shape := ⟨1, ![1]⟩
abbrev S147456x1024 : Shape := ⟨2, ![147456, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  shapeCasts_S1_S_ : S1.ShapeCasts S_
  bcast_S_S147456x1024 : S_.BroadcastsInDim S147456x1024 (![] : Fin 0 → Fin S147456x1024.rank)

variable [Facts]

def fn {F : FTy → Type} [FloatOps F] (main_arg0 : IVec S288 32) (main_arg1 : IVec S1 32) (main_arg2 : FVec F S147456x1024 .bf16) (main_arg3 : FVec F S32x1024x2048 .bf16) (main_arg4 : FVec F S32x1x2048 .f32) (main_arg5 : FVec F S32x1024x1024 .bf16) (main_arg6 : FVec F S32x1x1024 .f32) : IVec S147456x1024 1 :=
  let main_v0 : IVec S147456x1024 32 := iotaInDim S147456x1024 32 0
  let main_v1 : IVec S_ 32 := shapeCast S_ main_arg1 shapeCasts_S1_S_
  let main_c : IVec S_ 32 := constantI S_ 32 512#32
  let main_v2 : IVec S_ 32 := muli main_v1 main_c
  let main_v3 : IVec S147456x1024 32 := broadcastInDim S147456x1024 ![] bcast_S_S147456x1024 main_v2
  let main_v4 : IVec S147456x1024 1 := cmpi .slt main_v0 main_v3
  main_v4
-- ==== Pre_gqa_inputs_ok.lean ====
abbrev S32768x768 : Shape := ⟨2, ![32768, 768]⟩
abbrev S32768x256 : Shape := ⟨2, ![32768, 256]⟩
abbrev S32768x2x128 : Shape := ⟨3, ![32768, 2, 128]⟩
abbrev S32768x2x1 : Shape := ⟨3, ![32768, 2, 1]⟩
abbrev S32768x2 : Shape := ⟨2, ![32768, 2]⟩
abbrev S_ : Shape := ⟨0, ![]⟩

class Facts : Prop where
  bitsLt_bf16_f32 : FTy.bits .bf16 < FTy.bits .f32
  shapeCasts_S32768x256_S32768x2x128 : S32768x256.ShapeCasts S32768x2x128
  slices_S32768x2x128_S32768x2x1_0_0_64 : S32768x2x128.Slices ![0, 0, 64] S32768x2x1
  shapeCasts_S32768x2x1_S32768x2 : S32768x2x1.ShapeCasts S32768x2
  bcast_S_S32768x768 : S_.BroadcastsInDim S32768x768 (![] : Fin 0 → Fin S32768x768.rank)
  reducesTo_S32768x768_S_d0_1 : S32768x768.ReducesTo [0, 1] S_
  h_S_ : 0 < S_.numel
  bcast_S_S32768x256 : S_.BroadcastsInDim S32768x256 (![] : Fin 0 → Fin S32768x256.rank)
  reducesTo_S32768x256_S_d0_1 : S32768x256.ReducesTo [0, 1] S_
  bcast_S_S32768x2 : S_.BroadcastsInDim S32768x2 (![] : Fin 0 → Fin S32768x2.rank)
  reducesTo_S32768x2_S_d0_1 : S32768x2.ReducesTo [0, 1] S_

variable [Facts]

def fn_part1 {F : FTy → Type} [FloatOps F] (main_v3 : FVec F S32768x2 .f32) (main_v14 : IVec S_ 1) (main_v18 : IVec S32768x256 1) : IVec S_ 1 :=
  let main_c_3 : IVec S_ 1 := constantI S_ 1 1#1
  let main_v19 : IVec S_ 1 := (fun x v => Host.reduce IntOp.andi x v reducesTo_S32768x256_S_d0_1 h_S_) main_v18 main_c_3
  let main_v20 : IVec S_ 1 := andi main_v14 main_v19
  let main_cst_4 : FVec F S_ .f32 := constant S_ .f32 0x3F800000#32
  let main_v21 : FVec F S32768x2 .f32 := broadcastInDim S32768x2 ![] bcast_S_S32768x2 main_cst_4
  let main_v22 : IVec S32768x2 1 := cmpf .oeq main_v3 main_v21
  let main_c_5 : IVec S_ 1 := constantI S_ 1 1#1
  let main_v23 : IVec S_ 1 := (fun x v => Host.reduce IntOp.andi x v reducesTo_S32768x2_S_d0_1 h_S_) main_v22 main_c_5
  let main_v24 : IVec S_ 1 := andi main_v20 main_v23
  main_v24

def fn {F : FTy → Type} [FloatOps F] (main_arg0 : FVec F S32768x768 .bf16) (main_arg1 : FVec F S32768x256 .bf16) (main_arg2 : FVec F S32768x256 .bf16) : IVec S_ 1 :=
  let main_v0 : FVec F S32768x256 .f32 := (extf .f32 · bitsLt_bf16_f32) main_arg2
  let main_v1 : FVec F S32768x2x128 .f32 := shapeCast S32768x2x128 main_v0 shapeCasts_S32768x256_S32768x2x128
  let main_v2 : FVec F S32768x2x1 .f32 := (extractStridedSlice S32768x2x1 ![0, 0, 64] · slices_S32768x2x128_S32768x2x1_0_0_64) main_v1
  let main_v3 : FVec F S32768x2 .f32 := shapeCast S32768x2 main_v2 shapeCasts_S32768x2x1_S32768x2
  let main_v4 : FVec F S32768x768 .f32 := (extf .f32 · bitsLt_bf16_f32) main_arg0
  let main_v5 : FVec F S32768x768 .f32 := Host.absf main_v4
  let main_cst : FVec F S_ .f32 := constant S_ .f32 0x7F800000#32
  let main_v6 : FVec F S32768x768 .f32 := broadcastInDim S32768x768 ![] bcast_S_S32768x768 main_cst
  let main_v7 : IVec S32768x768 1 := cmpf .olt main_v5 main_v6
  let main_c : IVec S_ 1 := constantI S_ 1 1#1
  let main_v8 : IVec S_ 1 := (fun x v => Host.reduce IntOp.andi x v reducesTo_S32768x768_S_d0_1 h_S_) main_v7 main_c
  let main_v9 : FVec F S32768x256 .f32 := (extf .f32 · bitsLt_bf16_f32) main_arg1
  let main_v10 : FVec F S32768x256 .f32 := Host.absf main_v9
  let main_cst_0 : FVec F S_ .f32 := constant S_ .f32 0x7F800000#32
  let main_v11 : FVec F S32768x256 .f32 := broadcastInDim S32768x256 ![] bcast_S_S32768x256 main_cst_0
  let main_v12 : IVec S32768x256 1 := cmpf .olt main_v10 main_v11
  let main_c_1 : IVec S_ 1 := constantI S_ 1 1#1
  let main_v13 : IVec S_ 1 := (fun x v => Host.reduce IntOp.andi x v reducesTo_S32768x256_S_d0_1 h_S_) main_v12 main_c_1
  let main_v14 : IVec S_ 1 := andi main_v8 main_v13
  let main_v15 : FVec F S32768x256 .f32 := (extf .f32 · bitsLt_bf16_f32) main_arg2
  let main_v16 : FVec F S32768x256 .f32 := Host.absf main_v15
  let main_cst_2 : FVec F S_ .f32 := constant S_ .f32 0x7F800000#32
  let main_v17 : FVec F S32768x256 .f32 := broadcastInDim S32768x256 ![] bcast_S_S32768x256 main_cst_2
  let main_v18 : IVec S32768x256 1 := cmpf .olt main_v16 main_v17
  fn_part1 (F := F) main_v3 main_v14 main_v18
-- ==== Pre_merge_inputs_ok.lean ====
abbrev S32768x1024 : Shape := ⟨2, ![32768, 1024]⟩
abbrev S32768x384 : Shape := ⟨2, ![32768, 384]⟩
abbrev S32768x768 : Shape := ⟨2, ![32768, 768]⟩
abbrev S32768x512 : Shape := ⟨2, ![32768, 512]⟩
abbrev S1024x3072 : Shape := ⟨2, ![1024, 3072]⟩
abbrev S384x1024 : Shape := ⟨2, ![384, 1024]⟩
abbrev S768x1024 : Shape := ⟨2, ![768, 1024]⟩
abbrev S512x1024 : Shape := ⟨2, ![512, 1024]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bitsLt_bf16_f32 : FTy.bits .bf16 < FTy.bits .f32
  bcast_S_S32768x384 : S_.BroadcastsInDim S32768x384 (![] : Fin 0 → Fin S32768x384.rank)
  reducesTo_S32768x384_S_d0_1 : S32768x384.ReducesTo [0, 1] S_
  bcast_S_S32768x768 : S_.BroadcastsInDim S32768x768 (![] : Fin 0 → Fin S32768x768.rank)
  reducesTo_S32768x768_S_d0_1 : S32768x768.ReducesTo [0, 1] S_
  bcast_S_S32768x512 : S_.BroadcastsInDim S32768x512 (![] : Fin 0 → Fin S32768x512.rank)
  reducesTo_S32768x512_S_d0_1 : S32768x512.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S384x1024 : S_.BroadcastsInDim S384x1024 (![] : Fin 0 → Fin S384x1024.rank)
  reducesTo_S384x1024_S_d0_1 : S384x1024.ReducesTo [0, 1] S_
  bcast_S_S768x1024 : S_.BroadcastsInDim S768x1024 (![] : Fin 0 → Fin S768x1024.rank)
  reducesTo_S768x1024_S_d0_1 : S768x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x128 : S_.BroadcastsInDim S1024x128 (![] : Fin 0 → Fin S1024x128.rank)
  reducesTo_S1024x128_S_d0_1 : S1024x128.ReducesTo [0, 1] S_

variable [Facts]

def fn_part4 {F : FTy → Type} [FloatOps F] (main_v67 : IVec S_ 1) (main_v69 : FVec F S1024x128 .f32) (main_v70 : FVec F S1024x128 .f32) : IVec S_ 1 :=
  let main_v71 : IVec S1024x128 1 := cmpf .olt main_v69 main_v70
  let main_c_23 : IVec S_ 1 := constantI S_ 1 1#1
  let main_v72 : IVec S_ 1 := (fun x v => Host.reduce IntOp.andi x v reducesTo_S1024x128_S_d0_1 h_S_) main_v71 main_c_23
  let main_v73 : IVec S_ 1 := andi main_v67 main_v72
  main_v73

def fn_part3 {F : FTy → Type} [FloatOps F] (main_arg10 : FVec F S1x1024 .f32) (main_arg11 : FVec F S1024x128 .bf16) (main_arg12 : FVec F S1024x128 .bf16) (main_v51 : IVec S_ 1) (main_v52 : FVec F S1x1024 .f32) (main_cst_16 : FVec F S_ .f32) : IVec S_ 1 :=
  let main_v53 : FVec F S1x1024 .f32 := broadcastInDim S1x1024 ![] bcast_S_S1x1024 main_cst_16
  let main_v54 : IVec S1x1024 1 := cmpf .olt main_v52 main_v53
  let main_c_17 : IVec S_ 1 := constantI S_ 1 1#1
  let main_v55 : IVec S_ 1 := (fun x v => Host.reduce IntOp.andi x v reducesTo_S1x1024_S_d0_1 h_S_) main_v54 main_c_17
  let main_v56 : IVec S_ 1 := andi main_v51 main_v55
  let main_v57 : FVec F S1x1024 .f32 := Host.absf main_arg10
  let main_cst_18 : FVec F S_ .f32 := constant S_ .f32 0x7F800000#32
  let main_v58 : FVec F S1x1024 .f32 := broadcastInDim S1x1024 ![] bcast_S_S1x1024 main_cst_18
  let main_v59 : IVec S1x1024 1 := cmpf .olt main_v57 main_v58
  let main_c_19 : IVec S_ 1 := constantI S_ 1 1#1
  let main_v60 : IVec S_ 1 := (fun x v => Host.reduce IntOp.andi x v reducesTo_S1x1024_S_d0_1 h_S_) main_v59 main_c_19
  let main_v61 : IVec S_ 1 := andi main_v56 main_v60
  let main_v62 : FVec F S1024x128 .f32 := (extf .f32 · bitsLt_bf16_f32) main_arg11
  let main_v63 : FVec F S1024x128 .f32 := Host.absf main_v62
  let main_cst_20 : FVec F S_ .f32 := constant S_ .f32 0x7F800000#32
  let main_v64 : FVec F S1024x128 .f32 := broadcastInDim S1024x128 ![] bcast_S_S1024x128 main_cst_20
  let main_v65 : IVec S1024x128 1 := cmpf .olt main_v63 main_v64
  let main_c_21 : IVec S_ 1 := constantI S_ 1 1#1
  let main_v66 : IVec S_ 1 := (fun x v => Host.reduce IntOp.andi x v reducesTo_S1024x128_S_d0_1 h_S_) main_v65 main_c_21
  let main_v67 : IVec S_ 1 := andi main_v61 main_v66
  let main_v68 : FVec F S1024x128 .f32 := (extf .f32 · bitsLt_bf16_f32) main_arg12
  let main_v69 : FVec F S1024x128 .f32 := Host.absf main_v68
  let main_cst_22 : FVec F S_ .f32 := constant S_ .f32 0x7F800000#32
  let main_v70 : FVec F S1024x128 .f32 := broadcastInDim S1024x128 ![] bcast_S_S1024x128 main_cst_22
  fn_part4 (F := F) main_v67 main_v69 main_v70

def fn_part2 {F : FTy → Type} [FloatOps F] (main_arg7 : FVec F S512x1024 .bf16) (main_arg8 : FVec F S1024x1024 .bf16) (main_arg9 : FVec F S1x1024 .f32) (main_arg10 : FVec F S1x1024 .f32) (main_arg11 : FVec F S1024x128 .bf16) (main_arg12 : FVec F S1024x128 .bf16) (main_v33 : IVec S_ 1) (main_v35 : FVec F S768x1024 .f32) : IVec S_ 1 :=
  let main_cst_10 : FVec F S_ .f32 := constant S_ .f32 0x7F800000#32
  let main_v36 : FVec F S768x1024 .f32 := broadcastInDim S768x1024 ![] bcast_S_S768x1024 main_cst_10
  let main_v37 : IVec S768x1024 1 := cmpf .olt main_v35 main_v36
  let main_c_11 : IVec S_ 1 := constantI S_ 1 1#1
  let main_v38 : IVec S_ 1 := (fun x v => Host.reduce IntOp.andi x v reducesTo_S768x1024_S_d0_1 h_S_) main_v37 main_c_11
  let main_v39 : IVec S_ 1 := andi main_v33 main_v38
  let main_v40 : FVec F S512x1024 .f32 := (extf .f32 · bitsLt_bf16_f32) main_arg7
  let main_v41 : FVec F S512x1024 .f32 := Host.absf main_v40
  let main_cst_12 : FVec F S_ .f32 := constant S_ .f32 0x7F800000#32
  let main_v42 : FVec F S512x1024 .f32 := broadcastInDim S512x1024 ![] bcast_S_S512x1024 main_cst_12
  let main_v43 : IVec S512x1024 1 := cmpf .olt main_v41 main_v42
  let main_c_13 : IVec S_ 1 := constantI S_ 1 1#1
  let main_v44 : IVec S_ 1 := (fun x v => Host.reduce IntOp.andi x v reducesTo_S512x1024_S_d0_1 h_S_) main_v43 main_c_13
  let main_v45 : IVec S_ 1 := andi main_v39 main_v44
  let main_v46 : FVec F S1024x1024 .f32 := (extf .f32 · bitsLt_bf16_f32) main_arg8
  let main_v47 : FVec F S1024x1024 .f32 := Host.absf main_v46
  let main_cst_14 : FVec F S_ .f32 := constant S_ .f32 0x7F800000#32
  let main_v48 : FVec F S1024x1024 .f32 := broadcastInDim S1024x1024 ![] bcast_S_S1024x1024 main_cst_14
  let main_v49 : IVec S1024x1024 1 := cmpf .olt main_v47 main_v48
  let main_c_15 : IVec S_ 1 := constantI S_ 1 1#1
  let main_v50 : IVec S_ 1 := (fun x v => Host.reduce IntOp.andi x v reducesTo_S1024x1024_S_d0_1 h_S_) main_v49 main_c_15
  let main_v51 : IVec S_ 1 := andi main_v45 main_v50
  let main_v52 : FVec F S1x1024 .f32 := Host.absf main_arg9
  let main_cst_16 : FVec F S_ .f32 := constant S_ .f32 0x7F800000#32
  fn_part3 (F := F) main_arg10 main_arg11 main_arg12 main_v51 main_v52 main_cst_16

def fn_part1 {F : FTy → Type} [FloatOps F] (main_arg4 : FVec F S1024x3072 .bf16) (main_arg5 : FVec F S384x1024 .bf16) (main_arg6 : FVec F S768x1024 .bf16) (main_arg7 : FVec F S512x1024 .bf16) (main_arg8 : FVec F S1024x1024 .bf16) (main_arg9 : FVec F S1x1024 .f32) (main_arg10 : FVec F S1x1024 .f32) (main_arg11 : FVec F S1024x128 .bf16) (main_arg12 : FVec F S1024x128 .bf16) (main_v15 : IVec S_ 1) (main_v17 : FVec F S32768x512 .f32) : IVec S_ 1 :=
  let main_cst_4 : FVec F S_ .f32 := constant S_ .f32 0x7F800000#32
  let main_v18 : FVec F S32768x512 .f32 := broadcastInDim S32768x512 ![] bcast_S_S32768x512 main_cst_4
  let main_v19 : IVec S32768x512 1 := cmpf .olt main_v17 main_v18
  let main_c_5 : IVec S_ 1 := constantI S_ 1 1#1
  let main_v20 : IVec S_ 1 := (fun x v => Host.reduce IntOp.andi x v reducesTo_S32768x512_S_d0_1 h_S_) main_v19 main_c_5
  let main_v21 : IVec S_ 1 := andi main_v15 main_v20
  let main_v22 : FVec F S1024x3072 .f32 := (extf .f32 · bitsLt_bf16_f32) main_arg4
  let main_v23 : FVec F S1024x3072 .f32 := Host.absf main_v22
  let main_cst_6 : FVec F S_ .f32 := constant S_ .f32 0x7F800000#32
  let main_v24 : FVec F S1024x3072 .f32 := broadcastInDim S1024x3072 ![] bcast_S_S1024x3072 main_cst_6
  let main_v25 : IVec S1024x3072 1 := cmpf .olt main_v23 main_v24
  let main_c_7 : IVec S_ 1 := constantI S_ 1 1#1
  let main_v26 : IVec S_ 1 := (fun x v => Host.reduce IntOp.andi x v reducesTo_S1024x3072_S_d0_1 h_S_) main_v25 main_c_7
  let main_v27 : IVec S_ 1 := andi main_v21 main_v26
  let main_v28 : FVec F S384x1024 .f32 := (extf .f32 · bitsLt_bf16_f32) main_arg5
  let main_v29 : FVec F S384x1024 .f32 := Host.absf main_v28
  let main_cst_8 : FVec F S_ .f32 := constant S_ .f32 0x7F800000#32
  let main_v30 : FVec F S384x1024 .f32 := broadcastInDim S384x1024 ![] bcast_S_S384x1024 main_cst_8
  let main_v31 : IVec S384x1024 1 := cmpf .olt main_v29 main_v30
  let main_c_9 : IVec S_ 1 := constantI S_ 1 1#1
  let main_v32 : IVec S_ 1 := (fun x v => Host.reduce IntOp.andi x v reducesTo_S384x1024_S_d0_1 h_S_) main_v31 main_c_9
  let main_v33 : IVec S_ 1 := andi main_v27 main_v32
  let main_v34 : FVec F S768x1024 .f32 := (extf .f32 · bitsLt_bf16_f32) main_arg6
  let main_v35 : FVec F S768x1024 .f32 := Host.absf main_v34
  fn_part2 (F := F) main_arg7 main_arg8 main_arg9 main_arg10 main_arg11 main_arg12 main_v33 main_v35

def fn {F : FTy → Type} [FloatOps F] (main_arg0 : FVec F S32768x1024 .f32) (main_arg1 : FVec F S32768x384 .bf16) (main_arg2 : FVec F S32768x768 .bf16) (main_arg3 : FVec F S32768x512 .bf16) (main_arg4 : FVec F S1024x3072 .bf16) (main_arg5 : FVec F S384x1024 .bf16) (main_arg6 : FVec F S768x1024 .bf16) (main_arg7 : FVec F S512x1024 .bf16) (main_arg8 : FVec F S1024x1024 .bf16) (main_arg9 : FVec F S1x1024 .f32) (main_arg10 : FVec F S1x1024 .f32) (main_arg11 : FVec F S1024x128 .bf16) (main_arg12 : FVec F S1024x128 .bf16) (main_arg13 : FVec F S1x128 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x384 .f32 := (extf .f32 · bitsLt_bf16_f32) main_arg1
  let main_v5 : FVec F S32768x384 .f32 := Host.absf main_v4
  let main_cst_0 : FVec F S_ .f32 := constant S_ .f32 0x7F800000#32
  let main_v6 : FVec F S32768x384 .f32 := broadcastInDim S32768x384 ![] bcast_S_S32768x384 main_cst_0
  let main_v7 : IVec S32768x384 1 := cmpf .olt main_v5 main_v6
  let main_c_1 : IVec S_ 1 := constantI S_ 1 1#1
  let main_v8 : IVec S_ 1 := (fun x v => Host.reduce IntOp.andi x v reducesTo_S32768x384_S_d0_1 h_S_) main_v7 main_c_1
  let main_v9 : IVec S_ 1 := andi main_v3 main_v8
  let main_v10 : FVec F S32768x768 .f32 := (extf .f32 · bitsLt_bf16_f32) main_arg2
  let main_v11 : FVec F S32768x768 .f32 := Host.absf main_v10
  let main_cst_2 : FVec F S_ .f32 := constant S_ .f32 0x7F800000#32
  let main_v12 : FVec F S32768x768 .f32 := broadcastInDim S32768x768 ![] bcast_S_S32768x768 main_cst_2
  let main_v13 : IVec S32768x768 1 := cmpf .olt main_v11 main_v12
  let main_c_3 : IVec S_ 1 := constantI S_ 1 1#1
  let main_v14 : IVec S_ 1 := (fun x v => Host.reduce IntOp.andi x v reducesTo_S32768x768_S_d0_1 h_S_) main_v13 main_c_3
  let main_v15 : IVec S_ 1 := andi main_v9 main_v14
  let main_v16 : FVec F S32768x512 .f32 := (extf .f32 · bitsLt_bf16_f32) main_arg3
  let main_v17 : FVec F S32768x512 .f32 := Host.absf main_v16
  fn_part1 (F := F) main_arg4 main_arg5 main_arg6 main_arg7 main_arg8 main_arg9 main_arg10 main_arg11 main_arg12 main_v15 main_v17
-- ==== Pre_mla_inputs_ok.lean ====
abbrev S32768x512 : Shape := ⟨2, ![32768, 512]⟩
abbrev S32768x4x128 : Shape := ⟨3, ![32768, 4, 128]⟩
abbrev S32768x4x1 : Shape := ⟨3, ![32768, 4, 1]⟩
abbrev S32768x4 : Shape := ⟨2, ![32768, 4]⟩
abbrev S_ : Shape := ⟨0, ![]⟩

class Facts : Prop where
  bitsLt_bf16_f32 : FTy.bits .bf16 < FTy.bits .f32
  shapeCasts_S32768x512_S32768x4x128 : S32768x512.ShapeCasts S32768x4x128
  slices_S32768x4x128_S32768x4x1_0_0_64 : S32768x4x128.Slices ![0, 0, 64] S32768x4x1
  shapeCasts_S32768x4x1_S32768x4 : S32768x4x1.ShapeCasts S32768x4
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x4 : S_.BroadcastsInDim S32768x4 (![] : Fin 0 → Fin S32768x4.rank)
  reducesTo_S32768x4_S_d0_1 : S32768x4.ReducesTo [0, 1] S_

variable [Facts]

def fn_part1 {F : FTy → Type} [FloatOps F] (main_v3 : FVec F S32768x4 .f32) (main_v14 : IVec S_ 1) (main_v18 : IVec S32768x512 1) : IVec S_ 1 :=
  let main_c_3 : IVec S_ 1 := constantI S_ 1 1#1
  let main_v19 : IVec S_ 1 := (fun x v => Host.reduce IntOp.andi x v reducesTo_S32768x512_S_d0_1 h_S_) main_v18 main_c_3
  let main_v20 : IVec S_ 1 := andi main_v14 main_v19
  let main_cst_4 : FVec F S_ .f32 := constant S_ .f32 0x3F800000#32
  let main_v21 : FVec F S32768x4 .f32 := broadcastInDim S32768x4 ![] bcast_S_S32768x4 main_cst_4
  let main_v22 : IVec S32768x4 1 := cmpf .oeq main_v3 main_v21
  let main_c_5 : IVec S_ 1 := constantI S_ 1 1#1
  let main_v23 : IVec S_ 1 := (fun x v => Host.reduce IntOp.andi x v reducesTo_S32768x4_S_d0_1 h_S_) main_v22 main_c_5
  let main_v24 : IVec S_ 1 := andi main_v20 main_v23
  main_v24

def fn {F : FTy → Type} [FloatOps F] (main_arg0 : FVec F S32768x512 .bf16) (main_arg1 : FVec F S32768x512 .bf16) (main_arg2 : FVec F S32768x512 .bf16) : IVec S_ 1 :=
  let main_v0 : FVec F S32768x512 .f32 := (extf .f32 · bitsLt_bf16_f32) main_arg2
  let main_v1 : FVec F S32768x4x128 .f32 := shapeCast S32768x4x128 main_v0 shapeCasts_S32768x512_S32768x4x128
  let main_v2 : FVec F S32768x4x1 .f32 := (extractStridedSlice S32768x4x1 ![0, 0, 64] · slices_S32768x4x128_S32768x4x1_0_0_64) main_v1
  let main_v3 : FVec F S32768x4 .f32 := shapeCast S32768x4 main_v2 shapeCasts_S32768x4x1_S32768x4
  let main_v4 : FVec F S32768x512 .f32 := (extf .f32 · bitsLt_bf16_f32) main_arg0
  let main_v5 : FVec F S32768x512 .f32 := Host.absf main_v4
  let main_cst : FVec F S_ .f32 := constant S_ .f32 0x7F800000#32
  let main_v6 : FVec F S32768x512 .f32 := broadcastInDim S32768x512 ![] bcast_S_S32768x512 main_cst
  let main_v7 : IVec S32768x512 1 := cmpf .olt main_v5 main_v6
  let main_c : IVec S_ 1 := constantI S_ 1 1#1
  let main_v8 : IVec S_ 1 := (fun x v => Host.reduce IntOp.andi x v reducesTo_S32768x512_S_d0_1 h_S_) main_v7 main_c
  let main_v9 : FVec F S32768x512 .f32 := (extf .f32 · bitsLt_bf16_f32) main_arg1
  let main_v10 : FVec F S32768x512 .f32 := Host.absf main_v9
  let main_cst_0 : FVec F S_ .f32 := constant S_ .f32 0x7F800000#32
  let main_v11 : FVec F S32768x512 .f32 := broadcastInDim S32768x512 ![] bcast_S_S32768x512 main_cst_0
  let main_v12 : IVec S32768x512 1 := cmpf .olt main_v10 main_v11
  let main_c_1 : IVec S_ 1 := constantI S_ 1 1#1
  let main_v13 : IVec S_ 1 := (fun x v => Host.reduce IntOp.andi x v reducesTo_S32768x512_S_d0_1 h_S_) main_v12 main_c_1
  let main_v14 : IVec S_ 1 := andi main_v8 main_v13
  let main_v15 : FVec F S32768x512 .f32 := (extf .f32 · bitsLt_bf16_f32) main_arg2
  let main_v16 : FVec F S32768x512 .f32 := Host.absf main_v15
  let main_cst_2 : FVec F S_ .f32 := constant S_ .f32 0x7F800000#32
  let main_v17 : FVec F S32768x512 .f32 := broadcastInDim S32768x512 ![] bcast_S_S32768x512 main_cst_2
  let main_v18 : IVec S32768x512 1 := cmpf .olt main_v16 main_v17
  fn_part1 (F := F) main_v3 main_v14 main_v18
-- ==== Pre_moe_inputs_ok.lean ====
abbrev S288 : Shape := ⟨1, ![288]⟩
abbrev S1 : Shape := ⟨1, ![1]⟩
abbrev S147456x1024 : Shape := ⟨2, ![147456, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S288 32) (main_arg1 : IVec S1 32) (main_arg2 : FVec F S147456x1024 .bf16) (main_arg3 : FVec F S32x1024x2048 .bf16) (main_arg4 : FVec F S32x1x2048 .f32) (main_arg5 : FVec F S32x1024x1024 .bf16) (main_arg6 : FVec F S32x1x1024 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 288#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Pre_na_inputs_ok.lean ====
abbrev S32768x384 : Shape := ⟨2, ![32768, 384]⟩
abbrev S8x6x64x512 : Shape := ⟨4, ![8, 6, 64, 512]⟩
abbrev S_ : Shape := ⟨0, ![]⟩

class Facts : Prop where
  bitsLt_bf16_f32 : FTy.bits .bf16 < FTy.bits .f32
  bcast_S_S32768x384 : S_.BroadcastsInDim S32768x384 (![] : Fin 0 → Fin S32768x384.rank)
  reducesTo_S32768x384_S_d0_1 : S32768x384.ReducesTo [0, 1] S_
  h_S_ : 0 < S_.numel
  bcast_S_S8x6x64x512 : S_.BroadcastsInDim S8x6x64x512 (![] : Fin 0 → Fin S8x6x64x512.rank)
  reducesTo_S8x6x64x512_S_d0_1_2_3 : S8x6x64x512.ReducesTo [0, 1, 2, 3] S_

variable [Facts]

def fn {F : FTy → Type} [FloatOps F] (main_arg0 : FVec F S32768x384 .bf16) (main_arg1 : FVec F S32768x384 .bf16) (main_arg2 : FVec F S32768x384 .bf16) (main_arg3 : FVec F S8x6x64x512 .f32) : IVec S_ 1 :=
  let main_v0 : FVec F S32768x384 .f32 := (extf .f32 · bitsLt_bf16_f32) main_arg0
  let main_v1 : FVec F S32768x384 .f32 := Host.absf main_v0
  let main_cst : FVec F S_ .f32 := constant S_ .f32 0x7F800000#32
  let main_v2 : FVec F S32768x384 .f32 := broadcastInDim S32768x384 ![] bcast_S_S32768x384 main_cst
  let main_v3 : IVec S32768x384 1 := cmpf .olt main_v1 main_v2
  let main_c : IVec S_ 1 := constantI S_ 1 1#1
  let main_v4 : IVec S_ 1 := (fun x v => Host.reduce IntOp.andi x v reducesTo_S32768x384_S_d0_1 h_S_) main_v3 main_c
  let main_v5 : FVec F S32768x384 .f32 := (extf .f32 · bitsLt_bf16_f32) main_arg1
  let main_v6 : FVec F S32768x384 .f32 := Host.absf main_v5
  let main_cst_0 : FVec F S_ .f32 := constant S_ .f32 0x7F800000#32
  let main_v7 : FVec F S32768x384 .f32 := broadcastInDim S32768x384 ![] bcast_S_S32768x384 main_cst_0
  let main_v8 : IVec S32768x384 1 := cmpf .olt main_v6 main_v7
  let main_c_1 : IVec S_ 1 := constantI S_ 1 1#1
  let main_v9 : IVec S_ 1 := (fun x v => Host.reduce IntOp.andi x v reducesTo_S32768x384_S_d0_1 h_S_) main_v8 main_c_1
  let main_v10 : IVec S_ 1 := andi main_v4 main_v9
  let main_v11 : FVec F S8x6x64x512 .f32 := Host.absf main_arg3
  let main_cst_2 : FVec F S_ .f32 := constant S_ .f32 0x7F800000#32
  let main_v12 : FVec F S8x6x64x512 .f32 := broadcastInDim S8x6x64x512 ![] bcast_S_S8x6x64x512 main_cst_2
  let main_v13 : IVec S8x6x64x512 1 := cmpf .olt main_v11 main_v12
  let main_c_3 : IVec S_ 1 := constantI S_ 1 1#1
  let main_v14 : IVec S_ 1 := (fun x v => Host.reduce IntOp.andi x v reducesTo_S8x6x64x512_S_d0_1_2_3 h_S_) main_v13 main_c_3
  let main_v15 : IVec S_ 1 := andi main_v10 main_v14
  main_v15
-- ==== Pre_qkv_inputs_ok.lean ====
abbrev S32768x1024 : Shape := ⟨2, ![32768, 1024]⟩
abbrev S1024x3200 : Shape := ⟨2, ![1024, 3200]⟩
abbrev S8192x128 : Shape := ⟨2, ![8192, 128]⟩
abbrev S1x128 : Shape := ⟨2, ![1, 128]⟩
abbrev S1x384 : Shape := ⟨2, ![1, 384]⟩
abbrev S1x256 : Shape := ⟨2, ![1, 256]⟩
abbrev S384x512 : Shape := ⟨2, ![384, 512]⟩
abbrev S256x512 : Shape := ⟨2, ![256, 512]⟩
abbrev S1024x25x128 : Shape := ⟨3, ![1024, 25, 128]⟩
abbrev S384x4x128 : Shape := ⟨3, ![384, 4, 128]⟩
abbrev S256x4x128 : Shape := ⟨3, ![256, 4, 128]⟩
abbrev S1024x8x128 : Shape := ⟨3, ![1024, 8, 128]⟩
abbrev S1024x8x32 : Shape := ⟨3, ![1024, 8, 32]⟩
abbrev S_ : Shape := ⟨0, ![]⟩
abbrev S1x32 : Shape := ⟨2, ![1, 32]⟩
abbrev S384x4x16 : Shape := ⟨3, ![384, 4, 16]⟩
abbrev S1024x1x128 : Shape := ⟨3, ![1024, 1, 128]⟩
abbrev S1024x128 : Shape := ⟨2, ![1024, 128]⟩
abbrev S1024x16 : Shape := ⟨2, ![1024, 16]⟩
abbrev S8192x32 : Shape := ⟨2, ![8192, 32]⟩
abbrev S8192x16 : Shape := ⟨2, ![8192, 16]⟩
abbrev S1024x2x64 : Shape := ⟨3, ![1024, 2, 64]⟩
abbrev S1024x1x64 : Shape := ⟨3, ![1024, 1, 64]⟩
abbrev S1024x64 : Shape := ⟨2, ![1024, 64]⟩
abbrev S256x4x64 : Shape := ⟨3, ![256, 4, 64]⟩

class Facts : Prop where
  bitsLt_bf16_f32 : FTy.bits .bf16 < FTy.bits .f32
  shapeCasts_S1024x3200_S1024x25x128 : S1024x3200.ShapeCasts S1024x25x128
  shapeCasts_S384x512_S384x4x128 : S384x512.ShapeCasts S384x4x128
  shapeCasts_S256x512_S256x4x128 : S256x512.ShapeCasts S256x4x128
  slices_S1024x25x128_S1024x8x128_0_9_0 : S1024x25x128.Slices ![0, 9, 0] S1024x8x128
  slices_S1024x8x128_S1024x8x32_0_0_64 : S1024x8x128.Slices ![0, 0, 64] S1024x8x32
  slices_S1024x8x128_S1024x8x32_0_0_32 : S1024x8x128.Slices ![0, 0, 32] S1024x8x32
  reducesTo_S1024x8x32_S_d0_1_2 : S1024x8x32.ReducesTo [0, 1, 2] S_
  h_S_ : 0 < S_.numel
  slices_S1024x8x128_S1024x8x32_0_0_96 : S1024x8x128.Slices ![0, 0, 96] S1024x8x32
  slices_S1024x8x128_S1024x8x32_0_0_0 : S1024x8x128.Slices ![0, 0, 0] S1024x8x32
  slices_S1x128_S1x32_0_64 : S1x128.Slices ![0, 64] S1x32
  slices_S1x128_S1x32_0_32 : S1x128.Slices ![0, 32] S1x32
  reducesTo_S1x32_S_d0_1 : S1x32.ReducesTo [0, 1] S_
  slices_S1x128_S1x32_0_96 : S1x128.Slices ![0, 96] S1x32
  slices_S1x128_S1x32_0_0 : S1x128.Slices ![0, 0] S1x32
  slices_S384x4x128_S384x4x16_0_0_96 : S384x4x128.Slices ![0, 0, 96] S384x4x16
  slices_S384x4x128_S384x4x16_0_0_80 : S384x4x128.Slices ![0, 0, 80] S384x4x16
  reducesTo_S384x4x16_S_d0_1_2 : S384x4x16.ReducesTo [0, 1, 2] S_
  slices_S384x4x128_S384x4x16_0_0_112 : S384x4x128.Slices ![0, 0, 112] S384x4x16
  slices_S384x4x128_S384x4x16_0_0_64 : S384x4x128.Slices ![0, 0, 64] S384x4x16
  slices_S1024x25x128_S1024x1x128_0_24_0 : S1024x25x128.Slices ![0, 24, 0] S1024x1x128
  shapeCasts_S1024x1x128_S1024x128 : S1024x1x128.ShapeCasts S1024x128
  slices_S1024x128_S1024x16_0_96 : S1024x128.Slices ![0, 96] S1024x16
  slices_S1024x128_S1024x16_0_80 : S1024x128.Slices ![0, 80] S1024x16
  reducesTo_S1024x16_S_d0_1 : S1024x16.ReducesTo [0, 1] S_
  slices_S1024x128_S1024x16_0_112 : S1024x128.Slices ![0, 112] S1024x16
  slices_S1024x128_S1024x16_0_64 : S1024x128.Slices ![0, 64] S1024x16
  slices_S8192x128_S8192x32_0_32 : S8192x128.Slices ![0, 32] S8192x32
  slices_S8192x128_S8192x32_0_0 : S8192x128.Slices ![0, 0] S8192x32
  reducesTo_S8192x32_S_d0_1 : S8192x32.ReducesTo [0, 1] S_
  slices_S8192x128_S8192x32_0_64 : S8192x128.Slices ![0, 64] S8192x32
  slices_S8192x128_S8192x32_0_96 : S8192x128.Slices ![0, 96] S8192x32
  slices_S8192x128_S8192x16_0_80 : S8192x128.Slices ![0, 80] S8192x16
  slices_S8192x128_S8192x16_0_64 : S8192x128.Slices ![0, 64] S8192x16
  reducesTo_S8192x16_S_d0_1 : S8192x16.ReducesTo [0, 1] S_
  slices_S8192x128_S8192x16_0_96 : S8192x128.Slices ![0, 96] S8192x16
  slices_S8192x128_S8192x16_0_112 : S8192x128.Slices ![0, 112] S8192x16
  slices_S1024x25x128_S1024x2x64_0_17_64 : S1024x25x128.Slices ![0, 17, 64] S1024x2x64
  bcast_S_S1024x2x64 : S_.BroadcastsInDim S1024x2x64 (![] : Fin 0 → Fin S1024x2x64.rank)
  reducesTo_S1024x2x64_S_d0_1_2 : S1024x2x64.ReducesTo [0, 1, 2] S_
  slices_S1024x25x128_S1024x1x64_0_24_0 : S1024x25x128.Slices ![0, 24, 0] S1024x1x64
  shapeCasts_S1024x1x64_S1024x64 : S1024x1x64.ShapeCasts S1024x64
  bcast_S_S1024x64 : S_.BroadcastsInDim S1024x64 (![] : Fin 0 → Fin S1024x64.rank)
  reducesTo_S1024x64_S_d0_1 : S1024x64.ReducesTo [0, 1] S_
  slices_S256x4x128_S256x4x64_0_0_64 : S256x4x128.Slices ![0, 0, 64] S256x4x64
  bcast_S_S256x4x64 : S_.BroadcastsInDim S256x4x64 (![] : Fin 0 → Fin S256x4x64.rank)
  reducesTo_S256x4x64_S_d0_1_2 : S256x4x64.ReducesTo [0, 1, 2] S_

variable [Facts]

def fn_part5 {F : FTy → Type} [FloatOps F] (main_v5 : FVec F S256x4x128 .f32) (main_v7 : FVec F S256x4x128 .f32) (main_v97 : IVec S_ 1) (main_v99 : FVec F S1024x64 .f32) (main_v100 : FVec F S1024x64 .f32) : IVec S_ 1 :=
  let main_v101 : IVec S1024x64 1 := cmpf .oeq main_v99 main_v100
  let main_c_17 : IVec S_ 1 := constantI S_ 1 1#1
  let main_v102 : IVec S_ 1 := (fun x v => Host.reduce IntOp.andi x v reducesTo_S1024x64_S_d0_1 h_S_) main_v101 main_c_17
  let main_v103 : IVec S_ 1 := andi main_v97 main_v102
  let main_v104 : FVec F S256x4x64 .f32 := (extractStridedSlice S256x4x64 ![0, 0, 64] · slices_S256x4x128_S256x4x64_0_0_64) main_v5
  let main_cst_18 : FVec F S_ .f32 := constant S_ .f32 0x00000000#32
  let main_v105 : FVec F S256x4x64 .f32 := broadcastInDim S256x4x64 ![] bcast_S_S256x4x64 main_cst_18
  let main_v106 : IVec S256x4x64 1 := cmpf .oeq main_v104 main_v105
  let main_c_19 : IVec S_ 1 := constantI S_ 1 1#1
  let main_v107 : IVec S_ 1 := (fun x v => Host.reduce IntOp.andi x v reducesTo_S256x4x64_S_d0_1_2 h_S_) main_v106 main_c_19
  let main_v108 : IVec S_ 1 := andi main_v103 main_v107
  let main_v109 : FVec F S256x4x64 .f32 := (extractStridedSlice S256x4x64 ![0, 0, 64] · slices_S256x4x128_S256x4x64_0_0_64) main_v7
  let main_cst_20 : FVec F S_ .f32 := constant S_ .f32 0x00000000#32
  let main_v110 : FVec F S256x4x64 .f32 := broadcastInDim S256x4x64 ![] bcast_S_S256x4x64 main_cst_20
  let main_v111 : IVec S256x4x64 1 := cmpf .oeq main_v109 main_v110
  let main_c_21 : IVec S_ 1 := constantI S_ 1 1#1
  let main_v112 : IVec S_ 1 := (fun x v => Host.reduce IntOp.andi x v reducesTo_S256x4x64_S_d0_1_2 h_S_) main_v111 main_c_21
  let main_v113 : IVec S_ 1 := andi main_v108 main_v112
  main_v113

def fn_part4 {F : FTy → Type} [FloatOps F] (main_arg4 : FVec F S8192x128 .f32) (main_v1 : FVec F S1024x25x128 .f32) (main_v5 : FVec F S256x4x128 .f32) (main_v7 : FVec F S256x4x128 .f32) (main_v81 : IVec S_ 1) : IVec S_ 1 :=
  let main_v82 : FVec F S8192x16 .f32 := (extractStridedSlice S8192x16 ![0, 80] · slices_S8192x128_S8192x16_0_80) main_arg4
  let main_v83 : FVec F S8192x16 .f32 := (extractStridedSlice S8192x16 ![0, 64] · slices_S8192x128_S8192x16_0_64) main_arg4
  let main_v84 : IVec S8192x16 1 := cmpf .oeq main_v82 main_v83
  let main_c_13 : IVec S_ 1 := constantI S_ 1 1#1
  let main_v85 : IVec S_ 1 := (fun x v => Host.reduce IntOp.andi x v reducesTo_S8192x16_S_d0_1 h_S_) main_v84 main_c_13
  let main_v86 : FVec F S8192x16 .f32 := (extractStridedSlice S8192x16 ![0, 96] · slices_S8192x128_S8192x16_0_96) main_arg4
  let main_v87 : FVec F S8192x16 .f32 := (extractStridedSlice S8192x16 ![0, 112] · slices_S8192x128_S8192x16_0_112) main_arg4
  let main_v88 : FVec F S8192x16 .f32 := Host.negf main_v87
  let main_v89 : IVec S8192x16 1 := cmpf .oeq main_v86 main_v88
  let main_c_14 : IVec S_ 1 := constantI S_ 1 1#1
  let main_v90 : IVec S_ 1 := (fun x v => Host.reduce IntOp.andi x v reducesTo_S8192x16_S_d0_1 h_S_) main_v89 main_c_14
  let main_v91 : IVec S_ 1 := andi main_v85 main_v90
  let main_v92 : IVec S_ 1 := andi main_v81 main_v91
  let main_v93 : FVec F S1024x2x64 .f32 := (extractStridedSlice S1024x2x64 ![0, 17, 64] · slices_S1024x25x128_S1024x2x64_0_17_64) main_v1
  let main_cst : FVec F S_ .f32 := constant S_ .f32 0x00000000#32
  let main_v94 : FVec F S1024x2x64 .f32 := broadcastInDim S1024x2x64 ![] bcast_S_S1024x2x64 main_cst
  let main_v95 : IVec S1024x2x64 1 := cmpf .oeq main_v93 main_v94
  let main_c_15 : IVec S_ 1 := constantI S_ 1 1#1
  let main_v96 : IVec S_ 1 := (fun x v => Host.reduce IntOp.andi x v reducesTo_S1024x2x64_S_d0_1_2 h_S_) main_v95 main_c_15
  let main_v97 : IVec S_ 1 := andi main_v92 main_v96
  let main_v98 : FVec F S1024x1x64 .f32 := (extractStridedSlice S1024x1x64 ![0, 24, 0] · slices_S1024x25x128_S1024x1x64_0_24_0) main_v1
  let main_v99 : FVec F S1024x64 .f32 := shapeCast S1024x64 main_v98 shapeCasts_S1024x1x64_S1024x64
  let main_cst_16 : FVec F S_ .f32 := constant S_ .f32 0x00000000#32
  let main_v100 : FVec F S1024x64 .f32 := broadcastInDim S1024x64 ![] bcast_S_S1024x64 main_cst_16
  fn_part5 (F := F) main_v5 main_v7 main_v97 main_v99 main_v100

def fn_part3 {F : FTy → Type} [FloatOps F] (main_arg2 : FVec F S8192x128 .f32) (main_arg3 : FVec F S8192x128 .f32) (main_arg4 : FVec F S8192x128 .f32) (main_v1 : FVec F S1024x25x128 .f32) (main_v5 : FVec F S256x4x128 .f32) (main_v7 : FVec F S256x4x128 .f32) (main_v59 : IVec S_ 1) (main_v60 : FVec F S8192x32 .f32) (main_v61 : FVec F S8192x32 .f32) : IVec S_ 1 :=
  let main_v62 : IVec S8192x32 1 := cmpf .oeq main_v60 main_v61
  let main_c_9 : IVec S_ 1 := constantI S_ 1 1#1
  let main_v63 : IVec S_ 1 := (fun x v => Host.reduce IntOp.andi x v reducesTo_S8192x32_S_d0_1 h_S_) main_v62 main_c_9
  let main_v64 : FVec F S8192x32 .f32 := (extractStridedSlice S8192x32 ![0, 64] · slices_S8192x128_S8192x32_0_64) main_arg2
  let main_v65 : FVec F S8192x32 .f32 := (extractStridedSlice S8192x32 ![0, 96] · slices_S8192x128_S8192x32_0_96) main_arg2
  let main_v66 : FVec F S8192x32 .f32 := Host.negf main_v65
  let main_v67 : IVec S8192x32 1 := cmpf .oeq main_v64 main_v66
  let main_c_10 : IVec S_ 1 := constantI S_ 1 1#1
  let main_v68 : IVec S_ 1 := (fun x v => Host.reduce IntOp.andi x v reducesTo_S8192x32_S_d0_1 h_S_) main_v67 main_c_10
  let main_v69 : IVec S_ 1 := andi main_v63 main_v68
  let main_v70 : IVec S_ 1 := andi main_v59 main_v69
  let main_v71 : FVec F S8192x16 .f32 := (extractStridedSlice S8192x16 ![0, 80] · slices_S8192x128_S8192x16_0_80) main_arg3
  let main_v72 : FVec F S8192x16 .f32 := (extractStridedSlice S8192x16 ![0, 64] · slices_S8192x128_S8192x16_0_64) main_arg3
  let main_v73 : IVec S8192x16 1 := cmpf .oeq main_v71 main_v72
  let main_c_11 : IVec S_ 1 := constantI S_ 1 1#1
  let main_v74 : IVec S_ 1 := (fun x v => Host.reduce IntOp.andi x v reducesTo_S8192x16_S_d0_1 h_S_) main_v73 main_c_11
  let main_v75 : FVec F S8192x16 .f32 := (extractStridedSlice S8192x16 ![0, 96] · slices_S8192x128_S8192x16_0_96) main_arg3
  let main_v76 : FVec F S8192x16 .f32 := (extractStridedSlice S8192x16 ![0, 112] · slices_S8192x128_S8192x16_0_112) main_arg3
  let main_v77 : FVec F S8192x16 .f32 := Host.negf main_v76
  let main_v78 : IVec S8192x16 1 := cmpf .oeq main_v75 main_v77
  let main_c_12 : IVec S_ 1 := constantI S_ 1 1#1
  let main_v79 : IVec S_ 1 := (fun x v => Host.reduce IntOp.andi x v reducesTo_S8192x16_S_d0_1 h_S_) main_v78 main_c_12
  let main_v80 : IVec S_ 1 := andi main_v74 main_v79
  let main_v81 : IVec S_ 1 := andi main_v70 main_v80
  fn_part4 (F := F) main_arg4 main_v1 main_v5 main_v7 main_v81

def fn_part2 {F : FTy → Type} [FloatOps F] (main_arg2 : FVec F S8192x128 .f32) (main_arg3 : FVec F S8192x128 .f32) (main_arg4 : FVec F S8192x128 .f32) (main_v1 : FVec F S1024x25x128 .f32) (main_v3 : FVec F S384x4x128 .f32) (main_v5 : FVec F S256x4x128 .f32) (main_v7 : FVec F S256x4x128 .f32) (main_v37 : IVec S_ 1) (main_v40 : IVec S384x4x16 1) (main_c_5 : IVec S_ 1) : IVec S_ 1 :=
  let main_v41 : IVec S_ 1 := (fun x v => Host.reduce IntOp.andi x v reducesTo_S384x4x16_S_d0_1_2 h_S_) main_v40 main_c_5
  let main_v42 : FVec F S384x4x16 .f32 := (extractStridedSlice S384x4x16 ![0, 0, 112] · slices_S384x4x128_S384x4x16_0_0_112) main_v3
  let main_v43 : FVec F S384x4x16 .f32 := (extractStridedSlice S384x4x16 ![0, 0, 64] · slices_S384x4x128_S384x4x16_0_0_64) main_v3
  let main_v44 : IVec S384x4x16 1 := cmpf .oeq main_v42 main_v43
  let main_c_6 : IVec S_ 1 := constantI S_ 1 1#1
  let main_v45 : IVec S_ 1 := (fun x v => Host.reduce IntOp.andi x v reducesTo_S384x4x16_S_d0_1_2 h_S_) main_v44 main_c_6
  let main_v46 : IVec S_ 1 := andi main_v41 main_v45
  let main_v47 : IVec S_ 1 := andi main_v37 main_v46
  let main_v48 : FVec F S1024x1x128 .f32 := (extractStridedSlice S1024x1x128 ![0, 24, 0] · slices_S1024x25x128_S1024x1x128_0_24_0) main_v1
  let main_v49 : FVec F S1024x128 .f32 := shapeCast S1024x128 main_v48 shapeCasts_S1024x1x128_S1024x128
  let main_v50 : FVec F S1024x16 .f32 := (extractStridedSlice S1024x16 ![0, 96] · slices_S1024x128_S1024x16_0_96) main_v49
  let main_v51 : FVec F S1024x16 .f32 := (extractStridedSlice S1024x16 ![0, 80] · slices_S1024x128_S1024x16_0_80) main_v49
  let main_v52 : IVec S1024x16 1 := cmpf .oeq main_v50 main_v51
  let main_c_7 : IVec S_ 1 := constantI S_ 1 1#1
  let main_v53 : IVec S_ 1 := (fun x v => Host.reduce IntOp.andi x v reducesTo_S1024x16_S_d0_1 h_S_) main_v52 main_c_7
  let main_v54 : FVec F S1024x16 .f32 := (extractStridedSlice S1024x16 ![0, 112] · slices_S1024x128_S1024x16_0_112) main_v49
  let main_v55 : FVec F S1024x16 .f32 := (extractStridedSlice S1024x16 ![0, 64] · slices_S1024x128_S1024x16_0_64) main_v49
  let main_v56 : IVec S1024x16 1 := cmpf .oeq main_v54 main_v55
  let main_c_8 : IVec S_ 1 := constantI S_ 1 1#1
  let main_v57 : IVec S_ 1 := (fun x v => Host.reduce IntOp.andi x v reducesTo_S1024x16_S_d0_1 h_S_) main_v56 main_c_8
  let main_v58 : IVec S_ 1 := andi main_v53 main_v57
  let main_v59 : IVec S_ 1 := andi main_v47 main_v58
  let main_v60 : FVec F S8192x32 .f32 := (extractStridedSlice S8192x32 ![0, 32] · slices_S8192x128_S8192x32_0_32) main_arg2
  let main_v61 : FVec F S8192x32 .f32 := (extractStridedSlice S8192x32 ![0, 0] · slices_S8192x128_S8192x32_0_0) main_arg2
  fn_part3 (F := F) main_arg2 main_arg3 main_arg4 main_v1 main_v5 main_v7 main_v59 main_v60 main_v61

def fn_part1 {F : FTy → Type} [FloatOps F] (main_arg2 : FVec F S8192x128 .f32) (main_arg3 : FVec F S8192x128 .f32) (main_arg4 : FVec F S8192x128 .f32) (main_arg5 : FVec F S1x128 .f32) (main_arg6 : FVec F S1x128 .f32) (main_v1 : FVec F S1024x25x128 .f32) (main_v3 : FVec F S384x4x128 .f32) (main_v5 : FVec F S256x4x128 .f32) (main_v7 : FVec F S256x4x128 .f32) (main_v17 : IVec S_ 1) (main_v20 : IVec S1x32 1) (main_c_1 : IVec S_ 1) : IVec S_ 1 :=
  let main_v21 : IVec S_ 1 := (fun x v => Host.reduce IntOp.andi x v reducesTo_S1x32_S_d0_1 h_S_) main_v20 main_c_1
  let main_v22 : FVec F S1x32 .f32 := (extractStridedSlice S1x32 ![0, 96] · slices_S1x128_S1x32_0_96) main_arg5
  let main_v23 : FVec F S1x32 .f32 := (extractStridedSlice S1x32 ![0, 0] · slices_S1x128_S1x32_0_0) main_arg5
  let main_v24 : IVec S1x32 1 := cmpf .oeq main_v22 main_v23
  let main_c_2 : IVec S_ 1 := constantI S_ 1 1#1
  let main_v25 : IVec S_ 1 := (fun x v => Host.reduce IntOp.andi x v reducesTo_S1x32_S_d0_1 h_S_) main_v24 main_c_2
  let main_v26 : IVec S_ 1 := andi main_v21 main_v25
  let main_v27 : IVec S_ 1 := andi main_v17 main_v26
  let main_v28 : FVec F S1x32 .f32 := (extractStridedSlice S1x32 ![0, 64] · slices_S1x128_S1x32_0_64) main_arg6
  let main_v29 : FVec F S1x32 .f32 := (extractStridedSlice S1x32 ![0, 32] · slices_S1x128_S1x32_0_32) main_arg6
  let main_v30 : IVec S1x32 1 := cmpf .oeq main_v28 main_v29
  let main_c_3 : IVec S_ 1 := constantI S_ 1 1#1
  let main_v31 : IVec S_ 1 := (fun x v => Host.reduce IntOp.andi x v reducesTo_S1x32_S_d0_1 h_S_) main_v30 main_c_3
  let main_v32 : FVec F S1x32 .f32 := (extractStridedSlice S1x32 ![0, 96] · slices_S1x128_S1x32_0_96) main_arg6
  let main_v33 : FVec F S1x32 .f32 := (extractStridedSlice S1x32 ![0, 0] · slices_S1x128_S1x32_0_0) main_arg6
  let main_v34 : IVec S1x32 1 := cmpf .oeq main_v32 main_v33
  let main_c_4 : IVec S_ 1 := constantI S_ 1 1#1
  let main_v35 : IVec S_ 1 := (fun x v => Host.reduce IntOp.andi x v reducesTo_S1x32_S_d0_1 h_S_) main_v34 main_c_4
  let main_v36 : IVec S_ 1 := andi main_v31 main_v35
  let main_v37 : IVec S_ 1 := andi main_v27 main_v36
  let main_v38 : FVec F S384x4x16 .f32 := (extractStridedSlice S384x4x16 ![0, 0, 96] · slices_S384x4x128_S384x4x16_0_0_96) main_v3
  let main_v39 : FVec F S384x4x16 .f32 := (extractStridedSlice S384x4x16 ![0, 0, 80] · slices_S384x4x128_S384x4x16_0_0_80) main_v3
  let main_v40 : IVec S384x4x16 1 := cmpf .oeq main_v38 main_v39
  let main_c_5 : IVec S_ 1 := constantI S_ 1 1#1
  fn_part2 (F := F) main_arg2 main_arg3 main_arg4 main_v1 main_v3 main_v5 main_v7 main_v37 main_v40 main_c_5

def fn {F : FTy → Type} [FloatOps F] (main_arg0 : FVec F S32768x1024 .f32) (main_arg1 : FVec F S1024x3200 .bf16) (main_arg2 : FVec F S8192x128 .f32) (main_arg3 : FVec F S8192x128 .f32) (main_arg4 : FVec F S8192x128 .f32) (main_arg5 : FVec F S1x128 .f32) (main_arg6 : FVec F S1x128 .f32) (main_arg7 : FVec F S1x384 .f32) (main_arg8 : FVec F S1x256 .f32) (main_arg9 : FVec F S384x512 .bf16) (main_arg10 : FVec F S256x512 .bf16) (main_arg11 : FVec F S256x512 .bf16) : IVec S_ 1 :=
  let main_v0 : FVec F S1024x3200 .f32 := (extf .f32 · bitsLt_bf16_f32) main_arg1
  let main_v1 : FVec F S1024x25x128 .f32 := shapeCast S1024x25x128 main_v0 shapeCasts_S1024x3200_S1024x25x128
  let main_v2 : FVec F S384x512 .f32 := (extf .f32 · bitsLt_bf16_f32) main_arg9
  let main_v3 : FVec F S384x4x128 .f32 := shapeCast S384x4x128 main_v2 shapeCasts_S384x512_S384x4x128
  let main_v4 : FVec F S256x512 .f32 := (extf .f32 · bitsLt_bf16_f32) main_arg10
  let main_v5 : FVec F S256x4x128 .f32 := shapeCast S256x4x128 main_v4 shapeCasts_S256x512_S256x4x128
  let main_v6 : FVec F S256x512 .f32 := (extf .f32 · bitsLt_bf16_f32) main_arg11
  let main_v7 : FVec F S256x4x128 .f32 := shapeCast S256x4x128 main_v6 shapeCasts_S256x512_S256x4x128
  let main_v8 : FVec F S1024x8x128 .f32 := (extractStridedSlice S1024x8x128 ![0, 9, 0] · slices_S1024x25x128_S1024x8x128_0_9_0) main_v1
  let main_v9 : FVec F S1024x8x32 .f32 := (extractStridedSlice S1024x8x32 ![0, 0, 64] · slices_S1024x8x128_S1024x8x32_0_0_64) main_v8
  let main_v10 : FVec F S1024x8x32 .f32 := (extractStridedSlice S1024x8x32 ![0, 0, 32] · slices_S1024x8x128_S1024x8x32_0_0_32) main_v8
  let main_v11 : IVec S1024x8x32 1 := cmpf .oeq main_v9 main_v10
  let main_c : IVec S_ 1 := constantI S_ 1 1#1
  let main_v12 : IVec S_ 1 := (fun x v => Host.reduce IntOp.andi x v reducesTo_S1024x8x32_S_d0_1_2 h_S_) main_v11 main_c
  let main_v13 : FVec F S1024x8x32 .f32 := (extractStridedSlice S1024x8x32 ![0, 0, 96] · slices_S1024x8x128_S1024x8x32_0_0_96) main_v8
  let main_v14 : FVec F S1024x8x32 .f32 := (extractStridedSlice S1024x8x32 ![0, 0, 0] · slices_S1024x8x128_S1024x8x32_0_0_0) main_v8
  let main_v15 : IVec S1024x8x32 1 := cmpf .oeq main_v13 main_v14
  let main_c_0 : IVec S_ 1 := constantI S_ 1 1#1
  let main_v16 : IVec S_ 1 := (fun x v => Host.reduce IntOp.andi x v reducesTo_S1024x8x32_S_d0_1_2 h_S_) main_v15 main_c_0
  let main_v17 : IVec S_ 1 := andi main_v12 main_v16
  let main_v18 : FVec F S1x32 .f32 := (extractStridedSlice S1x32 ![0, 64] · slices_S1x128_S1x32_0_64) main_arg5
  let main_v19 : FVec F S1x32 .f32 := (extractStridedSlice S1x32 ![0, 32] · slices_S1x128_S1x32_0_32) main_arg5
  let main_v20 : IVec S1x32 1 := cmpf .oeq main_v18 main_v19
  let main_c_1 : IVec S_ 1 := constantI S_ 1 1#1
  fn_part1 (F := F) main_arg2 main_arg3 main_arg4 main_arg5 main_arg6 main_v1 main_v3 main_v5 main_v7 main_v17 main_v20 main_c_1
-- ==== Gqa.lean ====
abbrev S32768x768 : Shape := ⟨2, ![32768, 768]⟩
abbrev S32768x256 : Shape := ⟨2, ![32768, 256]⟩
abbrev S512x384 : Shape := ⟨2, ![512, 384]⟩
abbrev S8192x128 : Shape := ⟨2, ![8192, 128]⟩
abbrev S3x512x128 : Shape := ⟨3, ![3, 512, 128]⟩
abbrev S512x128 : Shape := ⟨2, ![512, 128]⟩
abbrev S512x512 : Shape := ⟨2, ![512, 512]⟩
abbrev S1x512x128 : Shape := ⟨3, ![1, 512, 128]⟩
abbrev S512 : Shape := ⟨1, ![512]⟩
abbrev S512x1 : Shape := ⟨2, ![512, 1]⟩

abbrev nBuf : Space → Nat
  | .hbm => 4
  | .vmem => 10
  | .smem => 0
  | _ => 0

abbrev bufTy : (tb : Table) → Fin (tcTables nBuf tb) → BufTy
  | .hbm, ⟨0, _⟩ => ⟨S32768x768, .bf16⟩
  | .hbm, ⟨1, _⟩ => ⟨S32768x256, .bf16⟩
  | .hbm, ⟨2, _⟩ => ⟨S32768x256, .bf16⟩
  | .hbm, ⟨3, _⟩ => ⟨S32768x768, .bf16⟩
  | .local _ .vmem, ⟨0, _⟩ => ⟨S512x384, .bf16⟩
  | .local _ .vmem, ⟨1, _⟩ => ⟨S512x384, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x384, .bf16⟩
  | .local _ .vmem, ⟨7, _⟩ => ⟨S512x384, .bf16⟩
  | .local _ .vmem, ⟨8, _⟩ => ⟨S3x512x128, .f32⟩
  | .local _ .vmem, ⟨9, _⟩ => ⟨S3x512x128, .f32⟩
  | _, _ => ⟨S32768x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 16], ![false, false, false]⟩

@[reducible] def k0_t1_loop : Scf.Loop 32 :=
  let c0_i32 : BitVec 32 := 0#32
  let c16_i32 : BitVec 32 := 16#32
  let v8 : BitVec 32 := Scalar.addi c0_i32 c16_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v30 : BitVec 32 := Scalar.muli arg9 c512_i32
  v30
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v30 : BitVec 32 := Scalar.muli arg9 c512_i32
  let v31 : BitVec 32 := v30
  let v32 : Index := Scalar.indexCast v31
  let c0_18 : Index := 0#32
  ![v32.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== GqaRefIdeal.lean ====
abbrev S32768x768 : Shape := ⟨2, ![32768, 768]⟩
abbrev S32768x256 : Shape := ⟨2, ![32768, 256]⟩
abbrev S4x8192x2x3x128 : Shape := ⟨5, ![4, 8192, 2, 3, 128]⟩
abbrev S4x8192x2x128 : Shape := ⟨4, ![4, 8192, 2, 128]⟩
abbrev S4x2x8192x8192x3 : Shape := ⟨5, ![4, 2, 8192, 8192, 3]⟩
abbrev S4x2x3x8192x8192 : Shape := ⟨5, ![4, 2, 3, 8192, 8192]⟩
abbrev S_ : Shape := ⟨0, ![]⟩
abbrev S4x2x3x8192 : Shape := ⟨4, ![4, 2, 3, 8192]⟩
abbrev S4x2x3x8192x1 : Shape := ⟨5, ![4, 2, 3, 8192, 1]⟩
abbrev S4x2x128x3x8192 : Shape := ⟨5, ![4, 2, 128, 3, 8192]⟩

abbrev nBuf : Space → Nat
  | .hbm => 29
  | .vmem => 0
  | .smem => 0
  | _ => 0

abbrev bufTy : (tb : Table) → Fin (tcTables nBuf tb) → BufTy
  | .hbm, ⟨0, _⟩ => ⟨S32768x768, .bf16⟩
  | .hbm, ⟨1, _⟩ => ⟨S32768x256, .bf16⟩
  | .hbm, ⟨2, _⟩ => ⟨S32768x256, .bf16⟩
  | .hbm, ⟨3, _⟩ => ⟨S32768x768, .f32⟩
  | .hbm, ⟨4, _⟩ => ⟨S4x8192x2x3x128, .f32⟩
  | .hbm, ⟨5, _⟩ => ⟨S32768x256, .f32⟩
  | .hbm, ⟨6, _⟩ => ⟨S4x8192x2x128, .f32⟩
  | .hbm, ⟨7, _⟩ => ⟨S32768x256, .f32⟩
  | .hbm, ⟨8, _⟩ => ⟨S4x8192x2x128, .f32⟩
  | .hbm, ⟨9, _⟩ => ⟨S4x2x8192x8192x3, .f32⟩
  | .hbm, ⟨10, _⟩ => ⟨S4x2x3x8192x8192, .f32⟩
  | .hbm, ⟨11, _⟩ => ⟨S_, .f32⟩
  | .hbm, ⟨12, _⟩ => ⟨S4x2x3x8192, .f32⟩
  | .hbm, ⟨13, _⟩ => ⟨S_, .f32⟩
  | .hbm, ⟨14, _⟩ => ⟨S4x2x3x8192, .f32⟩
  | .hbm, ⟨15, _⟩ => ⟨S4x2x3x8192, .f32⟩
  | .hbm, ⟨16, _⟩ => ⟨S4x2x3x8192x1, .f32⟩
  | .hbm, ⟨17, _⟩ => ⟨S4x2x3x8192x8192, .f32⟩
  | .hbm, ⟨18, _⟩ => ⟨S4x2x3x8192x8192, .f32⟩
  | .hbm, ⟨19, _⟩ => ⟨S4x2x3x8192x8192, .f32⟩
  | .hbm, ⟨20, _⟩ => ⟨S_, .f32⟩
  | .hbm, ⟨21, _⟩ => ⟨S4x2x3x8192, .f32⟩
  | .hbm, ⟨22, _⟩ => ⟨S4x2x3x8192x1, .f32⟩
  | .hbm, ⟨23, _⟩ => ⟨S4x2x3x8192x8192, .f32⟩
  | .hbm, ⟨24, _⟩ => ⟨S4x2x3x8192x8192, .f32⟩
  | .hbm, ⟨25, _⟩ => ⟨S4x2x128x3x8192, .f32⟩
  | .hbm, ⟨26, _⟩ => ⟨S4x8192x2x3x128, .f32⟩
  | .hbm, ⟨27, _⟩ => ⟨S32768x768, .f32⟩
  | .hbm, ⟨28, _⟩ => ⟨S32768x768, .bf16⟩
  | _, _ => ⟨S32768x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Mla.lean ====
abbrev S32768x512 : Shape := ⟨2, ![32768, 512]⟩
abbrev S512x128 : Shape := ⟨2, ![512, 128]⟩
abbrev S8192x128 : Shape := ⟨2, ![8192, 128]⟩
abbrev S1x512x128 : Shape := ⟨3, ![1, 512, 128]⟩
abbrev S512x512 : Shape := ⟨2, ![512, 512]⟩
abbrev S512 : Shape := ⟨1, ![512]⟩
abbrev S512x1 : Shape := ⟨2, ![512, 1]⟩

abbrev nBuf : Space → Nat
  | .hbm => 4
  | .vmem => 10
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .bf16⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x128, .bf16⟩
  | .local _ .vmem, ⟨7, _⟩ => ⟨S512x128, .bf16⟩
  | .local _ .vmem, ⟨8, _⟩ => ⟨S1x512x128, .f32⟩
  | .local _ .vmem, ⟨9, _⟩ => ⟨S1x512x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

@[reducible] def k0_t1_loop : Scf.Loop 32 :=
  let c0_i32 : BitVec 32 := 0#32
  let c16_i32 : BitVec 32 := 16#32
  let v8 : BitVec 32 := Scalar.addi c0_i32 c16_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v16 : BitVec 32 := Scalar.muli arg9 c512_i32
  v16
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v16 : BitVec 32 := Scalar.muli arg9 c512_i32
  let v17 : BitVec 32 := v16
  let v18 : Index := Scalar.indexCast v17
  let c0_12 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaRefIdeal.lean ====
abbrev S32768x512 : Shape := ⟨2, ![32768, 512]⟩
abbrev S4x8192x4x1x128 : Shape := ⟨5, ![4, 8192, 4, 1, 128]⟩
abbrev S4x8192x4x128 : Shape := ⟨4, ![4, 8192, 4, 128]⟩
abbrev S4x4x8192x8192x1 : Shape := ⟨5, ![4, 4, 8192, 8192, 1]⟩
abbrev S4x4x1x8192x8192 : Shape := ⟨5, ![4, 4, 1, 8192, 8192]⟩
abbrev S_ : Shape := ⟨0, ![]⟩
abbrev S4x4x1x8192 : Shape := ⟨4, ![4, 4, 1, 8192]⟩
abbrev S4x4x1x8192x1 : Shape := ⟨5, ![4, 4, 1, 8192, 1]⟩
abbrev S4x4x128x1x8192 : Shape := ⟨5, ![4, 4, 128, 1, 8192]⟩

abbrev nBuf : Space → Nat
  | .hbm => 29
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .f32⟩
  | .hbm, ⟨4, _⟩ => ⟨S4x8192x4x1x128, .f32⟩
  | .hbm, ⟨5, _⟩ => ⟨S32768x512, .f32⟩
  | .hbm, ⟨6, _⟩ => ⟨S4x8192x4x128, .f32⟩
  | .hbm, ⟨7, _⟩ => ⟨S32768x512, .f32⟩
  | .hbm, ⟨8, _⟩ => ⟨S4x8192x4x128, .f32⟩
  | .hbm, ⟨9, _⟩ => ⟨S4x4x8192x8192x1, .f32⟩
  | .hbm, ⟨10, _⟩ => ⟨S4x4x1x8192x8192, .f32⟩
  | .hbm, ⟨11, _⟩ => ⟨S_, .f32⟩
  | .hbm, ⟨12, _⟩ => ⟨S4x4x1x8192, .f32⟩
  | .hbm, ⟨13, _⟩ => ⟨S_, .f32⟩
  | .hbm, ⟨14, _⟩ => ⟨S4x4x1x8192, .f32⟩
  | .hbm, ⟨15, _⟩ => ⟨S4x4x1x8192, .f32⟩
  | .hbm, ⟨16, _⟩ => ⟨S4x4x1x8192x1, .f32⟩
  | .hbm, ⟨17, _⟩ => ⟨S4x4x1x8192x8192, .f32⟩
  | .hbm, ⟨18, _⟩ => ⟨S4x4x1x8192x8192, .f32⟩
  | .hbm, ⟨19, _⟩ => ⟨S4x4x1x8192x8192, .f32⟩
  | .hbm, ⟨20, _⟩ => ⟨S_, .f32⟩
  | .hbm, ⟨21, _⟩ => ⟨S4x4x1x8192, .f32⟩
  | .hbm, ⟨22, _⟩ => ⟨S4x4x1x8192x1, .f32⟩
  | .hbm, ⟨23, _⟩ => ⟨S4x4x1x8192x8192, .f32⟩
  | .hbm, ⟨24, _⟩ => ⟨S4x4x1x8192x8192, .f32⟩
  | .hbm, ⟨25, _⟩ => ⟨S4x4x128x1x8192, .f32⟩
  | .hbm, ⟨26, _⟩ => ⟨S4x8192x4x1x128, .f32⟩
  | .hbm, ⟨27, _⟩ => ⟨S32768x512, .f32⟩
  | .hbm, ⟨28, _⟩ => ⟨S32768x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Merge.lean ====
abbrev S32768x1024 : Shape := ⟨2, ![32768, 1024]⟩
abbrev S32768x384 : Shape := ⟨2, ![32768, 384]⟩
abbrev S32768x768 : Shape := ⟨2, ![32768, 768]⟩
abbrev S32768x512 : Shape := ⟨2, ![32768, 512]⟩
abbrev S1024x3072 : Shape := ⟨2, ![1024, 3072]⟩
abbrev S384x1024 : Shape := ⟨2, ![384, 1024]⟩
abbrev S768x1024 : Shape := ⟨2, ![768, 1024]⟩
abbrev S512x1024 : Shape := ⟨2, ![512, 1024]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S32768x128 : Shape := ⟨2, ![32768, 128]⟩
abbrev S512x384 : Shape := ⟨2, ![512, 384]⟩
abbrev S512x768 : Shape := ⟨2, ![512, 768]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 17
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S32768x384, .bf16⟩
  | .hbm, ⟨2, _⟩ => ⟨S32768x768, .bf16⟩
  | .hbm, ⟨3, _⟩ => ⟨S32768x512, .bf16⟩
  | .hbm, ⟨4, _⟩ => ⟨S1024x3072, .bf16⟩
  | .hbm, ⟨5, _⟩ => ⟨S384x1024, .bf16⟩
  | .hbm, ⟨6, _⟩ => ⟨S768x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S1024x128, .bf16⟩
  | .hbm, ⟨12, _⟩ => ⟨S1024x128, .bf16⟩
  | .hbm, ⟨13, _⟩ => ⟨S1x128, .f32⟩
  | .hbm, ⟨14, _⟩ => ⟨S32768x1024, .f32⟩
  | .hbm, ⟨15, _⟩ => ⟨S32768x1024, .bf16⟩
  | .hbm, ⟨16, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S512x384, .bf16⟩
  | .local _ .vmem, ⟨3, _⟩ => ⟨S512x384, .bf16⟩
  | .local _ .vmem, ⟨4, _⟩ => ⟨S512x768, .bf16⟩
  | .local _ .vmem, ⟨5, _⟩ => ⟨S512x768, .bf16⟩
  | .local _ .vmem, ⟨6, _⟩ => ⟨S512x512, .bf16⟩
  | .local _ .vmem, ⟨7, _⟩ => ⟨S512x512, .bf16⟩
  | .local _ .vmem, ⟨8, _⟩ => ⟨S1024x3072, .bf16⟩
  | .local _ .vmem, ⟨9, _⟩ => ⟨S384x1024, .bf16⟩
  | .local _ .vmem, ⟨10, _⟩ => ⟨S768x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x128, .bf16⟩
  | .local _ .vmem, ⟨16, _⟩ => ⟨S1024x128, .bf16⟩
  | .local _ .vmem, ⟨17, _⟩ => ⟨S1x128, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x128, .f32⟩
  | .local _ .vmem, ⟨23, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeRefIdeal.lean ====
abbrev S32768x1024 : Shape := ⟨2, ![32768, 1024]⟩
abbrev S32768x384 : Shape := ⟨2, ![32768, 384]⟩
abbrev S32768x768 : Shape := ⟨2, ![32768, 768]⟩
abbrev S32768x512 : Shape := ⟨2, ![32768, 512]⟩
abbrev S1024x3072 : Shape := ⟨2, ![1024, 3072]⟩
abbrev S384x1024 : Shape := ⟨2, ![384, 1024]⟩
abbrev S768x1024 : Shape := ⟨2, ![768, 1024]⟩
abbrev S512x1024 : Shape := ⟨2, ![512, 1024]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S32768x3072 : Shape := ⟨2, ![32768, 3072]⟩
abbrev S32768x3x1024 : Shape := ⟨3, ![32768, 3, 1024]⟩
abbrev S_ : Shape := ⟨0, ![]⟩
abbrev S32768x1x1024 : Shape := ⟨3, ![32768, 1, 1024]⟩
abbrev S32768 : Shape := ⟨1, ![32768]⟩
abbrev S32768x1 : Shape := ⟨2, ![32768, 1]⟩
abbrev S32768x128 : Shape := ⟨2, ![32768, 128]⟩

abbrev nBuf : Space → Nat
  | .hbm => 85
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x384, .bf16⟩
  | .hbm, ⟨2, _⟩ => ⟨S32768x768, .bf16⟩
  | .hbm, ⟨3, _⟩ => ⟨S32768x512, .bf16⟩
  | .hbm, ⟨4, _⟩ => ⟨S1024x3072, .bf16⟩
  | .hbm, ⟨5, _⟩ => ⟨S384x1024, .bf16⟩
  | .hbm, ⟨6, _⟩ => ⟨S768x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S1024x128, .bf16⟩
  | .hbm, ⟨12, _⟩ => ⟨S1024x128, .bf16⟩
  | .hbm, ⟨13, _⟩ => ⟨S1x128, .f32⟩
  | .hbm, ⟨14, _⟩ => ⟨S1024x3072, .f32⟩
  | .hbm, ⟨15, _⟩ => ⟨S32768x3072, .f32⟩
  | .hbm, ⟨16, _⟩ => ⟨S32768x3x1024, .f32⟩
  | .hbm, ⟨17, _⟩ => ⟨S32768x384, .f32⟩
  | .hbm, ⟨18, _⟩ => ⟨S384x1024, .f32⟩
  | .hbm, ⟨19, _⟩ => ⟨S32768x1024, .f32⟩
  | .hbm, ⟨20, _⟩ => ⟨S32768x768, .f32⟩
  | .hbm, ⟨21, _⟩ => ⟨S768x1024, .f32⟩
  | .hbm, ⟨22, _⟩ => ⟨S32768x1024, .f32⟩
  | .hbm, ⟨23, _⟩ => ⟨S32768x512, .f32⟩
  | .hbm, ⟨24, _⟩ => ⟨S512x1024, .f32⟩
  | .hbm, ⟨25, _⟩ => ⟨S32768x1024, .f32⟩
  | .hbm, ⟨26, _⟩ => ⟨S32768x3x1024, .f32⟩
  | .hbm, ⟨27, _⟩ => ⟨S32768x3x1024, .f32⟩
  | .hbm, ⟨28, _⟩ => ⟨S_, .f32⟩
  | .hbm, ⟨29, _⟩ => ⟨S32768x3x1024, .f32⟩
  | .hbm, ⟨30, _⟩ => ⟨S32768x3x1024, .f32⟩
  | .hbm, ⟨31, _⟩ => ⟨S_, .f32⟩
  | .hbm, ⟨32, _⟩ => ⟨S32768x3x1024, .f32⟩
  | .hbm, ⟨33, _⟩ => ⟨S32768x3x1024, .f32⟩
  | .hbm, ⟨34, _⟩ => ⟨S32768x1x1024, .f32⟩
  | .hbm, ⟨35, _⟩ => ⟨S32768x1024, .f32⟩
  | .hbm, ⟨36, _⟩ => ⟨S32768x1024, .f32⟩
  | .hbm, ⟨37, _⟩ => ⟨S32768x1x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S32768x1x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S32768x1024, .f32⟩
  | .hbm, ⟨47, _⟩ => ⟨S32768x1024, .f32⟩
  | .hbm, ⟨48, _⟩ => ⟨S1024x1024, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S_, .f32⟩
  | .hbm, ⟨61, _⟩ => ⟨S32768, .f32⟩
  | .hbm, ⟨62, _⟩ => ⟨S32768x1, .f32⟩
  | .hbm, ⟨63, _⟩ => ⟨S_, .f32⟩
  | .hbm, ⟨64, _⟩ => ⟨S32768x1, .f32⟩
  | .hbm, ⟨65, _⟩ => ⟨S32768x1, .f32⟩
  | .hbm, ⟨66, _⟩ => ⟨S32768x1024, .f32⟩
  | .hbm, ⟨67, _⟩ => ⟨S32768x1024, .f32⟩
  | .hbm, ⟨68, _⟩ => ⟨S_, .f32⟩
  | .hbm, ⟨69, _⟩ => ⟨S32768x1, .f32⟩
  | .hbm, ⟨70, _⟩ => ⟨S32768x1, .f32⟩
  | .hbm, ⟨71, _⟩ => ⟨S32768x1, .f32⟩
  | .hbm, ⟨72, _⟩ => ⟨S32768x1024, .f32⟩
  | .hbm, ⟨73, _⟩ => ⟨S32768x1024, .f32⟩
  | .hbm, ⟨74, _⟩ => ⟨S32768x1024, .f32⟩
  | .hbm, ⟨75, _⟩ => ⟨S32768x1024, .f32⟩
  | .hbm, ⟨76, _⟩ => ⟨S32768x1024, .f32⟩
  | .hbm, ⟨77, _⟩ => ⟨S32768x1024, .f32⟩
  | .hbm, ⟨78, _⟩ => ⟨S1024x128, .f32⟩
  | .hbm, ⟨79, _⟩ => ⟨S1024x128, .f32⟩
  | .hbm, ⟨80, _⟩ => ⟨S1024x128, .f32⟩
  | .hbm, ⟨81, _⟩ => ⟨S32768x128, .f32⟩
  | .hbm, ⟨82, _⟩ => ⟨S32768x128, .f32⟩
  | .hbm, ⟨83, _⟩ => ⟨S32768x128, .f32⟩
  | .hbm, ⟨84, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== Moe.lean ====
abbrev S288 : Shape := ⟨1, ![288]⟩
abbrev S1 : Shape := ⟨1, ![1]⟩
abbrev S147456x1024 : Shape := ⟨2, ![147456, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S512x2048 : Shape := ⟨2, ![512, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 6
  | .vmem => 12
  | .smem => 2
  | _ => 0

abbrev bufTy : (tb : Table) → Fin (tcTables nBuf tb) → BufTy
  | .hbm, ⟨0, _⟩ => ⟨S147456x1024, .bf16⟩
  | .hbm, ⟨1, _⟩ => ⟨S32x1024x2048, .bf16⟩
  | .hbm, ⟨2, _⟩ => ⟨S32x1x2048, .f32⟩
  | .hbm, ⟨3, _⟩ => ⟨S32x1024x1024, .bf16⟩
  | .hbm, ⟨4, _⟩ => ⟨S32x1x1024, .f32⟩
  | .hbm, ⟨5, _⟩ => ⟨S147456x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .smem, ⟨0, _⟩ => ⟨S288, .i32⟩
  | .local _ .smem, ⟨1, _⟩ => ⟨S1, .i32⟩
  | _, _ => ⟨S147456x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MoeRefIdeal.lean ====
abbrev S288 : Shape := ⟨1, ![288]⟩
abbrev S1 : Shape := ⟨1, ![1]⟩
abbrev S147456x1024 : Shape := ⟨2, ![147456, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S288x512x1024 : Shape := ⟨3, ![288, 512, 1024]⟩
abbrev S_ : Shape := ⟨0, ![]⟩
abbrev S288x1 : Shape := ⟨2, ![288, 1]⟩
abbrev S288x1024x2048 : Shape := ⟨3, ![288, 1024, 2048]⟩
abbrev S288x512x2048 : Shape := ⟨3, ![288, 512, 2048]⟩
abbrev S288x1x2048 : Shape := ⟨3, ![288, 1, 2048]⟩
abbrev S288x1024x1024 : Shape := ⟨3, ![288, 1024, 1024]⟩
abbrev S288x1x1024 : Shape := ⟨3, ![288, 1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S147456x1024, .bf16⟩
  | .hbm, ⟨3, _⟩ => ⟨S32x1024x2048, .bf16⟩
  | .hbm, ⟨4, _⟩ => ⟨S32x1x2048, .f32⟩
  | .hbm, ⟨5, _⟩ => ⟨S32x1024x1024, .bf16⟩
  | .hbm, ⟨6, _⟩ => ⟨S32x1x1024, .f32⟩
  | .hbm, ⟨7, _⟩ => ⟨S147456x1024, .f32⟩
  | .hbm, ⟨8, _⟩ => ⟨S288x512x1024, .f32⟩
  | .hbm, ⟨9, _⟩ => ⟨S32x1024x2048, .f32⟩
  | .hbm, ⟨10, _⟩ => ⟨S_, .i32⟩
  | .hbm, ⟨11, _⟩ => ⟨S288, .i32⟩
  | .hbm, ⟨12, _⟩ => ⟨S288, .i1⟩
  | .hbm, ⟨13, _⟩ => ⟨S_, .i32⟩
  | .hbm, ⟨14, _⟩ => ⟨S288, .i32⟩
  | .hbm, ⟨15, _⟩ => ⟨S288, .i32⟩
  | .hbm, ⟨16, _⟩ => ⟨S288, .i32⟩
  | .hbm, ⟨17, _⟩ => ⟨S288x1, .i32⟩
  | .hbm, ⟨18, _⟩ => ⟨S288x1024x2048, .f32⟩
  | .hbm, ⟨19, _⟩ => ⟨S288x512x2048, .f32⟩
  | .hbm, ⟨20, _⟩ => ⟨S_, .i32⟩
  | .hbm, ⟨21, _⟩ => ⟨S288, .i32⟩
  | .hbm, ⟨22, _⟩ => ⟨S288, .i1⟩
  | .hbm, ⟨23, _⟩ => ⟨S_, .i32⟩
  | .hbm, ⟨24, _⟩ => ⟨S288, .i32⟩
  | .hbm, ⟨25, _⟩ => ⟨S288, .i32⟩
  | .hbm, ⟨26, _⟩ => ⟨S288, .i32⟩
  | .hbm, ⟨27, _⟩ => ⟨S288x1, .i32⟩
  | .hbm, ⟨28, _⟩ => ⟨S288x1x2048, .f32⟩
  | .hbm, ⟨29, _⟩ => ⟨S288x512x2048, .f32⟩
  | .hbm, ⟨30, _⟩ => ⟨S288x512x2048, .f32⟩
  | .hbm, ⟨31, _⟩ => ⟨S288x512x1024, .f32⟩
  | .hbm, ⟨32, _⟩ => ⟨S288x512x1024, .f32⟩
  | .hbm, ⟨33, _⟩ => ⟨S_, .f32⟩
  | .hbm, ⟨34, _⟩ => ⟨S288x512x1024, .f32⟩
  | .hbm, ⟨35, _⟩ => ⟨S288x512x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S288x512x1024, .f32⟩
  | .hbm, ⟨40, _⟩ => ⟨S288x512x1024, .f32⟩
  | .hbm, ⟨41, _⟩ => ⟨S_, .f32⟩
  | .hbm, ⟨42, _⟩ => ⟨S288x512x1024, .f32⟩
  | .hbm, ⟨43, _⟩ => ⟨S288x512x1024, .f32⟩
  | .hbm, ⟨44, _⟩ => ⟨S_, .f32⟩
  | .hbm, ⟨45, _⟩ => ⟨S288x512x1024, .f32⟩
  | .hbm, ⟨46, _⟩ => ⟨S288x512x1024, .f32⟩
  | .hbm, ⟨47, _⟩ => ⟨S288x512x1024, .f32⟩
  | .hbm, ⟨48, _⟩ => ⟨S288x512x1024, .f32⟩
  | .hbm, ⟨49, _⟩ => ⟨S_, .f32⟩
  | .hbm, ⟨50, _⟩ => ⟨S288x512x1024, .f32⟩
  | .hbm, ⟨51, _⟩ => ⟨S288x512x1024, .f32⟩
  | .hbm, ⟨52, _⟩ => ⟨S_, .f32⟩
  | .hbm, ⟨53, _⟩ => ⟨S288x512x1024, .f32⟩
  | .hbm, ⟨54, _⟩ => ⟨S288x512x1024, .f32⟩
  | .hbm, ⟨55, _⟩ => ⟨S288x512x1024, .f32⟩
  | .hbm, ⟨56, _⟩ => ⟨S_, .f32⟩
  | .hbm, ⟨57, _⟩ => ⟨S288x512x1024, .f32⟩
  | .hbm, ⟨58, _⟩ => ⟨S288x512x1024, .f32⟩
  | .hbm, ⟨59, _⟩ => ⟨S288x512x1024, .f32⟩
  | .hbm, ⟨60, _⟩ => ⟨S32x1024x1024, .f32⟩
  | .hbm, ⟨61, _⟩ => ⟨S_, .i32⟩
  | .hbm, ⟨62, _⟩ => ⟨S288, .i32⟩
  | .hbm, ⟨63, _⟩ => ⟨S288, .i1⟩
  | .hbm, ⟨64, _⟩ => ⟨S_, .i32⟩
  | .hbm, ⟨65, _⟩ => ⟨S288, .i32⟩
  | .hbm, ⟨66, _⟩ => ⟨S288, .i32⟩
  | .hbm, ⟨67, _⟩ => ⟨S288, .i32⟩
  | .hbm, ⟨68, _⟩ => ⟨S288x1, .i32⟩
  | .hbm, ⟨69, _⟩ => ⟨S288x1024x1024, .f32⟩
  | .hbm, ⟨70, _⟩ => ⟨S288x512x1024, .f32⟩
  | .hbm, ⟨71, _⟩ => ⟨S_, .i32⟩
  | .hbm, ⟨72, _⟩ => ⟨S288, .i32⟩
  | .hbm, ⟨73, _⟩ => ⟨S288, .i1⟩
  | .hbm, ⟨74, _⟩ => ⟨S_, .i32⟩
  | .hbm, ⟨75, _⟩ => ⟨S288, .i32⟩
  | .hbm, ⟨76, _⟩ => ⟨S288, .i32⟩
  | .hbm, ⟨77, _⟩ => ⟨S288, .i32⟩
  | .hbm, ⟨78, _⟩ => ⟨S288x1, .i32⟩
  | .hbm, ⟨79, _⟩ => ⟨S288x1x1024, .f32⟩
  | .hbm, ⟨80, _⟩ => ⟨S288x512x1024, .f32⟩
  | .hbm, ⟨81, _⟩ => ⟨S288x512x1024, .f32⟩
  | .hbm, ⟨82, _⟩ => ⟨S147456x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_c_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_11 : Ref sig .tc := ⟨.hbm, 71, rfl⟩
abbrev main_v46 : Ref sig .tc := ⟨.hbm, 72, rfl⟩
abbrev main_v47 : Ref sig .tc := ⟨.hbm, 73, rfl⟩
abbrev main_c_12 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]
-- ==== Qkv.lean ====
abbrev S32768x1024 : Shape := ⟨2, ![32768, 1024]⟩
abbrev S1024x3200 : Shape := ⟨2, ![1024, 3200]⟩
abbrev S8192x128 : Shape := ⟨2, ![8192, 128]⟩
abbrev S1x128 : Shape := ⟨2, ![1, 128]⟩
abbrev S1x384 : Shape := ⟨2, ![1, 384]⟩
abbrev S1x256 : Shape := ⟨2, ![1, 256]⟩
abbrev S384x512 : Shape := ⟨2, ![384, 512]⟩
abbrev S256x512 : Shape := ⟨2, ![256, 512]⟩
abbrev S32768x384 : Shape := ⟨2, ![32768, 384]⟩
abbrev S32768x768 : Shape := ⟨2, ![32768, 768]⟩
abbrev S32768x256 : Shape := ⟨2, ![32768, 256]⟩
abbrev S32768x512 : Shape := ⟨2, ![32768, 512]⟩
abbrev S512x1024 : Shape := ⟨2, ![512, 1024]⟩
abbrev S512x128 : Shape := ⟨2, ![512, 128]⟩
abbrev S512x384 : Shape := ⟨2, ![512, 384]⟩
abbrev S512x768 : Shape := ⟨2, ![512, 768]⟩
abbrev S512x256 : Shape := ⟨2, ![512, 256]⟩
abbrev S512x512 : Shape := ⟨2, ![512, 512]⟩
abbrev S1024x384 : Shape := ⟨2, ![1024, 384]⟩
abbrev S1024x128 : Shape := ⟨2, ![1024, 128]⟩
abbrev S512 : Shape := ⟨1, ![512]⟩
abbrev S512x1 : Shape := ⟨2, ![512, 1]⟩
abbrev S1024x256 : Shape := ⟨2, ![1024, 256]⟩

abbrev nBuf : Space → Nat
  | .hbm => 21
  | .vmem => 34
  | .smem => 0
  | _ => 0

abbrev bufTy : (tb : Table) → Fin (tcTables nBuf tb) → BufTy
  | .hbm, ⟨0, _⟩ => ⟨S32768x1024, .f32⟩
  | .hbm, ⟨1, _⟩ => ⟨S1024x3200, .bf16⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S1x128, .f32⟩
  | .hbm, ⟨6, _⟩ => ⟨S1x128, .f32⟩
  | .hbm, ⟨7, _⟩ => ⟨S1x384, .f32⟩
  | .hbm, ⟨8, _⟩ => ⟨S1x256, .f32⟩
  | .hbm, ⟨9, _⟩ => ⟨S384x512, .bf16⟩
  | .hbm, ⟨10, _⟩ => ⟨S256x512, .bf16⟩
  | .hbm, ⟨11, _⟩ => ⟨S256x512, .bf16⟩
  | .hbm, ⟨12, _⟩ => ⟨S32768x384, .bf16⟩
  | .hbm, ⟨13, _⟩ => ⟨S32768x384, .bf16⟩
  | .hbm, ⟨14, _⟩ => ⟨S32768x384, .bf16⟩
  | .hbm, ⟨15, _⟩ => ⟨S32768x768, .bf16⟩
  | .hbm, ⟨16, _⟩ => ⟨S32768x256, .bf16⟩
  | .hbm, ⟨17, _⟩ => ⟨S32768x256, .bf16⟩
  | .hbm, ⟨18, _⟩ => ⟨S32768x512, .bf16⟩
  | .hbm, ⟨19, _⟩ => ⟨S32768x512, .bf16⟩
  | .hbm, ⟨20, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1024x3200, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S1x128, .f32⟩
  | .local _ .vmem, ⟨10, _⟩ => ⟨S1x128, .f32⟩
  | .local _ .vmem, ⟨11, _⟩ => ⟨S1x384, .f32⟩
  | .local _ .vmem, ⟨12, _⟩ => ⟨S1x256, .f32⟩
  | .local _ .vmem, ⟨13, _⟩ => ⟨S384x512, .bf16⟩
  | .local _ .vmem, ⟨14, _⟩ => ⟨S256x512, .bf16⟩
  | .local _ .vmem, ⟨15, _⟩ => ⟨S256x512, .bf16⟩
  | .local _ .vmem, ⟨16, _⟩ => ⟨S512x384, .bf16⟩
  | .local _ .vmem, ⟨17, _⟩ => ⟨S512x384, .bf16⟩
  | .local _ .vmem, ⟨18, _⟩ => ⟨S512x384, .bf16⟩
  | .local _ .vmem, ⟨19, _⟩ => ⟨S512x384, .bf16⟩
  | .local _ .vmem, ⟨20, _⟩ => ⟨S512x384, .bf16⟩
  | .local _ .vmem, ⟨21, _⟩ => ⟨S512x384, .bf16⟩
  | .local _ .vmem, ⟨22, _⟩ => ⟨S512x768, .bf16⟩
  | .local _ .vmem, ⟨23, _⟩ => ⟨S512x768, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x384 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x768 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== QkvRefIdeal.lean ====
abbrev S32768x1024 : Shape := ⟨2, ![32768, 1024]⟩
abbrev S1024x3200 : Shape := ⟨2, ![1024, 3200]⟩
abbrev S8192x128 : Shape := ⟨2, ![8192, 128]⟩
abbrev S1x128 : Shape := ⟨2, ![1, 128]⟩
abbrev S1x384 : Shape := ⟨2, ![1, 384]⟩
abbrev S1x256 : Shape := ⟨2, ![1, 256]⟩
abbrev S384x512 : Shape := ⟨2, ![384, 512]⟩
abbrev S256x512 : Shape := ⟨2, ![256, 512]⟩
abbrev S32768x3200 : Shape := ⟨2, ![32768, 3200]⟩
abbrev S32768x384 : Shape := ⟨2, ![32768, 384]⟩
abbrev S8192x32 : Shape := ⟨2, ![8192, 32]⟩
abbrev S32768x768 : Shape := ⟨2, ![32768, 768]⟩
abbrev S4x8192x6x128 : Shape := ⟨4, ![4, 8192, 6, 128]⟩
abbrev S4x8192x6x64 : Shape := ⟨4, ![4, 8192, 6, 64]⟩
abbrev S32768x256 : Shape := ⟨2, ![32768, 256]⟩
abbrev S4x8192x2x128 : Shape := ⟨4, ![4, 8192, 2, 128]⟩
abbrev S4x8192x2x64 : Shape := ⟨4, ![4, 8192, 2, 64]⟩
abbrev S1x64 : Shape := ⟨2, ![1, 64]⟩
abbrev S64 : Shape := ⟨1, ![64]⟩
abbrev S_ : Shape := ⟨0, ![]⟩
abbrev S4x8192x6 : Shape := ⟨3, ![4, 8192, 6]⟩
abbrev S4x8192x6x1 : Shape := ⟨4, ![4, 8192, 6, 1]⟩
abbrev S1x1x1x64 : Shape := ⟨4, ![1, 1, 1, 64]⟩
abbrev S4x8192x6x32 : Shape := ⟨4, ![4, 8192, 6, 32]⟩
abbrev S8192x1x32 : Shape := ⟨3, ![8192, 1, 32]⟩
abbrev S1x8192x1x32 : Shape := ⟨4, ![1, 8192, 1, 32]⟩
abbrev S4x8192x2 : Shape := ⟨3, ![4, 8192, 2]⟩
abbrev S4x8192x2x1 : Shape := ⟨4, ![4, 8192, 2, 1]⟩
abbrev S4x8192x2x32 : Shape := ⟨4, ![4, 8192, 2, 32]⟩
abbrev S32768 : Shape := ⟨1, ![32768]⟩
abbrev S32768x1 : Shape := ⟨2, ![32768, 1]⟩
abbrev S32768x512 : Shape := ⟨2, ![32768, 512]⟩
abbrev S4x8192x4x128 : Shape := ⟨4, ![4, 8192, 4, 128]⟩
abbrev S4x8192x4x64 : Shape := ⟨4, ![4, 8192, 4, 64]⟩
abbrev S8192x64 : Shape := ⟨2, ![8192, 64]⟩
abbrev S8192x1x64 : Shape := ⟨3, ![8192, 1, 64]⟩
abbrev S1x8192x1x64 : Shape := ⟨4, ![1, 8192, 1, 64]⟩
abbrev S4x8192x4x32 : Shape := ⟨4, ![4, 8192, 4, 32]⟩
abbrev S8192x16 : Shape := ⟨2, ![8192, 16]⟩
abbrev S4x8192x4x16 : Shape := ⟨4, ![4, 8192, 4, 16]⟩
abbrev S8192x1x16 : Shape := ⟨3, ![8192, 1, 16]⟩
abbrev S1x8192x1x16 : Shape := ⟨4, ![1, 8192, 1, 16]⟩
abbrev S32768x128 : Shape := ⟨2, ![32768, 128]⟩
abbrev S4x8192x1x128 : Shape := ⟨4, ![4, 8192, 1, 128]⟩
abbrev S4x8192x1x32 : Shape := ⟨4, ![4, 8192, 1, 32]⟩
abbrev S4x8192x1x16 : Shape := ⟨4, ![4, 8192, 1, 16]⟩
abbrev S4x8192x4x96 : Shape := ⟨4, ![4, 8192, 4, 96]⟩
abbrev S4x8192x2x65 : Shape := ⟨4, ![4, 8192, 2, 65]⟩
abbrev S4x8192x2x63 : Shape := ⟨4, ![4, 8192, 2, 63]⟩
abbrev S4x8192x4x1 : Shape := ⟨4, ![4, 8192, 4, 1]⟩
abbrev S4x8192x4x65 : Shape := ⟨4, ![4, 8192, 4, 65]⟩
abbrev S4x8192x4x63 : Shape := ⟨4, ![4, 8192, 4, 63]⟩

abbrev nBuf : Space → Nat
  | .hbm => 239
  | .vmem => 0
  | .smem => 0
  | _ => 0

abbrev hbmTy0_0 (i : Nat) : BufTy := match i % 128 with
  | 0 => ⟨S32768x1024, .f32⟩
  | 1 => ⟨S1024x3200, .bf16⟩
  | 2 => ⟨S8192x128, .f32⟩
  | 3 => ⟨S8192x128, .f32⟩
  | 4 => ⟨S8192x128, .f32⟩
  | 5 => ⟨S1x128, .f32⟩
  | 6 => ⟨S1x128, .f32⟩
  | 7 => ⟨S1x384, .f32⟩
  | 8 => ⟨S1x256, .f32⟩
  | 9 => ⟨S384x512, .bf16⟩
  | 10 => ⟨S256x512, .bf16⟩
  | 11 => ⟨S256x512, .bf16⟩
  | 12 => ⟨S1024x3200, .f32⟩
  | 13 => ⟨S32768x3200, .f32⟩
  | 14 => ⟨S32768x384, .f32⟩
  | 15 => ⟨S32768x384, .f32⟩
  | 16 => ⟨S32768x384, .f32⟩
  | 17 => ⟨S8192x32, .f32⟩
  | 18 => ⟨S8192x32, .f32⟩
  | 19 => ⟨S32768x768, .f32⟩
  | 20 => ⟨S4x8192x6x128, .f32⟩
  | 21 => ⟨S4x8192x6x64, .f32⟩
  | 22 => ⟨S32768x256, .f32⟩
  | 23 => ⟨S4x8192x2x128, .f32⟩
  | 24 => ⟨S4x8192x2x64, .f32⟩
  | 25 => ⟨S32768x256, .f32⟩
  | 26 => ⟨S4x8192x2x128, .f32⟩
  | 27 => ⟨S4x8192x2x64, .f32⟩
  | 28 => ⟨S1x64, .f32⟩
  | 29 => ⟨S64, .f32⟩
  | 30 => ⟨S4x8192x6x64, .f32⟩
  | 31 => ⟨S_, .f32⟩
  | 32 => ⟨S4x8192x6, .f32⟩
  | 33 => ⟨S4x8192x6x1, .f32⟩
  | 34 => ⟨S_, .f32⟩
  | 35 => ⟨S4x8192x6x1, .f32⟩
  | 36 => ⟨S4x8192x6x1, .f32⟩
  | 37 => ⟨S_, .f32⟩
  | 38 => ⟨S4x8192x6x1, .f32⟩
  | 39 => ⟨S4x8192x6x1, .f32⟩
  | 40 => ⟨S4x8192x6x1, .f32⟩
  | 41 => ⟨S4x8192x6x64, .f32⟩
  | 42 => ⟨S4x8192x6x64, .f32⟩
  | 43 => ⟨S1x1x1x64, .f32⟩
  | 44 => ⟨S4x8192x6x64, .f32⟩
  | 45 => ⟨S4x8192x6x64, .f32⟩
  | 46 => ⟨S4x8192x6x32, .f32⟩
  | 47 => ⟨S4x8192x6x32, .f32⟩
  | 48 => ⟨S8192x1x32, .f32⟩
  | 49 => ⟨S8192x1x32, .f32⟩
  | 50 => ⟨S1x8192x1x32, .f32⟩
  | 51 => ⟨S4x8192x6x32, .f32⟩
  | 52 => ⟨S4x8192x6x32, .f32⟩
  | 53 => ⟨S1x8192x1x32, .f32⟩
  | 54 => ⟨S4x8192x6x32, .f32⟩
  | 55 => ⟨S4x8192x6x32, .f32⟩
  | 56 => ⟨S4x8192x6x32, .f32⟩
  | 57 => ⟨S1x8192x1x32, .f32⟩
  | 58 => ⟨S4x8192x6x32, .f32⟩
  | 59 => ⟨S4x8192x6x32, .f32⟩
  | 60 => ⟨S1x8192x1x32, .f32⟩
  | 61 => ⟨S4x8192x6x32, .f32⟩
  | 62 => ⟨S4x8192x6x32, .f32⟩
  | 63 => ⟨S4x8192x6x32, .f32⟩
  | 64 => ⟨S4x8192x6x64, .f32⟩
  | 65 => ⟨S1x64, .f32⟩
  | 66 => ⟨S64, .f32⟩
  | 67 => ⟨S4x8192x2x64, .f32⟩
  | 68 => ⟨S_, .f32⟩
  | 69 => ⟨S4x8192x2, .f32⟩
  | 70 => ⟨S4x8192x2x1, .f32⟩
  | 71 => ⟨S_, .f32⟩
  | 72 => ⟨S4x8192x2x1, .f32⟩
  | 73 => ⟨S4x8192x2x1, .f32⟩
  | 74 => ⟨S_, .f32⟩
  | 75 => ⟨S4x8192x2x1, .f32⟩
  | 76 => ⟨S4x8192x2x1, .f32⟩
  | 77 => ⟨S4x8192x2x1, .f32⟩
  | 78 => ⟨S4x8192x2x64, .f32⟩
  | 79 => ⟨S4x8192x2x64, .f32⟩
  | 80 => ⟨S1x1x1x64, .f32⟩
  | 81 => ⟨S4x8192x2x64, .f32⟩
  | 82 => ⟨S4x8192x2x64, .f32⟩
  | 83 => ⟨S4x8192x2x32, .f32⟩
  | 84 => ⟨S4x8192x2x32, .f32⟩
  | 85 => ⟨S8192x1x32, .f32⟩
  | 86 => ⟨S8192x1x32, .f32⟩
  | 87 => ⟨S1x8192x1x32, .f32⟩
  | 88 => ⟨S4x8192x2x32, .f32⟩
  | 89 => ⟨S4x8192x2x32, .f32⟩
  | 90 => ⟨S1x8192x1x32, .f32⟩
  | 91 => ⟨S4x8192x2x32, .f32⟩
  | 92 => ⟨S4x8192x2x32, .f32⟩
  | 93 => ⟨S4x8192x2x32, .f32⟩
  | 94 => ⟨S1x8192x1x32, .f32⟩
  | 95 => ⟨S4x8192x2x32, .f32⟩
  | 96 => ⟨S4x8192x2x32, .f32⟩
  | 97 => ⟨S1x8192x1x32, .f32⟩
  | 98 => ⟨S4x8192x2x32, .f32⟩
  | 99 => ⟨S4x8192x2x32, .f32⟩
  | 100 => ⟨S4x8192x2x32, .f32⟩
  | 101 => ⟨S4x8192x2x64, .f32⟩
  | 102 => ⟨S32768x384, .f32⟩
  | 103 => ⟨S32768x384, .f32⟩
  | 104 => ⟨S_, .f32⟩
  | 105 => ⟨S32768, .f32⟩
  | 106 => ⟨S32768x1, .f32⟩
  | 107 => ⟨S_, .f32⟩
  | 108 => ⟨S32768x1, .f32⟩
  | 109 => ⟨S32768x1, .f32⟩
  | 110 => ⟨S_, .f32⟩
  | 111 => ⟨S32768x1, .f32⟩
  | 112 => ⟨S32768x1, .f32⟩
  | 113 => ⟨S32768x1, .f32⟩
  | 114 => ⟨S32768x384, .f32⟩
  | 115 => ⟨S32768x384, .f32⟩
  | 116 => ⟨S32768x384, .f32⟩
  | 117 => ⟨S32768x384, .f32⟩
  | 118 => ⟨S384x512, .f32⟩
  | 119 => ⟨S32768x512, .f32⟩
  | 120 => ⟨S4x8192x4x128, .f32⟩
  | 121 => ⟨S4x8192x4x64, .f32⟩
  | 122 => ⟨S8192x64, .f32⟩
  | 123 => ⟨S8192x1x64, .f32⟩
  | 124 => ⟨S1x8192x1x64, .f32⟩
  | 125 => ⟨S4x8192x4x64, .f32⟩
  | 126 => ⟨S4x8192x4x64, .f32⟩
  | 127 => ⟨S4x8192x4x32, .f32⟩
  | _ => ⟨S32768x1024, .f32⟩

abbrev hbmTy0_1 (i : Nat) : BufTy := match i % 128 with
  | 0 => ⟨S8192x16, .f32⟩
  | 1 => ⟨S8192x16, .f32⟩
  | 2 => ⟨S4x8192x4x16, .f32⟩
  | 3 => ⟨S4x8192x4x16, .f32⟩
  | 4 => ⟨S8192x1x16, .f32⟩
  | 5 => ⟨S8192x1x16, .f32⟩
  | 6 => ⟨S1x8192x1x16, .f32⟩
  | 7 => ⟨S4x8192x4x16, .f32⟩
  | 8 => ⟨S4x8192x4x16, .f32⟩
  | 9 => ⟨S1x8192x1x16, .f32⟩
  | 10 => ⟨S4x8192x4x16, .f32⟩
  | 11 => ⟨S4x8192x4x16, .f32⟩
  | 12 => ⟨S4x8192x4x16, .f32⟩
  | 13 => ⟨S1x8192x1x16, .f32⟩
  | 14 => ⟨S4x8192x4x16, .f32⟩
  | 15 => ⟨S4x8192x4x16, .f32⟩
  | 16 => ⟨S1x8192x1x16, .f32⟩
  | 17 => ⟨S4x8192x4x16, .f32⟩
  | 18 => ⟨S4x8192x4x16, .f32⟩
  | 19 => ⟨S4x8192x4x16, .f32⟩
  | 20 => ⟨S4x8192x4x32, .f32⟩
  | 21 => ⟨S32768x256, .f32⟩
  | 22 => ⟨S32768x256, .f32⟩
  | 23 => ⟨S_, .f32⟩
  | 24 => ⟨S32768, .f32⟩
  | 25 => ⟨S32768x1, .f32⟩
  | 26 => ⟨S_, .f32⟩
  | 27 => ⟨S32768x1, .f32⟩
  | 28 => ⟨S32768x1, .f32⟩
  | 29 => ⟨S_, .f32⟩
  | 30 => ⟨S32768x1, .f32⟩
  | 31 => ⟨S32768x1, .f32⟩
  | 32 => ⟨S32768x1, .f32⟩
  | 33 => ⟨S32768x256, .f32⟩
  | 34 => ⟨S32768x256, .f32⟩
  | 35 => ⟨S32768x256, .f32⟩
  | 36 => ⟨S32768x256, .f32⟩
  | 37 => ⟨S256x512, .f32⟩
  | 38 => ⟨S32768x512, .f32⟩
  | 39 => ⟨S4x8192x4x128, .f32⟩
  | 40 => ⟨S4x8192x4x64, .f32⟩
  | 41 => ⟨S256x512, .f32⟩
  | 42 => ⟨S32768x512, .f32⟩
  | 43 => ⟨S4x8192x4x128, .f32⟩
  | 44 => ⟨S4x8192x4x64, .f32⟩
  | 45 => ⟨S32768x128, .f32⟩
  | 46 => ⟨S4x8192x1x128, .f32⟩
  | 47 => ⟨S4x8192x1x32, .f32⟩
  | 48 => ⟨S8192x16, .f32⟩
  | 49 => ⟨S8192x16, .f32⟩
  | 50 => ⟨S4x8192x1x16, .f32⟩
  | 51 => ⟨S4x8192x1x16, .f32⟩
  | 52 => ⟨S8192x1x16, .f32⟩
  | 53 => ⟨S8192x1x16, .f32⟩
  | 54 => ⟨S1x8192x1x16, .f32⟩
  | 55 => ⟨S4x8192x1x16, .f32⟩
  | 56 => ⟨S4x8192x1x16, .f32⟩
  | 57 => ⟨S1x8192x1x16, .f32⟩
  | 58 => ⟨S4x8192x1x16, .f32⟩
  | 59 => ⟨S4x8192x1x16, .f32⟩
  | 60 => ⟨S4x8192x1x16, .f32⟩
  | 61 => ⟨S1x8192x1x16, .f32⟩
  | 62 => ⟨S4x8192x1x16, .f32⟩
  | 63 => ⟨S4x8192x1x16, .f32⟩
  | 64 => ⟨S1x8192x1x16, .f32⟩
  | 65 => ⟨S4x8192x1x16, .f32⟩
  | 66 => ⟨S4x8192x1x16, .f32⟩
  | 67 => ⟨S4x8192x1x16, .f32⟩
  | 68 => ⟨S4x8192x1x32, .f32⟩
  | 69 => ⟨S4x8192x4x96, .f32⟩
  | 70 => ⟨S4x8192x4x32, .f32⟩
  | 71 => ⟨S4x8192x4x96, .f32⟩
  | 72 => ⟨S32768x384, .bf16⟩
  | 73 => ⟨S32768x384, .bf16⟩
  | 74 => ⟨S32768x384, .bf16⟩
  | 75 => ⟨S_, .f32⟩
  | 76 => ⟨S4x8192x6x64, .f32⟩
  | 77 => ⟨S4x8192x6x128, .f32⟩
  | 78 => ⟨S32768x768, .f32⟩
  | 79 => ⟨S32768x768, .bf16⟩
  | 80 => ⟨S_, .f32⟩
  | 81 => ⟨S4x8192x2x64, .f32⟩
  | 82 => ⟨S4x8192x2x128, .f32⟩
  | 83 => ⟨S32768x256, .f32⟩
  | 84 => ⟨S32768x256, .bf16⟩
  | 85 => ⟨S_, .f32⟩
  | 86 => ⟨S4x8192x2x1, .f32⟩
  | 87 => ⟨S4x8192x2x65, .f32⟩
  | 88 => ⟨S_, .f32⟩
  | 89 => ⟨S4x8192x2x63, .f32⟩
  | 90 => ⟨S4x8192x2x128, .f32⟩
  | 91 => ⟨S32768x256, .f32⟩
  | 92 => ⟨S32768x256, .bf16⟩
  | 93 => ⟨S_, .f32⟩
  | 94 => ⟨S4x8192x4x32, .f32⟩
  | 95 => ⟨S4x8192x4x128, .f32⟩
  | 96 => ⟨S32768x512, .f32⟩
  | 97 => ⟨S32768x512, .bf16⟩
  | 98 => ⟨S_, .f32⟩
  | 99 => ⟨S4x8192x4x32, .f32⟩
  | 100 => ⟨S4x8192x4x128, .f32⟩
  | 101 => ⟨S32768x512, .f32⟩
  | 102 => ⟨S32768x512, .bf16⟩
  | 103 => ⟨S_, .f32⟩
  | 104 => ⟨S4x8192x4x1, .f32⟩
  | 105 => ⟨S4x8192x4x65, .f32⟩
  | 106 => ⟨S_, .f32⟩
  | 107 => ⟨S4x8192x4x63, .f32⟩
  | 108 => ⟨S4x8192x4x128, .f32⟩
  | 109 => ⟨S32768x512, .f32⟩
  | 110 => ⟨S32768x512, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_2 : Ref sig .tc := ⟨.hbm, 68, rfl⟩
abbrev main_v53 : Ref sig .tc := ⟨.hbm, 69, rfl⟩
abbrev main_v54 : Ref sig .tc := ⟨.hbm, 70, rfl⟩
abbrev main_cst_3 : Ref sig .tc := ⟨.hbm, 71, rfl⟩
abbrev main_v55 : Ref sig .tc := ⟨.hbm, 72, rfl⟩
abbrev main_v56 : Ref sig .tc := ⟨.hbm, 73, rfl⟩
abbrev main_cst_4 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_5 : Ref sig .tc := ⟨.hbm, 104, rfl⟩
abbrev main_v86 : Ref sig .tc := ⟨.hbm, 105, rfl⟩
abbrev main_v87 : Ref sig .tc := ⟨.hbm, 106, rfl⟩
abbrev main_cst_6 : Ref sig .tc := ⟨.hbm, 107, rfl⟩
abbrev main_v88 : Ref sig .tc := ⟨.hbm, 108, rfl⟩
abbrev main_v89 : Ref sig .tc := ⟨.hbm, 109, rfl⟩
abbrev main_cst_7 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_cst_8 : Ref sig .tc := ⟨.hbm, 151, rfl⟩
abbrev main_v130 : Ref sig .tc := ⟨.hbm, 152, rfl⟩
abbrev main_v131 : Ref sig .tc := ⟨.hbm, 153, rfl⟩
abbrev main_cst_9 : Ref sig .tc := ⟨.hbm, 154, rfl⟩
abbrev main_v132 : Ref sig .tc := ⟨.hbm, 155, rfl⟩
abbrev main_v133 : Ref sig .tc := ⟨.hbm, 156, rfl⟩
abbrev main_cst_10 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_cst_11 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_cst_12 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_cst_13 : Ref sig .tc := ⟨.hbm, 213, rfl⟩
abbrev main_v187 : Ref sig .tc := ⟨.hbm, 214, rfl⟩
abbrev main_v188 : Ref sig .tc := ⟨.hbm, 215, rfl⟩
abbrev main_cst_14 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_cst_15 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_cst_16 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_cst_17 : Ref sig .tc := ⟨.hbm, 231, rfl⟩
abbrev main_v201 : Ref sig .tc := ⟨.hbm, 232, rfl⟩
abbrev main_v202 : Ref sig .tc := ⟨.hbm, 233, rfl⟩
abbrev main_cst_18 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩

abbrev nD : Nat := 1
abbrev τ : Topo := Topo.v7x

variable {F : FTy → Type} [FloatOps F]
-- ==== Final.lean ====
abbrev S32768x1024 : Shape := ⟨2, ![32768, 1024]⟩
abbrev S32768x4096 : Shape := ⟨2, ![32768, 4096]⟩
abbrev S32768x4 : Shape := ⟨2, ![32768, 4]⟩
abbrev S1x1024 : Shape := ⟨2, ![1, 1024]⟩
abbrev S512x1024 : Shape := ⟨2, ![512, 1024]⟩
abbrev S512x4096 : Shape := ⟨2, ![512, 4096]⟩
abbrev S512x4 : Shape := ⟨2, ![512, 4]⟩
abbrev S512x1 : Shape := ⟨2, ![512, 1]⟩
abbrev S512 : Shape := ⟨1, ![512]⟩

abbrev nBuf : Space → Nat
  | .hbm => 6
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x4096, .f32⟩
  | .hbm, ⟨2, _⟩ => ⟨S32768x4, .f32⟩
  | .hbm, ⟨3, _⟩ => ⟨S1x1024, .f32⟩
  | .hbm, ⟨4, _⟩ => ⟨S1x1024, .f32⟩
  | .hbm, ⟨5, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .f32⟩
  | .local _ .vmem, ⟨3, _⟩ => ⟨S512x4096, .f32⟩
  | .local _ .vmem, ⟨4, _⟩ => ⟨S512x4, .f32⟩
  | .local _ .vmem, ⟨5, _⟩ => ⟨S512x4, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FinalRefIdeal.lean ====
abbrev S32768x1024 : Shape := ⟨2, ![32768, 1024]⟩
abbrev S32768x4096 : Shape := ⟨2, ![32768, 4096]⟩
abbrev S32768x4 : Shape := ⟨2, ![32768, 4]⟩
abbrev S1x1024 : Shape := ⟨2, ![1, 1024]⟩
abbrev S32768x4x1024 : Shape := ⟨3, ![32768, 4, 1024]⟩
abbrev S32768x4x1 : Shape := ⟨3, ![32768, 4, 1]⟩
abbrev S_ : Shape := ⟨0, ![]⟩
abbrev S32768 : Shape := ⟨1, ![32768]⟩
abbrev S32768x1 : Shape := ⟨2, ![32768, 1]⟩

abbrev nBuf : Space → Nat
  | .hbm => 42
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x4096, .f32⟩
  | .hbm, ⟨2, _⟩ => ⟨S32768x4, .f32⟩
  | .hbm, ⟨3, _⟩ => ⟨S1x1024, .f32⟩
  | .hbm, ⟨4, _⟩ => ⟨S1x1024, .f32⟩
  | .hbm, ⟨5, _⟩ => ⟨S32768x4x1024, .f32⟩
  | .hbm, ⟨6, _⟩ => ⟨S32768x4x1, .f32⟩
  | .hbm, ⟨7, _⟩ => ⟨S32768x4x1024, .f32⟩
  | .hbm, ⟨8, _⟩ => ⟨S32768x4x1024, .f32⟩
  | .hbm, ⟨9, _⟩ => ⟨S_, .f32⟩
  | .hbm, ⟨10, _⟩ => ⟨S32768x1024, .f32⟩
  | .hbm, ⟨11, _⟩ => ⟨S_, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S32768x1, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Na.lean ====
abbrev S32768x384 : Shape := ⟨2, ![32768, 384]⟩
abbrev S8x6x64x512 : Shape := ⟨4, ![8, 6, 64, 512]⟩
abbrev S512x384 : Shape := ⟨2, ![512, 384]⟩
abbrev S8192x384 : Shape := ⟨2, ![8192, 384]⟩
abbrev S64x128 : Shape := ⟨2, ![64, 128]⟩
abbrev S512x128 : Shape := ⟨2, ![512, 128]⟩
abbrev S64x512 : Shape := ⟨2, ![64, 512]⟩
abbrev S1x1x64x512 : Shape := ⟨4, ![1, 1, 64, 512]⟩
abbrev S64 : Shape := ⟨1, ![64]⟩
abbrev S64x1 : Shape := ⟨2, ![64, 1]⟩

abbrev nBuf : Space → Nat
  | .hbm => 5
  | .vmem => 9
  | .smem => 0
  | _ => 0

abbrev bufTy : (tb : Table) → Fin (tcTables nBuf tb) → BufTy
  | .hbm, ⟨0, _⟩ => ⟨S32768x384, .bf16⟩
  | .hbm, ⟨1, _⟩ => ⟨S32768x384, .bf16⟩
  | .hbm, ⟨2, _⟩ => ⟨S32768x384, .bf16⟩
  | .hbm, ⟨3, _⟩ => ⟨S8x6x64x512, .f32⟩
  | .hbm, ⟨4, _⟩ => ⟨S32768x384, .bf16⟩
  | .local _ .vmem, ⟨0, _⟩ => ⟨S512x384, .bf16⟩
  | .local _ .vmem, ⟨1, _⟩ => ⟨S512x384, .bf16⟩
  | .local _ .vmem, ⟨2, _⟩ => ⟨S8192x384, .bf16⟩
  | .local _ .vmem, ⟨3, _⟩ => ⟨S8192x384, .bf16⟩
  | .local _ .vmem, ⟨4, _⟩ => ⟨S8192x384, .bf16⟩
  | .local _ .vmem, ⟨5, _⟩ => ⟨S8192x384, .bf16⟩
  | .local _ .vmem, ⟨6, _⟩ => ⟨S8x6x64x512, .f32⟩
  | .local _ .vmem, ⟨7, _⟩ => ⟨S512x384, .bf16⟩
  | .local _ .vmem, ⟨8, _⟩ => ⟨S512x384, .bf16⟩
  | _, _ => ⟨S32768x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c64_i32_3 : BitVec 32 := 64#32
  let v10 : BitVec 32 := Scalar.muli arg7 c64_i32_3
  v10
def k0_mult2 (i : grid0.Coords) (k0_t1 : Fin k0_t1_loop.trips) : BitVec 32 :=
  let c120_i32 : BitVec 32 := 120#32
  let c0_i32_2 : BitVec 32 := 0#32
  let arg1 : BitVec 32 := BitVec.ofNat 32 (i 1).val
  let c8_i32_1 : BitVec 32 := 8#32
  let v4 : BitVec 32 := Scalar.muli arg1 c8_i32_1
  let c0_i32 : BitVec 32 := 0#32
  let c1_i32 : BitVec 32 := 1#32
  let arg7 : BitVec 32 := Scf.iv c0_i32 c1_i32 k0_t1
  let v5 : BitVec 32 := Scalar.addi v4 arg7
  let c4_i32 : BitVec 32 := 4#32
  let v6 : BitVec 32 := Scalar.subi v5 c4_i32
  let v7 : BitVec 32 := Scalar.maxsi c0_i32_2 v6
  let v8 : BitVec 32 := Scalar.minsi c120_i32 v7
  let c64_i32_4 : BitVec 32 := 64#32
  let v12 : BitVec 32 := Scalar.muli v8 c64_i32_4
  v12
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32_3 : BitVec 32 := 64#32
  let v10 : BitVec 32 := Scalar.muli arg7 c64_i32_3
  let v11 : BitVec 32 := v10
  let v14 : Index := Scalar.indexCast v11
  let c0 : Index := 0#32
  ![v14.toNat, 0]
def k0_off2 (i : grid0.Coords) (k0_t1 : Fin k0_t1_loop.trips) : Fin 2 → Nat :=
  let c120_i32 : BitVec 32 := 120#32
  let c0_i32_2 : BitVec 32 := 0#32
  let arg1 : BitVec 32 := BitVec.ofNat 32 (i 1).val
  let c8_i32_1 : BitVec 32 := 8#32
  let v4 : BitVec 32 := Scalar.muli arg1 c8_i32_1
  let c0_i32 : BitVec 32 := 0#32
  let c1_i32 : BitVec 32 := 1#32
  let arg7 : BitVec 32 := Scf.iv c0_i32 c1_i32 k0_t1
  let v5 : BitVec 32 := Scalar.addi v4 arg7
  let c4_i32 : BitVec 32 := 4#32
  let v6 : BitVec 32 := Scalar.subi v5 c4_i32
  let v7 : BitVec 32 := Scalar.maxsi c0_i32_2 v6
  let v8 : BitVec 32 := Scalar.minsi c120_i32 v7
  let c64_i32_4 : BitVec 32 := 64#32
  let v12 : BitVec 32 := Scalar.muli v8 c64_i32_4
  let v13 : BitVec 32 := v12
  let v16 : Index := Scalar.indexCast v13
  let c0_5 : Index := 0#32
  ![v16.toNat, 0]
def k0_off3 (i : grid0.Coords) (k0_t1 : Fin k0_t1_loop.trips) : Fin 4 → Nat :=
  let arg1 : BitVec 32 := BitVec.ofNat 32 (i 1).val
  let c8_i32_1 : BitVec 32 := 8#32
  let v4 : BitVec 32 := Scalar.muli arg1 c8_i32_1
  let c0_i32 : BitVec 32 := 0#32
  let c1_i32 : BitVec 32 := 1#32
  let arg7 : BitVec 32 := Scf.iv c0_i32 c1_i32 k0_t1
  let v5 : BitVec 32 := Scalar.addi v4 arg7
  let c120_i32 : BitVec 32 := 120#32
  let c0_i32_2 : BitVec 32 := 0#32
  let c4_i32 : BitVec 32 := 4#32
  let v6 : BitVec 32 := Scalar.subi v5 c4_i32
  let v7 : BitVec 32 := Scalar.maxsi c0_i32_2 v6
  let v8 : BitVec 32 := Scalar.minsi c120_i32 v7
  let v9 : BitVec 32 := Scalar.subi v5 v8
  let v23 : Index := Scalar.indexCast v9
  let c0_8 : Index := 0#32
  let c0_9 : Index := 0#32
  let c0_10 : Index := 0#32
  ![v23.toNat, 0, 0, 0]
def k0_off4 (i : grid0.Coords) (k0_t1 : Fin k0_t1_loop.trips) : Fin 4 → Nat :=
  let arg1 : BitVec 32 := BitVec.ofNat 32 (i 1).val
  let c8_i32_1 : BitVec 32 := 8#32
  let v4 : BitVec 32 := Scalar.muli arg1 c8_i32_1
  let c0_i32 : BitVec 32 := 0#32
  let c1_i32 : BitVec 32 := 1#32
  let arg7 : BitVec 32 := Scf.iv c0_i32 c1_i32 k0_t1
  let v5 : BitVec 32 := Scalar.addi v4 arg7
  let c120_i32 : BitVec 32 := 120#32
  let c0_i32_2 : BitVec 32 := 0#32
  let c4_i32 : BitVec 32 := 4#32
  let v6 : BitVec 32 := Scalar.subi v5 c4_i32
  let v7 : BitVec 32 := Scalar.maxsi c0_i32_2 v6
  let v8 : BitVec 32 := Scalar.minsi c120_i32 v7
  let v9 : BitVec 32 := Scalar.subi v5 v8
  let v42 : Index := Scalar.indexCast v9
  let c1 : Index := 1#32
  let c0_17 : Index := 0#32
  let c0_18 : Index := 0#32
  ![v42.toNat, 1, 0, 0]
def k0_off5 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32_3 : BitVec 32 := 64#32
  let v10 : BitVec 32 := Scalar.muli arg7 c64_i32_3
  let v11 : BitVec 32 := v10
  let v61 : Index := Scalar.indexCast v11
  let c128 : Index := 128#32
  ![v61.toNat, 128]
def k0_off6 (i : grid0.Coords) (k0_t1 : Fin k0_t1_loop.trips) : Fin 2 → Nat :=
  let c120_i32 : BitVec 32 := 120#32
  let c0_i32_2 : BitVec 32 := 0#32
  let arg1 : BitVec 32 := BitVec.ofNat 32 (i 1).val
  let c8_i32_1 : BitVec 32 := 8#32
  let v4 : BitVec 32 := Scalar.muli arg1 c8_i32_1
  let c0_i32 : BitVec 32 := 0#32
  let c1_i32 : BitVec 32 := 1#32
  let arg7 : BitVec 32 := Scf.iv c0_i32 c1_i32 k0_t1
  let v5 : BitVec 32 := Scalar.addi v4 arg7
  let c4_i32 : BitVec 32 := 4#32
  let v6 : BitVec 32 := Scalar.subi v5 c4_i32
  let v7 : BitVec 32 := Scalar.maxsi c0_i32_2 v6
  let v8 : BitVec 32 := Scalar.minsi c120_i32 v7
  let c64_i32_4 : BitVec 32 := 64#32
  let v12 : BitVec 32 := Scalar.muli v8 c64_i32_4
  let v13 : BitVec 32 := v12
  let v63 : Index := Scalar.indexCast v13
  let c128_23 : Index := 128#32
  ![v63.toNat, 128]
def k0_off7 (i : grid0.Coords) (k0_t1 : Fin k0_t1_loop.trips) : Fin 4 → Nat :=
  let arg1 : BitVec 32 := BitVec.ofNat 32 (i 1).val
  let c8_i32_1 : BitVec 32 := 8#32
  let v4 : BitVec 32 := Scalar.muli arg1 c8_i32_1
  let c0_i32 : BitVec 32 := 0#32
  let c1_i32 : BitVec 32 := 1#32
  let arg7 : BitVec 32 := Scf.iv c0_i32 c1_i32 k0_t1
  let v5 : BitVec 32 := Scalar.addi v4 arg7
  let c120_i32 : BitVec 32 := 120#32
  let c0_i32_2 : BitVec 32 := 0#32
  let c4_i32 : BitVec 32 := 4#32
  let v6 : BitVec 32 := Scalar.subi v5 c4_i32
  let v7 : BitVec 32 := Scalar.maxsi c0_i32_2 v6
  let v8 : BitVec 32 := Scalar.minsi c120_i32 v7
  let v9 : BitVec 32 := Scalar.subi v5 v8
  let v70 : Index := Scalar.indexCast v9
  let c2 : Index := 2#32
  let c0_27 : Index := 0#32
  let c0_28 : Index := 0#32
  ![v70.toNat, 2, 0, 0]
def k0_off8 (i : grid0.Coords) (k0_t1 : Fin k0_t1_loop.trips) : Fin 4 → Nat :=
  let arg1 : BitVec 32 := BitVec.ofNat 32 (i 1).val
  let c8_i32_1 : BitVec 32 := 8#32
  let v4 : BitVec 32 := Scalar.muli arg1 c8_i32_1
  let c0_i32 : BitVec 32 := 0#32
  let c1_i32 : BitVec 32 := 1#32
  let arg7 : BitVec 32 := Scf.iv c0_i32 c1_i32 k0_t1
  let v5 : BitVec 32 := Scalar.addi v4 arg7
  let c120_i32 : BitVec 32 := 120#32
  let c0_i32_2 : BitVec 32 := 0#32
  let c4_i32 : BitVec 32 := 4#32
  let v6 : BitVec 32 := Scalar.subi v5 c4_i32
  let v7 : BitVec 32 := Scalar.maxsi c0_i32_2 v6
  let v8 : BitVec 32 := Scalar.minsi c120_i32 v7
  let v9 : BitVec 32 := Scalar.subi v5 v8
  let v89 : Index := Scalar.indexCast v9
  let c3 : Index := 3#32
  let c0_35 : Index := 0#32
  let c0_36 : Index := 0#32
  ![v89.toNat, 3, 0, 0]
def k0_off9 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32_3 : BitVec 32 := 64#32
  let v10 : BitVec 32 := Scalar.muli arg7 c64_i32_3
  let v11 : BitVec 32 := v10
  let v108 : Index := Scalar.indexCast v11
  let c256 : Index := 256#32
  ![v108.toNat, 256]
def k0_off10 (i : grid0.Coords) (k0_t1 : Fin k0_t1_loop.trips) : Fin 2 → Nat :=
  let c120_i32 : BitVec 32 := 120#32
  let c0_i32_2 : BitVec 32 := 0#32
  let arg1 : BitVec 32 := BitVec.ofNat 32 (i 1).val
  let c8_i32_1 : BitVec 32 := 8#32
  let v4 : BitVec 32 := Scalar.muli arg1 c8_i32_1
  let c0_i32 : BitVec 32 := 0#32
  let c1_i32 : BitVec 32 := 1#32
  let arg7 : BitVec 32 := Scf.iv c0_i32 c1_i32 k0_t1
  let v5 : BitVec 32 := Scalar.addi v4 arg7
  let c4_i32 : BitVec 32 := 4#32
  let v6 : BitVec 32 := Scalar.subi v5 c4_i32
  let v7 : BitVec 32 := Scalar.maxsi c0_i32_2 v6
  let v8 : BitVec 32 := Scalar.minsi c120_i32 v7
  let c64_i32_4 : BitVec 32 := 64#32
  let v12 : BitVec 32 := Scalar.muli v8 c64_i32_4
  let v13 : BitVec 32 := v12
  let v110 : Index := Scalar.indexCast v13
  let c256_41 : Index := 256#32
  ![v110.toNat, 256]
def k0_off11 (i : grid0.Coords) (k0_t1 : Fin k0_t1_loop.trips) : Fin 4 → Nat :=
  let arg1 : BitVec 32 := BitVec.ofNat 32 (i 1).val
  let c8_i32_1 : BitVec 32 := 8#32
  let v4 : BitVec 32 := Scalar.muli arg1 c8_i32_1
  let c0_i32 : BitVec 32 := 0#32
  let c1_i32 : BitVec 32 := 1#32
  let arg7 : BitVec 32 := Scf.iv c0_i32 c1_i32 k0_t1
  let v5 : BitVec 32 := Scalar.addi v4 arg7
  let c120_i32 : BitVec 32 := 120#32
  let c0_i32_2 : BitVec 32 := 0#32
  let c4_i32 : BitVec 32 := 4#32
  let v6 : BitVec 32 := Scalar.subi v5 c4_i32
  let v7 : BitVec 32 := Scalar.maxsi c0_i32_2 v6
  let v8 : BitVec 32 := Scalar.minsi c120_i32 v7
  let v9 : BitVec 32 := Scalar.subi v5 v8
  let v117 : Index := Scalar.indexCast v9
  let c4 : Index := 4#32
  let c0_45 : Index := 0#32
  let c0_46 : Index := 0#32
  ![v117.toNat, 4, 0, 0]
def k0_off12 (i : grid0.Coords) (k0_t1 : Fin k0_t1_loop.trips) : Fin 4 → Nat :=
  let arg1 : BitVec 32 := BitVec.ofNat 32 (i 1).val
  let c8_i32_1 : BitVec 32 := 8#32
  let v4 : BitVec 32 := Scalar.muli arg1 c8_i32_1
  let c0_i32 : BitVec 32 := 0#32
  let c1_i32 : BitVec 32 := 1#32
  let arg7 : BitVec 32 := Scf.iv c0_i32 c1_i32 k0_t1
  let v5 : BitVec 32 := Scalar.addi v4 arg7
  let c120_i32 : BitVec 32 := 120#32
  let c0_i32_2 : BitVec 32 := 0#32
  let c4_i32 : BitVec 32 := 4#32
  let v6 : BitVec 32 := Scalar.subi v5 c4_i32
  let v7 : BitVec 32 := Scalar.maxsi c0_i32_2 v6
  let v8 : BitVec 32 := Scalar.minsi c120_i32 v7
  let v9 : BitVec 32 := Scalar.subi v5 v8
  let v136 : Index := Scalar.indexCast v9
  let c5 : Index := 5#32
  let c0_53 : Index := 0#32
  let c0_54 : Index := 0#32
  ![v136.toNat, 5, 0, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x6x64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NaRefIdeal.lean ====
abbrev S32768x384 : Shape := ⟨2, ![32768, 384]⟩
abbrev S8x6x64x512 : Shape := ⟨4, ![8, 6, 64, 512]⟩
abbrev S128 : Shape := ⟨1, ![128]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S4x128x64x6x64 : Shape := ⟨5, ![4, 128, 64, 6, 64]⟩
abbrev S4x128x24576 : Shape := ⟨3, ![4, 128, 24576]⟩
abbrev S128x8x1 : Shape := ⟨3, ![128, 8, 1]⟩
abbrev S4x128x8x24576 : Shape := ⟨4, ![4, 128, 8, 24576]⟩
abbrev S4x128x512x6x64 : Shape := ⟨5, ![4, 128, 512, 6, 64]⟩
abbrev S4x128x6x64x512 : Shape := ⟨5, ![4, 128, 6, 64, 512]⟩
abbrev S128x6x64x512 : Shape := ⟨4, ![128, 6, 64, 512]⟩
abbrev S1x128x6x64x512 : Shape := ⟨5, ![1, 128, 6, 64, 512]⟩
abbrev S4x128x6x64 : Shape := ⟨4, ![4, 128, 6, 64]⟩
abbrev S4x128x6x64x1 : Shape := ⟨5, ![4, 128, 6, 64, 1]⟩
abbrev S4x128x6x64x64 : Shape := ⟨5, ![4, 128, 6, 64, 64]⟩

abbrev nBuf : Space → Nat
  | .hbm => 80
  | .vmem => 0
  | .smem => 0
  | _ => 0

abbrev bufTy : (tb : Table) → Fin (tcTables nBuf tb) → BufTy
  | .hbm, ⟨0, _⟩ => ⟨S32768x384, .bf16⟩
  | .hbm, ⟨1, _⟩ => ⟨S32768x384, .bf16⟩
  | .hbm, ⟨2, _⟩ => ⟨S32768x384, .bf16⟩
  | .hbm, ⟨3, _⟩ => ⟨S8x6x64x512, .f32⟩
  | .hbm, ⟨4, _⟩ => ⟨S128, .i32⟩
  | .hbm, ⟨5, _⟩ => ⟨S_, .i32⟩
  | .hbm, ⟨6, _⟩ => ⟨S128, .i32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S128x1, .i32⟩
  | .hbm, ⟨17, _⟩ => ⟨S8, .i32⟩
  | .hbm, ⟨18, _⟩ => ⟨S1x8, .i32⟩
  | .hbm, ⟨19, _⟩ => ⟨S128x8, .i32⟩
  | .hbm, ⟨20, _⟩ => ⟨S128x8, .i32⟩
  | .hbm, ⟨21, _⟩ => ⟨S128x8, .i32⟩
  | .hbm, ⟨22, _⟩ => ⟨S32768x384, .f32⟩
  | .hbm, ⟨23, _⟩ => ⟨S4x128x64x6x64, .f32⟩
  | .hbm, ⟨24, _⟩ => ⟨S32768x384, .f32⟩
  | .hbm, ⟨25, _⟩ => ⟨S4x128x24576, .f32⟩
  | .hbm, ⟨26, _⟩ => ⟨S_, .i32⟩
  | .hbm, ⟨27, _⟩ => ⟨S128x8, .i32⟩
  | .hbm, ⟨28, _⟩ => ⟨S128x8, .i1⟩
  | .hbm, ⟨29, _⟩ => ⟨S_, .i32⟩
  | .hbm, ⟨30, _⟩ => ⟨S128x8, .i32⟩
  | .hbm, ⟨31, _⟩ => ⟨S128x8, .i32⟩
  | .hbm, ⟨32, _⟩ => ⟨S128x8, .i32⟩
  | .hbm, ⟨33, _⟩ => ⟨S128x8x1, .i32⟩
  | .hbm, ⟨34, _⟩ => ⟨S4x128x8x24576, .f32⟩
  | .hbm, ⟨35, _⟩ => ⟨S4x128x512x6x64, .f32⟩
  | .hbm, ⟨36, _⟩ => ⟨S32768x384, .f32⟩
  | .hbm, ⟨37, _⟩ => ⟨S4x128x24576, .f32⟩
  | .hbm, ⟨38, _⟩ => ⟨S_, .i32⟩
  | .hbm, ⟨39, _⟩ => ⟨S128x8, .i32⟩
  | .hbm, ⟨40, _⟩ => ⟨S128x8, .i1⟩
  | .hbm, ⟨41, _⟩ => ⟨S_, .i32⟩
  | .hbm, ⟨42, _⟩ => ⟨S128x8, .i32⟩
  | .hbm, ⟨43, _⟩ => ⟨S128x8, .i32⟩
  | .hbm, ⟨44, _⟩ => ⟨S128x8, .i32⟩
  | .hbm, ⟨45, _⟩ => ⟨S128x8x1, .i32⟩
  | .hbm, ⟨46, _⟩ => ⟨S4x128x8x24576, .f32⟩
  | .hbm, ⟨47, _⟩ => ⟨S4x128x512x6x64, .f32⟩
  | .hbm, ⟨48, _⟩ => ⟨S4x128x6x64x512, .f32⟩
  | .hbm, ⟨49, _⟩ => ⟨S128, .i32⟩
  | .hbm, ⟨50, _⟩ => ⟨S_, .i32⟩
  | .hbm, ⟨51, _⟩ => ⟨S128, .i32⟩
  | .hbm, ⟨52, _⟩ => ⟨S128, .i1⟩
  | .hbm, ⟨53, _⟩ => ⟨S_, .i32⟩
  | .hbm, ⟨54, _⟩ => ⟨S128, .i32⟩
  | .hbm, ⟨55, _⟩ => ⟨S128, .i32⟩
  | .hbm, ⟨56, _⟩ => ⟨S128, .i32⟩
  | .hbm, ⟨57, _⟩ => ⟨S128x1, .i32⟩
  | .hbm, ⟨58, _⟩ => ⟨S128x6x64x512, .f32⟩
  | .hbm, ⟨59, _⟩ => ⟨S1x128x6x64x512, .f32⟩
  | .hbm, ⟨60, _⟩ => ⟨S4x128x6x64x512, .f32⟩
  | .hbm, ⟨61, _⟩ => ⟨S4x128x6x64x512, .f32⟩
  | .hbm, ⟨62, _⟩ => ⟨S_, .f32⟩
  | .hbm, ⟨63, _⟩ => ⟨S4x128x6x64, .f32⟩
  | .hbm, ⟨64, _⟩ => ⟨S_, .f32⟩
  | .hbm, ⟨65, _⟩ => ⟨S4x128x6x64, .f32⟩
  | .hbm, ⟨66, _⟩ => ⟨S4x128x6x64, .f32⟩
  | .hbm, ⟨67, _⟩ => ⟨S4x128x6x64x1, .f32⟩
  | .hbm, ⟨68, _⟩ => ⟨S4x128x6x64x512, .f32⟩
  | .hbm, ⟨69, _⟩ => ⟨S4x128x6x64x512, .f32⟩
  | .hbm, ⟨70, _⟩ => ⟨S4x128x6x64x512, .f32⟩
  | .hbm, ⟨71, _⟩ => ⟨S_, .f32⟩
  | .hbm, ⟨72, _⟩ => ⟨S4x128x6x64, .f32⟩
  | .hbm, ⟨73, _⟩ => ⟨S4x128x6x64x1, .f32⟩
  | .hbm, ⟨74, _⟩ => ⟨S4x128x6x64x512, .f32⟩
  | .hbm, ⟨75, _⟩ => ⟨S4x128x6x64x512, .f32⟩
  | .hbm, ⟨76, _⟩ => ⟨S4x128x6x64x64, .f32⟩
  | .hbm, ⟨77, _⟩ => ⟨S4x128x64x6x64, .f32⟩
  | .hbm, ⟨78, _⟩ => ⟨S32768x384, .f32⟩
  | .hbm, ⟨79, _⟩ => ⟨S32768x384, .bf16⟩
  | _, _ => ⟨S32768x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== Proof.OnlineSoftmax.lean ====
/-
  Attention by an online softmax, as arithmetic over the reals. A row of scores `s` and a column of values `v` are
  read block by block; after `n` keys the accumulator holds `∑ j < n, exp (s j - M) * v j` for a running maximum `M`,
  and a new block multiplies it by `exp (M - M')` before it adds its own terms. Whatever `M` is, the quotient of two
  such sums is `attn`, the softmax-weighted mean.
-/
module

public import Idealize.ShloMosaic.Lib.Pipeline.ValueKit

@[expose] public section

noncomputable section

open Idealize.ShloMosaic

namespace Cert.Attention

/-- The weighted sum over the first `n` keys, the exponentials shifted by `M`. -/
def wsum (s v : ℕ → ℝ) (M : ℝ) (n : ℕ) : ℝ := ∑ j ∈ Finset.range n, Real.exp (s j - M) * v j

/-- The softmax-weighted mean of `v` over the first `n` keys. -/
def attn (s v : ℕ → ℝ) (n : ℕ) : ℝ :=
  (∑ j ∈ Finset.range n, Real.exp (s j) * v j) / ∑ j ∈ Finset.range n, Real.exp (s j)

/-- Moving the shift from `M` to `M'` and adding a block of `b` keys. -/
theorem wsum_step (s v : ℕ → ℝ) (M M' : ℝ) (n b : ℕ) :
    Real.exp (M - M') * wsum s v M n + ∑ x : Fin b, Real.exp (s (n + x) - M') * v (n + x) = wsum s v M' (n + b) := by
  unfold wsum
  rw [Finset.sum_range_add, Finset.mul_sum, Finset.sum_range (n := b)]
  congr 1
  refine Finset.sum_congr rfl fun j _ => ?_
  rw [← mul_assoc, ← Real.exp_add]
  congr 2
  ring

/-- The shift factors out of the weighted sum. -/
theorem wsum_eq (s v : ℕ → ℝ) (M : ℝ) (n : ℕ) :
    wsum s v M n = Real.exp (-M) * ∑ j ∈ Finset.range n, Real.exp (s j) * v j := by
  unfold wsum
  rw [Finset.mul_sum]
  refine Finset.sum_congr rfl fun j _ => ?_
  rw [sub_eq_add_neg, Real.exp_add]
  ring

/-- The sum of the shifted exponentials of at least one key is positive. -/
theorem wsum_one_pos (s : ℕ → ℝ) (M : ℝ) {n : ℕ} (hn : 0 < n) : 0 < wsum s (fun _ => 1) M n := by
  unfold wsum
  refine Finset.sum_pos (fun j _ => ?_) ⟨0, by simpa using hn⟩
  rw [mul_one]
  exact Real.exp_pos _

/-- The quotient of two weighted sums is the softmax-weighted mean, whatever the shift. -/
theorem wsum_div (s v : ℕ → ℝ) (M : ℝ) (n : ℕ) : wsum s v M n / wsum s (fun _ => 1) M n = attn s v n := by
  rw [wsum_eq, wsum_eq, mul_div_mul_left _ _ (Real.exp_pos _).ne']
  simp only [mul_one, attn]

/-- A maximum over reals, from −∞, is −∞ or a real. -/
theorem fold_max_real {ι : Type} (t : Finset ι) (f : ι → ℝ) :
    (t.fold max (⊥ : EReal) fun i => (f i : EReal)) = ⊥ ∨
      ∃ r : ℝ, (t.fold max (⊥ : EReal) fun i => (f i : EReal)) = (r : EReal) := by
  classical
  induction t using Finset.induction_on with
  | empty => left; simp
  | insert a t ha ih =>
    right
    rw [Finset.fold_insert ha]
    rcases ih with h | ⟨r, h⟩
    · exact ⟨f a, by rw [h]; exact max_eq_left bot_le⟩
    · exact ⟨max (f a) r, by rw [h]; exact (EReal.coe_strictMono.monotone.map_max).symm⟩

/-- The maximum of a real and of reals is a real. -/
theorem max_fold_real {ι : Type} (t : Finset ι) (M : ℝ) (f : ι → ℝ) :
    ∃ r : ℝ, max (M : EReal) (t.fold max (⊥ : EReal) fun i => (f i : EReal)) = (r : EReal) := by
  rcases fold_max_real t f with h | ⟨r, h⟩
  · exact ⟨M, by rw [h]; exact max_eq_left bot_le⟩
  · exact ⟨max M r, by rw [h]; exact (EReal.coe_strictMono.monotone.map_max).symm⟩

/-- A maximum over a nonempty set of reals, from −∞, is a real. -/
theorem fold_max_real_of_nonempty {ι : Type} (t : Finset ι) (ht : t.Nonempty) (f : ι → ℝ) :
    ∃ r : ℝ, (t.fold max (⊥ : EReal) fun i => (f i : EReal)) = (r : EReal) := by
  classical
  obtain ⟨a, ha⟩ := ht
  rw [← Finset.insert_erase ha, Finset.fold_insert (Finset.notMem_erase a t)]
  exact max_fold_real _ _ _

/-- A finite sum of reals, taken in the extended reals. -/
theorem coe_sum {ι : Type} (t : Finset ι) (f : ι → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-- The exponential of a difference of reals. -/
theorem exp_sub (a b : ℝ) : Ideal.exp ((a : EReal) - (b : EReal)) = ((Real.exp (a - b) : ℝ) : EReal) := by
  rw [← EReal.coe_sub]; rfl

/-- A quotient of reals, the divisor positive. -/
theorem div_real (a b : ℝ) (hb : 0 < b) : Ideal.div (a : EReal) (b : EReal) = ((a / b : ℝ) : EReal) := by
  have h : (b : EReal) ≠ 0 := by exact_mod_cast hb.ne'
  unfold Ideal.div
  rw [if_neg h, ← EReal.coe_inv, ← EReal.coe_mul, div_eq_mul_inv]

/-- One block of the online softmax for one accumulator entry, in the extended reals. -/
theorem row_step (s v : ℕ → ℝ) (M M' : ℝ) (n b : ℕ) :
    Ideal.exp ((M : EReal) - (M' : EReal)) * ((wsum s v M n : ℝ) : EReal)
        + ∑ x : Fin b, Ideal.exp ((s (n + x) : EReal) - (M' : EReal)) * (v (n + x) : EReal)
      = ((wsum s v M' (n + b) : ℝ) : EReal) := by
  simp only [exp_sub, ← EReal.coe_mul]
  rw [coe_sum, ← EReal.coe_add, wsum_step]

/-- The last division: the accumulator by its own sum of exponentials. -/
theorem row_final (s v : ℕ → ℝ) (M : ℝ) {n : ℕ} (hn : 0 < n) :
    Ideal.div ((wsum s v M n : ℝ) : EReal) ((wsum s (fun _ => 1) M n : ℝ) : EReal) = ((attn s v n : ℝ) : EReal) := by
  rw [div_real _ _ (wsum_one_pos s M hn), wsum_div]

/-- The plain softmax, normalised before it weighs the values, is the same mean, whatever real shift it uses. -/
theorem softmax_row (s v : ℕ → ℝ) (M : ℝ) {n : ℕ} (hn : 0 < n) :
    ∑ j : Fin n, (v j : EReal) * Ideal.div (Ideal.exp ((s j : EReal) - (M : EReal)))
        (∑ i : Fin n, Ideal.exp ((s i : EReal) - (M : EReal)))
      = ((attn s v n : ℝ) : EReal) := by
  have hD : ∑ i : Fin n, Real.exp (s i - M) = wsum s (fun _ => 1) M n := by
    unfold wsum; rw [Finset.sum_range]; simp only [mul_one]
  simp only [exp_sub]
  rw [coe_sum, hD]
  simp only [div_real _ _ (wsum_one_pos s M hn), ← EReal.coe_mul]
  rw [coe_sum, ← wsum_div s v M n]
  congr 1
  unfold wsum
  rw [Finset.sum_range (n := n) (f := fun j => Real.exp (s j - M) * v j), Finset.sum_div]
  exact Finset.sum_congr rfl fun j _ => by ring

/-- The real number an array holds at row `r` and column `c` (zero past its end). -/
def rd {a b : ℕ} {φ : FTy} (X : FVec Ideal ⟨2, ![a, b]⟩ φ) (r c : ℕ) : ℝ :=
  if h : r < a ∧ c < b then (show EReal from X (ix2 ⟨r, h.1⟩ ⟨c, h.2⟩)).toReal else 0

/-- Every entry of an array is a real number. -/
def Finite {s : Shape} {φ : FTy} (X : FVec Ideal s φ) : Prop := ∀ j, ∃ r : ℝ, X j = (r : EReal)

/-- In an array of reals the entry at `(r, c)` is the number `rd` names. -/
theorem eq_rd {a b : ℕ} {φ : FTy} {X : FVec Ideal ⟨2, ![a, b]⟩ φ} (hX : Finite X) (r : Fin a) (c : Fin b) :
    X (ix2 r c) = (rd X r.val c.val : EReal) := by
  obtain ⟨x, hx⟩ := hX (ix2 r c)
  unfold rd
  rw [dif_pos ⟨r.isLt, c.isLt⟩]
  show X (ix2 r c) = ((EReal.toReal (X (ix2 r c)) : ℝ) : EReal)
  rw [hx]; rfl

/-- What attention leaves at row `R` and column `C` of its result: the query head `C / 128` of row `R` over the
    8192 keys of the row's sequence, of the key and value head `C / 128 / rep`. -/
def attnOut (rep : ℕ) {a b c d e f : ℕ} {φ : FTy} (Q : FVec Ideal ⟨2, ![a, b]⟩ φ) (K : FVec Ideal ⟨2, ![c, d]⟩ φ)
    (V : FVec Ideal ⟨2, ![e, f]⟩ φ) (R C : ℕ) : ℝ :=
  attn (fun j => ∑ x : Fin 128, rd Q R (C / 128 * 128 + x) * rd K (R / 8192 * 8192 + j) (C / 128 / rep * 128 + x))
    (fun j => rd V (R / 8192 * 8192 + j) (C / 128 / rep * 128 + C % 128)) 8192

end Cert.Attention

end
-- ==== Proof.MlaBlock.lean ====
/-
  One grid point of the MLA attention kernel: the block of 512 query rows it leaves is, entry by entry, the softmax-
  weighted mean of the values. `Inv` is what the running maximum and the accumulator hold after `n` keys.
-/
module

public import proofs.«01_k».proof.Proof.OnlineSoftmax
public import proofs.«01_k».proof.Proof.Gen.MlaIdeal.Value

@[expose] public section

set_option maxRecDepth 16384

noncomputable section

open Idealize.ShloMosaic Idealize.ShloMosaic.TcCoe Idealize.SL.Sem

namespace Cert.MlaIdeal.Hand

open Cert.MlaIdeal Cert.MlaIdeal.Gen Cert.Attention

/-- The word of −∞. -/
theorem negInf : Ideal.ofBits .f32 0xFF800000#32 = (⊥ : EReal) := by
  simp [Ideal.ofBits, Ideal.ieee]

/-- The word of −1e30 is a real. -/
theorem negBig : ∃ r : ℝ, Ideal.ofBits .f32 0xF149F2CA#32 = (r : EReal) := by
  refine ⟨-1 * (2 ^ 23 + 4846282 : ℕ) * 2 ^ ((226 : ℤ) - 150), ?_⟩
  simp [Ideal.ofBits, Ideal.ieee, -EReal.coe_mul]

/-- The score of query row `i` and key `j`. -/
abbrev score (q : Fin 512 → Fin 128 → ℝ) (K : ℕ → Fin 128 → ℝ) (i : Fin 512) (j : ℕ) : ℝ := ∑ d : Fin 128, q i d * K j d

/-- After `n` keys: on every query row the running maximum is one real `M` on all lanes, and the accumulator is the
    weighted sum of the values at the shift `M`. -/
def Inv (q : Fin 512 → Fin 128 → ℝ) (K V : ℕ → Fin 128 → ℝ) (n : ℕ) (m a : Vec Ideal S1x512x128 .f32) : Prop :=
  ∀ i : Fin 512, ∃ M : ℝ, ∀ l : Fin 128, m (ix3 0 i l) = (M : EReal)
    ∧ a (ix3 0 i l) = ((wsum (score q K i) (fun j => V j l) M n : ℝ) : EReal)

/-- A block's scores, at an index. -/
theorem pay3_apply (k q : Vec Ideal S512x128 .bf16) (i x : Fin 512) :
    k0_pay3 k q (ix2 i x) = ∑ d : Fin 128, q (ix2 i d) * k (ix2 x d) := by
  unfold k0_pay3
  pointwise

/-- The new running maximum, at an index. -/
theorem pay5_apply (k q : Vec Ideal S512x128 .bf16) (m : Vec Ideal S1x512x128 .f32) (i : Fin 512) (l : Fin 128) :
    k0_pay5 k q m (ix2 i l) = max (m (ix3 0 i l))
      (Finset.univ.fold max (⊥ : EReal) fun x : Fin 512 => k0_pay3 k q (ix2 i x)) := by
  unfold k0_pay5 k0_pay4
  pointwise
  rw [negInf]

/-- The same, as it is stored. -/
theorem pay7_apply (k q : Vec Ideal S512x128 .bf16) (m : Vec Ideal S1x512x128 .f32) (i : Fin 512) (l : Fin 128) :
    k0_pay7 k q m (ix3 0 i l) = k0_pay5 k q m (ix2 i l) := by
  unfold k0_pay7
  pointwise

/-- The new accumulator, at an index. -/
theorem pay6_apply (k v q : Vec Ideal S512x128 .bf16) (m a : Vec Ideal S1x512x128 .f32) (i : Fin 512) (l : Fin 128) :
    k0_pay6 k v q m a (ix3 0 i l)
      = Ideal.exp (m (ix3 0 i l) - k0_pay5 k q m (ix2 i l)) * a (ix3 0 i l) +
        ∑ x : Fin 512, Ideal.exp (k0_pay3 k q (ix2 i x) - k0_pay5 k q m (ix2 i 0)) * v (ix2 x l) := by
  unfold k0_pay6 k0_pay4
  pointwise

/-- The block's result, at an index: the accumulator by its lane 64. -/
theorem pay8_apply (a : Vec Ideal S1x512x128 .f32) (i : Fin 512) (l : Fin 128) :
    k0_pay8 a (ix2 i l) = Ideal.div (a (ix3 0 i l)) (a (ix3 0 i 64)) := by
  unfold k0_pay8
  pointwise

/-- One block of keys keeps the invariant. -/
theorem inv_step {q : Fin 512 → Fin 128 → ℝ} {K V : ℕ → Fin 128 → ℝ} {n : ℕ} {m a : Vec Ideal S1x512x128 .f32}
    {kb vb qb : Vec Ideal S512x128 .bf16} (hq : ∀ i d, qb (ix2 i d) = (q i d : EReal))
    (hk : ∀ (x : Fin 512) d, kb (ix2 x d) = (K (n + x) d : EReal))
    (hv : ∀ (x : Fin 512) d, vb (ix2 x d) = (V (n + x) d : EReal)) (h : Inv q K V n m a) :
    Inv q K V (n + 512) (k0_pay7 kb qb m) (k0_pay6 kb vb qb m a) := by
  intro i
  obtain ⟨M, hM⟩ := h i
  have hs : ∀ x : Fin 512, k0_pay3 kb qb (ix2 i x) = (score q K i (n + x) : EReal) := fun x => by
    rw [pay3_apply]
    simp only [hq, hk, ← EReal.coe_mul]
    exact coe_sum _ _
  obtain ⟨M', hM'⟩ := max_fold_real Finset.univ M (fun x : Fin 512 => score q K i (n + x))
  have h5 : ∀ l : Fin 128, k0_pay5 kb qb m (ix2 i l) = (M' : EReal) := fun l => by
    rw [pay5_apply, (hM l).1]
    simp only [hs]
    exact hM'
  refine ⟨M', fun l => ⟨by rw [pay7_apply, h5], ?_⟩⟩
  rw [pay6_apply, h5, h5, (hM l).1, (hM l).2]
  simp only [hs, hv]
  exact row_step (score q K i) (fun j => V j l) M M' n 512

/-- Before the first key: any real maximum, and an empty sum. -/
theorem inv_zero (q : Fin 512 → Fin 128 → ℝ) (K V : ℕ → Fin 128 → ℝ) :
    Inv q K V 0 (k0_pay1 (F := Ideal)) (k0_pay2 (F := Ideal)) := by
  obtain ⟨r, hr⟩ := negBig
  refine fun i => ⟨r, fun l => ⟨?_, ?_⟩⟩
  · unfold k0_pay1
    pointwise
    exact hr
  · unfold k0_pay2
    pointwise
    simp [wsum]

/-- After all keys: the block's result is the softmax-weighted mean, where lane 64 of every value row is 1. -/
theorem inv_final {q : Fin 512 → Fin 128 → ℝ} {K V : ℕ → Fin 128 → ℝ} {n : ℕ} (hn : 0 < n)
    {m a : Vec Ideal S1x512x128 .f32} (h : Inv q K V n m a) (hV : ∀ j, j < n → V j 64 = 1) (i : Fin 512) (l : Fin 128) :
    k0_pay8 a (ix2 i l) = ((attn (score q K i) (fun j => V j l) n : ℝ) : EReal) := by
  obtain ⟨M, hM⟩ := h i
  rw [pay8_apply, (hM l).2, (hM 64).2]
  have : wsum (score q K i) (fun j => V j 64) M n = wsum (score q K i) (fun _ => 1) M n := by
    unfold wsum
    exact Finset.sum_congr rfl fun j hj => by
      show _ * V j 64 = _ * 1
      rw [hV j (Finset.mem_range.mp hj)]
  rw [this]
  exact row_final _ _ M hn

end Cert.MlaIdeal.Hand

end
-- ==== Proof.GqaLoop.lean ====
/-
  The GQA attention kernel's loop. It keeps the running maximum and the accumulator of three query heads, one per row of
  two scratch buffers, and takes them through the same block of keys and values; each row goes through the step of the
  MLA kernel.
-/
module

public import proofs.«01_k».proof.Proof.MlaBlock
public import proofs.«01_k».proof.Proof.Gen.GqaIdeal.Value
public import Idealize.ShloMosaic.Lib.VecWindow
public import Idealize.ShloMosaic.Lib.WritesUnit

@[expose] public section

set_option maxRecDepth 16384

noncomputable section

open Idealize.ShloMosaic Idealize.ShloMosaic.TcCoe Idealize.SL.Sem

namespace Cert.GqaIdeal.Hand

open Cert.GqaIdeal Cert.GqaIdeal.Gen Cert.Attention
open Cert.MlaIdeal.Hand (Inv inv_step inv_zero inv_final score)

/-- The buffer of one query head. -/
def rowAt (X : Vec Ideal S3x512x128 .f32) (r : Fin 3) : Vec Ideal S1x512x128 .f32 :=
  fun y => X (ix3 (n0 := 3) (n1 := 512) (n2 := 128) r (y 1) (y 2))

/-- A load of one head's row. -/
theorem ld_row (X : Vec Ideal S3x512x128 .f32) (r : Fin 3) (inb) :
    View.ld X (Rect.unit ![r.val, 0, 0] S1x512x128.size inb) = rowAt X r :=
  funext fun x => View.ld_unit_apply_of X _ _ _ x _ fun a => by
    match a with
    | ⟨0, _⟩ =>
      show r.val = r.val + (x 0).val
      have : (x 0).val < 1 := (x 0).isLt
      omega
    | ⟨1, _⟩ => exact (Nat.zero_add _).symm
    | ⟨2, _⟩ => exact (Nat.zero_add _).symm

/-- A load of one head's columns of the query block. -/
theorem ld_cols (X : Vec Ideal S512x384 .bf16) (r : Fin 3) (o : ℕ) (ho : o = r.val * 128) (inb) (i : Fin 512) (d : Fin 128) :
    View.ld X (Rect.unit ![0, o] S512x128.size inb) (ix2 i d) = X (ix2 (n0 := 512) (n1 := 384) i ⟨r.val * 128 + d.val, by omega⟩) :=
  View.ld_unit_apply_of X _ _ _ _ _ fun a => by
    subst ho
    match a with
    | ⟨0, _⟩ => exact (Nat.zero_add _).symm
    | ⟨1, _⟩ => rfl

/-- A load of trip `k`'s 512 rows of keys or values. -/
theorem ld_rows (X : Vec Ideal S8192x128 .bf16) (k : Fin k0_t1_loop.trips) (x : Fin 512) (d : Fin 128)
    (h : 512 * k.val + x.val < 8192) :
    View.ld X (Rect.unit (s := S8192x128) (k0_off1 k) S512x128.size (k0_off1_inb k)) (ix2 x d) = X (ix2 ⟨512 * k.val + x.val, h⟩ d) :=
  View.ld_unit_apply_of X _ _ _ _ _ fun a => by
    have e := congrFun (k0_off1_eq k)
    match a with
    | ⟨0, _⟩ => exact congrArg (· + x.val) (e 0).symm
    | ⟨1, _⟩ => exact (Nat.zero_add _).symm.trans (congrArg (· + d.val) (e 1).symm)

section
variable {κ : Kind} {sp : Space} (v : View sig κ sp S3x512x128 .f32) (f : v.ty.Contents (Elt Ideal))
  (w2 w1 w0 : Vec Ideal S1x512x128 .f32)

/-- The three stores of a trip, newest first. -/
abbrev rows3 : List (View.Piece (Elt Ideal) S3x512x128 .f32) :=
  [⟨Rect.unit ![2, 0, 0] S1x512x128.size inb_S3x512x128_S1x512x128_2_0_0, w2⟩,
    ⟨Rect.unit ![1, 0, 0] S1x512x128.size inb_S3x512x128_S1x512x128_1_0_0, w1⟩,
    ⟨Rect.unit ![0, 0, 0] S1x512x128.size inb_S3x512x128_S1x512x128_0_0_0, w0⟩]

theorem pos_row (r : ℕ) (h : r < 3) (x : S1x512x128.Idx) :
    ∀ a, ((ix3 (n0 := 3) (n1 := 512) (n2 := 128) ⟨r, h⟩ (x 1) (x 2)) a).val = (![r, 0, 0] : Fin 3 → ℕ) a + (x a).val := by
  intro a
  have : (x 0).val < 1 := (x 0).isLt
  match a with
  | ⟨0, _⟩ => show r = r + (x 0).val; omega
  | ⟨1, _⟩ => exact (Nat.zero_add _).symm
  | ⟨2, _⟩ => exact (Nat.zero_add _).symm

theorem rows3_2 : rowAt (v.read (Elt Ideal) (v.writes (Elt Ideal) f (rows3 w2 w1 w0))) 2 = w2 := by
  funext x
  exact View.read_writes_cons_unit_of_mem v f _ _ _ _ x rfl (pos_row 2 (by decide) x)

theorem rows3_1 : rowAt (v.read (Elt Ideal) (v.writes (Elt Ideal) f (rows3 w2 w1 w0))) 1 = w1 := by
  funext x
  refine (View.read_writes_cons_unit_of_not_mem v f _ _ _ _ rfl 0 (Or.inl (by show 1 < 2; decide))).trans ?_
  exact View.read_writes_cons_unit_of_mem v f _ _ _ _ x rfl (pos_row 1 (by decide) x)

theorem rows3_0 : rowAt (v.read (Elt Ideal) (v.writes (Elt Ideal) f (rows3 w2 w1 w0))) 0 = w0 := by
  funext x
  refine (View.read_writes_cons_unit_of_not_mem v f _ _ _ _ rfl 0 (Or.inl (by show 0 < 2; decide))).trans ?_
  refine (View.read_writes_cons_unit_of_not_mem v f _ _ _ _ rfl 0 (Or.inl (by show 0 < 1; decide))).trans ?_
  exact View.read_writes_cons_unit_of_mem v f _ _ _ _ x rfl (pos_row 0 (by decide) x)
end

section
variable (𝒱 : Variants) (c : Dev nD) (bd : Option 𝒱.V) (i : grid0.Coords)
  (arg3 : Memref sig .tc .vmem S512x384 .bf16) (harg3 : arg3.IsWhole)
  (arg4 : Memref sig .tc .vmem S8192x128 .bf16) (harg4 : arg4.IsWhole)
  (arg5 : Memref sig .tc .vmem S8192x128 .bf16) (harg5 : arg5.IsWhole)
  (arg6 : Memref sig .tc .vmem S512x384 .bf16) (harg6 : arg6.IsWhole)
  (arg7 : Memref sig .tc .vmem S3x512x128 .f32) (harg7 : arg7.IsWhole)
  (arg8 : Memref sig .tc .vmem S3x512x128 .f32) (harg8 : arg8.IsWhole)

/-- What one trip stores: of each head the new maximum and the new accumulator. -/
theorem trip_pieces (X3 : BufTy.Contents (Elt Ideal) arg3.view.ty) (X4 : BufTy.Contents (Elt Ideal) arg4.view.ty)
    (X5 : BufTy.Contents (Elt Ideal) arg5.view.ty) (k : Fin k0_t1_loop.trips)
    (f7 : BufTy.Contents (Elt Ideal) arg7.view.ty) (f8 : BufTy.Contents (Elt Ideal) arg8.view.ty)
    (kx vx q0 q1 q2 : Vec Ideal S512x128 .bf16) (m0 m1 m2 a0 a1 a2 : Vec Ideal S1x512x128 .f32)
    (hkx : kx = View.ld (arg4.view.read (Elt Ideal) X4) (Rect.unit (s := S8192x128) (k0_off1 k) S512x128.size (k0_off1_inb k)))
    (hvx : vx = View.ld (arg5.view.read (Elt Ideal) X5) (Rect.unit (s := S8192x128) (k0_off1 k) S512x128.size (k0_off1_inb k)))
    (hq0 : q0 = View.ld (arg3.view.read (Elt Ideal) X3) (Rect.unit ![0, 0] S512x128.size inb_S512x384_S512x128_0_0))
    (hq1 : q1 = View.ld (arg3.view.read (Elt Ideal) X3) (Rect.unit ![0, 128] S512x128.size inb_S512x384_S512x128_0_128))
    (hq2 : q2 = View.ld (arg3.view.read (Elt Ideal) X3) (Rect.unit ![0, 256] S512x128.size inb_S512x384_S512x128_0_256))
    (hm0 : m0 = View.ld (arg7.view.read (Elt Ideal) f7) (Rect.unit ![0, 0, 0] S1x512x128.size inb_S3x512x128_S1x512x128_0_0_0))
    (hm1 : m1 = View.ld (arg7.view.read (Elt Ideal) f7) (Rect.unit ![1, 0, 0] S1x512x128.size inb_S3x512x128_S1x512x128_1_0_0))
    (hm2 : m2 = View.ld (arg7.view.read (Elt Ideal) f7) (Rect.unit ![2, 0, 0] S1x512x128.size inb_S3x512x128_S1x512x128_2_0_0))
    (ha0 : a0 = View.ld (arg8.view.read (Elt Ideal) f8) (Rect.unit ![0, 0, 0] S1x512x128.size inb_S3x512x128_S1x512x128_0_0_0))
    (ha1 : a1 = View.ld (arg8.view.read (Elt Ideal) f8) (Rect.unit ![1, 0, 0] S1x512x128.size inb_S3x512x128_S1x512x128_1_0_0))
    (ha2 : a2 = View.ld (arg8.view.read (Elt Ideal) f8) (Rect.unit ![2, 0, 0] S1x512x128.size inb_S3x512x128_S1x512x128_2_0_0)) :
    tripL_k0_t1 𝒱 c bd i arg3 harg3 arg4 harg4 arg5 harg5 arg6 harg6 arg7 harg7 arg8 harg8 X3 X4 X5 k f7 f8
      = (rows3 (Cert.MlaIdeal.Gen.k0_pay7 kx q2 m2) (Cert.MlaIdeal.Gen.k0_pay7 kx q1 m1) (Cert.MlaIdeal.Gen.k0_pay7 kx q0 m0),
          rows3 (Cert.MlaIdeal.Gen.k0_pay6 kx vx q2 m2 a2) (Cert.MlaIdeal.Gen.k0_pay6 kx vx q1 m1 a1)
            (Cert.MlaIdeal.Gen.k0_pay6 kx vx q0 m0 a0)) := by
  subst hkx hvx hq0 hq1 hq2 hm0 hm1 hm2 ha0 ha1 ha2
  unfold tripL_k0_t1 trip_k0_t1
  dsimp only
  sl_unfold_words
  rfl

/-- Before trip `k` every head's row of the two scratch buffers holds the state after `512 * k` keys. -/
theorem loop_inv {q : Fin 3 → Fin 512 → Fin 128 → ℝ} {K V : ℕ → Fin 128 → ℝ}
    (X3 : BufTy.Contents (Elt Ideal) arg3.view.ty) (X4 : BufTy.Contents (Elt Ideal) arg4.view.ty)
    (X5 : BufTy.Contents (Elt Ideal) arg5.view.ty) (G7 : BufTy.Contents (Elt Ideal) arg7.view.ty)
    (G8 : BufTy.Contents (Elt Ideal) arg8.view.ty)
    (hq : ∀ (r : Fin 3) (i : Fin 512) (d : Fin 128), arg3.view.read (Elt Ideal) X3
      (ix2 (n0 := 512) (n1 := 384) i ⟨r.val * 128 + d.val, by omega⟩) = (q r i d : EReal))
    (hK : ∀ (j : Fin 8192) d, arg4.view.read (Elt Ideal) X4 (ix2 j d) = (K j d : EReal))
    (hV : ∀ (j : Fin 8192) d, arg5.view.read (Elt Ideal) X5 (ix2 j d) = (V j d : EReal))
    (h0 : ∀ r, Inv (q r) K V 0 (rowAt (arg7.view.read (Elt Ideal) G7) r) (rowAt (arg8.view.read (Elt Ideal) G8) r)) :
    ∀ k : ℕ, k ≤ k0_t1_loop.trips → ∀ r,
      Inv (q r) K V (512 * k)
        (rowAt (arg7.view.read (Elt Ideal) (arg7.view.writes (Elt Ideal) G7 (pb_k0_t1 𝒱 c bd i arg3 harg3 arg4 harg4 arg5 harg5
          arg6 harg6 arg7 harg7 arg8 harg8 X3 X4 X5 G7 G8 k).1)) r)
        (rowAt (arg8.view.read (Elt Ideal) (arg8.view.writes (Elt Ideal) G8 (pb_k0_t1 𝒱 c bd i arg3 harg3 arg4 harg4 arg5 harg5
          arg6 harg6 arg7 harg7 arg8 harg8 X3 X4 X5 G7 G8 k).2)) r) := by
  intro k
  induction k with
  | zero => intro _; exact h0
  | succ k ih =>
    intro hk
    have hk16 : k < 16 := lt_of_lt_of_le hk k0_t1_abs.2.1
    have ih' := ih (Nat.le_of_succ_le hk)
    have hx : ∀ x : Fin 512, 512 * k + x.val < 8192 := fun x => by have := x.isLt; omega
    have sk := fun x d => (ld_rows (arg4.view.read (Elt Ideal) X4) ⟨k, hk⟩ x d (hx x)).trans (hK ⟨512 * k + x.val, hx x⟩ d)
    have sv := fun x d => (ld_rows (arg5.view.read (Elt Ideal) X5) ⟨k, hk⟩ x d (hx x)).trans (hV ⟨512 * k + x.val, hx x⟩ d)
    rw [pb_k0_t1_succ 𝒱 c bd i arg3 harg3 arg4 harg4 arg5 harg5 arg6 harg6 arg7 harg7 arg8 harg8 X3 X4 X5 G7 G8 ⟨k, hk⟩,
      trip_pieces 𝒱 c bd i arg3 harg3 arg4 harg4 arg5 harg5 arg6 harg6 arg7 harg7 arg8 harg8 X3 X4 X5 ⟨k, hk⟩ _ _ _ _ _ _ _ _ _ _ _ _ _
        rfl rfl rfl rfl rfl (ld_row _ 0 _).symm (ld_row _ 1 _).symm (ld_row _ 2 _).symm (ld_row _ 0 _).symm (ld_row _ 1 _).symm (ld_row _ 2 _).symm]
    dsimp only
    rw [View.writes_append, View.writes_append]
    intro r
    match r with
    | 0 =>
      rw [rows3_0, rows3_0]
      exact inv_step (fun i d => (ld_cols _ 0 _ rfl _ i d).trans (hq 0 i d)) sk sv (ih' 0)
    | 1 =>
      rw [rows3_1, rows3_1]
      exact inv_step (fun i d => (ld_cols _ 1 _ rfl _ i d).trans (hq 1 i d)) sk sv (ih' 1)
    | 2 =>
      rw [rows3_2, rows3_2]
      exact inv_step (fun i d => (ld_cols _ 2 _ rfl _ i d).trans (hq 2 i d)) sk sv (ih' 2)

/-- The load of a head's row of the accumulator, once the loop is done. -/
theorem cov_row (L : List (View.Piece (Elt Ideal) S3x512x128 .f32)) (r : Fin 3) (inb) :
    arg8.view.readCov L (Rect.unit (s := S3x512x128) ![r.val, 0, 0] S1x512x128.size inb).toLoadRect
      = rowAt (arg8.view.read (Elt Ideal) (arg8.view.writes (Elt Ideal) arg8.view.junk L)) r := by
  unfold View.readCov
  rw [View.readAt_eq_ld]
  exact ld_row _ r inb

/-- Each head's result is computed as in the MLA kernel. -/
theorem fin0 (a : Vec Ideal S1x512x128 .f32) : k0_pay21 a = Cert.MlaIdeal.Gen.k0_pay8 a := rfl
theorem fin1 (a : Vec Ideal S1x512x128 .f32) : k0_pay22 a = Cert.MlaIdeal.Gen.k0_pay8 a := rfl
theorem fin2 (a : Vec Ideal S1x512x128 .f32) : k0_pay1 (k0_pay23 a) (k0_pay24 a) = Cert.MlaIdeal.Gen.k0_pay8 a := rfl

/-- What the body leaves in its result block: head `h`, lane `l`. -/
theorem out_apply (x0 : Vec Ideal S512x384 .bf16) (x1 x2 : Vec Ideal S8192x128 .bf16)
    {q : Fin 3 → Fin 512 → Fin 128 → ℝ} {K V : ℕ → Fin 128 → ℝ}
    (hq : ∀ (r : Fin 3) (i : Fin 512) (d : Fin 128), x0 (ix2 (n0 := 512) (n1 := 384) i ⟨r.val * 128 + d.val, by omega⟩) = (q r i d : EReal))
    (hK : ∀ (j : Fin 8192) d, x1 (ix2 j d) = (K j d : EReal))
    (hV : ∀ (j : Fin 8192) d, x2 (ix2 j d) = (V j d : EReal)) (hone : ∀ j, j < 8192 → V j 64 = 1)
    (p : Fin 512) (h : Fin 3) (l : Fin 128) :
    out0_A_3 c i arg3 harg3 arg4 harg4 arg5 harg5 arg6 harg6 arg7 harg7 arg8 harg8 x0 x1 x2
        (ix2 (n0 := 512) (n1 := 384) p ⟨h.val * 128 + l.val, by omega⟩)
      = ((attn (score (q h) K p) (fun j => V j l) 8192 : ℝ) : EReal) := by
  unfold out0_A_3 kernelRun0_A
  dsimp only
  sl_unfold_words
  have h0 : ∀ r, Inv (q r) K V 0
      (rowAt (arg7.view.read (Elt Ideal) (arg7.view.writes (Elt Ideal) arg7.view.junk
        [⟨Rect.unit ![0, 0, 0] S3x512x128.size inb_S3x512x128_S3x512x128_0_0_0, k0_pay17 (F := Ideal)⟩])) r)
      (rowAt (arg8.view.read (Elt Ideal) (arg8.view.writes (Elt Ideal) arg8.view.junk
        [⟨Rect.unit ![0, 0, 0] S3x512x128.size inb_S3x512x128_S3x512x128_0_0_0, k0_pay18 (F := Ideal)⟩])) r) := by
    intro r
    rw [View.read_writes_full, View.read_writes_full]
    exact inv_zero (q r) K V
  have hloop := loop_inv Variants.none c none i arg3 harg3 arg4 harg4 arg5 harg5 arg6 harg6 arg7 harg7 arg8 harg8
    (harg3.unread x0) (harg4.unread x1) (harg5.unread x2) _ _
    (by rw [harg3.read_unread]; exact hq) (by rw [harg4.read_unread]; exact hK) (by rw [harg5.read_unread]; exact hV) h0
    16 (by decide)
  rw [← View.writes_append, ← View.writes_append] at hloop
  have hl : l.val < 128 := l.isLt
  match h with
  | 0 =>
    refine (View.read_writes_cons_unit_of_not_mem VO0_3 _ _ _ _ _ rfl 1 (Or.inl (by show 0 * 128 + l.val < 256; omega))).trans ?_
    refine (View.read_writes_cons_unit_of_not_mem VO0_3 _ _ _ _ _ rfl 1 (Or.inl (by show 0 * 128 + l.val < 128; omega))).trans ?_
    refine (View.read_writes_cons_unit_of_mem VO0_3 _ _ _ _ _ (ix2 (n0 := 512) (n1 := 128) p l) rfl (fun a => ?_)).trans ?_
    · match a with
      | ⟨0, _⟩ => exact (Nat.zero_add _).symm
      | ⟨1, _⟩ => show 0 * 128 + l.val = 0 + l.val; omega
    · refine (congrFun (fin0 _) _).trans ?_
      exact (congrFun (congrArg Cert.MlaIdeal.Gen.k0_pay8 (cov_row arg8 _ 0 inb_S3x512x128_S1x512x128_0_0_0)) (ix2 p l)).trans
        (inv_final (n := 8192) (by decide) (hloop 0) hone p l)
  | 1 =>
    refine (View.read_writes_cons_unit_of_not_mem VO0_3 _ _ _ _ _ rfl 1 (Or.inl (by show 1 * 128 + l.val < 256; omega))).trans ?_
    refine (View.read_writes_cons_unit_of_mem VO0_3 _ _ _ _ _ (ix2 (n0 := 512) (n1 := 128) p l) rfl (fun a => ?_)).trans ?_
    · match a with
      | ⟨0, _⟩ => exact (Nat.zero_add _).symm
      | ⟨1, _⟩ => show 1 * 128 + l.val = 128 + l.val; omega
    · refine (congrFun (fin1 _) _).trans ?_
      exact (congrFun (congrArg Cert.MlaIdeal.Gen.k0_pay8 (cov_row arg8 _ 1 inb_S3x512x128_S1x512x128_1_0_0)) (ix2 p l)).trans
        (inv_final (n := 8192) (by decide) (hloop 1) hone p l)
  | 2 =>
    refine (View.read_writes_cons_unit_of_mem VO0_3 _ _ _ _ _ (ix2 (n0 := 512) (n1 := 128) p l) rfl (fun a => ?_)).trans ?_
    · match a with
      | ⟨0, _⟩ => exact (Nat.zero_add _).symm
      | ⟨1, _⟩ => show 2 * 128 + l.val = 256 + l.val; omega
    · refine (congrFun (fin2 _) _).trans ?_
      exact (congrFun (congrArg Cert.MlaIdeal.Gen.k0_pay8 (cov_row arg8 _ 2 inb_S3x512x128_S1x512x128_2_0_0)) (ix2 p l)).trans
        (inv_final (n := 8192) (by decide) (hloop 2) hone p l)
end

end Cert.GqaIdeal.Hand

end
-- ==== Proof.GqaValue.lean ====
/-
  The GQA attention kernel's result array: at every row and column the mean of its sequence's values under the softmax
  of the row's scores. A grid point handles one sequence, one group of three query heads and one block of 512 query rows.
-/
module

public import proofs.«01_k».proof.Proof.GqaLoop
public import proofs.«01_k».proof.Proof.Gen.GqaIdeal.Value

@[expose] public section

set_option maxRecDepth 16384

noncomputable section

open Idealize.ShloMosaic Idealize.ShloMosaic.TcCoe Idealize.SL.Sem

namespace Cert.GqaIdeal.Hand

open Cert.GqaIdeal Cert.GqaIdeal.Gen Cert.Attention

variable (m : (ℓ : Loc nD τ sig) → Buf (Elt Ideal) ℓ)

/-- Where the query block and the result block of a grid point lie. -/
theorem index_q : ∀ t : Fin grid0.N, (win0_0.index t 0 = t.val / 32 * 16 + t.val % 16 ∧ win0_0.index t 1 = t.val / 16 % 2)
    ∧ (win0_3.index t 0 = t.val / 32 * 16 + t.val % 16 ∧ win0_3.index t 1 = t.val / 16 % 2) := by decide +kernel

/-- Where the key and value blocks of a grid point lie. -/
theorem index_kv : ∀ t : Fin grid0.N, (win0_1.index t 0 = t.val / 32 ∧ win0_1.index t 1 = t.val / 16 % 2)
    ∧ (win0_2.index t 0 = t.val / 32 ∧ win0_2.index t 1 = t.val / 16 % 2) := by decide +kernel

theorem lt_N (t : Fin cfg0.N) : t.val < 128 := lt_of_lt_of_eq t.isLt N_0

/-- The query block, at an index. -/
theorem blk_q (c : Dev nD) (t : Fin cfg0.N) (r : Fin 512) (l : Fin 384) :
    (iblk m c 0 t : Vec Ideal S512x384 .bf16) (ix2 r l) = m ((c : Thread nD τ).loc main_arg0)
      (ix2 (n0 := 32768) (n1 := 768) ⟨(t.val / 32 * 16 + t.val % 16) * 512 + r.val, by have := lt_N t; omega⟩ ⟨t.val / 16 % 2 * 384 + l.val, by omega⟩) := by
  unfold iblk
  rw [View.read_apply]
  show V m c main_arg0 _ = m (c.tc.loc main_arg0) _
  unfold V
  congr 1
  funext a
  apply Fin.ext
  match a with
  | ⟨0, _⟩ => show win0_0.index t 0 * 512 + 1 * r.val = _; rw [(index_q t).1.1, one_mul]; rfl
  | ⟨1, _⟩ => show win0_0.index t 1 * 384 + 1 * l.val = _; rw [(index_q t).1.2, one_mul]; rfl

/-- The key block, at an index. -/
theorem blk_k (c : Dev nD) (t : Fin cfg0.N) (r : Fin 8192) (l : Fin 128) :
    (iblk m c 1 t : Vec Ideal S8192x128 .bf16) (ix2 r l) = m ((c : Thread nD τ).loc main_arg1)
      (ix2 (n0 := 32768) (n1 := 256) ⟨t.val / 32 * 8192 + r.val, by have := lt_N t; omega⟩ ⟨t.val / 16 % 2 * 128 + l.val, by omega⟩) := by
  unfold iblk
  rw [View.read_apply]
  show V m c main_arg1 _ = m (c.tc.loc main_arg1) _
  unfold V
  congr 1
  funext a
  apply Fin.ext
  match a with
  | ⟨0, _⟩ => show win0_1.index t 0 * 8192 + 1 * r.val = _; rw [(index_kv t).1.1, one_mul]; rfl
  | ⟨1, _⟩ => show win0_1.index t 1 * 128 + 1 * l.val = _; rw [(index_kv t).1.2, one_mul]; rfl

/-- The value block, at an index. -/
theorem blk_v (c : Dev nD) (t : Fin cfg0.N) (r : Fin 8192) (l : Fin 128) :
    (iblk m c 2 t : Vec Ideal S8192x128 .bf16) (ix2 r l) = m ((c : Thread nD τ).loc main_arg2)
      (ix2 (n0 := 32768) (n1 := 256) ⟨t.val / 32 * 8192 + r.val, by have := lt_N t; omega⟩ ⟨t.val / 16 % 2 * 128 + l.val, by omega⟩) := by
  unfold iblk
  rw [View.read_apply]
  show V m c main_arg2 _ = m (c.tc.loc main_arg2) _
  unfold V
  congr 1
  funext a
  apply Fin.ext
  match a with
  | ⟨0, _⟩ => show win0_2.index t 0 * 8192 + 1 * r.val = _; rw [(index_kv t).2.1, one_mul]; rfl
  | ⟨1, _⟩ => show win0_2.index t 1 * 128 + 1 * l.val = _; rw [(index_kv t).2.2, one_mul]; rfl

/-- The result array's contents after the run. -/
def G (Q : FVec Ideal S32768x768 .bf16) (K V : FVec Ideal S32768x256 .bf16) : FVec Ideal S32768x768 .bf16 :=
  fun i => ((attnOut 3 Q K V (i 0).val (i 1).val : ℝ) : EReal)

/-- What a grid point writes back is its block of `G`. -/
theorem flushed_eq (c : Dev nD) (Q : FVec Ideal S32768x768 .bf16) (K W : FVec Ideal S32768x256 .bf16)
    (hQe : m ((c : Thread nD τ).loc main_arg0) = Q)
    (hKe : m ((c : Thread nD τ).loc main_arg1) = K) (hWe : m ((c : Thread nD τ).loc main_arg2) = W)
    (hQ : Finite Q) (hK : Finite K) (hW : Finite W)
    (hone : ∀ (g : ℕ) (j : ℕ), g < 2 → j < 32768 → rd W j (g * 128 + 64) = 1) (t : Fin cfg0.N) :
    (dats m 0 c).flushed 3 t = ((cfg0.win 3).blk t).view.read (Elt Ideal) (G Q K W) := by
  have ht := lt_N t
  rw [Value.flushed3_A]
  funext y
  obtain ⟨r, l', rfl⟩ : ∃ (r : Fin 512) (l : Fin 384), y = ix2 r l := ⟨y 0, y 1, ValueIdx.eq_ix2 y⟩
  obtain ⟨h, l, rfl⟩ : ∃ (h : Fin 3) (l : Fin 128), l' = ⟨h.val * 128 + l.val, by omega⟩ :=
    ⟨⟨l'.val / 128, by omega⟩, ⟨l'.val % 128, by omega⟩, Fin.ext (by show l'.val = l'.val / 128 * 128 + l'.val % 128; omega)⟩
  rw [View.read_apply]
  refine (out_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t)
    (q := fun h i d => rd Q ((t.val / 32 * 16 + t.val % 16) * 512 + i.val) (t.val / 16 % 2 * 384 + (h.val * 128 + d.val)))
    (K := fun j d => rd K (t.val / 32 * 8192 + j) (t.val / 16 % 2 * 128 + d.val))
    (V := fun j d => rd W (t.val / 32 * 8192 + j) (t.val / 16 % 2 * 128 + d.val))
    (fun h i d => by rw [blk_q, hQe]; exact eq_rd hQ _ _) (fun i d => by rw [blk_k, hKe]; exact eq_rd hK _ _)
    (fun i d => by rw [blk_v, hWe]; exact eq_rd hW _ _)
    (fun j hj => hone _ _ (by omega) (by omega)) r h l).trans ?_
  have e0 : ((((cfg0.win 3).blk t).view.emb (ix2 (n0 := 512) (n1 := 384) r ⟨h.val * 128 + l.val, by omega⟩)) 0).val
      = (t.val / 32 * 16 + t.val % 16) * 512 + r.val := by
    show win0_3.index t 0 * 512 + 1 * r.val = _; rw [(index_q t).2.1, one_mul]
  have e1 : ((((cfg0.win 3).blk t).view.emb (ix2 (n0 := 512) (n1 := 384) r ⟨h.val * 128 + l.val, by omega⟩)) 1).val
      = t.val / 16 % 2 * 384 + (h.val * 128 + l.val) := by
    show win0_3.index t 1 * 384 + 1 * (h.val * 128 + l.val) = _; rw [(index_q t).2.2, one_mul]
  show _ = G Q K W (((cfg0.win 3).blk t).view.emb (ix2 (n0 := 512) (n1 := 384) r ⟨h.val * 128 + l.val, by omega⟩))
  unfold G attnOut
  rw [e0, e1]
  have a0 : ((t.val / 32 * 16 + t.val % 16) * 512 + r.val) / 8192 = t.val / 32 := by omega
  have a1 : (t.val / 16 % 2 * 384 + (h.val * 128 + l.val)) / 128 = t.val / 16 % 2 * 3 + h.val := by omega
  have a2 : (t.val / 16 % 2 * 384 + (h.val * 128 + l.val)) % 128 = l.val := by omega
  have a3 : (t.val / 16 % 2 * 3 + h.val) / 3 = t.val / 16 % 2 := by omega
  have a4 : ∀ x, (t.val / 16 % 2 * 3 + h.val) * 128 + x = t.val / 16 % 2 * 384 + (h.val * 128 + x) := fun x => by omega
  simp only [a0, a1, a2, a3, a4]

/-- Every index of the result array lies in the block of a grid point. -/
theorem covered (i : S32768x768.Idx) :
    ∃ t : Fin cfg0.N, (cfg0.win 3).flush t = true ∧ i ∈ ((cfg0.win 3).blk t).view.set := by
  have h0 : (i 0).val < 32768 := (i 0).isLt
  have h1 : (i 1).val < 768 := (i 1).isLt
  refine ⟨⟨((i 0).val / 8192 * 2 + (i 1).val / 384) * 16 + (i 0).val / 512 % 16, lt_of_lt_of_eq (b := 128) (by omega) N_0.symm⟩, flush0_3 _, ?_⟩
  set t : Fin cfg0.N := ⟨((i 0).val / 8192 * 2 + (i 1).val / 384) * 16 + (i 0).val / 512 % 16, lt_of_lt_of_eq (b := 128) (by omega) N_0.symm⟩ with ht
  have hv : t.val = ((i 0).val / 8192 * 2 + (i 1).val / 384) * 16 + (i 0).val / 512 % 16 := rfl
  have hm := ((cfg0.win 3).blk t).view.emb_mem_set (ix2 (n0 := 512) (n1 := 384) ⟨(i 0).val % 512, by omega⟩ ⟨(i 1).val % 384, by omega⟩)
  have he : ((cfg0.win 3).blk t).view.emb (ix2 (n0 := 512) (n1 := 384) ⟨(i 0).val % 512, by omega⟩ ⟨(i 1).val % 384, by omega⟩) = i := by
    funext a
    apply Fin.ext
    match a with
    | ⟨0, _⟩ => show win0_3.index t 0 * 512 + 1 * ((i 0).val % 512) = (i 0).val; rw [(index_q t).2.1, hv]; omega
    | ⟨1, _⟩ => show win0_3.index t 1 * 384 + 1 * ((i 1).val % 384) = (i 1).val; rw [(index_q t).2.2, hv]; omega
  rwa [he] at hm

/-- The result array after the run. -/
theorem final (c : Dev nD) (Q : FVec Ideal S32768x768 .bf16) (K W : FVec Ideal S32768x256 .bf16)
    (hQe : m ((c : Thread nD τ).loc main_arg0) = Q)
    (hKe : m ((c : Thread nD τ).loc main_arg1) = K) (hWe : m ((c : Thread nD τ).loc main_arg2) = W)
    (hQ : Finite Q) (hK : Finite K) (hW : Finite W)
    (hone : ∀ (g : ℕ) (j : ℕ), g < 2 → j < 32768 → rd W j (g * 128 + 64) = 1) :
    (dats m 0 c).arrAt 3 cfg0.N = G Q K W :=
  (dats m 0 c).arrAt_eq_of_cover 3 (G Q K W) (fun t _ => flushed_eq m c Q K W hQe hKe hWe hQ hK hW hone t) covered

end Cert.GqaIdeal.Hand

end
-- ==== Proof.GqaRef.lean ====
/-
  The GQA reference, read at an index: plain attention with a softmax over all 8192 keys of the row's sequence, for
  each of the 6 query heads; three of them share a key and value head.
-/
module

public import proofs.«01_k».proof.Proof.MlaBlock
public import proofs.«01_k».proof.Proof.Gen.GqaRefIdeal.Run

@[expose] public section

set_option maxRecDepth 16384

noncomputable section

open Idealize.ShloMosaic Idealize.ShloMosaic.TcCoe Idealize.SL.Sem

namespace Cert.GqaRefIdeal.Hand

open Cert.GqaRefIdeal Cert.GqaRefIdeal.Gen Cert.Attention

/-- The scores: every query row against every key of its sequence and head. -/
def scores (Q : FVec Ideal S32768x768 .bf16) (K : FVec Ideal S32768x256 .bf16) : FVec Ideal S4x2x3x8192x8192 .f32 :=
  transpose S4x2x3x8192x8192 [0, 1, 4, 3, 2] (Host.dotGeneral dot_S4x8192x2x128_S4x8192x2x3x128_S4x2x8192x8192x3_3_4_1_13_02_02 none (shapeCast _ (extf .f32 K bitsLt_bf16_f32) shapeCasts_S32768x256_S4x8192x2x128) (shapeCast _ (extf .f32 Q bitsLt_bf16_f32) shapeCasts_S32768x768_S4x8192x2x3x128)) transposes_S4x2x8192x8192x3_S4x2x3x8192x8192_0_1_4_3_2

/-- The maximum of every row of scores. -/
def rowMax (S : FVec Ideal S4x2x3x8192x8192 .f32) : FVec Ideal S4x2x3x8192 .f32 :=
  maximumf (broadcastInDim S4x2x3x8192 ![] bcast_S_S4x2x3x8192 (constant S_ .f32 0xFF800000#32)) (Host.reduce FloatOps.maximumf S (constant S_ .f32 0xFF800000#32) reducesTo_S4x2x3x8192x8192_S4x2x3x8192_d4 h_S_)

/-- The exponentials of the scores less their row's maximum. -/
def expo (S : FVec Ideal S4x2x3x8192x8192 .f32) : FVec Ideal S4x2x3x8192x8192 .f32 :=
  Host.exp (subf S (broadcastInDim S4x2x3x8192x8192 ![0, 1, 2, 3, 4] bcast_S4x2x3x8192x1_S4x2x3x8192x8192_0_1_2_3_4 (broadcastInDim S4x2x3x8192x1 ![0, 1, 2, 3] bcast_S4x2x3x8192_S4x2x3x8192x1_0_1_2_3 (rowMax S))))

/-- The softmax of every row. -/
def softmax (E : FVec Ideal S4x2x3x8192x8192 .f32) : FVec Ideal S4x2x3x8192x8192 .f32 :=
  Host.divf E (broadcastInDim S4x2x3x8192x8192 ![0, 1, 2, 3, 4] bcast_S4x2x3x8192x1_S4x2x3x8192x8192_0_1_2_3_4 (broadcastInDim S4x2x3x8192x1 ![0, 1, 2, 3] bcast_S4x2x3x8192_S4x2x3x8192x1_0_1_2_3 (Host.reduceAdd E (constant S_ .f32 0x00000000#32) reducesTo_S4x2x3x8192x8192_S4x2x3x8192_d4 h_S_)))

/-- The weighted values, back in rows and columns. -/
def weigh (V : FVec Ideal S32768x256 .bf16) (P : FVec Ideal S4x2x3x8192x8192 .f32) : FVec Ideal S32768x768 .bf16 :=
  truncf .bf16 (shapeCast _ (transpose S4x8192x2x3x128 [0, 4, 1, 3, 2] (Host.dotGeneral dot_S4x8192x2x128_S4x2x3x8192x8192_S4x2x128x3x8192_1_4_3_23_02_01 none (shapeCast _ (extf .f32 V bitsLt_bf16_f32) shapeCasts_S32768x256_S4x8192x2x128) P) transposes_S4x2x128x3x8192_S4x8192x2x3x128_0_4_1_3_2) shapeCasts_S4x8192x2x3x128_S32768x768) bitsLt_bf16_f32

/-- The whole reference. -/
def out (Q : FVec Ideal S32768x768 .bf16) (K V : FVec Ideal S32768x256 .bf16) : FVec Ideal S32768x768 .bf16 := weigh V (softmax (expo (scores Q K)))

/-- A score, at an index. -/
theorem scores_apply (Q : FVec Ideal S32768x768 .bf16) (K : FVec Ideal S32768x256 .bf16) (b : Fin 4) (g : Fin 2) (h : Fin 3) (i j : Fin 8192) :
    scores Q K (ix5 b g h i j) = ∑ x : Fin 128,
      K (ix2 (n0 := 32768) (n1 := 256) ⟨b.val * 8192 + j.val, by omega⟩ ⟨g.val * 128 + x.val, by omega⟩)
        * Q (ix2 (n0 := 32768) (n1 := 768) ⟨b.val * 8192 + i.val, by omega⟩ ⟨(g.val * 3 + h.val) * 128 + x.val, by omega⟩) := by
  have e : ∀ x : Fin 128, (g.val * 3 + h.val) * 128 + x.val = g.val * 384 + h.val * 128 + x.val := fun x => by omega
  unfold scores
  pointwise
  simp only [e]

/-- A maximum of reals along an axis that is not empty is a real. -/
theorem reduce_max_real {s t u : Shape} {a : Fin s.rank} (S : FVec Ideal s .f32) (z : FVec Ideal u .f32) (h' : s.ReducesTo [a] t)
    (h : s.Reduces [a] t) (hu) (hz : z (Shape.Idx.first hu) = (⊥ : EReal)) (hpos : 0 < s.size a)
    (hS : Finite S) (j : t.Idx) :
    ∃ M : ℝ, Host.reduce FloatOps.maximumf S z h' hu j = (M : EReal) := by
  choose f hf using hS
  obtain ⟨M, hM⟩ := fold_max_real_of_nonempty (Finset.univ : Finset (Fin (s.size a))) ⟨⟨0, hpos⟩, Finset.mem_univ _⟩
    (fun k => f (h.lift j k))
  refine ⟨M, ?_⟩
  rw [Host.reduce_eq_fold_single _ _ _ _ h, hz, ← hM]
  exact Finset.fold_congr fun k _ => hf _

/-- The maximum of two arrays is taken entry by entry. -/
theorem maximumf_at {s : Shape} (X Y : FVec Ideal s .f32) (j : s.Idx) : maximumf X Y j = max (X j) (Y j) := rfl

/-- The constant −∞, spread over any shape. -/
theorem broadcastInDim_neg {t : Shape} (f) (h) (j : t.Idx) :
    broadcastInDim t f h (constant (F := Ideal) S_ .f32 0xFF800000#32) j = (⊥ : EReal) := Cert.MlaIdeal.Hand.negInf

/-- The maximum of a row of reals is a real. -/
theorem rowMax_real (S : FVec Ideal S4x2x3x8192x8192 .f32) (hS : Finite S) (j : S4x2x3x8192.Idx) :
    ∃ M : ℝ, rowMax S j = (M : EReal) := by
  have hr : S4x2x3x8192x8192.Reduces [4] S4x2x3x8192 := by decide
  have hp : 0 < S4x2x3x8192x8192.size 4 := by decide
  have hz : constant (F := Ideal) S_ .f32 0xFF800000#32 (Shape.Idx.first h_S_) = (⊥ : EReal) := Cert.MlaIdeal.Hand.negInf
  obtain ⟨M, hM⟩ := reduce_max_real S (constant (F := Ideal) S_ .f32 0xFF800000#32) reducesTo_S4x2x3x8192x8192_S4x2x3x8192_d4 hr h_S_ hz hp hS j
  refine ⟨M, ?_⟩
  unfold rowMax
  rw [maximumf_at, broadcastInDim_neg, hM]
  exact max_eq_right bot_le

theorem expo_apply (S : FVec Ideal S4x2x3x8192x8192 .f32) (b : Fin 4) (g : Fin 2) (h : Fin 3) (i j : Fin 8192) :
    expo S (ix5 b g h i j) = Ideal.exp (S (ix5 b g h i j) - rowMax S (ix4 b g h i)) := by
  unfold expo
  pointwise

theorem softmax_apply (E : FVec Ideal S4x2x3x8192x8192 .f32) (b : Fin 4) (g : Fin 2) (h : Fin 3) (i j : Fin 8192) :
    softmax E (ix5 b g h i j) = Ideal.div (E (ix5 b g h i j)) (∑ x : Fin 8192, E (ix5 b g h i x)) := by
  unfold softmax
  pointwise

theorem weigh_apply (V : FVec Ideal S32768x256 .bf16) (P : FVec Ideal S4x2x3x8192x8192 .f32) (R : Fin 32768) (C : Fin 768) :
    weigh V P (ix2 R C) = ∑ x : Fin 8192, V (ix2 (n0 := 32768) (n1 := 256) ⟨R.val / 8192 * 8192 + x.val, by omega⟩
        ⟨C.val / 384 * 128 + C.val % 128, by omega⟩)
      * P (ix5 (⟨R.val / 8192, by omega⟩ : Fin 4) (⟨C.val / 384, by omega⟩ : Fin 2) (⟨C.val / 128 % 3, by omega⟩ : Fin 3)
          (⟨R.val % 8192, by omega⟩ : Fin 8192) x) := by
  unfold weigh
  pointwise

/-- The reference's result: for finite queries, keys and values, the mean of its sequence's values under the softmax of
    the row's scores. -/
theorem out_apply (Q : FVec Ideal S32768x768 .bf16) (K V : FVec Ideal S32768x256 .bf16) (hQ : Finite Q) (hK : Finite K) (hV : Finite V)
    (R : Fin 32768) (C : Fin 768) : out Q K V (ix2 R C) = ((attnOut 3 Q K V R.val C.val : ℝ) : EReal) := by
  have hS : ∀ (b : Fin 4) (g : Fin 2) (h : Fin 3) (i j : Fin 8192), scores Q K (ix5 b g h i j)
      = ((∑ x : Fin 128, rd Q (b.val * 8192 + i.val) ((g.val * 3 + h.val) * 128 + x.val) * rd K (b.val * 8192 + j.val) (g.val * 128 + x.val) : ℝ) : EReal) := by
    intro b g h i j
    rw [scores_apply, ← coe_sum]
    refine Finset.sum_congr rfl fun x _ => ?_
    rw [eq_rd hQ, eq_rd hK, ← EReal.coe_mul, mul_comm]
  have hF : Finite (scores Q K) := by
    intro j
    rw [ValueIdx.eq_ix5 j]
    exact ⟨_, hS _ _ _ _ _⟩
  unfold out
  rw [weigh_apply]
  obtain ⟨M, hM⟩ := rowMax_real (scores Q K) hF (ix4 (⟨R.val / 8192, by omega⟩ : Fin 4) (⟨C.val / 384, by omega⟩ : Fin 2)
    (⟨C.val / 128 % 3, by omega⟩ : Fin 3) (⟨R.val % 8192, by omega⟩ : Fin 8192))
  simp only [softmax_apply, expo_apply, hM, hS, eq_rd hV]
  have e : R.val / 8192 * 8192 + R.val % 8192 = R.val := by omega
  have e' : C.val / 384 * 3 + C.val / 128 % 3 = C.val / 128 := by omega
  have e2 : C.val / 128 / 3 = C.val / 384 := by omega
  simp only [e, e']
  unfold attnOut
  simp only [e2]
  exact softmax_row (fun j => ∑ x : Fin 128, rd Q R.val (C.val / 128 * 128 + x.val) * rd K (R.val / 8192 * 8192 + j) (C.val / 384 * 128 + x.val))
    (fun j => rd V (R.val / 8192 * 8192 + j) (C.val / 384 * 128 + C.val % 128)) M (by norm_num)

end Cert.GqaRefIdeal.Hand
-- ==== Proof.InputsOk.lean ====
/-
  What the two preconditions say of the arguments: queries, keys and values are reals, and lane 64 of every value head
  holds 1.
-/
module

public import proofs.«01_k».proof.Proof.OnlineSoftmax
public import proofs.«01_k».proof.Defs
public import Idealize.ShloMosaic.Lib.ReduceAll
public import Idealize.ShloMosaic.Lib.Pipeline.ValueKit

@[expose] public section

set_option maxRecDepth 16384

noncomputable section

open Idealize.ShloMosaic Idealize.ShloMosaic.TcCoe Idealize.SL.Sem

namespace Cert.Attention

theorem posInf : Ideal.ofBits .f32 0x7F800000#32 = (⊤ : EReal) := by
  simp [Ideal.ofBits, Ideal.ieee, -EReal.coe_mul]

theorem one_word : Ideal.ofBits .f32 0x3F800000#32 = (1 : EReal) := by
  simp [Ideal.ofBits, Ideal.ieee, -EReal.coe_mul]
  norm_num

/-- An extended real whose absolute value lies below +∞ is a real. -/
theorem real_of_abs_lt (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

theorem eq_of_oeq (x y : EReal) (h : Ideal.cmp .oeq x y = 1#1) : x = y := by
  by_contra hn
  simp [Ideal.cmp, hn] at h

/-- The conjunction of two bits holds when both do. -/
theorem and_split {s : Shape} {a b : IVec s 1} {j : s.Idx} (h : andi a b j = 1#1) : a j = 1#1 ∧ b j = 1#1 :=
  IntOp.andi_eq_one.1 h

instance : Subsingleton (Shape.Idx ⟨0, ![]⟩) := ⟨fun a b => funext fun i => i.elim0⟩

end Cert.Attention

namespace Cert.Pre_mla_inputs_ok

open Cert.Attention Facts

/-- Lane 64 of head `g`, as the precondition reads it. -/
theorem lane_apply [Facts] (V : FVec Ideal S32768x512 .bf16) (j : Fin 32768) (g : Fin 4) :
    shapeCast S32768x4 (extractStridedSlice S32768x4x1 ![0, 0, 64] (shapeCast S32768x4x128 (extf .f32 V bitsLt_bf16_f32)
      shapeCasts_S32768x512_S32768x4x128) slices_S32768x4x128_S32768x4x1_0_0_64) shapeCasts_S32768x4x1_S32768x4 (ix2 j g)
      = V (ix2 (n0 := 32768) (n1 := 512) j ⟨g.val * 128 + 64, by omega⟩) := by
  pointwise

/-- What the precondition of the MLA claim says. -/
theorem decode [Facts] (Q K V : FVec Ideal S32768x512 .bf16) (h : fn (F := Ideal) Q K V = fun _ => 1#1) :
    Finite Q ∧ Finite K ∧ Finite V ∧ ∀ (g j : ℕ), g < 4 → j < 32768 → rd V j (g * 128 + 64) = 1 := by
  have h0 := congrFun h ix0
  unfold fn fn_part1 at h0
  obtain ⟨h1, h2⟩ := and_split h0
  obtain ⟨h3, hV⟩ := and_split h1
  obtain ⟨hQ, hK⟩ := and_split h3
  have fQ : Finite Q := fun i => real_of_abs_lt _ (posInf ▸ Host.reduce_andi_all _ _ _ _ _ hQ i)
  have fK : Finite K := fun i => real_of_abs_lt _ (posInf ▸ Host.reduce_andi_all _ _ _ _ _ hK i)
  have fV : Finite V := fun i => real_of_abs_lt _ (posInf ▸ Host.reduce_andi_all _ _ _ _ _ hV i)
  refine ⟨fQ, fK, fV, fun g j hg hj => ?_⟩
  have h4 := Host.reduce_andi_all _ _ _ _ _ h2 (ix2 (n0 := 32768) (n1 := 4) ⟨j, hj⟩ ⟨g, hg⟩)
  have h6 := ((lane_apply V ⟨j, hj⟩ ⟨g, hg⟩).symm.trans (eq_of_oeq _ _ h4)).trans one_word
  rw [eq_rd fV] at h6
  exact_mod_cast h6

end Cert.Pre_mla_inputs_ok

namespace Cert.Pre_gqa_inputs_ok

open Cert.Attention Facts

/-- Lane 64 of head `g`, as the precondition reads it. -/
theorem lane_apply [Facts] (V : FVec Ideal S32768x256 .bf16) (j : Fin 32768) (g : Fin 2) :
    shapeCast S32768x2 (extractStridedSlice S32768x2x1 ![0, 0, 64] (shapeCast S32768x2x128 (extf .f32 V bitsLt_bf16_f32)
      shapeCasts_S32768x256_S32768x2x128) slices_S32768x2x128_S32768x2x1_0_0_64) shapeCasts_S32768x2x1_S32768x2 (ix2 j g)
      = V (ix2 (n0 := 32768) (n1 := 256) j ⟨g.val * 128 + 64, by omega⟩) := by
  pointwise

/-- What the precondition of the GQA claim says. -/
theorem decode [Facts] (Q : FVec Ideal S32768x768 .bf16) (K V : FVec Ideal S32768x256 .bf16) (h : fn (F := Ideal) Q K V = fun _ => 1#1) :
    Finite Q ∧ Finite K ∧ Finite V ∧ ∀ (g j : ℕ), g < 2 → j < 32768 → rd V j (g * 128 + 64) = 1 := by
  have h0 := congrFun h ix0
  unfold fn fn_part1 at h0
  obtain ⟨h1, h2⟩ := and_split h0
  obtain ⟨h3, hV⟩ := and_split h1
  obtain ⟨hQ, hK⟩ := and_split h3
  have fQ : Finite Q := fun i => real_of_abs_lt _ (posInf ▸ Host.reduce_andi_all _ _ _ _ _ hQ i)
  have fK : Finite K := fun i => real_of_abs_lt _ (posInf ▸ Host.reduce_andi_all _ _ _ _ _ hK i)
  have fV : Finite V := fun i => real_of_abs_lt _ (posInf ▸ Host.reduce_andi_all _ _ _ _ _ hV i)
  refine ⟨fQ, fK, fV, fun g j hg hj => ?_⟩
  have h4 := Host.reduce_andi_all _ _ _ _ _ h2 (ix2 (n0 := 32768) (n1 := 2) ⟨j, hj⟩ ⟨g, hg⟩)
  have h6 := ((lane_apply V ⟨j, hj⟩ ⟨g, hg⟩).symm.trans (eq_of_oeq _ _ h4)).trans one_word
  rw [eq_rd fV] at h6
  exact_mod_cast h6

end Cert.Pre_gqa_inputs_ok

end
-- ==== Proof.GqaClaim.lean ====
/-
  The claims of the GQA attention kernel.
-/
module

public import proofs.«01_k».proof.Proof.GqaValue
public import proofs.«01_k».proof.Proof.GqaRef
public import proofs.«01_k».proof.Proof.InputsOk
public import proofs.«01_k».proof.Proof.Gen.Pre_gqa_inputs_ok
public import Idealize.ShloMosaic.Lib.Quiescent

@[expose] public section

noncomputable section

open Idealize.ShloMosaic Idealize.ShloMosaic.TcCoe Idealize.SL.Sem

namespace Cert.Attention.Gqa

/-- The reference runs, leaves its arguments and every semaphore as they were. -/
theorem frame_ref : Cert.quiescent_GqaRefIdeal := fun m ρ _ =>
  (θ_run Cert.GqaRefIdeal.defs _ _).mono (fun r h => ⟨fun c => (h c).2,
      Idealize.ShloMosaic.sem_eq_zero_of_no_sems (by decide) r.2⟩)
    (Cert.GqaRefIdeal.Value.run (F := Ideal) m ρ)

/-- The same under the precondition. -/
theorem frame_ref_pre : Cert.quiescent_GqaRefIdeal_pre_gqa_inputs_ok := fun m ρ _ => frame_ref m ρ trivial

/-- Kernel and reference end with equal results: both hold, at every row and column, the softmax mean of the values. -/
theorem algebraic : Cert.algebraic_GqaIdeal_GqaRefIdeal_pre_gqa_inputs_ok := by
  intro m ρ m' ρ' hpre hagree
  refine ⟨_, Cert.GqaIdeal.Value.run_blocks (F := Ideal) m ρ, ?_⟩
  refine (θ_run _ _ _).mono (fun _ h c => ⟨(h c).1.trans ?_, (h c).2⟩) (Cert.GqaRefIdeal.Value.run (F := Ideal) m' ρ')
  obtain ⟨hQ, hK, hV, hone⟩ := Cert.Pre_gqa_inputs_ok.decode _ _ _ (hpre c)
  rw [Cert.GqaIdeal.Hand.final m c _ _ _ rfl rfl rfl hQ hK hV hone]
  show Cert.GqaRefIdeal.Hand.out (m' (c.tc.loc Cert.GqaRefIdeal.main_arg0)) (m' (c.tc.loc Cert.GqaRefIdeal.main_arg1))
    (m' (c.tc.loc Cert.GqaRefIdeal.main_arg2)) = _
  rw [(hagree c).1, (hagree c).2.1, (hagree c).2.2]
  funext i
  obtain ⟨R, C, rfl⟩ : ∃ (R : Fin 32768) (C : Fin 768), i = ix2 R C := ⟨i 0, i 1, ValueIdx.eq_ix2 i⟩
  exact Cert.GqaRefIdeal.Hand.out_apply _ _ _ hQ hK hV R C

end Cert.Attention.Gqa

end
-- ==== Proof.MlaLoop.lean ====
/-
  The MLA attention kernel's loop over 16 blocks of 512 keys: the contents of its two scratch buffers before every
  trip, and what the whole body leaves in its result block.
-/
module

public import proofs.«01_k».proof.Proof.MlaBlock
public import Idealize.ShloMosaic.Lib.VecWindow

@[expose] public section

set_option maxRecDepth 16384

noncomputable section

open Idealize.ShloMosaic Idealize.ShloMosaic.TcCoe Idealize.SL.Sem

namespace Cert.MlaIdeal.Hand

open Cert.MlaIdeal Cert.MlaIdeal.Gen Cert.Attention

section
variable (𝒱 : Variants) (c : Dev nD) (bd : Option 𝒱.V) (i : grid0.Coords)
  (arg3 : Memref sig .tc .vmem S512x128 .bf16) (harg3 : arg3.IsWhole)
  (arg4 : Memref sig .tc .vmem S8192x128 .bf16) (harg4 : arg4.IsWhole)
  (arg5 : Memref sig .tc .vmem S8192x128 .bf16) (harg5 : arg5.IsWhole)
  (arg6 : Memref sig .tc .vmem S512x128 .bf16) (harg6 : arg6.IsWhole)
  (arg7 : Memref sig .tc .vmem S1x512x128 .f32) (harg7 : arg7.IsWhole)
  (arg8 : Memref sig .tc .vmem S1x512x128 .f32) (harg8 : arg8.IsWhole)

/-- What one trip stores: the new maximum and the new accumulator, each over its whole buffer. -/
theorem trip_pieces {F : FTy → Type} [FloatOps F] (X3 : BufTy.Contents (Elt F) arg3.view.ty) (X4 : BufTy.Contents (Elt F) arg4.view.ty)
    (X5 : BufTy.Contents (Elt F) arg5.view.ty) (k : Fin k0_t1_loop.trips)
    (f7 : BufTy.Contents (Elt F) arg7.view.ty) (f8 : BufTy.Contents (Elt F) arg8.view.ty) :
    tripL_k0_t1 𝒱 c bd i arg3 harg3 arg4 harg4 arg5 harg5 arg6 harg6 arg7 harg7 arg8 harg8 X3 X4 X5 k f7 f8
      = ([⟨Rect.unit ![0, 0, 0] S1x512x128.size inb_S1x512x128_S1x512x128_0_0_0,
            k0_pay7 (arg4.view.readAt (Elt F) (Rect.unit (s := S8192x128) (k0_off1 k) S512x128.size (k0_off1_inb k)).toLoadRect X4)
              (arg3.view.readAt (Elt F) (Rect.unit ![0, 0] S512x128.size inb_S512x128_S512x128_0_0).toLoadRect X3)
              (arg7.view.readAt (Elt F) (Rect.unit ![0, 0, 0] S1x512x128.size inb_S1x512x128_S1x512x128_0_0_0).toLoadRect f7)⟩],
          [⟨Rect.unit ![0, 0, 0] S1x512x128.size inb_S1x512x128_S1x512x128_0_0_0,
            k0_pay6 (arg4.view.readAt (Elt F) (Rect.unit (s := S8192x128) (k0_off1 k) S512x128.size (k0_off1_inb k)).toLoadRect X4)
              (arg5.view.readAt (Elt F) (Rect.unit (s := S8192x128) (k0_off1 k) S512x128.size (k0_off1_inb k)).toLoadRect X5)
              (arg3.view.readAt (Elt F) (Rect.unit ![0, 0] S512x128.size inb_S512x128_S512x128_0_0).toLoadRect X3)
              (arg7.view.readAt (Elt F) (Rect.unit ![0, 0, 0] S1x512x128.size inb_S1x512x128_S1x512x128_0_0_0).toLoadRect f7)
              (arg8.view.readAt (Elt F) (Rect.unit ![0, 0, 0] S1x512x128.size inb_S1x512x128_S1x512x128_0_0_0).toLoadRect f8)⟩]) := by
  unfold tripL_k0_t1 trip_k0_t1
  dsimp only

/-- A load of the whole of a buffer of a maximum or an accumulator. -/
theorem ld_whole (X : Vec Ideal S1x512x128 .f32) :
    View.ld X (Rect.unit ![0, 0, 0] S1x512x128.size inb_S1x512x128_S1x512x128_0_0_0) = X :=
  funext fun x => View.ld_unit_apply_of X _ _ _ x x fun a => by
    match a with
    | ⟨0, _⟩ => exact (Nat.zero_add _).symm
    | ⟨1, _⟩ => exact (Nat.zero_add _).symm
    | ⟨2, _⟩ => exact (Nat.zero_add _).symm

/-- A load of the whole query block. -/
theorem ld_whole_q (X : Vec Ideal S512x128 .bf16) :
    View.ld X (Rect.unit ![0, 0] S512x128.size inb_S512x128_S512x128_0_0) = X :=
  funext fun x => View.ld_unit_apply_of X _ _ _ x x fun a => by
    match a with
    | ⟨0, _⟩ => exact (Nat.zero_add _).symm
    | ⟨1, _⟩ => exact (Nat.zero_add _).symm

/-- A load of trip `k`'s 512 rows of keys or values. -/
theorem ld_rows (X : Vec Ideal S8192x128 .bf16) (k : Fin k0_t1_loop.trips) (x : Fin 512) (d : Fin 128)
    (h : 512 * k.val + x.val < 8192) :
    View.ld X (Rect.unit (s := S8192x128) (k0_off1 k) S512x128.size (k0_off1_inb k)) (ix2 x d) = X (ix2 ⟨512 * k.val + x.val, h⟩ d) :=
  View.ld_unit_apply_of X _ _ _ _ _ fun a => by
    have e := congrFun (k0_off1_eq k)
    match a with
    | ⟨0, _⟩ => exact congrArg (· + x.val) (e 0).symm
    | ⟨1, _⟩ => exact (Nat.zero_add _).symm.trans (congrArg (· + d.val) (e 1).symm)

/-- Before trip `k` the two scratch buffers hold the state after `512 * k` keys. -/
theorem loop_inv {q : Fin 512 → Fin 128 → ℝ} {K V : ℕ → Fin 128 → ℝ}
    (X3 : BufTy.Contents (Elt Ideal) arg3.view.ty) (X4 : BufTy.Contents (Elt Ideal) arg4.view.ty)
    (X5 : BufTy.Contents (Elt Ideal) arg5.view.ty) (G7 : BufTy.Contents (Elt Ideal) arg7.view.ty)
    (G8 : BufTy.Contents (Elt Ideal) arg8.view.ty)
    (hq : ∀ i d, arg3.view.read (Elt Ideal) X3 (ix2 i d) = (q i d : EReal))
    (hK : ∀ (j : Fin 8192) d, arg4.view.read (Elt Ideal) X4 (ix2 j d) = (K j d : EReal))
    (hV : ∀ (j : Fin 8192) d, arg5.view.read (Elt Ideal) X5 (ix2 j d) = (V j d : EReal))
    (h0 : Inv q K V 0 (arg7.view.read (Elt Ideal) G7) (arg8.view.read (Elt Ideal) G8)) :
    ∀ k : ℕ, k ≤ k0_t1_loop.trips →
      Inv q K V (512 * k)
        (arg7.view.read (Elt Ideal) (arg7.view.writes (Elt Ideal) G7 (pb_k0_t1 𝒱 c bd i arg3 harg3 arg4 harg4 arg5 harg5
          arg6 harg6 arg7 harg7 arg8 harg8 X3 X4 X5 G7 G8 k).1))
        (arg8.view.read (Elt Ideal) (arg8.view.writes (Elt Ideal) G8 (pb_k0_t1 𝒱 c bd i arg3 harg3 arg4 harg4 arg5 harg5
          arg6 harg6 arg7 harg7 arg8 harg8 X3 X4 X5 G7 G8 k).2)) := by
  intro k
  induction k with
  | zero => intro _; exact h0
  | succ k ih =>
    intro hk
    have hk16 : k < 16 := lt_of_lt_of_le hk k0_t1_abs.2.1
    have ih' := ih (Nat.le_of_succ_le hk)
    rw [pb_k0_t1_succ 𝒱 c bd i arg3 harg3 arg4 harg4 arg5 harg5 arg6 harg6 arg7 harg7 arg8 harg8 X3 X4 X5 G7 G8 ⟨k, hk⟩,
      trip_pieces]
    dsimp only [List.cons_append, List.nil_append]
    rw [View.read_writes_full, View.read_writes_full]
    simp only [View.readAt_eq_ld, ld_whole, ld_whole_q]
    have hx : ∀ x : Fin 512, 512 * k + x.val < 8192 := fun x => by have := x.isLt; omega
    exact inv_step (fun i d => (congrFun (ld_whole_q _) (ix2 i d)).trans (hq i d))
      (fun x d => (ld_rows _ ⟨k, hk⟩ x d (hx x)).trans (hK ⟨512 * k + x.val, hx x⟩ d))
      (fun x d => (ld_rows _ ⟨k, hk⟩ x d (hx x)).trans (hV ⟨512 * k + x.val, hx x⟩ d))
      (Eq.mpr (congrArg₂ (Inv q K V (512 * k)) (ld_whole _) (ld_whole _)) ih')

/-- What the body leaves in its result block. -/
theorem out_apply (x0 : Vec Ideal S512x128 .bf16) (x1 x2 : Vec Ideal S8192x128 .bf16)
    {q : Fin 512 → Fin 128 → ℝ} {K V : ℕ → Fin 128 → ℝ}
    (hq : ∀ i d, x0 (ix2 i d) = (q i d : EReal)) (hK : ∀ (j : Fin 8192) d, x1 (ix2 j d) = (K j d : EReal))
    (hV : ∀ (j : Fin 8192) d, x2 (ix2 j d) = (V j d : EReal)) (hone : ∀ j, j < 8192 → V j 64 = 1)
    (r : Fin 512) (l : Fin 128) :
    out0_A_3 c i arg3 harg3 arg4 harg4 arg5 harg5 arg6 harg6 arg7 harg7 arg8 harg8 x0 x1 x2 (ix2 r l)
      = ((attn (score q K r) (fun j => V j l) 8192 : ℝ) : EReal) := by
  unfold out0_A_3 kernelRun0_A
  dsimp only
  sl_unfold_words
  have h0 : Inv q K V 0
      (arg7.view.read (Elt Ideal) (arg7.view.writes (Elt Ideal) arg7.view.junk
        [⟨Rect.unit ![0, 0, 0] S1x512x128.size inb_S1x512x128_S1x512x128_0_0_0, k0_pay1 (F := Ideal)⟩]))
      (arg8.view.read (Elt Ideal) (arg8.view.writes (Elt Ideal) arg8.view.junk
        [⟨Rect.unit ![0, 0, 0] S1x512x128.size inb_S1x512x128_S1x512x128_0_0_0, k0_pay2 (F := Ideal)⟩])) := by
    rw [View.read_writes_full, View.read_writes_full]
    exact inv_zero q K V
  have hloop := loop_inv Variants.none c none i arg3 harg3 arg4 harg4 arg5 harg5 arg6 harg6 arg7 harg7 arg8 harg8
    (harg3.unread x0) (harg4.unread x1) (harg5.unread x2) _ _
    (by rw [harg3.read_unread]; exact hq) (by rw [harg4.read_unread]; exact hK) (by rw [harg5.read_unread]; exact hV) h0
    16 (by decide)
  rw [← View.writes_append, ← View.writes_append] at hloop
  refine (congrFun (View.read_writes_full (Val := Elt Ideal) VO0_3 _ inb_S512x128_S512x128_0_0 _ []) (ix2 r l)).trans ?_
  unfold View.readCov
  rw [View.readAt_eq_ld, ld_whole]
  exact inv_final (n := 8192) (by decide) hloop hone r l
end

end Cert.MlaIdeal.Hand

end
-- ==== Proof.MlaValue.lean ====
/-
  The MLA attention kernel's result array: at every row and column the mean of its sequence's values under the softmax
  of the row's scores. A grid point handles one sequence, one head and one block of 512 query rows.
-/
module

public import proofs.«01_k».proof.Proof.MlaLoop
public import proofs.«01_k».proof.Proof.Gen.MlaIdeal.Value

@[expose] public section

set_option maxRecDepth 16384

noncomputable section

open Idealize.ShloMosaic Idealize.ShloMosaic.TcCoe Idealize.SL.Sem

namespace Cert.MlaIdeal.Hand

open Cert.MlaIdeal Cert.MlaIdeal.Gen Cert.Attention

variable (m : (ℓ : Loc nD τ sig) → Buf (Elt Ideal) ℓ)

/-- Where the query block and the result block of a grid point lie. -/
theorem index_q : ∀ t : Fin grid0.N, (win0_0.index t 0 = t.val / 64 * 16 + t.val % 16 ∧ win0_0.index t 1 = t.val / 16 % 4)
    ∧ (win0_3.index t 0 = t.val / 64 * 16 + t.val % 16 ∧ win0_3.index t 1 = t.val / 16 % 4) := by decide +kernel

/-- Where the key and value blocks of a grid point lie. -/
theorem index_kv : ∀ t : Fin grid0.N, (win0_1.index t 0 = t.val / 64 ∧ win0_1.index t 1 = t.val / 16 % 4)
    ∧ (win0_2.index t 0 = t.val / 64 ∧ win0_2.index t 1 = t.val / 16 % 4) := by decide +kernel

theorem lt_N (t : Fin cfg0.N) : t.val < 256 := lt_of_lt_of_eq t.isLt N_0

/-- The query block, at an index. -/
theorem blk_q (c : Dev nD) (t : Fin cfg0.N) (r : Fin 512) (l : Fin 128) :
    (iblk m c 0 t : Vec Ideal S512x128 .bf16) (ix2 r l) = m ((c : Thread nD τ).loc main_arg0)
      (ix2 (n0 := 32768) (n1 := 512) ⟨(t.val / 64 * 16 + t.val % 16) * 512 + r.val, by have := lt_N t; omega⟩ ⟨t.val / 16 % 4 * 128 + l.val, by omega⟩) := by
  unfold iblk
  rw [View.read_apply]
  show V m c main_arg0 _ = m (c.tc.loc main_arg0) _
  unfold V
  congr 1
  funext a
  apply Fin.ext
  match a with
  | ⟨0, _⟩ => show win0_0.index t 0 * 512 + 1 * r.val = _; rw [(index_q t).1.1, one_mul]; rfl
  | ⟨1, _⟩ => show win0_0.index t 1 * 128 + 1 * l.val = _; rw [(index_q t).1.2, one_mul]; rfl

/-- The key block, at an index. -/
theorem blk_k (c : Dev nD) (t : Fin cfg0.N) (r : Fin 8192) (l : Fin 128) :
    (iblk m c 1 t : Vec Ideal S8192x128 .bf16) (ix2 r l) = m ((c : Thread nD τ).loc main_arg1)
      (ix2 (n0 := 32768) (n1 := 512) ⟨t.val / 64 * 8192 + r.val, by have := lt_N t; omega⟩ ⟨t.val / 16 % 4 * 128 + l.val, by omega⟩) := by
  unfold iblk
  rw [View.read_apply]
  show V m c main_arg1 _ = m (c.tc.loc main_arg1) _
  unfold V
  congr 1
  funext a
  apply Fin.ext
  match a with
  | ⟨0, _⟩ => show win0_1.index t 0 * 8192 + 1 * r.val = _; rw [(index_kv t).1.1, one_mul]; rfl
  | ⟨1, _⟩ => show win0_1.index t 1 * 128 + 1 * l.val = _; rw [(index_kv t).1.2, one_mul]; rfl

/-- The value block, at an index. -/
theorem blk_v (c : Dev nD) (t : Fin cfg0.N) (r : Fin 8192) (l : Fin 128) :
    (iblk m c 2 t : Vec Ideal S8192x128 .bf16) (ix2 r l) = m ((c : Thread nD τ).loc main_arg2)
      (ix2 (n0 := 32768) (n1 := 512) ⟨t.val / 64 * 8192 + r.val, by have := lt_N t; omega⟩ ⟨t.val / 16 % 4 * 128 + l.val, by omega⟩) := by
  unfold iblk
  rw [View.read_apply]
  show V m c main_arg2 _ = m (c.tc.loc main_arg2) _
  unfold V
  congr 1
  funext a
  apply Fin.ext
  match a with
  | ⟨0, _⟩ => show win0_2.index t 0 * 8192 + 1 * r.val = _; rw [(index_kv t).2.1, one_mul]; rfl
  | ⟨1, _⟩ => show win0_2.index t 1 * 128 + 1 * l.val = _; rw [(index_kv t).2.2, one_mul]; rfl

/-- The result array's contents after the run. -/
def G (Q K V : FVec Ideal S32768x512 .bf16) : FVec Ideal S32768x512 .bf16 :=
  fun i => ((attnOut 1 Q K V (i 0).val (i 1).val : ℝ) : EReal)

/-- What a grid point writes back is its block of `G`. -/
theorem flushed_eq (c : Dev nD) (Q K W : FVec Ideal S32768x512 .bf16) (hQe : m ((c : Thread nD τ).loc main_arg0) = Q)
    (hKe : m ((c : Thread nD τ).loc main_arg1) = K) (hWe : m ((c : Thread nD τ).loc main_arg2) = W)
    (hQ : Finite Q) (hK : Finite K) (hW : Finite W)
    (hone : ∀ (g : ℕ) (j : ℕ), g < 4 → j < 32768 → rd W j (g * 128 + 64) = 1) (t : Fin cfg0.N) :
    (dats m 0 c).flushed 3 t = ((cfg0.win 3).blk t).view.read (Elt Ideal) (G Q K W) := by
  have ht := lt_N t
  rw [Value.flushed3_A]
  funext y
  obtain ⟨r, l, rfl⟩ : ∃ (r : Fin 512) (l : Fin 128), y = ix2 r l := ⟨y 0, y 1, ValueIdx.eq_ix2 y⟩
  rw [View.read_apply]
  refine (out_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t)
    (q := fun i d => rd Q ((t.val / 64 * 16 + t.val % 16) * 512 + i.val) (t.val / 16 % 4 * 128 + d.val))
    (K := fun j d => rd K (t.val / 64 * 8192 + j) (t.val / 16 % 4 * 128 + d.val))
    (V := fun j d => rd W (t.val / 64 * 8192 + j) (t.val / 16 % 4 * 128 + d.val))
    (fun i d => by rw [blk_q, hQe]; exact eq_rd hQ _ _) (fun i d => by rw [blk_k, hKe]; exact eq_rd hK _ _)
    (fun i d => by rw [blk_v, hWe]; exact eq_rd hW _ _)
    (fun j hj => hone _ _ (by omega) (by omega)) r l).trans ?_
  have e0 : ((((cfg0.win 3).blk t).view.emb (ix2 r l)) 0).val = (t.val / 64 * 16 + t.val % 16) * 512 + r.val := by
    show win0_3.index t 0 * 512 + 1 * r.val = _; rw [(index_q t).2.1, one_mul]
  have e1 : ((((cfg0.win 3).blk t).view.emb (ix2 r l)) 1).val = t.val / 16 % 4 * 128 + l.val := by
    show win0_3.index t 1 * 128 + 1 * l.val = _; rw [(index_q t).2.2, one_mul]
  show _ = G Q K W (((cfg0.win 3).blk t).view.emb (ix2 r l))
  unfold G attnOut
  rw [e0, e1]
  have a0 : ((t.val / 64 * 16 + t.val % 16) * 512 + r.val) / 8192 = t.val / 64 := by omega
  have a1 : (t.val / 16 % 4 * 128 + l.val) / 128 = t.val / 16 % 4 := by omega
  have a2 : (t.val / 16 % 4 * 128 + l.val) % 128 = l.val := by omega
  simp only [a0, a1, a2, Nat.div_one]

/-- Every index of the result array lies in the block of a grid point. -/
theorem covered (i : S32768x512.Idx) :
    ∃ t : Fin cfg0.N, (cfg0.win 3).flush t = true ∧ i ∈ ((cfg0.win 3).blk t).view.set := by
  have h0 : (i 0).val < 32768 := (i 0).isLt
  have h1 : (i 1).val < 512 := (i 1).isLt
  refine ⟨⟨((i 0).val / 8192 * 4 + (i 1).val / 128) * 16 + (i 0).val / 512 % 16, lt_of_lt_of_eq (b := 256) (by omega) N_0.symm⟩, flush0_3 _, ?_⟩
  set t : Fin cfg0.N := ⟨((i 0).val / 8192 * 4 + (i 1).val / 128) * 16 + (i 0).val / 512 % 16, lt_of_lt_of_eq (b := 256) (by omega) N_0.symm⟩ with ht
  have hv : t.val = ((i 0).val / 8192 * 4 + (i 1).val / 128) * 16 + (i 0).val / 512 % 16 := rfl
  have hm := ((cfg0.win 3).blk t).view.emb_mem_set (ix2 (n0 := 512) (n1 := 128) ⟨(i 0).val % 512, by omega⟩ ⟨(i 1).val % 128, by omega⟩)
  have he : ((cfg0.win 3).blk t).view.emb (ix2 (n0 := 512) (n1 := 128) ⟨(i 0).val % 512, by omega⟩ ⟨(i 1).val % 128, by omega⟩) = i := by
    funext a
    apply Fin.ext
    match a with
    | ⟨0, _⟩ => show win0_3.index t 0 * 512 + 1 * ((i 0).val % 512) = (i 0).val; rw [(index_q t).2.1, hv]; omega
    | ⟨1, _⟩ => show win0_3.index t 1 * 128 + 1 * ((i 1).val % 128) = (i 1).val; rw [(index_q t).2.2, hv]; omega
  rwa [he] at hm

/-- The result array after the run. -/
theorem final (c : Dev nD) (Q K W : FVec Ideal S32768x512 .bf16) (hQe : m ((c : Thread nD τ).loc main_arg0) = Q)
    (hKe : m ((c : Thread nD τ).loc main_arg1) = K) (hWe : m ((c : Thread nD τ).loc main_arg2) = W)
    (hQ : Finite Q) (hK : Finite K) (hW : Finite W)
    (hone : ∀ (g : ℕ) (j : ℕ), g < 4 → j < 32768 → rd W j (g * 128 + 64) = 1) :
    (dats m 0 c).arrAt 3 cfg0.N = G Q K W :=
  (dats m 0 c).arrAt_eq_of_cover 3 (G Q K W) (fun t _ => flushed_eq m c Q K W hQe hKe hWe hQ hK hW hone t) covered

end Cert.MlaIdeal.Hand

end
-- ==== Proof.MlaRef.lean ====
/-
  The MLA reference, read at an index: plain attention with a softmax over all 8192 keys of the row's sequence, for
  each of the 4 heads.
-/
module

public import proofs.«01_k».proof.Proof.MlaBlock
public import proofs.«01_k».proof.Proof.Gen.MlaRefIdeal.Run

@[expose] public section

set_option maxRecDepth 16384

noncomputable section

open Idealize.ShloMosaic Idealize.ShloMosaic.TcCoe Idealize.SL.Sem

namespace Cert.MlaRefIdeal.Hand

open Cert.MlaRefIdeal Cert.MlaRefIdeal.Gen Cert.Attention

/-- The scores: every query row against every key of its sequence and head. -/
def scores (Q K : FVec Ideal S32768x512 .bf16) : FVec Ideal S4x4x1x8192x8192 .f32 :=
  transpose S4x4x1x8192x8192 [0, 1, 4, 3, 2] (Host.dotGeneral dot_S4x8192x4x128_S4x8192x4x1x128_S4x4x8192x8192x1_3_4_1_13_02_02 none (shapeCast _ (extf .f32 K bitsLt_bf16_f32) shapeCasts_S32768x512_S4x8192x4x128) (shapeCast _ (extf .f32 Q bitsLt_bf16_f32) shapeCasts_S32768x512_S4x8192x4x1x128)) transposes_S4x4x8192x8192x1_S4x4x1x8192x8192_0_1_4_3_2

/-- The maximum of every row of scores. -/
def rowMax (S : FVec Ideal S4x4x1x8192x8192 .f32) : FVec Ideal S4x4x1x8192 .f32 :=
  maximumf (broadcastInDim S4x4x1x8192 ![] bcast_S_S4x4x1x8192 (constant S_ .f32 0xFF800000#32)) (Host.reduce FloatOps.maximumf S (constant S_ .f32 0xFF800000#32) reducesTo_S4x4x1x8192x8192_S4x4x1x8192_d4 h_S_)

/-- The exponentials of the scores less their row's maximum. -/
def expo (S : FVec Ideal S4x4x1x8192x8192 .f32) : FVec Ideal S4x4x1x8192x8192 .f32 :=
  Host.exp (subf S (broadcastInDim S4x4x1x8192x8192 ![0, 1, 2, 3, 4] bcast_S4x4x1x8192x1_S4x4x1x8192x8192_0_1_2_3_4 (broadcastInDim S4x4x1x8192x1 ![0, 1, 2, 3] bcast_S4x4x1x8192_S4x4x1x8192x1_0_1_2_3 (rowMax S))))

/-- The softmax of every row. -/
def softmax (E : FVec Ideal S4x4x1x8192x8192 .f32) : FVec Ideal S4x4x1x8192x8192 .f32 :=
  Host.divf E (broadcastInDim S4x4x1x8192x8192 ![0, 1, 2, 3, 4] bcast_S4x4x1x8192x1_S4x4x1x8192x8192_0_1_2_3_4 (broadcastInDim S4x4x1x8192x1 ![0, 1, 2, 3] bcast_S4x4x1x8192_S4x4x1x8192x1_0_1_2_3 (Host.reduceAdd E (constant S_ .f32 0x00000000#32) reducesTo_S4x4x1x8192x8192_S4x4x1x8192_d4 h_S_)))

/-- The weighted values, back in rows and columns. -/
def weigh (V : FVec Ideal S32768x512 .bf16) (P : FVec Ideal S4x4x1x8192x8192 .f32) : FVec Ideal S32768x512 .bf16 :=
  truncf .bf16 (shapeCast _ (transpose S4x8192x4x1x128 [0, 4, 1, 3, 2] (Host.dotGeneral dot_S4x8192x4x128_S4x4x1x8192x8192_S4x4x128x1x8192_1_4_3_23_02_01 none (shapeCast _ (extf .f32 V bitsLt_bf16_f32) shapeCasts_S32768x512_S4x8192x4x128) P) transposes_S4x4x128x1x8192_S4x8192x4x1x128_0_4_1_3_2) shapeCasts_S4x8192x4x1x128_S32768x512) bitsLt_bf16_f32

/-- The whole reference. -/
def out (Q K V : FVec Ideal S32768x512 .bf16) : FVec Ideal S32768x512 .bf16 := weigh V (softmax (expo (scores Q K)))

/-- A score, at an index. -/
theorem scores_apply (Q K : FVec Ideal S32768x512 .bf16) (b g : Fin 4) (h : Fin 1) (i j : Fin 8192) :
    scores Q K (ix5 b g h i j) = ∑ x : Fin 128,
      K (ix2 (n0 := 32768) (n1 := 512) ⟨b.val * 8192 + j.val, by omega⟩ ⟨g.val * 128 + x.val, by omega⟩)
        * Q (ix2 (n0 := 32768) (n1 := 512) ⟨b.val * 8192 + i.val, by omega⟩ ⟨(g.val * 1 + h.val) * 128 + x.val, by omega⟩) := by
  unfold scores
  pointwise

/-- A maximum of reals along an axis that is not empty is a real. -/
theorem reduce_max_real {s t u : Shape} {a : Fin s.rank} (S : FVec Ideal s .f32) (z : FVec Ideal u .f32) (h' : s.ReducesTo [a] t)
    (h : s.Reduces [a] t) (hu) (hz : z (Shape.Idx.first hu) = (⊥ : EReal)) (hpos : 0 < s.size a)
    (hS : Finite S) (j : t.Idx) :
    ∃ M : ℝ, Host.reduce FloatOps.maximumf S z h' hu j = (M : EReal) := by
  choose f hf using hS
  obtain ⟨M, hM⟩ := fold_max_real_of_nonempty (Finset.univ : Finset (Fin (s.size a))) ⟨⟨0, hpos⟩, Finset.mem_univ _⟩
    (fun k => f (h.lift j k))
  refine ⟨M, ?_⟩
  rw [Host.reduce_eq_fold_single _ _ _ _ h, hz, ← hM]
  exact Finset.fold_congr fun k _ => hf _

/-- The maximum of two arrays is taken entry by entry. -/
theorem maximumf_at {s : Shape} (X Y : FVec Ideal s .f32) (j : s.Idx) : maximumf X Y j = max (X j) (Y j) := rfl

/-- The constant −∞, spread over any shape. -/
theorem broadcastInDim_neg {t : Shape} (f) (h) (j : t.Idx) :
    broadcastInDim t f h (constant (F := Ideal) S_ .f32 0xFF800000#32) j = (⊥ : EReal) := Cert.MlaIdeal.Hand.negInf

/-- The maximum of a row of reals is a real. -/
theorem rowMax_real (S : FVec Ideal S4x4x1x8192x8192 .f32) (hS : Finite S) (j : S4x4x1x8192.Idx) :
    ∃ M : ℝ, rowMax S j = (M : EReal) := by
  have hr : S4x4x1x8192x8192.Reduces [4] S4x4x1x8192 := by decide
  have hp : 0 < S4x4x1x8192x8192.size 4 := by decide
  have hz : constant (F := Ideal) S_ .f32 0xFF800000#32 (Shape.Idx.first h_S_) = (⊥ : EReal) := Cert.MlaIdeal.Hand.negInf
  obtain ⟨M, hM⟩ := reduce_max_real S (constant (F := Ideal) S_ .f32 0xFF800000#32) reducesTo_S4x4x1x8192x8192_S4x4x1x8192_d4 hr h_S_ hz hp hS j
  refine ⟨M, ?_⟩
  unfold rowMax
  rw [maximumf_at, broadcastInDim_neg, hM]
  exact max_eq_right bot_le

theorem expo_apply (S : FVec Ideal S4x4x1x8192x8192 .f32) (b g : Fin 4) (h : Fin 1) (i j : Fin 8192) :
    expo S (ix5 b g h i j) = Ideal.exp (S (ix5 b g h i j) - rowMax S (ix4 b g h i)) := by
  unfold expo
  pointwise
  simp only [Subsingleton.elim h 0]

theorem softmax_apply (E : FVec Ideal S4x4x1x8192x8192 .f32) (b g : Fin 4) (h : Fin 1) (i j : Fin 8192) :
    softmax E (ix5 b g h i j) = Ideal.div (E (ix5 b g h i j)) (∑ x : Fin 8192, E (ix5 b g h i x)) := by
  unfold softmax
  pointwise
  simp only [Subsingleton.elim h 0]

theorem weigh_apply (V : FVec Ideal S32768x512 .bf16) (P : FVec Ideal S4x4x1x8192x8192 .f32) (R : Fin 32768) (C : Fin 512) :
    weigh V P (ix2 R C) = ∑ x : Fin 8192, V (ix2 (n0 := 32768) (n1 := 512) ⟨R.val / 8192 * 8192 + x.val, by omega⟩ C)
      * P (ix5 (⟨R.val / 8192, by omega⟩ : Fin 4) (⟨C.val / 128, by omega⟩ : Fin 4) (0 : Fin 1) (⟨R.val % 8192, by omega⟩ : Fin 8192) x) := by
  unfold weigh
  pointwise

/-- The reference's result: for finite queries, keys and values, the mean of its sequence's values under the softmax of
    the row's scores. -/
theorem out_apply (Q K V : FVec Ideal S32768x512 .bf16) (hQ : Finite Q) (hK : Finite K) (hV : Finite V)
    (R : Fin 32768) (C : Fin 512) : out Q K V (ix2 R C) = ((attnOut 1 Q K V R.val C.val : ℝ) : EReal) := by
  have hS : ∀ (b g : Fin 4) (h : Fin 1) (i j : Fin 8192), scores Q K (ix5 b g h i j)
      = ((∑ x : Fin 128, rd Q (b.val * 8192 + i.val) (g.val * 128 + x.val) * rd K (b.val * 8192 + j.val) (g.val * 128 + x.val) : ℝ) : EReal) := by
    intro b g h i j
    rw [scores_apply, ← coe_sum]
    refine Finset.sum_congr rfl fun x _ => ?_
    rw [eq_rd hQ, eq_rd hK, ← EReal.coe_mul, mul_comm]
    simp [show h.val = 0 by omega]
  have hF : Finite (scores Q K) := by
    intro j
    rw [ValueIdx.eq_ix5 j]
    exact ⟨_, hS _ _ _ _ _⟩
  unfold out
  rw [weigh_apply]
  obtain ⟨M, hM⟩ := rowMax_real (scores Q K) hF (ix4 (⟨R.val / 8192, by omega⟩ : Fin 4) (⟨C.val / 128, by omega⟩ : Fin 4) (0 : Fin 1) (⟨R.val % 8192, by omega⟩ : Fin 8192))
  simp only [softmax_apply, expo_apply, hM, hS, eq_rd hV]
  have e : R.val / 8192 * 8192 + R.val % 8192 = R.val := by omega
  have e' : C.val / 128 * 128 + C.val % 128 = C.val := by omega
  simp only [e]
  unfold attnOut
  simp only [Nat.div_one, e']
  exact softmax_row (fun j => ∑ x : Fin 128, rd Q R.val (C.val / 128 * 128 + x.val) * rd K (R.val / 8192 * 8192 + j) (C.val / 128 * 128 + x.val))
    (fun j => rd V (R.val / 8192 * 8192 + j) C.val) M (by norm_num)

end Cert.MlaRefIdeal.Hand
-- ==== Proof.MlaClaim.lean ====
/-
  The claims of the MLA attention kernel.
-/
module

public import proofs.«01_k».proof.Proof.MlaValue
public import proofs.«01_k».proof.Proof.MlaRef
public import proofs.«01_k».proof.Proof.InputsOk
public import proofs.«01_k».proof.Proof.Gen.Pre_mla_inputs_ok
public import Idealize.ShloMosaic.Lib.Quiescent

@[expose] public section

noncomputable section

open Idealize.ShloMosaic Idealize.ShloMosaic.TcCoe Idealize.SL.Sem

namespace Cert.Attention.Mla

/-- The reference runs, leaves its arguments and every semaphore as they were. -/
theorem frame_ref : Cert.quiescent_MlaRefIdeal := fun m ρ _ =>
  (θ_run Cert.MlaRefIdeal.defs _ _).mono (fun r h => ⟨fun c => (h c).2,
      Idealize.ShloMosaic.sem_eq_zero_of_no_sems (by decide) r.2⟩)
    (Cert.MlaRefIdeal.Value.run (F := Ideal) m ρ)

/-- The same under the precondition. -/
theorem frame_ref_pre : Cert.quiescent_MlaRefIdeal_pre_mla_inputs_ok := fun m ρ _ => frame_ref m ρ trivial

/-- Kernel and reference end with equal results: both hold, at every row and column, the softmax mean of the values. -/
theorem algebraic : Cert.algebraic_MlaIdeal_MlaRefIdeal_pre_mla_inputs_ok := by
  intro m ρ m' ρ' hpre hagree
  refine ⟨_, Cert.MlaIdeal.Value.run_blocks (F := Ideal) m ρ, ?_⟩
  refine (θ_run _ _ _).mono (fun _ h c => ⟨(h c).1.trans ?_, (h c).2⟩) (Cert.MlaRefIdeal.Value.run (F := Ideal) m' ρ')
  obtain ⟨hQ, hK, hV, hone⟩ := Cert.Pre_mla_inputs_ok.decode _ _ _ (hpre c)
  rw [Cert.MlaIdeal.Hand.final m c _ _ _ rfl rfl rfl hQ hK hV hone]
  show Cert.MlaRefIdeal.Hand.out (m' (c.tc.loc Cert.MlaRefIdeal.main_arg0)) (m' (c.tc.loc Cert.MlaRefIdeal.main_arg1))
    (m' (c.tc.loc Cert.MlaRefIdeal.main_arg2)) = _
  rw [(hagree c).1, (hagree c).2.1, (hagree c).2.2]
  funext i
  obtain ⟨R, C, rfl⟩ : ∃ (R : Fin 32768) (C : Fin 512), i = ix2 R C := ⟨i 0, i 1, ValueIdx.eq_ix2 i⟩
  exact Cert.MlaRefIdeal.Hand.out_apply _ _ _ hQ hK hV R C

end Cert.Attention.Mla

end
-- ==== Proof.MergeRow.lean ====
/-
  One row of the merge, as arithmetic: the three gated branches, the residual with its layer norm, and the router's
  logits. From reals it gives reals, and a product with a sum of two tables is the sum of the products.
-/
module

public import proofs.«01_k».proof.Proof.OnlineSoftmax
public import Idealize.ShloMosaic.Lib.Pipeline.ValueKit

@[expose] public section

noncomputable section

open Idealize.ShloMosaic

namespace Cert.MergeRow

/-- An extended real that is a real. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add a b).symm⟩

theorem IsReal.sub {x y : EReal} : IsReal x → IsReal y → IsReal (x - y) := by
  rintro ⟨a, rfl⟩ ⟨b, rfl⟩; exact ⟨a - b, (EReal.coe_sub a b).symm⟩

theorem IsReal.mul {x y : EReal} : IsReal x → IsReal y → IsReal (x * y) := by
  rintro ⟨a, rfl⟩ ⟨b, rfl⟩; exact ⟨a * b, (EReal.coe_mul a b).symm⟩

theorem IsReal.sum {n : ℕ} {f : Fin n → EReal} (h : ∀ i, IsReal (f i)) : IsReal (∑ i, f i) := by
  choose g hg using h
  exact ⟨∑ i, g i, by rw [← Cert.Attention.coe_sum]; exact Finset.sum_congr rfl fun i _ => hg i⟩

/-- A real over a real that is not zero is a real. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The reciprocal square root of a positive real is a real. -/
theorem rsqrt_coe (a : ℝ) (ha : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg ha.not_gt, if_neg ha.ne']

/-- The logistic function of a real is a real. -/
theorem IsReal.logistic {x : EReal} : IsReal x → IsReal (Ideal.logistic x) := by
  rintro ⟨a, rfl⟩
  refine ⟨1 / (1 + Real.exp (-a)), ?_⟩
  rw [← div_coe _ _ (by positivity)]
  rfl

/-- The number of columns, as a real. -/
theorem width : Ideal.ofBits .f32 0x44800000#32 = ((1024 : ℝ) : EReal) := by
  simp [Ideal.ofBits, Ideal.ieee, -EReal.coe_mul]
  norm_num

/-- The layer norm's small constant is a positive real. -/
theorem eps : ∃ e : ℝ, 0 < e ∧ Ideal.ofBits .f32 0x3727C5AC#32 = (e : EReal) := by
  refine ⟨_, ?_, by simp [Ideal.ofBits, Ideal.ieee, -EReal.coe_mul]; rfl⟩
  norm_num

/-- The factor on the residual is a real. -/
theorem alpha : IsReal (Ideal.ofBits .f32 0x3FB504F3#32) :=
  ⟨_, by simp [Ideal.ofBits, Ideal.ieee, -EReal.coe_mul]; rfl⟩

/-- The three branches' products, each under its gate. -/
def mix (x : Fin 1024 → EReal) (a : Fin 384 → EReal) (b : Fin 768 → EReal) (c : Fin 512 → EReal)
    (wg : Fin 1024 → Fin 3072 → EReal) (wa : Fin 384 → Fin 1024 → EReal) (wb : Fin 768 → Fin 1024 → EReal)
    (wc : Fin 512 → Fin 1024 → EReal) (l : Fin 1024) : EReal :=
  Ideal.logistic (∑ k, x k * wg k ⟨l.val, by omega⟩) * ∑ k, a k * wa k l
    + Ideal.logistic (∑ k, x k * wg k ⟨1024 + l.val, by omega⟩) * ∑ k, b k * wb k l
    + Ideal.logistic (∑ k, x k * wg k ⟨2048 + l.val, by omega⟩) * ∑ k, c k * wc k l

/-- The residual: the scaled input and the output projection of the branches. -/
def res (x : Fin 1024 → EReal) (u : Fin 1024 → EReal) (wo : Fin 1024 → Fin 1024 → EReal) (l : Fin 1024) : EReal :=
  Ideal.ofBits .f32 0x3FB504F3#32 * x l + ∑ k, u k * wo k l

/-- The mean of a row. -/
def mean (y : Fin 1024 → EReal) : EReal := Ideal.div (∑ k, y k) (Ideal.ofBits .f32 0x44800000#32)

/-- The layer norm of a row. -/
def layerNorm (y : Fin 1024 → EReal) (g b : Fin 1024 → EReal) (l : Fin 1024) : EReal :=
  (y l - mean y) * Ideal.rsqrt (Ideal.div (∑ k, (y k - mean y) * (y k - mean y)) (Ideal.ofBits .f32 0x44800000#32)
      + Ideal.ofBits .f32 0x3727C5AC#32) * g l + b l

/-- The router's logits of a row. -/
def logit (y : Fin 1024 → EReal) (w v : Fin 1024 → Fin 128 → EReal) (b : Fin 128 → EReal) (l : Fin 128) : EReal :=
  (∑ k, y k * (w k l + v k l)) + b l

theorem mix_real {x : Fin 1024 → EReal} {a : Fin 384 → EReal} {b : Fin 768 → EReal} {c : Fin 512 → EReal}
    {wg : Fin 1024 → Fin 3072 → EReal} {wa : Fin 384 → Fin 1024 → EReal} {wb : Fin 768 → Fin 1024 → EReal}
    {wc : Fin 512 → Fin 1024 → EReal} (hx : ∀ k, IsReal (x k)) (ha : ∀ k, IsReal (a k)) (hb : ∀ k, IsReal (b k))
    (hc : ∀ k, IsReal (c k)) (hg : ∀ k l, IsReal (wg k l)) (hwa : ∀ k l, IsReal (wa k l)) (hwb : ∀ k l, IsReal (wb k l))
    (hwc : ∀ k l, IsReal (wc k l)) (l : Fin 1024) : IsReal (mix x a b c wg wa wb wc l) := by
  unfold mix
  refine ((IsReal.mul ?_ ?_).add (IsReal.mul ?_ ?_)).add (IsReal.mul ?_ ?_)
  · exact (IsReal.sum fun k => (hx k).mul (hg _ _)).logistic
  · exact IsReal.sum fun k => (ha k).mul (hwa _ _)
  · exact (IsReal.sum fun k => (hx k).mul (hg _ _)).logistic
  · exact IsReal.sum fun k => (hb k).mul (hwb _ _)
  · exact (IsReal.sum fun k => (hx k).mul (hg _ _)).logistic
  · exact IsReal.sum fun k => (hc k).mul (hwc _ _)

theorem res_real {x u : Fin 1024 → EReal} {wo : Fin 1024 → Fin 1024 → EReal} (hx : ∀ k, IsReal (x k))
    (hu : ∀ k, IsReal (u k)) (hw : ∀ k l, IsReal (wo k l)) (l : Fin 1024) : IsReal (res x u wo l) :=
  (alpha.mul (hx l)).add (IsReal.sum fun k => (hu k).mul (hw k l))

/-- The layer norm of reals is a real: the variance is not negative and the small constant is positive. -/
theorem layerNorm_real {y g b : Fin 1024 → EReal} (hy : ∀ k, IsReal (y k)) (hg : ∀ k, IsReal (g k)) (hb : ∀ k, IsReal (b k))
    (l : Fin 1024) : IsReal (layerNorm y g b l) := by
  have hm : IsReal (mean y) := by
    obtain ⟨s, hs⟩ := IsReal.sum hy
    exact ⟨s / 1024, by unfold mean; rw [hs, width, div_coe _ _ (by norm_num)]⟩
  unfold layerNorm
  refine ((((hy l).sub hm).mul ?_).mul (hg l)).add (hb l)
  obtain ⟨u, hu⟩ := hm
  choose f hf using hy
  obtain ⟨e, he, hE⟩ := eps
  have hv : (∑ k, (y k - mean y) * (y k - mean y)) = ((∑ k, (f k - u) * (f k - u) : ℝ) : EReal) := by
    rw [← Cert.Attention.coe_sum]
    refine Finset.sum_congr rfl fun k _ => ?_
    rw [hf, hu, ← EReal.coe_sub, ← EReal.coe_mul]
  have hp : 0 < (∑ k, (f k - u) * (f k - u)) / 1024 + e :=
    add_pos_of_nonneg_of_pos (div_nonneg (Finset.sum_nonneg fun k _ => mul_self_nonneg _) (by norm_num)) he
  rw [hv, width, div_coe _ _ (by norm_num), hE, ← EReal.coe_add]
  exact ⟨_, rsqrt_coe _ hp⟩

/-- A product with the sum of two tables, taken apart, with the row's own rounding error of zero beside it. -/
theorem logit_split {y : Fin 1024 → EReal} {w v : Fin 1024 → Fin 128 → EReal} (hy : ∀ k, IsReal (y k))
    (hw : ∀ k l, IsReal (w k l)) (hv : ∀ k l, IsReal (v k l)) (b : Fin 128 → EReal) (l : Fin 128) :
    (∑ k, y k * w k l) + (∑ k, (y k - y k) * w k l) + (∑ k, y k * v k l) + b l = logit y w v b l := by
  unfold logit
  congr 1
  choose f hf using hy
  choose g hg using hw
  choose h hh using hv
  simp only [hf, hg, hh, ← EReal.coe_sub, ← EReal.coe_mul, ← EReal.coe_add, Cert.Attention.coe_sum]
  congr 1
  rw [← Finset.sum_add_distrib, ← Finset.sum_add_distrib]
  refine Finset.sum_congr rfl fun k _ => ?_
  ring

end Cert.MergeRow

end
-- ==== Proof.MergeValue.lean ====
/-
  The merge kernel's three result arrays: at every row the layer norm of the residual (in both formats), and the
  router's logits. A grid point handles one block of 512 rows.
-/
module

public import proofs.«01_k».proof.Proof.MergeRow
public import proofs.«01_k».proof.Proof.Gen.MergeIdeal.Value

@[expose] public section

set_option maxRecDepth 16384

noncomputable section

open Idealize.ShloMosaic Idealize.ShloMosaic.TcCoe Idealize.SL.Sem

namespace Cert.MergeIdeal.Hand

open Cert.MergeIdeal Cert.MergeIdeal.Gen Cert.MergeRow

/-- The branches' sum over a block, at an index. -/
theorem pay3_apply (x0 : Vec Ideal S512x1024 .f32) (x1 : Vec Ideal S512x384 .bf16) (x2 : Vec Ideal S512x768 .bf16)
    (x3 : Vec Ideal S512x512 .bf16) (x4 : Vec Ideal S1024x3072 .bf16) (x5 : Vec Ideal S384x1024 .bf16)
    (x6 : Vec Ideal S768x1024 .bf16) (x7 : Vec Ideal S512x1024 .bf16) (r : Fin 512) (l : Fin 1024) :
    k0_pay3 (View.ld x0 r0_0) (View.ld x4 r0_1) (View.ld x1 r0_2) (View.ld x5 r0_3) (View.ld x4 r0_4) (View.ld x2 r0_5)
        (View.ld x6 r0_6) (View.ld x4 r0_7) (View.ld x3 r0_8) (View.ld x7 r0_0) (ix2 r l)
      = mix (fun k => x0 (ix2 r k)) (fun k => x1 (ix2 r k)) (fun k => x2 (ix2 r k)) (fun k => x3 (ix2 r k))
          (fun k l => x4 (ix2 k l)) (fun k l => x5 (ix2 k l)) (fun k l => x6 (ix2 k l)) (fun k l => x7 (ix2 k l)) l := by
  unfold k0_pay3 mix
  pointwise

/-- The residual's layer norm over a block, at an index. -/
theorem pay4_apply (v0 : Vec Ideal S512x1024 .f32) (v27 : FVec Ideal S512x1024 .bf16) (x8 : Vec Ideal S1024x1024 .bf16)
    (x9 x10 : Vec Ideal S1x1024 .f32) (r : Fin 512) (l : Fin 1024) :
    k0_pay4 (k0_pay2 (View.ld v0 r0_0)) v27 (View.ld x8 r0_9) (constant S512x1024 .f32 0x00000000#32) (View.ld x9 r0_10) (View.ld x10 r0_10) (ix2 r l)
      = layerNorm (res (fun k => v0 (ix2 r k)) (fun k => v27 (ix2 r k)) (fun k l => x8 (ix2 k l)))
          (fun l => x9 (ix2 0 l)) (fun l => x10 (ix2 0 l)) l := by
  unfold k0_pay4 k0_pay2 layerNorm mean res
  pointwise

/-- The logits over a block, at an index, from the layer norm and its two formats. -/
theorem pay1_apply (v26 : FVec Ideal S512x1024 .f32) (v27 : FVec Ideal S512x1024 .bf16) (v28 : Vec Ideal S1024x1024 .bf16)
    (z : FVec Ideal S512x1024 .f32) (v31 v32 : Vec Ideal S1x1024 .f32) (x11 x12 : Vec Ideal S1024x128 .bf16)
    (x13 : Vec Ideal S1x128 .f32) (r : Fin 512) (l : Fin 128) :
    k0_pay1 (k0_pay5 v26 v27 v28 z v31 v32) (k0_pay6 v26 v27 v28 z v31 v32 (View.ld x11 r0_11) (View.ld x11 r0_11))
        (View.ld x12 r0_11) (constant S512x128 .f32 0x00000000#32) (View.ld x13 r0_12) (ix2 r l)
      = (∑ k : Fin 1024, k0_pay4 v26 v27 v28 z v31 v32 (ix2 r k) * x11 (ix2 k l))
        + (∑ k : Fin 1024, (k0_pay4 v26 v27 v28 z v31 v32 (ix2 r k) - k0_pay4 v26 v27 v28 z v31 v32 (ix2 r k)) * x11 (ix2 k l))
        + (∑ k : Fin 1024, k0_pay4 v26 v27 v28 z v31 v32 (ix2 r k) * x12 (ix2 k l)) + x13 (ix2 0 l) := by
  unfold k0_pay1 k0_pay6 k0_pay5
  pointwise

/-- One row of the layer norm, from the arrays. -/
def row (X : Fin 1024 → EReal) (A : Fin 384 → EReal) (B : Fin 768 → EReal) (C : Fin 512 → EReal)
    (Wg : FVec Ideal S1024x3072 .bf16) (Wa : FVec Ideal S384x1024 .bf16) (Wb : FVec Ideal S768x1024 .bf16)
    (Wc : FVec Ideal S512x1024 .bf16) (Wo : FVec Ideal S1024x1024 .bf16) (G Bb : FVec Ideal S1x1024 .f32) (l : Fin 1024) : EReal :=
  layerNorm (res X (mix X A B C (fun k l => Wg (ix2 k l)) (fun k l => Wa (ix2 k l)) (fun k l => Wb (ix2 k l)) (fun k l => Wc (ix2 k l)))
    (fun k l => Wo (ix2 k l))) (fun l => G (ix2 0 l)) (fun l => Bb (ix2 0 l)) l

section
variable (x0 : Vec Ideal S512x1024 .f32) (x1 : Vec Ideal S512x384 .bf16) (x2 : Vec Ideal S512x768 .bf16)
    (x3 : Vec Ideal S512x512 .bf16) (x4 : Vec Ideal S1024x3072 .bf16) (x5 : Vec Ideal S384x1024 .bf16)
    (x6 : Vec Ideal S768x1024 .bf16) (x7 : Vec Ideal S512x1024 .bf16) (x8 : Vec Ideal S1024x1024 .bf16)
    (x9 x10 : Vec Ideal S1x1024 .f32) (x11 x12 : Vec Ideal S1024x128 .bf16) (x13 : Vec Ideal S1x128 .f32)

/-- The layer norm a grid point stores. -/
theorem x1_apply (r : Fin 512) (l : Fin 1024) :
    k0_pay4 (k0_pay8 x0 x1 x2 x3 x4 x5 x6 x7 x8 x9 x10 x11 x12 x13) (k0_pay9 x0 x1 x2 x3 x4 x5 x6 x7 x8 x9 x10 x11 x12 x13)
        (View.ld x8 r0_9) (k0_pay7 x0 x1 x2 x3 x4 x5 x6 x7 x8 x9 x10 x11 x12 x13) (View.ld x9 r0_10) (View.ld x10 r0_10) (ix2 r l)
      = row (fun k => x0 (ix2 r k)) (fun k => x1 (ix2 r k)) (fun k => x2 (ix2 r k)) (fun k => x3 (ix2 r k)) x4 x5 x6 x7 x8 x9 x10 l := by
  unfold k0_pay8 k0_pay7 row
  rw [pay4_apply]
  unfold k0_pay9
  simp only [pay3_apply]

/-- The first result's block, at an index. -/
theorem out14_apply (r : Fin 512) (l : Fin 1024) :
    out0_14 x0 x1 x2 x3 x4 x5 x6 x7 x8 x9 x10 x11 x12 x13 (ix2 r l)
      = row (fun k => x0 (ix2 r k)) (fun k => x1 (ix2 r k)) (fun k => x2 (ix2 r k)) (fun k => x3 (ix2 r k)) x4 x5 x6 x7 x8 x9 x10 l := by
  rw [← x1_apply x0 x1 x2 x3 x4 x5 x6 x7 x8 x9 x10 x11 x12 x13]
  unfold out0_14
  rw [View.canon_cons_unit_zero]
  funext a; fin_cases a <;> rfl

/-- The second result's block, at an index. -/
theorem out15_apply (r : Fin 512) (l : Fin 1024) :
    out0_15 x0 x1 x2 x3 x4 x5 x6 x7 x8 x9 x10 x11 x12 x13 (ix2 r l)
      = row (fun k => x0 (ix2 r k)) (fun k => x1 (ix2 r k)) (fun k => x2 (ix2 r k)) (fun k => x3 (ix2 r k)) x4 x5 x6 x7 x8 x9 x10 l := by
  rw [← x1_apply x0 x1 x2 x3 x4 x5 x6 x7 x8 x9 x10 x11 x12 x13]
  unfold out0_15
  rw [View.canon_cons_unit_zero]
  · rfl
  · funext a; fin_cases a <;> rfl

/-- The third result's block, at an index, where the layer norm and the router's tables are reals. -/
theorem out16_apply (r : Fin 512) (l : Fin 128)
    (hy : ∀ k, IsReal (row (fun k => x0 (ix2 r k)) (fun k => x1 (ix2 r k)) (fun k => x2 (ix2 r k)) (fun k => x3 (ix2 r k)) x4 x5 x6 x7 x8 x9 x10 k))
    (hw : ∀ (k : Fin 1024) (l : Fin 128), IsReal (x11 (ix2 k l))) (hv : ∀ (k : Fin 1024) (l : Fin 128), IsReal (x12 (ix2 k l))) :
    out0_16 x0 x1 x2 x3 x4 x5 x6 x7 x8 x9 x10 x11 x12 x13 (ix2 r l)
      = logit (row (fun k => x0 (ix2 r k)) (fun k => x1 (ix2 r k)) (fun k => x2 (ix2 r k)) (fun k => x3 (ix2 r k)) x4 x5 x6 x7 x8 x9 x10)
          (fun k l => x11 (ix2 k l)) (fun k l => x12 (ix2 k l)) (fun l => x13 (ix2 0 l)) l := by
  rw [← logit_split hy hw hv]
  unfold out0_16
  rw [View.canon_cons_unit_zero]
  · rw [pay1_apply]
    simp only [x1_apply]
  · funext a; fin_cases a <;> rfl

end

variable (m : (ℓ : Loc nD τ sig) → Buf (Elt Ideal) ℓ)

/-- The blocks that move with the grid lie at the grid point's own rows. -/
theorem index_row : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) := by decide +kernel

/-- So do the results' blocks. -/
theorem index_out : ∀ t : Fin grid0.N, (win0_14.index t 0 = t.val ∧ win0_14.index t 1 = 0) ∧ (win0_15.index t 0 = t.val ∧ win0_15.index t 1 = 0)
    ∧ (win0_16.index t 0 = t.val ∧ win0_16.index t 1 = 0) := by decide +kernel

/-- The weights are whole at every grid point. -/
theorem index_whole : ∀ t : Fin grid0.N, (∀ a, win0_4.index t a = 0) ∧ (∀ a, win0_5.index t a = 0) ∧ (∀ a, win0_6.index t a = 0)
    ∧ (∀ a, win0_7.index t a = 0) ∧ (∀ a, win0_8.index t a = 0) ∧ (∀ a, win0_9.index t a = 0) ∧ (∀ a, win0_10.index t a = 0)
    ∧ (∀ a, win0_11.index t a = 0) ∧ (∀ a, win0_12.index t a = 0) ∧ (∀ a, win0_13.index t a = 0) := by decide +kernel

theorem lt_N (t : Fin cfg0.N) : t.val < 64 := lt_of_lt_of_eq t.isLt N_0

/-- The row of the arrays that row `r` of grid point `t` handles. -/
def rowAt (t : Fin cfg0.N) (r : Fin 512) : Fin 32768 := ⟨t.val * 512 + r.val, by have := lt_N t; omega⟩

theorem blk0 (c : Dev nD) (t : Fin cfg0.N) (r : Fin 512) (l : Fin 1024) :
    (iblk m c 0 t : Vec Ideal S512x1024 .f32) (ix2 r l) = m ((c : Thread nD τ).loc main_arg0) (ix2 (n0 := 32768) (n1 := 1024) (rowAt t r) l) := by
  unfold iblk
  rw [View.read_apply]
  show V m c main_arg0 _ = m (c.tc.loc main_arg0) _
  unfold V
  congr 1
  funext a
  apply Fin.ext
  match a with
  | ⟨0, _⟩ => show win0_0.index t 0 * 512 + 1 * r.val = _; rw [(index_row t).1.1, one_mul]; rfl
  | ⟨1, _⟩ => show win0_0.index t 1 * 1024 + 1 * l.val = _; rw [(index_row t).1.2, zero_mul, zero_add, one_mul]; rfl

theorem blk1 (c : Dev nD) (t : Fin cfg0.N) (r : Fin 512) (l : Fin 384) :
    (iblk m c 1 t : Vec Ideal S512x384 .bf16) (ix2 r l) = m ((c : Thread nD τ).loc main_arg1) (ix2 (n0 := 32768) (n1 := 384) (rowAt t r) l) := by
  unfold iblk
  rw [View.read_apply]
  show V m c main_arg1 _ = m (c.tc.loc main_arg1) _
  unfold V
  congr 1
  funext a
  apply Fin.ext
  match a with
  | ⟨0, _⟩ => show win0_1.index t 0 * 512 + 1 * r.val = _; rw [(index_row t).2.1.1, one_mul]; rfl
  | ⟨1, _⟩ => show win0_1.index t 1 * 384 + 1 * l.val = _; rw [(index_row t).2.1.2, zero_mul, zero_add, one_mul]; rfl

theorem blk2 (c : Dev nD) (t : Fin cfg0.N) (r : Fin 512) (l : Fin 768) :
    (iblk m c 2 t : Vec Ideal S512x768 .bf16) (ix2 r l) = m ((c : Thread nD τ).loc main_arg2) (ix2 (n0 := 32768) (n1 := 768) (rowAt t r) l) := by
  unfold iblk
  rw [View.read_apply]
  show V m c main_arg2 _ = m (c.tc.loc main_arg2) _
  unfold V
  congr 1
  funext a
  apply Fin.ext
  match a with
  | ⟨0, _⟩ => show win0_2.index t 0 * 512 + 1 * r.val = _; rw [(index_row t).2.2.1.1, one_mul]; rfl
  | ⟨1, _⟩ => show win0_2.index t 1 * 768 + 1 * l.val = _; rw [(index_row t).2.2.1.2, zero_mul, zero_add, one_mul]; rfl

theorem blk3 (c : Dev nD) (t : Fin cfg0.N) (r : Fin 512) (l : Fin 512) :
    (iblk m c 3 t : Vec Ideal S512x512 .bf16) (ix2 r l) = m ((c : Thread nD τ).loc main_arg3) (ix2 (n0 := 32768) (n1 := 512) (rowAt t r) l) := by
  unfold iblk
  rw [View.read_apply]
  show V m c main_arg3 _ = m (c.tc.loc main_arg3) _
  unfold V
  congr 1
  funext a
  apply Fin.ext
  match a with
  | ⟨0, _⟩ => show win0_3.index t 0 * 512 + 1 * r.val = _; rw [(index_row t).2.2.2.1, one_mul]; rfl
  | ⟨1, _⟩ => show win0_3.index t 1 * 512 + 1 * l.val = _; rw [(index_row t).2.2.2.2, zero_mul, zero_add, one_mul]; rfl

theorem blk4 (c : Dev nD) (t : Fin cfg0.N) : (iblk m c 4 t : Vec Ideal S1024x3072 .bf16) = m ((c : Thread nD τ).loc main_arg4) := by
  funext y
  unfold iblk
  rw [View.read_apply]
  show V m c main_arg4 _ = m (c.tc.loc main_arg4) _
  unfold V
  congr 1
  funext a
  apply Fin.ext
  have h := (index_whole t).1
  match a with
  | ⟨0, _⟩ => show win0_4.index t 0 * 1024 + 1 * (y 0).val = _; rw [h, zero_mul, zero_add, one_mul]; rfl
  | ⟨1, _⟩ => show win0_4.index t 1 * 3072 + 1 * (y 1).val = _; rw [h, zero_mul, zero_add, one_mul]; rfl

theorem blk5 (c : Dev nD) (t : Fin cfg0.N) : (iblk m c 5 t : Vec Ideal S384x1024 .bf16) = m ((c : Thread nD τ).loc main_arg5) := by
  funext y
  unfold iblk
  rw [View.read_apply]
  show V m c main_arg5 _ = m (c.tc.loc main_arg5) _
  unfold V
  congr 1
  funext a
  apply Fin.ext
  have h := (index_whole t).2.1
  match a with
  | ⟨0, _⟩ => show win0_5.index t 0 * 384 + 1 * (y 0).val = _; rw [h, zero_mul, zero_add, one_mul]; rfl
  | ⟨1, _⟩ => show win0_5.index t 1 * 1024 + 1 * (y 1).val = _; rw [h, zero_mul, zero_add, one_mul]; rfl

theorem blk6 (c : Dev nD) (t : Fin cfg0.N) : (iblk m c 6 t : Vec Ideal S768x1024 .bf16) = m ((c : Thread nD τ).loc main_arg6) := by
  funext y
  unfold iblk
  rw [View.read_apply]
  show V m c main_arg6 _ = m (c.tc.loc main_arg6) _
  unfold V
  congr 1
  funext a
  apply Fin.ext
  have h := (index_whole t).2.2.1
  match a with
  | ⟨0, _⟩ => show win0_6.index t 0 * 768 + 1 * (y 0).val = _; rw [h, zero_mul, zero_add, one_mul]; rfl
  | ⟨1, _⟩ => show win0_6.index t 1 * 1024 + 1 * (y 1).val = _; rw [h, zero_mul, zero_add, one_mul]; rfl

theorem blk7 (c : Dev nD) (t : Fin cfg0.N) : (iblk m c 7 t : Vec Ideal S512x1024 .bf16) = m ((c : Thread nD τ).loc main_arg7) := by
  funext y
  unfold iblk
  rw [View.read_apply]
  show V m c main_arg7 _ = m (c.tc.loc main_arg7) _
  unfold V
  congr 1
  funext a
  apply Fin.ext
  have h := (index_whole t).2.2.2.1
  match a with
  | ⟨0, _⟩ => show win0_7.index t 0 * 512 + 1 * (y 0).val = _; rw [h, zero_mul, zero_add, one_mul]; rfl
  | ⟨1, _⟩ => show win0_7.index t 1 * 1024 + 1 * (y 1).val = _; rw [h, zero_mul, zero_add, one_mul]; rfl

theorem blk8 (c : Dev nD) (t : Fin cfg0.N) : (iblk m c 8 t : Vec Ideal S1024x1024 .bf16) = m ((c : Thread nD τ).loc main_arg8) := by
  funext y
  unfold iblk
  rw [View.read_apply]
  show V m c main_arg8 _ = m (c.tc.loc main_arg8) _
  unfold V
  congr 1
  funext a
  apply Fin.ext
  have h := (index_whole t).2.2.2.2.1
  match a with
  | ⟨0, _⟩ => show win0_8.index t 0 * 1024 + 1 * (y 0).val = _; rw [h, zero_mul, zero_add, one_mul]; rfl
  | ⟨1, _⟩ => show win0_8.index t 1 * 1024 + 1 * (y 1).val = _; rw [h, zero_mul, zero_add, one_mul]; rfl

theorem blk9 (c : Dev nD) (t : Fin cfg0.N) : (iblk m c 9 t : Vec Ideal S1x1024 .f32) = m ((c : Thread nD τ).loc main_arg9) := by
  funext y
  unfold iblk
  rw [View.read_apply]
  show V m c main_arg9 _ = m (c.tc.loc main_arg9) _
  unfold V
  congr 1
  funext a
  apply Fin.ext
  have h := (index_whole t).2.2.2.2.2.1
  match a with
  | ⟨0, _⟩ => show win0_9.index t 0 * 1 + 1 * (y 0).val = _; rw [h, zero_mul, zero_add, one_mul]; rfl
  | ⟨1, _⟩ => show win0_9.index t 1 * 1024 + 1 * (y 1).val = _; rw [h, zero_mul, zero_add, one_mul]; rfl

theorem blk10 (c : Dev nD) (t : Fin cfg0.N) : (iblk m c 10 t : Vec Ideal S1x1024 .f32) = m ((c : Thread nD τ).loc main_arg10) := by
  funext y
  unfold iblk
  rw [View.read_apply]
  show V m c main_arg10 _ = m (c.tc.loc main_arg10) _
  unfold V
  congr 1
  funext a
  apply Fin.ext
  have h := (index_whole t).2.2.2.2.2.2.1
  match a with
  | ⟨0, _⟩ => show win0_10.index t 0 * 1 + 1 * (y 0).val = _; rw [h, zero_mul, zero_add, one_mul]; rfl
  | ⟨1, _⟩ => show win0_10.index t 1 * 1024 + 1 * (y 1).val = _; rw [h, zero_mul, zero_add, one_mul]; rfl

theorem blk11 (c : Dev nD) (t : Fin cfg0.N) : (iblk m c 11 t : Vec Ideal S1024x128 .bf16) = m ((c : Thread nD τ).loc main_arg11) := by
  funext y
  unfold iblk
  rw [View.read_apply]
  show V m c main_arg11 _ = m (c.tc.loc main_arg11) _
  unfold V
  congr 1
  funext a
  apply Fin.ext
  have h := (index_whole t).2.2.2.2.2.2.2.1
  match a with
  | ⟨0, _⟩ => show win0_11.index t 0 * 1024 + 1 * (y 0).val = _; rw [h, zero_mul, zero_add, one_mul]; rfl
  | ⟨1, _⟩ => show win0_11.index t 1 * 128 + 1 * (y 1).val = _; rw [h, zero_mul, zero_add, one_mul]; rfl

theorem blk12 (c : Dev nD) (t : Fin cfg0.N) : (iblk m c 12 t : Vec Ideal S1024x128 .bf16) = m ((c : Thread nD τ).loc main_arg12) := by
  funext y
  unfold iblk
  rw [View.read_apply]
  show V m c main_arg12 _ = m (c.tc.loc main_arg12) _
  unfold V
  congr 1
  funext a
  apply Fin.ext
  have h := (index_whole t).2.2.2.2.2.2.2.2.1
  match a with
  | ⟨0, _⟩ => show win0_12.index t 0 * 1024 + 1 * (y 0).val = _; rw [h, zero_mul, zero_add, one_mul]; rfl
  | ⟨1, _⟩ => show win0_12.index t 1 * 128 + 1 * (y 1).val = _; rw [h, zero_mul, zero_add, one_mul]; rfl

theorem blk13 (c : Dev nD) (t : Fin cfg0.N) : (iblk m c 13 t : Vec Ideal S1x128 .f32) = m ((c : Thread nD τ).loc main_arg13) := by
  funext y
  unfold iblk
  rw [View.read_apply]
  show V m c main_arg13 _ = m (c.tc.loc main_arg13) _
  unfold V
  congr 1
  funext a
  apply Fin.ext
  have h := (index_whole t).2.2.2.2.2.2.2.2.2
  match a with
  | ⟨0, _⟩ => show win0_13.index t 0 * 1 + 1 * (y 0).val = _; rw [h, zero_mul, zero_add, one_mul]; rfl
  | ⟨1, _⟩ => show win0_13.index t 1 * 128 + 1 * (y 1).val = _; rw [h, zero_mul, zero_add, one_mul]; rfl

/-- One row of the layer norm, from the arguments in memory. -/
def rowOf (c : Dev nD) (R : Fin 32768) : Fin 1024 → EReal :=
  row (fun k => m ((c : Thread nD τ).loc main_arg0) (ix2 (n0 := 32768) (n1 := 1024) R k)) (fun k => m ((c : Thread nD τ).loc main_arg1) (ix2 (n0 := 32768) (n1 := 384) R k))
    (fun k => m ((c : Thread nD τ).loc main_arg2) (ix2 (n0 := 32768) (n1 := 768) R k)) (fun k => m ((c : Thread nD τ).loc main_arg3) (ix2 (n0 := 32768) (n1 := 512) R k))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- The layer norm's row of a grid point's block is the arrays' row. -/
theorem row_blk (c : Dev nD) (t : Fin cfg0.N) (r : Fin 512) :
    row (fun k => (iblk m c 0 t : Vec Ideal S512x1024 .f32) (ix2 r k)) (fun k => (iblk m c 1 t : Vec Ideal S512x384 .bf16) (ix2 r k))
      (fun k => (iblk m c 2 t : Vec Ideal S512x768 .bf16) (ix2 r k)) (fun k => (iblk m c 3 t : Vec Ideal S512x512 .bf16) (ix2 r k))
      (iblk m c 4 t) (iblk m c 5 t) (iblk m c 6 t) (iblk m c 7 t) (iblk m c 8 t) (iblk m c 9 t) (iblk m c 10 t) = rowOf m c (rowAt t r) := by
  unfold rowOf
  rw [blk4, blk5, blk6, blk7, blk8, blk9, blk10]
  simp only [blk0, blk1, blk2, blk3]

/-- The first result's contents after the run. -/
def G14 (c : Dev nD) : FVec Ideal S32768x1024 .f32 := fun i => rowOf m c (i 0) (i 1)

/-- The second result's contents after the run. -/
def G15 (c : Dev nD) : FVec Ideal S32768x1024 .bf16 := fun i => rowOf m c (i 0) (i 1)

/-- The third result's contents after the run. -/
def G16 (c : Dev nD) : FVec Ideal S32768x128 .f32 := fun i =>
  logit (rowOf m c (i 0)) (fun k l => m ((c : Thread nD τ).loc main_arg11) (ix2 (n0 := 1024) (n1 := 128) k l))
    (fun k l => m ((c : Thread nD τ).loc main_arg12) (ix2 (n0 := 1024) (n1 := 128) k l))
    (fun l => m ((c : Thread nD τ).loc main_arg13) (ix2 (n0 := 1) (n1 := 128) 0 l)) (i 1)

/-- What a grid point writes back to result 14 is its block of `G14`. -/
theorem flushed_eq14 (c : Dev nD) (t : Fin cfg0.N) :
    (dats m 0 c).flushed 14 t = ((cfg0.win 14).blk t).view.read (Elt Ideal) (G14 m c) := by
  have ht := lt_N t
  rw [Value.flushed14]
  funext y
  obtain ⟨r, l, rfl⟩ : ∃ (r : Fin 512) (l : Fin 1024), y = ix2 r l := ⟨y 0, y 1, ValueIdx.eq_ix2 y⟩
  rw [View.read_apply]
  refine (show _ = out0_14 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (ix2 r l) from rfl).trans ?_
  have e0 : (((cfg0.win 14).blk t).view.emb (ix2 r l)) 0 = rowAt t r := by
    apply Fin.ext
    show win0_14.index t 0 * 512 + 1 * r.val = _; rw [(index_out t).1.1, one_mul]; rfl
  have e1 : (((cfg0.win 14).blk t).view.emb (ix2 r l)) 1 = l := by
    apply Fin.ext
    show win0_14.index t 1 * 1024 + 1 * l.val = _; rw [(index_out t).1.2, zero_mul, zero_add, one_mul]
  show _ = G14 m c (((cfg0.win 14).blk t).view.emb (ix2 r l))
  unfold G14
  rw [e0, e1]
  rw [out14_apply, row_blk]

/-- Every index of result 14 lies in the block of a grid point. -/
theorem covered14 (i : S32768x1024.Idx) :
    ∃ t : Fin cfg0.N, (cfg0.win 14).flush t = true ∧ i ∈ ((cfg0.win 14).blk t).view.set := by
  have h0 : (i 0).val < 32768 := (i 0).isLt
  have h1 : (i 1).val < 1024 := (i 1).isLt
  refine ⟨⟨(i 0).val / 512, lt_of_lt_of_eq (b := 64) (by omega) N_0.symm⟩, flush0_14 _, ?_⟩
  set t : Fin cfg0.N := ⟨(i 0).val / 512, lt_of_lt_of_eq (b := 64) (by omega) N_0.symm⟩ with ht
  have hv : t.val = (i 0).val / 512 := rfl
  have hm := ((cfg0.win 14).blk t).view.emb_mem_set (ix2 (n0 := 512) (n1 := 1024) ⟨(i 0).val % 512, by omega⟩ (i 1))
  have he : ((cfg0.win 14).blk t).view.emb (ix2 (n0 := 512) (n1 := 1024) ⟨(i 0).val % 512, by omega⟩ (i 1)) = i := by
    funext a
    apply Fin.ext
    match a with
    | ⟨0, _⟩ => show win0_14.index t 0 * 512 + 1 * ((i 0).val % 512) = (i 0).val; rw [(index_out t).1.1, hv]; omega
    | ⟨1, _⟩ => show win0_14.index t 1 * 1024 + 1 * (i 1).val = (i 1).val; rw [(index_out t).1.2]; omega
  rwa [he] at hm

/-- What a grid point writes back to result 15 is its block of `G15`. -/
theorem flushed_eq15 (c : Dev nD) (t : Fin cfg0.N) :
    (dats m 0 c).flushed 15 t = ((cfg0.win 15).blk t).view.read (Elt Ideal) (G15 m c) := by
  have ht := lt_N t
  rw [Value.flushed15]
  funext y
  obtain ⟨r, l, rfl⟩ : ∃ (r : Fin 512) (l : Fin 1024), y = ix2 r l := ⟨y 0, y 1, ValueIdx.eq_ix2 y⟩
  rw [View.read_apply]
  refine (show _ = out0_15 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (ix2 r l) from rfl).trans ?_
  have e0 : (((cfg0.win 15).blk t).view.emb (ix2 r l)) 0 = rowAt t r := by
    apply Fin.ext
    show win0_15.index t 0 * 512 + 1 * r.val = _; rw [(index_out t).2.1.1, one_mul]; rfl
  have e1 : (((cfg0.win 15).blk t).view.emb (ix2 r l)) 1 = l := by
    apply Fin.ext
    show win0_15.index t 1 * 1024 + 1 * l.val = _; rw [(index_out t).2.1.2, zero_mul, zero_add, one_mul]
  show _ = G15 m c (((cfg0.win 15).blk t).view.emb (ix2 r l))
  unfold G15
  rw [e0, e1]
  rw [out15_apply, row_blk]

/-- Every index of result 15 lies in the block of a grid point. -/
theorem covered15 (i : S32768x1024.Idx) :
    ∃ t : Fin cfg0.N, (cfg0.win 15).flush t = true ∧ i ∈ ((cfg0.win 15).blk t).view.set := by
  have h0 : (i 0).val < 32768 := (i 0).isLt
  have h1 : (i 1).val < 1024 := (i 1).isLt
  refine ⟨⟨(i 0).val / 512, lt_of_lt_of_eq (b := 64) (by omega) N_0.symm⟩, flush0_15 _, ?_⟩
  set t : Fin cfg0.N := ⟨(i 0).val / 512, lt_of_lt_of_eq (b := 64) (by omega) N_0.symm⟩ with ht
  have hv : t.val = (i 0).val / 512 := rfl
  have hm := ((cfg0.win 15).blk t).view.emb_mem_set (ix2 (n0 := 512) (n1 := 1024) ⟨(i 0).val % 512, by omega⟩ (i 1))
  have he : ((cfg0.win 15).blk t).view.emb (ix2 (n0 := 512) (n1 := 1024) ⟨(i 0).val % 512, by omega⟩ (i 1)) = i := by
    funext a
    apply Fin.ext
    match a with
    | ⟨0, _⟩ => show win0_15.index t 0 * 512 + 1 * ((i 0).val % 512) = (i 0).val; rw [(index_out t).2.1.1, hv]; omega
    | ⟨1, _⟩ => show win0_15.index t 1 * 1024 + 1 * (i 1).val = (i 1).val; rw [(index_out t).2.1.2]; omega
  rwa [he] at hm

/-- What a grid point writes back to result 16 is its block of `G16`. -/
theorem flushed_eq16 (c : Dev nD) (t : Fin cfg0.N)
    (hy : ∀ R k, IsReal (rowOf m c R k)) (hw : ∀ (k : Fin 1024) (l : Fin 128), IsReal (m ((c : Thread nD τ).loc main_arg11) (ix2 (n0 := 1024) (n1 := 128) k l)))
    (hv : ∀ (k : Fin 1024) (l : Fin 128), IsReal (m ((c : Thread nD τ).loc main_arg12) (ix2 (n0 := 1024) (n1 := 128) k l))) :
    (dats m 0 c).flushed 16 t = ((cfg0.win 16).blk t).view.read (Elt Ideal) (G16 m c) := by
  have ht := lt_N t
  rw [Value.flushed16]
  funext y
  obtain ⟨r, l, rfl⟩ : ∃ (r : Fin 512) (l : Fin 128), y = ix2 r l := ⟨y 0, y 1, ValueIdx.eq_ix2 y⟩
  rw [View.read_apply]
  refine (show _ = out0_16 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (ix2 r l) from rfl).trans ?_
  have e0 : (((cfg0.win 16).blk t).view.emb (ix2 r l)) 0 = rowAt t r := by
    apply Fin.ext
    show win0_16.index t 0 * 512 + 1 * r.val = _; rw [(index_out t).2.2.1, one_mul]; rfl
  have e1 : (((cfg0.win 16).blk t).view.emb (ix2 r l)) 1 = l := by
    apply Fin.ext
    show win0_16.index t 1 * 128 + 1 * l.val = _; rw [(index_out t).2.2.2, zero_mul, zero_add, one_mul]
  show _ = G16 m c (((cfg0.win 16).blk t).view.emb (ix2 r l))
  unfold G16
  rw [e0, e1]
  rw [out16_apply]
  · rw [row_blk, blk11, blk12, blk13]
  · intro k; rw [row_blk]; exact hy _ _
  · intro k l; rw [blk11]; exact hw _ _
  · intro k l; rw [blk12]; exact hv _ _

/-- Every index of result 16 lies in the block of a grid point. -/
theorem covered16 (i : S32768x128.Idx) :
    ∃ t : Fin cfg0.N, (cfg0.win 16).flush t = true ∧ i ∈ ((cfg0.win 16).blk t).view.set := by
  have h0 : (i 0).val < 32768 := (i 0).isLt
  have h1 : (i 1).val < 128 := (i 1).isLt
  refine ⟨⟨(i 0).val / 512, lt_of_lt_of_eq (b := 64) (by omega) N_0.symm⟩, flush0_16 _, ?_⟩
  set t : Fin cfg0.N := ⟨(i 0).val / 512, lt_of_lt_of_eq (b := 64) (by omega) N_0.symm⟩ with ht
  have hv : t.val = (i 0).val / 512 := rfl
  have hm := ((cfg0.win 16).blk t).view.emb_mem_set (ix2 (n0 := 512) (n1 := 128) ⟨(i 0).val % 512, by omega⟩ (i 1))
  have he : ((cfg0.win 16).blk t).view.emb (ix2 (n0 := 512) (n1 := 128) ⟨(i 0).val % 512, by omega⟩ (i 1)) = i := by
    funext a
    apply Fin.ext
    match a with
    | ⟨0, _⟩ => show win0_16.index t 0 * 512 + 1 * ((i 0).val % 512) = (i 0).val; rw [(index_out t).2.2.1, hv]; omega
    | ⟨1, _⟩ => show win0_16.index t 1 * 128 + 1 * (i 1).val = (i 1).val; rw [(index_out t).2.2.2]; omega
  rwa [he] at hm

/-- The first result after the run. -/
theorem final14 (c : Dev nD) : (dats m 0 c).arrAt 14 cfg0.N = G14 m c :=
  (dats m 0 c).arrAt_eq_of_cover 14 (G14 m c) (fun t _ => flushed_eq14 m c t) covered14

/-- The second result after the run. -/
theorem final15 (c : Dev nD) : (dats m 0 c).arrAt 15 cfg0.N = G15 m c :=
  (dats m 0 c).arrAt_eq_of_cover 15 (G15 m c) (fun t _ => flushed_eq15 m c t) covered15

/-- The third result after the run. -/
theorem final16 (c : Dev nD)
    (hy : ∀ R k, IsReal (rowOf m c R k)) (hw : ∀ (k : Fin 1024) (l : Fin 128), IsReal (m ((c : Thread nD τ).loc main_arg11) (ix2 (n0 := 1024) (n1 := 128) k l)))
    (hv : ∀ (k : Fin 1024) (l : Fin 128), IsReal (m ((c : Thread nD τ).loc main_arg12) (ix2 (n0 := 1024) (n1 := 128) k l))) :
    (dats m 0 c).arrAt 16 cfg0.N = G16 m c :=
  (dats m 0 c).arrAt_eq_of_cover 16 (G16 m c) (fun t _ => flushed_eq16 m c t hy hw hv) covered16

end Cert.MergeIdeal.Hand

end
-- ==== Proof.MergeRef.lean ====
/-
  The merge's reference, read at an index: plain gated branches, the layer norm of the residual, and the router's
  logits over whole arrays.
-/
module

public import proofs.«01_k».proof.Proof.MergeRow
public import proofs.«01_k».proof.Proof.Gen.MergeRefIdeal.Run

@[expose] public section

set_option maxRecDepth 16384

noncomputable section

open Idealize.ShloMosaic Idealize.ShloMosaic.TcCoe Idealize.SL.Sem

namespace Cert.MergeRefIdeal.Hand

open Cert.MergeRefIdeal Cert.MergeRefIdeal.Gen Cert.MergeRow

/-- The three gates of every row. -/
def gates (X : FVec Ideal S32768x1024 .f32) (Wg : FVec Ideal S1024x3072 .bf16) : FVec Ideal S32768x3x1024 .f32 :=
  Host.divf (broadcastInDim S32768x3x1024 ![] bcast_S_S32768x3x1024 (constant S_ .f32 0x3F800000#32)) (addf (broadcastInDim S32768x3x1024 ![] bcast_S_S32768x3x1024 (constant S_ .f32 0x3F800000#32)) (Host.exp (Host.negf (shapeCast _ (Host.dotGeneral dot_S32768x1024_S1024x3072_S32768x3072_1_0_0_1_n_n none X (extf .f32 Wg bitsLt_bf16_f32)) shapeCasts_S32768x3072_S32768x3x1024))))

/-- The branches' products under their gates. -/
def mixed (S : FVec Ideal S32768x3x1024 .f32) (A : FVec Ideal S32768x384 .bf16) (B : FVec Ideal S32768x768 .bf16) (C : FVec Ideal S32768x512 .bf16)
    (Wa : FVec Ideal S384x1024 .bf16) (Wb : FVec Ideal S768x1024 .bf16) (Wc : FVec Ideal S512x1024 .bf16) : FVec Ideal S32768x1024 .f32 :=
  addf (addf (mulf (shapeCast _ (extractStridedSlice S32768x1x1024 ![0, 0, 0] S slices_S32768x3x1024_S32768x1x1024_0_0_0) shapeCasts_S32768x1x1024_S32768x1024) (Host.dotGeneral dot_S32768x384_S384x1024_S32768x1024_1_0_0_1_n_n none (extf .f32 A bitsLt_bf16_f32) (extf .f32 Wa bitsLt_bf16_f32)))
    (mulf (shapeCast _ (extractStridedSlice S32768x1x1024 ![0, 1, 0] S slices_S32768x3x1024_S32768x1x1024_0_1_0) shapeCasts_S32768x1x1024_S32768x1024) (Host.dotGeneral dot_S32768x768_S768x1024_S32768x1024_1_0_0_1_n_n none (extf .f32 B bitsLt_bf16_f32) (extf .f32 Wb bitsLt_bf16_f32))))
    (mulf (shapeCast _ (extractStridedSlice S32768x1x1024 ![0, 2, 0] S slices_S32768x3x1024_S32768x1x1024_0_2_0) shapeCasts_S32768x1x1024_S32768x1024) (Host.dotGeneral dot_S32768x512_S512x1024_S32768x1024_1_0_0_1_n_n none (extf .f32 C bitsLt_bf16_f32) (extf .f32 Wc bitsLt_bf16_f32)))

/-- The residual. -/
def resid (X U : FVec Ideal S32768x1024 .f32) (Wo : FVec Ideal S1024x1024 .bf16) : FVec Ideal S32768x1024 .f32 :=
  addf (mulf (broadcastInDim S32768x1024 ![] bcast_S_S32768x1024 (constant S_ .f32 0x3FB504F3#32)) X) (Host.dotGeneral dot_S32768x1024_S1024x1024_S32768x1024_1_0_0_1_n_n none U (extf .f32 Wo bitsLt_bf16_f32))

/-- The mean of every row, as a column. -/
def means (Y : FVec Ideal S32768x1024 .f32) : FVec Ideal S32768x1 .f32 :=
  Host.divf (broadcastInDim S32768x1 ![0] bcast_S32768_S32768x1_0 (Host.reduceAdd Y (constant S_ .f32 0x00000000#32) reducesTo_S32768x1024_S32768_d1 h_S_)) (broadcastInDim S32768x1 ![] bcast_S_S32768x1 (constant S_ .f32 0x44800000#32))

/-- The rows less their means. -/
def centred (Y : FVec Ideal S32768x1024 .f32) : FVec Ideal S32768x1024 .f32 :=
  subf Y (broadcastInDim S32768x1024 ![0, 1] bcast_S32768x1_S32768x1024_0_1 (means Y))

/-- The layer norm of every row. -/
def normed (Y : FVec Ideal S32768x1024 .f32) (G B : FVec Ideal S1x1024 .f32) : FVec Ideal S32768x1024 .f32 :=
  addf (mulf (mulf (centred Y) (broadcastInDim S32768x1024 ![0, 1] bcast_S32768x1_S32768x1024_0_1 (Host.rsqrt (addf (means (mulf (centred Y) (centred Y))) (broadcastInDim S32768x1 ![] bcast_S_S32768x1 (constant S_ .f32 0x3727C5AC#32))))))
    (broadcastInDim S32768x1024 ![0, 1] bcast_S1x1024_S32768x1024_0_1 G)) (broadcastInDim S32768x1024 ![0, 1] bcast_S1x1024_S32768x1024_0_1 B)

/-- The router's logits of every row. -/
def logits (Y : FVec Ideal S32768x1024 .f32) (W V : FVec Ideal S1024x128 .bf16) (B : FVec Ideal S1x128 .f32) : FVec Ideal S32768x128 .f32 :=
  addf (Host.dotGeneral dot_S32768x1024_S1024x128_S32768x128_1_0_0_1_n_n none Y (addf (extf .f32 W bitsLt_bf16_f32) (extf .f32 V bitsLt_bf16_f32))) (broadcastInDim S32768x128 ![0, 1] bcast_S1x128_S32768x128_0_1 B)

theorem one_word : Ideal.ofBits .f32 0x3F800000#32 = (1 : EReal) := by
  simp [Ideal.ofBits, Ideal.ieee, -EReal.coe_mul]
  norm_num

theorem gates_apply (X : FVec Ideal S32768x1024 .f32) (Wg : FVec Ideal S1024x3072 .bf16) (R : Fin 32768) (j : Fin 3) (l : Fin 1024) :
    gates X Wg (ix3 R j l) = Ideal.logistic (∑ k : Fin 1024, X (ix2 R k) * Wg (ix2 (n0 := 1024) (n1 := 3072) k ⟨j.val * 1024 + l.val, by omega⟩)) := by
  unfold gates Ideal.logistic
  pointwise

theorem mixed_apply (S : FVec Ideal S32768x3x1024 .f32) (A : FVec Ideal S32768x384 .bf16) (B : FVec Ideal S32768x768 .bf16) (C : FVec Ideal S32768x512 .bf16)
    (Wa : FVec Ideal S384x1024 .bf16) (Wb : FVec Ideal S768x1024 .bf16) (Wc : FVec Ideal S512x1024 .bf16) (R : Fin 32768) (l : Fin 1024) :
    mixed S A B C Wa Wb Wc (ix2 R l) = S (ix3 R (0 : Fin 3) l) * (∑ k : Fin 384, A (ix2 R k) * Wa (ix2 k l)) + S (ix3 R (1 : Fin 3) l) * (∑ k : Fin 768, B (ix2 R k) * Wb (ix2 k l))
      + S (ix3 R (2 : Fin 3) l) * (∑ k : Fin 512, C (ix2 R k) * Wc (ix2 k l)) := by
  unfold mixed
  pointwise

theorem resid_apply (X U : FVec Ideal S32768x1024 .f32) (Wo : FVec Ideal S1024x1024 .bf16) (R : Fin 32768) (l : Fin 1024) :
    resid X U Wo (ix2 R l) = res (fun k => X (ix2 R k)) (fun k => U (ix2 R k)) (fun k l => Wo (ix2 k l)) l := by
  unfold resid res
  pointwise

theorem means_apply (Y : FVec Ideal S32768x1024 .f32) (R : Fin 32768) (z : Fin 1) :
    means Y (ix2 R z) = mean (fun k => Y (ix2 R k)) := by
  unfold means mean
  pointwise

theorem centred_apply (Y : FVec Ideal S32768x1024 .f32) (R : Fin 32768) (l : Fin 1024) :
    centred Y (ix2 R l) = Y (ix2 R l) - mean (fun k => Y (ix2 R k)) := by
  rw [← means_apply Y R 0]
  unfold centred
  pointwise

theorem normed_apply (Y : FVec Ideal S32768x1024 .f32) (G B : FVec Ideal S1x1024 .f32) (R : Fin 32768) (l : Fin 1024) :
    normed Y G B (ix2 R l) = layerNorm (fun k => Y (ix2 R k)) (fun l => G (ix2 0 l)) (fun l => B (ix2 0 l)) l := by
  have h : normed Y G B (ix2 R l) = centred Y (ix2 R l) * Ideal.rsqrt (means (mulf (centred Y) (centred Y)) (ix2 R (0 : Fin 1))
      + Ideal.ofBits .f32 0x3727C5AC#32) * G (ix2 (0 : Fin 1) l) + B (ix2 (0 : Fin 1) l) := by
    unfold normed
    pointwise
  have hs : ∀ k : Fin 1024, mulf (centred Y) (centred Y) (ix2 R k) = centred Y (ix2 R k) * centred Y (ix2 R k) := fun _ => rfl
  rw [h, means_apply]
  simp only [hs, centred_apply]
  rfl

theorem logits_apply (Y : FVec Ideal S32768x1024 .f32) (W V : FVec Ideal S1024x128 .bf16) (B : FVec Ideal S1x128 .f32) (R : Fin 32768) (l : Fin 128) :
    logits Y W V B (ix2 R l) = logit (fun k => Y (ix2 R k)) (fun k l => W (ix2 k l)) (fun k l => V (ix2 k l)) (fun l => B (ix2 0 l)) l := by
  unfold logits logit
  pointwise

/-- The branches' sum of a row, from the arguments. -/
theorem mix_apply (X : FVec Ideal S32768x1024 .f32) (Wg : FVec Ideal S1024x3072 .bf16) (A : FVec Ideal S32768x384 .bf16) (B : FVec Ideal S32768x768 .bf16) (C : FVec Ideal S32768x512 .bf16)
    (Wa : FVec Ideal S384x1024 .bf16) (Wb : FVec Ideal S768x1024 .bf16) (Wc : FVec Ideal S512x1024 .bf16) (R : Fin 32768) (l : Fin 1024) :
    mixed (gates X Wg) A B C Wa Wb Wc (ix2 R l)
      = mix (fun k => X (ix2 R k)) (fun k => A (ix2 R k)) (fun k => B (ix2 R k)) (fun k => C (ix2 R k)) (fun k l => Wg (ix2 k l))
          (fun k l => Wa (ix2 k l)) (fun k l => Wb (ix2 k l)) (fun k l => Wc (ix2 k l)) l := by
  rw [mixed_apply]
  simp only [gates_apply]
  unfold mix
  simp

variable (m : (ℓ : Loc nD τ sig) → Buf (Elt Ideal) ℓ)

/-- The layer norm over the arguments in memory. -/
def x1 (c : Dev nD) : FVec Ideal S32768x1024 .f32 :=
  normed (resid (m ((c.tc : Thread nD τ).loc main_arg0)) (mixed (gates (m ((c.tc : Thread nD τ).loc main_arg0)) (m ((c.tc : Thread nD τ).loc main_arg4))) (m ((c.tc : Thread nD τ).loc main_arg1)) (m ((c.tc : Thread nD τ).loc main_arg2))
    (m ((c.tc : Thread nD τ).loc main_arg3)) (m ((c.tc : Thread nD τ).loc main_arg5)) (m ((c.tc : Thread nD τ).loc main_arg6)) (m ((c.tc : Thread nD τ).loc main_arg7))) (m ((c.tc : Thread nD τ).loc main_arg8)))
    (m ((c.tc : Thread nD τ).loc main_arg9)) (m ((c.tc : Thread nD τ).loc main_arg10))

/-- The first result is the layer norm. -/
theorem res0 (c : Dev nD) : Value.res_main_v55 m c = x1 m c := rfl

/-- The second result is the layer norm in its narrow format. -/
theorem res1 (c : Dev nD) : Value.res_main_v62 m c = truncf .bf16 (x1 m c) bitsLt_bf16_f32 := rfl

/-- The third result is the router's logits. -/
theorem res2 (c : Dev nD) : Value.res_main_v61 m c = logits (x1 m c) (m ((c.tc : Thread nD τ).loc main_arg11)) (m ((c.tc : Thread nD τ).loc main_arg12)) (m ((c.tc : Thread nD τ).loc main_arg13)) := rfl

end Cert.MergeRefIdeal.Hand

end
-- ==== Proof.MergeInputs.lean ====
/-
  What the merge's precondition says of the arguments: every array but the router's bias holds reals.
-/
module

public import proofs.«01_k».proof.Proof.InputsOk

@[expose] public section

set_option maxRecDepth 16384

noncomputable section

open Idealize.ShloMosaic Idealize.ShloMosaic.TcCoe Idealize.SL.Sem

namespace Cert.Pre_merge_inputs_ok

open Cert.Attention Facts

/-- What the precondition of the merge's claim says. -/
theorem decode [Facts] (a0 : FVec Ideal S32768x1024 .f32) (a1 : FVec Ideal S32768x384 .bf16) (a2 : FVec Ideal S32768x768 .bf16)
    (a3 : FVec Ideal S32768x512 .bf16) (a4 : FVec Ideal S1024x3072 .bf16) (a5 : FVec Ideal S384x1024 .bf16) (a6 : FVec Ideal S768x1024 .bf16)
    (a7 : FVec Ideal S512x1024 .bf16) (a8 : FVec Ideal S1024x1024 .bf16) (a9 a10 : FVec Ideal S1x1024 .f32)
    (a11 a12 : FVec Ideal S1024x128 .bf16) (a13 : FVec Ideal S1x128 .f32)
    (h : fn (F := Ideal) a0 a1 a2 a3 a4 a5 a6 a7 a8 a9 a10 a11 a12 a13 = fun _ => 1#1) :
    (Finite a0 ∧ Finite a1 ∧ Finite a2 ∧ Finite a3) ∧ (Finite a4 ∧ Finite a5 ∧ Finite a6 ∧ Finite a7) ∧ Finite a8
      ∧ (Finite a9 ∧ Finite a10) ∧ Finite a11 ∧ Finite a12 := by
  have h0 := congrFun h ix0
  unfold fn fn_part1 fn_part2 fn_part3 fn_part4 at h0
  obtain ⟨h0, q12⟩ := and_split h0
  obtain ⟨h0, q11⟩ := and_split h0
  obtain ⟨h0, q10⟩ := and_split h0
  obtain ⟨h0, q9⟩ := and_split h0
  obtain ⟨h0, q8⟩ := and_split h0
  obtain ⟨h0, q7⟩ := and_split h0
  obtain ⟨h0, q6⟩ := and_split h0
  obtain ⟨h0, q5⟩ := and_split h0
  obtain ⟨h0, q4⟩ := and_split h0
  obtain ⟨h0, q3⟩ := and_split h0
  obtain ⟨h0, q2⟩ := and_split h0
  obtain ⟨q0, q1⟩ := and_split h0
  refine ⟨⟨?_, ?_, ?_, ?_⟩, ⟨?_, ?_, ?_, ?_⟩, ?_, ⟨?_, ?_⟩, ?_, ?_⟩
  · exact fun i => real_of_abs_lt _ (posInf ▸ Host.reduce_andi_all _ _ _ _ _ q0 i)
  · exact fun i => real_of_abs_lt _ (posInf ▸ Host.reduce_andi_all _ _ _ _ _ q1 i)
  · exact fun i => real_of_abs_lt _ (posInf ▸ Host.reduce_andi_all _ _ _ _ _ q2 i)
  · exact fun i => real_of_abs_lt _ (posInf ▸ Host.reduce_andi_all _ _ _ _ _ q3 i)
  · exact fun i => real_of_abs_lt _ (posInf ▸ Host.reduce_andi_all _ _ _ _ _ q4 i)
  · exact fun i => real_of_abs_lt _ (posInf ▸ Host.reduce_andi_all _ _ _ _ _ q5 i)
  · exact fun i => real_of_abs_lt _ (posInf ▸ Host.reduce_andi_all _ _ _ _ _ q6 i)
  · exact fun i => real_of_abs_lt _ (posInf ▸ Host.reduce_andi_all _ _ _ _ _ q7 i)
  · exact fun i => real_of_abs_lt _ (posInf ▸ Host.reduce_andi_all _ _ _ _ _ q8 i)
  · exact fun i => real_of_abs_lt _ (posInf ▸ Host.reduce_andi_all _ _ _ _ _ q9 i)
  · exact fun i => real_of_abs_lt _ (posInf ▸ Host.reduce_andi_all _ _ _ _ _ q10 i)
  · exact fun i => real_of_abs_lt _ (posInf ▸ Host.reduce_andi_all _ _ _ _ _ q11 i)
  · exact fun i => real_of_abs_lt _ (posInf ▸ Host.reduce_andi_all _ _ _ _ _ q12 i)

end Cert.Pre_merge_inputs_ok

end
-- ==== Proof.MergeClaim.lean ====
/-
  The claims of the merge kernel.
-/
module

public import proofs.«01_k».proof.Proof.MergeValue
public import proofs.«01_k».proof.Proof.MergeRef
public import proofs.«01_k».proof.Proof.MergeInputs
public import proofs.«01_k».proof.Proof.Gen.Pre_merge_inputs_ok
public import Idealize.ShloMosaic.Lib.Quiescent

@[expose] public section

noncomputable section

open Idealize.ShloMosaic Idealize.ShloMosaic.TcCoe Idealize.SL.Sem

namespace Cert.MergeProof

open Cert.MergeRow

/-- The reference runs, leaves its arguments and every semaphore as they were. -/
theorem frame_ref : Cert.quiescent_MergeRefIdeal := fun m ρ _ =>
  (θ_run Cert.MergeRefIdeal.defs _ _).mono (fun r h => ⟨fun c => (h c).2.2.2,
      Idealize.ShloMosaic.sem_eq_zero_of_no_sems (by decide) r.2⟩)
    (Cert.MergeRefIdeal.Value.run (F := Ideal) m ρ)

/-- The same under the precondition. -/
theorem frame_ref_pre : Cert.quiescent_MergeRefIdeal_pre_merge_inputs_ok := fun m ρ _ => frame_ref m ρ trivial

/-- Where the arguments agree, the reference's layer norm holds the kernel's rows. -/
theorem x1_eq (m : (ℓ : Loc Cert.MergeIdeal.nD Cert.MergeIdeal.τ Cert.MergeIdeal.sig) → Buf (Elt Ideal) ℓ)
    (m' : (ℓ : Loc Cert.MergeRefIdeal.nD Cert.MergeRefIdeal.τ Cert.MergeRefIdeal.sig) → Buf (Elt Ideal) ℓ) (c : Dev Cert.MergeIdeal.nD)
    (h0 : m' (c.tc.loc Cert.MergeRefIdeal.main_arg0) = m (c.tc.loc Cert.MergeIdeal.main_arg0))
    (h1 : m' (c.tc.loc Cert.MergeRefIdeal.main_arg1) = m (c.tc.loc Cert.MergeIdeal.main_arg1))
    (h2 : m' (c.tc.loc Cert.MergeRefIdeal.main_arg2) = m (c.tc.loc Cert.MergeIdeal.main_arg2))
    (h3 : m' (c.tc.loc Cert.MergeRefIdeal.main_arg3) = m (c.tc.loc Cert.MergeIdeal.main_arg3))
    (h4 : m' (c.tc.loc Cert.MergeRefIdeal.main_arg4) = m (c.tc.loc Cert.MergeIdeal.main_arg4))
    (h5 : m' (c.tc.loc Cert.MergeRefIdeal.main_arg5) = m (c.tc.loc Cert.MergeIdeal.main_arg5))
    (h6 : m' (c.tc.loc Cert.MergeRefIdeal.main_arg6) = m (c.tc.loc Cert.MergeIdeal.main_arg6))
    (h7 : m' (c.tc.loc Cert.MergeRefIdeal.main_arg7) = m (c.tc.loc Cert.MergeIdeal.main_arg7))
    (h8 : m' (c.tc.loc Cert.MergeRefIdeal.main_arg8) = m (c.tc.loc Cert.MergeIdeal.main_arg8))
    (h9 : m' (c.tc.loc Cert.MergeRefIdeal.main_arg9) = m (c.tc.loc Cert.MergeIdeal.main_arg9))
    (h10 : m' (c.tc.loc Cert.MergeRefIdeal.main_arg10) = m (c.tc.loc Cert.MergeIdeal.main_arg10))
    (R : Fin 32768) (l : Fin 1024) : Cert.MergeRefIdeal.Hand.x1 m' c (ix2 R l) = Cert.MergeIdeal.Hand.rowOf m c R l := by
  unfold Cert.MergeRefIdeal.Hand.x1
  rw [h0, h1, h2, h3, h4, h5, h6, h7, h8, h9, h10, Cert.MergeRefIdeal.Hand.normed_apply]
  simp only [Cert.MergeRefIdeal.Hand.resid_apply, Cert.MergeRefIdeal.Hand.mix_apply]
  rfl

/-- Kernel and reference end with equal results: the layer norm in both formats, and the router's logits. -/
theorem algebraic : Cert.algebraic_MergeIdeal_MergeRefIdeal_pre_merge_inputs_ok := by
  intro m ρ m' ρ' hpre hagree
  refine ⟨_, _, _, Cert.MergeIdeal.Value.run_blocks (F := Ideal) m ρ, ?_⟩
  refine (θ_run _ _ _).mono (fun _ h c => ⟨(h c).1.trans ?_, (h c).2.1.trans ?_, (h c).2.2.1.trans ?_, (h c).2.2.2⟩)
    (Cert.MergeRefIdeal.Value.run (F := Ideal) m' ρ')
  all_goals
    obtain ⟨⟨f0, f1, f2, f3⟩, ⟨f4, f5, f6, f7⟩, f8, ⟨f9, f10⟩, f11, f12⟩ := Cert.Pre_merge_inputs_ok.decode _ _ _ _ _ _ _ _ _ _ _ _ _ _ (hpre c)
    obtain ⟨h0, h1, h2, h3, h4, h5, h6, h7, h8, h9, h10, h11, h12, h13⟩ := hagree c
    have hx := x1_eq m m' c h0 h1 h2 h3 h4 h5 h6 h7 h8 h9 h10
  · rw [Cert.MergeIdeal.Hand.final14 m c]
    refine (Cert.MergeRefIdeal.Hand.res0 m' c).trans ?_
    funext i
    obtain ⟨R, l, rfl⟩ : ∃ (R : Fin 32768) (l : Fin 1024), i = ix2 R l := ⟨i 0, i 1, ValueIdx.eq_ix2 i⟩
    exact hx R l
  · rw [Cert.MergeIdeal.Hand.final15 m c]
    refine (Cert.MergeRefIdeal.Hand.res1 m' c).trans ?_
    funext i
    obtain ⟨R, l, rfl⟩ : ∃ (R : Fin 32768) (l : Fin 1024), i = ix2 R l := ⟨i 0, i 1, ValueIdx.eq_ix2 i⟩
    exact hx R l
  · have hy : ∀ R k, IsReal (Cert.MergeIdeal.Hand.rowOf m c R k) := fun R k =>
      layerNorm_real (res_real (fun _ => f0 _) (mix_real (fun _ => f0 _) (fun _ => f1 _) (fun _ => f2 _) (fun _ => f3 _)
        (fun _ _ => f4 _) (fun _ _ => f5 _) (fun _ _ => f6 _) (fun _ _ => f7 _)) (fun _ _ => f8 _)) (fun _ => f9 _) (fun _ => f10 _) k
    rw [Cert.MergeIdeal.Hand.final16 m c hy (fun _ _ => f11 _) (fun _ _ => f12 _)]
    refine (Cert.MergeRefIdeal.Hand.res2 m' c).trans ?_
    rw [h11, h12, h13]
    funext i
    obtain ⟨R, l, rfl⟩ : ∃ (R : Fin 32768) (l : Fin 128), i = ix2 R l := ⟨i 0, i 1, ValueIdx.eq_ix2 i⟩
    rw [Cert.MergeRefIdeal.Hand.logits_apply]
    simp only [hx]
    rfl

end Cert.MergeProof

end
-- ==== Proof.MoeRow.lean ====
/-
  One row of an expert, as arithmetic: two products with a clipped, gated unit between them. And the look-up of one block
  of a table of blocks.
-/
module

public import proofs.«01_k».proof.Proof.OnlineSoftmax
public import Idealize.ShloMosaic.Lib.Pipeline.ValueKit

@[expose] public section

noncomputable section

open Idealize.ShloMosaic

namespace Cert.MoeRow

/-- The first product of a row, with its bias. -/
def hid (x : Fin 1024 → EReal) (w : Fin 1024 → Fin 2048 → EReal) (b : Fin 2048 → EReal) (j : Fin 2048) : EReal :=
  (∑ k : Fin 1024, x k * w k j) + b j

/-- The clipped, gated unit. -/
def act (g u : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) u) + Ideal.ofBits .f32 0x3F800000#32)

/-- One row of an expert. -/
def row (x : Fin 1024 → EReal) (w : Fin 1024 → Fin 2048 → EReal) (b : Fin 2048 → EReal) (d : Fin 1024 → Fin 1024 → EReal)
    (e : Fin 1024 → EReal) (l : Fin 1024) : EReal :=
  (∑ f : Fin 1024, act (hid x w b ⟨f.val, by omega⟩) (hid x w b ⟨1024 + f.val, by omega⟩) * d f l) + e l

section Look
variable {α : Type}

/-- The dimension numbers of a look-up of whole blocks: from `N` blocks of `A` rows and `B` columns, one for each of `M`
    indices. -/
abbrev lookDims (N A B M : ℕ) (wf : GatherDims.WF ⟨3, ![N, A, B]⟩ ⟨2, ![M, 1]⟩ ⟨3, ![M, A, B]⟩ [1, 2] [0] [] [0] [] 1 ![1, A, B]) :
    GatherDims ⟨3, ![N, A, B]⟩ ⟨2, ![M, 1]⟩ ⟨3, ![M, A, B]⟩ where
  offsetDims := [1, 2]
  collapsedSliceDims := [0]
  operandBatchingDims := []
  startIndicesBatchingDims := []
  startIndexMap := [0]
  indexVectorDim := 1
  sliceSizes := ![1, A, B]
  wf := wf

/-- A look-up whose index is in range reads that block. -/
theorem look_apply {N A B M : ℕ} (wf : GatherDims.WF ⟨3, ![N, A, B]⟩ ⟨2, ![M, 1]⟩ ⟨3, ![M, A, B]⟩ [1, 2] [0] [] [0] [] 1 ![1, A, B])
    (x : (⟨3, ![N, A, B]⟩ : Shape).Idx → α) (idx : IVec ⟨2, ![M, 1]⟩ 32) (p : Fin M) (a : Fin A) (b : Fin B) (e : Fin N)
    (he : (idx (ix2 p (0 : Fin 1))).toInt.toNat = e.val) :
    Host.gather (lookDims N A B M wf) x idx (ix3 p a b) = x (ix3 e a b) := by
  unfold Host.gather
  congr 1
  funext q
  refine Fin.ext ?_
  show (lookDims N A B M wf).start (ix3 p a b) idx q + (lookDims N A B M wf).batchCoord (ix3 p a b) q
      + (lookDims N A B M wf).offCoord (ix3 p a b) q = _
  rw [GatherDims.batchCoord_eq_zero _ _ _ List.not_mem_nil, Nat.add_zero]
  have h3 : q = 0 ∨ q = 1 ∨ q = 2 := by
    match q with
    | ⟨0, _⟩ => exact .inl rfl
    | ⟨1, _⟩ => exact .inr (.inl rfl)
    | ⟨2, _⟩ => exact .inr (.inr rfl)
  rcases h3 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (lookDims N A B M wf).startIndexMap from List.mem_singleton.mpr rfl)]
    have hsi : (lookDims N A B M wf).siIdx (ix3 p a b) ⟨List.idxOf (0 : Fin 3) (lookDims N A B M wf).startIndexMap,
        List.idxOf_lt_length_iff.2 (List.mem_singleton.mpr rfl)⟩ = ix2 p (0 : Fin 1) := by
      funext r; refine Fin.ext ?_
      match r with
      | ⟨0, _⟩ => rfl
      | ⟨1, _⟩ => rfl
    rw [hsi, he]
    show min e.val (N - 1) = e.val
    have := e.isLt
    omega
  · unfold GatherDims.start
    rw [dif_neg (show ¬ (1 : Fin 3) ∈ (lookDims N A B M wf).startIndexMap from by simp), Nat.zero_add]
    rfl
  · unfold GatherDims.start
    rw [dif_neg (show ¬ (2 : Fin 3) ∈ (lookDims N A B M wf).startIndexMap from by simp), Nat.zero_add]
    rfl

end Look

end Cert.MoeRow

end
-- ==== Proof.MoeIdealRun.lean ====
/-
  The experts' kernel at one grid point, on any staging buffers: a point below the count of active blocks stores the
  feed-forward of its block, any other point stores nothing.
-/
module

public import proofs.«01_k».proof.Proof.Gen.MoeIdeal.Skeleton
public import Idealize.ShloMosaic.Lib.Pipeline.TableIdle
public import Idealize.ShloMosaic.Lib.Pipeline.FrameBody
public import Idealize.ShloMosaic.Lib.Ring
public import Idealize.ShloMosaic.Lib.Claim

@[expose] public section

set_option maxRecDepth 16384

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The whole block of each staging buffer. -/
abbrev rX : Rect S512x1024 := Rect.unit (s := S512x1024) ![0, 0] S512x1024.size inb_S512x1024_S512x1024_0_0
abbrev rGu : Rect S1x1024x2048 := Rect.unit (s := S1x1024x2048) ![0, 0, 0] S1x1024x2048.size inb_S1x1024x2048_S1x1024x2048_0_0_0
abbrev rBgu : Rect S1x1x2048 := Rect.unit (s := S1x1x2048) ![0, 0, 0] S1x1x2048.size inb_S1x1x2048_S1x1x2048_0_0_0
abbrev rD : Rect S1x1024x1024 := Rect.unit (s := S1x1024x1024) ![0, 0, 0] S1x1024x1024.size inb_S1x1024x1024_S1x1024x1024_0_0_0
abbrev rBd : Rect S1x1x1024 := Rect.unit (s := S1x1x1024) ![0, 0, 0] S1x1x1024.size inb_S1x1x1024_S1x1x1024_0_0_0

/-- The two tables as the body is handed them. -/
abbrev tb0 : Memref sig .tc .smem S288 .i32 := Memref.whole main_arg0
abbrev tb1 : Memref sig .tc .smem S1 .i32 := Memref.whole main_arg1

/-- The body's half of a table, at contents `f`. -/
abbrev half (c : Dev nD) {S : Shape} {e : EltTy} (M : Memref sig .tc .smem S e) (f : Buf (Elt F) (M.view.loc (c : Thread nD τ))) : sProp 𝕄 :=
  M.view.loc (c : Thread nD τ) ↦{fullShare.right} f

/-- The block an active point stores, from the blocks it reads. -/
def ffn (x0 : Vec F S512x1024 .bf16) (x1 : Vec F S1x1024x2048 .bf16) (x2 : Vec F S1x1x2048 .f32) (x3 : Vec F S1x1024x1024 .bf16)
    (x4 : Vec F S1x1x1024 .f32) : Vec F S512x1024 .f32 :=
  View.canon [⟨rX, k0_pay1 (View.ld x0 rX) (View.ld x1 rGu) (View.ld x2 rBgu) (View.ld x3 rD) (View.ld x4 rBd)⟩]

/-- The count of active blocks, as the body loads it. -/
abbrev word (c : Dev nD) (T1 : Buf (Elt F) (tb1.view.loc (c : Thread nD τ))) : BitVec 32 :=
  View.readAt (Elt F) (tb1).view (Rect.unit (s := S1) ![0] S1.size inb_S1_S1_0).toLoadRect T1 (Shape.Idx.first (numel1_S1.symm ▸ Nat.one_pos))

section
variable (c : Dev nD) (i : grid0.Coords)
    (a3 : Memref sig .tc .vmem S512x1024 .bf16) (h3 : a3.IsWhole) (a4 : Memref sig .tc .vmem S1x1024x2048 .bf16) (h4 : a4.IsWhole)
    (a5 : Memref sig .tc .vmem S1x1x2048 .f32) (h5 : a5.IsWhole) (a6 : Memref sig .tc .vmem S1x1024x1024 .bf16) (h6 : a6.IsWhole)
    (a7 : Memref sig .tc .vmem S1x1x1024 .f32) (h7 : a7.IsWhole) (a8 : Memref sig .tc .vmem S512x1024 .f32) (h8 : a8.IsWhole)
    (x0 : Vec F S512x1024 .bf16) (x1 : Vec F S1x1024x2048 .bf16) (x2 : Vec F S1x1x2048 .f32) (x3 : Vec F S1x1024x1024 .bf16)
    (x4 : Vec F S1x1x1024 .f32)
    (T0 : Buf (Elt F) (tb0.view.loc (c : Thread nD τ))) (T1 : Buf (Elt F) (tb1.view.loc (c : Thread nD τ)))

set_option maxHeartbeats 8000000 in
/-- An active point: the inputs and the tables stay, the output's buffer holds the block's feed-forward. -/
theorem run_active (hc : k0_cond1 i (word c T1) = 1#1) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ half c tb0 T0 ∗ half c tb1 T1
        ∗ (∃ d, owns (c : Thread nD τ) a8 fullShare d)
        ∗ (iprop(owns (c : Thread nD τ) a3 fullShare x0 ∗ owns (c : Thread nD τ) a4 fullShare x1 ∗ owns (c : Thread nD τ) a5 fullShare x2
          ∗ owns (c : Thread nD τ) a6 fullShare x3 ∗ owns (c : Thread nD τ) a7 fullShare x4 ∗ half c tb0 T0 ∗ half c tb1 T1
          ∗ owns (c : Thread nD τ) a8 fullShare (ffn x0 x1 x2 x3 x4)) -∗ K ⟨⟩))
      ⊢ wp frame (wpE (defs₀ (F := F)) Variants.none c none) Set.univ
          (cc0_moe_ffn i tb0 (Memref.isWhole_whole _) tb1 (Memref.isWhole_whole _) a3 h3 a4 h4 a5 h5 a6 h6 a7 h7 a8 h8) K := by
  rw [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%f4, %hf4, H4⟩, HT0, HT1, ⟨%d5, %f5, -, H5⟩, Hk⟩
  subst hf0 hf1 hf2 hf3 hf4
  have hT0 : tb0.IsWhole := Memref.isWhole_whole _
  have hT1 : tb1.IsWhole := Memref.isWhole_whole _
  sl_exec! (disch := first | (guard_target = k0_cond1 _ _ = _; exact hc))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HT0]; · iexact HT0
  isplitl [HT1]; · iexact HT1
  iexists _; isplitr
  swap; · iexact H5
  ipureintro
  exact View.read_writes_eq_canon _ _ _ (View.cover_of_tiledL _ S512x1024.size (by sl_kernel_rfl))

set_option maxHeartbeats 8000000 in
/-- Any other point: every buffer and table stays. -/
theorem run_idle (hc : ¬ k0_cond1 i (word c T1) = 1#1) (y : Vec F S512x1024 .f32) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ half c tb0 T0 ∗ half c tb1 T1
        ∗ owns (c : Thread nD τ) a8 fullShare y
        ∗ (iprop(owns (c : Thread nD τ) a3 fullShare x0 ∗ owns (c : Thread nD τ) a4 fullShare x1 ∗ owns (c : Thread nD τ) a5 fullShare x2
          ∗ owns (c : Thread nD τ) a6 fullShare x3 ∗ owns (c : Thread nD τ) a7 fullShare x4 ∗ half c tb0 T0 ∗ half c tb1 T1
          ∗ owns (c : Thread nD τ) a8 fullShare y) -∗ K ⟨⟩))
      ⊢ wp frame (wpE (defs₀ (F := F)) Variants.none c none) Set.univ
          (cc0_moe_ffn i tb0 (Memref.isWhole_whole _) tb1 (Memref.isWhole_whole _) a3 h3 a4 h4 a5 h5 a6 h6 a7 h7 a8 h8) K := by
  rw [cc0_moe_ffn_eq_skeleton]; unfold cc0_moe_ffn_skel
  iintro ⟨H0, H1, H2, H3, H4, HT0, HT1, H5, Hk⟩
  have hT0 : tb0.IsWhole := Memref.isWhole_whole _
  have hT1 : tb1.IsWhole := Memref.isWhole_whole _
  sl_exec! (disch := first | (guard_target = ¬(k0_cond1 _ _ = _); exact hc))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  iexact H5

end

end Cert.MoeIdeal.Hand

end
-- ==== Proof.MoeIdealSched.lean ====
/-
  The experts' kernel's schedule, read off its two tables: which row block and which expert a grid point is given, where
  the body stores, and where the result's block is written back.
-/
module

public import proofs.«01_k».proof.Proof.MoeIdealRun
public import proofs.«01_k».proof.Proof.Gen.MoeIdeal.Launch
public import Idealize.ShloMosaic.Lib.WordCmp
public import Idealize.ShloMosaic.Lib.WordArith
public import Idealize.ShloMosaic.Lib.Affine

@[expose] public section

set_option maxRecDepth 16384

noncomputable section

namespace Cert.MoeIdeal.Hand

open Cert.MoeIdeal Cert.MoeIdeal.Gen
open Idealize.ShloMosaic Idealize.ShloMosaic.TcCoe
open Idealize.SL Idealize.SL.Sem

variable {F : FTy → Type} [FloatOps F]

/-- The word that counts the active blocks. -/
def count (pf : pre0.Contents (Elt F)) : BitVec 32 :=
  pf.at 1 (Rect.unit (s := S1) ![0] S1.size inb_S1_S1_0) numel1_S1

/-- The word that names a grid point's expert. -/
def expert (pf : pre0.Contents (Elt F)) (i : grid0.Coords) : BitVec 32 :=
  pf.at 0 (Rect.unit (s := S288) (k0_off1 i) S1.size (k0_off1_inb i)) numel1_S1

/-- The tables are in range: at least one block and at most 288 are active, and every expert is one of the 32. -/
structure Good (pf : pre0.Contents (Elt F)) : Prop where
  pos : 1 ≤ (count pf).toNat
  le : (count pf).toNat ≤ 288
  expert_lt : ∀ i, (expert pf i).toNat < 32

/-- The body stores exactly where the grid point is below the count. -/
theorem cond_iff (i : grid0.Coords) (w : BitVec 32) (h : w.toNat ≤ 288) : k0_cond1 i w = 1#1 ↔ (i 0).val < w.toNat := by
  obtain ⟨n, hn, rfl⟩ : ∃ n, n ≤ 288 ∧ w = BitVec.ofNat 32 n := ⟨w.toNat, h, by simp⟩
  have hi : (i 0).val < 288 := (i 0).isLt
  have e : (BitVec.ofNat 32 n).toNat = n := WordCmp.toNat_ofNat_of_lt (by omega)
  rw [e]
  unfold k0_cond1
  simp only [Scalar.cmpi, Scalar.extui]
  simp (disch := omega) only [hlo_ix]
  by_cases hlt : (i 0).val < n <;> simp [hlt]

/-- The row block of a grid point: its own below the count, the last active one beyond. -/
theorem row_word (i : grid0.Coords) (w : BitVec 32) (h1 : 1 ≤ w.toNat) (h : w.toNat ≤ 288) :
    (Scalar.minsi (BitVec.ofNat 32 (i 0).val) (Scalar.subi w 1#32)).toNat = min (i 0).val (w.toNat - 1) := by
  have hi : (i 0).val < 288 := (i 0).isLt
  have e : (Scalar.subi w 1#32).toNat = w.toNat - 1 := by
    show (w - 1#32).toNat = _
    rw [BitVec.toNat_sub]
    simp only [BitVec.toNat_ofNat]
    omega
  have e' : (BitVec.ofNat 32 (i 0).val).toNat = (i 0).val := WordCmp.toNat_ofNat_of_lt (by omega)
  refine (WordArith.toNat_minsi_of_lt _ _ (by omega) (by omega)).trans ?_
  rw [e, e']

variable {pf : pre0.Contents (Elt F)}

/-- The activations' and the result's row block. -/
theorem index_x (hg : Good pf) (i : grid0.Coords) :
    cc0_transform_0 inb_S1_S1_0 numel1_S1 pf i = ![min (i 0).val ((count pf).toNat - 1), 0] := by
  unfold cc0_transform_0
  rw [← row_word i (count pf) hg.pos hg.le]
  rfl

theorem index_y (hg : Good pf) (i : grid0.Coords) :
    cc0_transform_5 inb_S1_S1_0 numel1_S1 pf i = ![min (i 0).val ((count pf).toNat - 1), 0] := by
  unfold cc0_transform_5
  rw [← row_word i (count pf) hg.pos hg.le]
  rfl

/-- The weights' and the biases' blocks: the grid point's expert. -/
theorem index_gu (i : grid0.Coords) : cc0_transform_1 k0_off1_inb numel1_S1 pf i = ![(expert pf i).toNat, 0, 0] := rfl
theorem index_bgu (i : grid0.Coords) : cc0_transform_2 k0_off1_inb numel1_S1 pf i = ![(expert pf i).toNat, 0, 0] := rfl
theorem index_d (i : grid0.Coords) : cc0_transform_3 k0_off1_inb numel1_S1 pf i = ![(expert pf i).toNat, 0, 0] := rfl
theorem index_bd (i : grid0.Coords) : cc0_transform_4 k0_off1_inb numel1_S1 pf i = ![(expert pf i).toNat, 0, 0] := rfl

/-- Every block lies inside its array, and its transfers move whole words. -/
theorem ok_of_good (hg : Good pf) : ok0 pf := by
  have hx : ∀ (i : grid0.Coords) (a : Fin 2), ((![min (i 0).val ((count pf).toNat - 1), 0] : Fin 2 → ℕ) a + 1) * S512x1024.size a ≤ S147456x1024.size a := by
    intro i a
    have h := hg.le
    have hp := hg.pos
    have hi : (i 0).val < 288 := (i 0).isLt
    match a with
    | ⟨0, _⟩ => show (min (i 0).val ((count pf).toNat - 1) + 1) * 512 ≤ 147456; omega
    | ⟨1, _⟩ => show (0 + 1) * 1024 ≤ 1024; omega
  refine ⟨fun i => ⟨?_, ?_⟩, fun i => ⟨?_, ?_⟩, fun i => ⟨?_, .inl rfl⟩, fun i => ⟨?_, ?_⟩, fun i => ⟨?_, .inl rfl⟩, fun i => ⟨?_, .inl rfl⟩⟩
  · intro a; rw [index_x hg]; exact hx i a
  · exact .inr (Affine.block_words_dvd (s := S147456x1024) (p := EltTy.packing .bf16) (by decide) (by decide))
  · intro a; rw [index_gu]
    have h := hg.expert_lt i
    match a with
    | ⟨0, _⟩ => show ((expert pf i).toNat + 1) * 1 ≤ 32; omega
    | ⟨1, _⟩ => show (0 + 1) * 1024 ≤ 1024; omega
    | ⟨2, _⟩ => show (0 + 1) * 2048 ≤ 2048; omega
  · exact .inr (Affine.block_words_dvd (s := S32x1024x2048) (p := EltTy.packing .bf16) (by decide) (by decide))
  · intro a; rw [index_bgu]
    have h := hg.expert_lt i
    match a with
    | ⟨0, _⟩ => show ((expert pf i).toNat + 1) * 1 ≤ 32; omega
    | ⟨1, _⟩ => show (0 + 1) * 1 ≤ 1; omega
    | ⟨2, _⟩ => show (0 + 1) * 2048 ≤ 2048; omega
  · intro a; rw [index_d]
    have h := hg.expert_lt i
    match a with
    | ⟨0, _⟩ => show ((expert pf i).toNat + 1) * 1 ≤ 32; omega
    | ⟨1, _⟩ => show (0 + 1) * 1024 ≤ 1024; omega
    | ⟨2, _⟩ => show (0 + 1) * 1024 ≤ 1024; omega
  · exact .inr (Affine.block_words_dvd (s := S32x1024x1024) (p := EltTy.packing .bf16) (by decide) (by decide))
  · intro a; rw [index_bd]
    have h := hg.expert_lt i
    match a with
    | ⟨0, _⟩ => show ((expert pf i).toNat + 1) * 1 ≤ 32; omega
    | ⟨1, _⟩ => show (0 + 1) * 1 ≤ 1; omega
    | ⟨2, _⟩ => show (0 + 1) * 1024 ≤ 1024; omega
  · intro a; rw [index_y hg]; exact hx i a

/-- The one coordinate of a grid point is its number. -/
theorem coords_val : ∀ t : Fin grid0.N, ((grid0.coords t) 0).val = t.val := by decide +kernel

/-- The pipeline at tables in range. -/
abbrev cfgG (hg : Good pf) : Pipeline.Cfg sig Λ₀ := cfg0 (F := F) ⟨pf, ok_of_good hg⟩

theorem t_lt (t : Fin grid0.N) : t.val < 288 := lt_of_lt_of_eq t.isLt N_0

/-- The row block of grid point `t`. -/
theorem index5 (hg : Good pf) (t : Fin (cfgG hg).N) :
    ((cfgG hg).win 5).index t = ![min t.val ((count pf).toNat - 1), 0] :=
  (index_y hg (grid0.coords t)).trans (by rw [coords_val t])

/-- The body leaves the result's buffer alone exactly from the count on. -/
theorem idle_iff (hg : Good pf) (t : Fin (cfgG hg).N) :
    (cfgG hg).idle 5 ((cfgG hg).grid.coords t) = decide ((count pf).toNat ≤ t.val) := by
  have h : (cfgG hg).idle 5 ((cfgG hg).grid.coords t) = !(k0_cond1 (grid0.coords t) (count pf) == 1#1) := rfl
  rw [h]
  have e := cond_iff (grid0.coords t) (count pf) hg.le
  rw [coords_val t] at e
  by_cases hc : k0_cond1 (grid0.coords t) (count pf) = 1#1
  · rw [hc]
    have := e.1 hc
    simp; omega
  · have h1 : ¬ t.val < (count pf).toNat := fun hh => hc (e.2 hh)
    have h2 : (k0_cond1 (grid0.coords t) (count pf) == 1#1) = false := by simpa using hc
    rw [h2]
    simp; omega

/-- The result's block is written back after every active point but the last, and at the end. -/
theorem flush_iff (hg : Good pf) (t : Fin (cfgG hg).N) :
    ((cfgG hg).win 5).flush t = decide (t.val + 1 = 288 ∨ t.val + 1 < (count pf).toNat) := by
  have hle := hg.le
  have hp := hg.pos
  have ht := t_lt t
  have hN : (pcfg0.gridAt pf).N = 288 := N_0
  unfold Pipeline.Window.flush
  have ho : ((cfgG hg).win 5).isOut = true := rfl
  rw [ho, Bool.true_and, Bool.eq_iff_iff]
  simp only [Bool.or_eq_true, decide_eq_true_eq]
  constructor
  · rintro (h | ⟨h, hne⟩)
    · left; omega
    · right
      by_contra hc
      apply hne
      rw [index5, index5]
      have : min (t.val + 1) ((count pf).toNat - 1) = min t.val ((count pf).toNat - 1) := by omega
      show (![min (t.val + 1) ((count pf).toNat - 1), 0] : Fin 2 → ℕ) = _
      rw [this]
  · rintro (h | h)
    · left; omega
    · right
      refine ⟨by omega, fun he => ?_⟩
      rw [index5, index5] at he
      have h0 : min (t.val + 1) ((count pf).toNat - 1) = min t.val ((count pf).toNat - 1) := congrFun he 0
      omega

/-- The result's buffer holds nothing the body stored exactly at the active points. -/
theorem fresh_iff (hg : Good pf) (n : ℕ) (hn : n < 288) : (cfgG hg).fresh 5 n = decide (n < (count pf).toNat) := by
  have hle := hg.le
  have hp := hg.pos
  have hN : (cfgG hg).N = 288 := N_0
  induction n with
  | zero => rw [Pipeline.Cfg.fresh_zero]; simp; omega
  | succ n ih =>
    rw [Pipeline.Cfg.fresh_succ (cfgG hg) 5 n (by omega), flush_iff hg ⟨n, by omega⟩, idle_iff hg ⟨n, by omega⟩, ih (by omega)]
    rw [Bool.eq_iff_iff]
    simp only [Bool.or_eq_true, Bool.and_eq_true, decide_eq_true_eq]
    omega

end Cert.MoeIdeal.Hand

end
-- ==== Proof.MoeIdealFrame.lean ====
/-
  The experts' call as a whole: every execution from tables in range terminates, leaves the arguments, and ends with the
  result array at what the active points wrote.
-/
module

public import proofs.«01_k».proof.Proof.MoeIdealSched

@[expose] public section

set_option maxRecDepth 16384

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers where the call begins: as launched. -/
abbrev V (c : Dev nD) (b : Ref sig .tc) : Buf (Elt F) ((c : Thread nD τ).loc b) := m ((c : Thread nD τ).loc b)

set_option maxHeartbeats 800000 in
/-- The program is its one kernel call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables' contents. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

variable (hg : Good (tbl m))

/-- The tables as admissible contents, and the pipeline at them. -/
abbrev adm : (pcfg0 (F := F)).Adm := ⟨tbl m, ok_of_good hg⟩
abbrev cfgM : Pipeline.Cfg sig Λ₀ := cfg0 (adm m hg)

/-- The tables' halves, one by one. -/
theorem tables_eq (c : Dev nD) : (Pipeline.ΦT pre0 (tbl m) c : sProp 𝕄) = iprop(half c tb0 (tbl m 0) ∗ half c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The count the body loads is the table's. -/
theorem word_eq (c : Dev nD) : word c (tbl m 1) = count (tbl m) := rfl

/-- Window `w`'s block at point `t`, read off its array. -/
def iblk (c : Dev nD) (w : Fin (cfgM m hg).W) (t : Fin (cfgM m hg).N) : (((cfgM m hg).win w).xblock ((cfgM m hg).grid.coords t)).Idx → Elt F ((cfgM m hg).win w).elt :=
  (((cfgM m hg).win w).blk t).view.read (Elt F) (V m c (Pipeline.arrRef spec0 w))

/-- The last active point at or before `t`. -/
def cl (t : Fin (cfgM m hg).N) : Fin (cfgM m hg).N := ⟨min t.val ((count (tbl m)).toNat - 1), lt_of_le_of_lt (Nat.min_le_left _ _) t.isLt⟩

/-- The block that active point `t` stores. -/
def stored (c : Dev nD) (t : Fin (cfgM m hg).N) : Vec F S512x1024 .f32 :=
  ffn (iblk m hg c 0 t) (iblk m hg c 1 t) (iblk m hg c 2 t) (iblk m hg c 3 t) (iblk m hg c 4 t)

/-- The proof data: every input's buffer at its block, the result's at what the last active point stored. -/
def dats (_ : Fin 1) (c : Dev nD) : Dat τ (Elt F) Unit ℕ (UR sig nD τ) ℕ (cfgM m hg) c where
  A w := V m c (Pipeline.arrRef spec0 w)
  after w t := match w with
    | ⟨0, _⟩ => iblk m hg c 0 t
    | ⟨1, _⟩ => iblk m hg c 1 t
    | ⟨2, _⟩ => iblk m hg c 2 t
    | ⟨3, _⟩ => iblk m hg c 3 t
    | ⟨4, _⟩ => iblk m hg c 4 t
    | ⟨5, _⟩ => stored m hg c (cl m hg t)
  Φ _ := iprop(Pipeline.ΦA spec0 c ∗ Pipeline.ΦT pre0 (tbl m) c)
  q _ := fullShare
  owed _ := 0

theorem A_eq (c : Dev nD) (w : Fin (cfgM m hg).W) : (dats m hg 0 c).A w = V m c (Pipeline.arrRef spec0 w) := by
  dsimp only [dats]

theorem after_0 (c : Dev nD) (t : Fin (cfgM m hg).N) : (dats m hg 0 c).after 0 t = iblk m hg c 0 t := by dsimp only [dats]; try rfl
theorem after_1 (c : Dev nD) (t : Fin (cfgM m hg).N) : (dats m hg 0 c).after 1 t = iblk m hg c 1 t := by dsimp only [dats]; try rfl
theorem after_2 (c : Dev nD) (t : Fin (cfgM m hg).N) : (dats m hg 0 c).after 2 t = iblk m hg c 2 t := by dsimp only [dats]; try rfl
theorem after_3 (c : Dev nD) (t : Fin (cfgM m hg).N) : (dats m hg 0 c).after 3 t = iblk m hg c 3 t := by dsimp only [dats]; try rfl
theorem after_4 (c : Dev nD) (t : Fin (cfgM m hg).N) : (dats m hg 0 c).after 4 t = iblk m hg c 4 t := by dsimp only [dats]; try rfl
theorem after_5 (c : Dev nD) (t : Fin (cfgM m hg).N) : (dats m hg 0 c).after 5 t = stored m hg c (cl m hg t) := by dsimp only [dats]; try rfl

/-- Every input's buffer holds its block where the body runs, fetched at that point or before it. -/
theorem before_0 (c : Dev nD) (t : Fin (cfgM m hg).N) (d) : (dats m hg 0 c).before 0 t d = iblk m hg c 0 t :=
  ((dats m hg 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM m hg).N) (d) : (dats m hg 0 c).before 1 t d = iblk m hg c 1 t :=
  ((dats m hg 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgM m hg).N) (d) : (dats m hg 0 c).before 2 t d = iblk m hg c 2 t :=
  ((dats m hg 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgM m hg).N) (d) : (dats m hg 0 c).before 3 t d = iblk m hg c 3 t :=
  ((dats m hg 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfgM m hg).N) (d) : (dats m hg 0 c).before 4 t d = iblk m hg c 4 t :=
  ((dats m hg 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- Beyond the count the result's buffer holds what the last active point stored. -/
theorem before_5 (c : Dev nD) (t : Fin (cfgM m hg).N) (ht : (count (tbl m)).toNat ≤ t.val) (d) :
    (dats m hg 0 c).before 5 t d = stored m hg c (cl m hg t) := by
  have hp := hg.pos
  have hcl : ∀ t : Fin (cfgM m hg).N, (count (tbl m)).toNat ≤ t.val → cl m hg ⟨t.val - 1, lt_of_le_of_lt (Nat.sub_le _ _) t.isLt⟩ = cl m hg t := by
    intro t ht
    unfold cl
    apply Fin.ext
    show min (t.val - 1) _ = min t.val _
    omega
  rw [(dats m hg 0 c).before_out_traj 5 rfl (fun _ _ => rfl) (fun t _ hi _ => ?_) t.val t rfl d]
  · rw [fresh_iff hg t.val (t_lt t), decide_eq_false (by omega), if_neg Bool.false_ne_true, after_5, hcl t ht]
  · rw [idle_iff hg t, decide_eq_true_eq] at hi
    rw [after_5, after_5, hcl t hi]

/-- Each window's current staging buffer at point `t`. -/
abbrev ms0 (t : Fin (cfgM m hg).N) : Memref sig .tc .vmem S512x1024 .bf16 := spec0_0.stage ((cfgM m hg).slots t 0)
abbrev ms1 (t : Fin (cfgM m hg).N) : Memref sig .tc .vmem S1x1024x2048 .bf16 := spec0_1.stage ((cfgM m hg).slots t 1)
abbrev ms2 (t : Fin (cfgM m hg).N) : Memref sig .tc .vmem S1x1x2048 .f32 := spec0_2.stage ((cfgM m hg).slots t 2)
abbrev ms3 (t : Fin (cfgM m hg).N) : Memref sig .tc .vmem S1x1024x1024 .bf16 := spec0_3.stage ((cfgM m hg).slots t 3)
abbrev ms4 (t : Fin (cfgM m hg).N) : Memref sig .tc .vmem S1x1x1024 .f32 := spec0_4.stage ((cfgM m hg).slots t 4)
abbrev ms5 (t : Fin (cfgM m hg).N) : Memref sig .tc .vmem S512x1024 .f32 := spec0_5.stage ((cfgM m hg).slots t 5)

/-- The body at point `t`, on what the pipeline hands it. -/
abbrev bodyAt (t : Fin (cfgM m hg).N) : Prog (TpuEff nD τ sig (Elt F) Λ₀ .tc) PUnit :=
  cc0_moe_ffn (grid0.coords t) tb0 (Memref.isWhole_whole _) tb1 (Memref.isWhole_whole _)
    (ms0 m hg t) (hstage0_0 (((cfgM m hg).slots t 0).cast nbuf0_0)) (ms1 m hg t) (hstage0_1 (((cfgM m hg).slots t 1).cast nbuf0_1))
    (ms2 m hg t) (hstage0_2 (((cfgM m hg).slots t 2).cast nbuf0_2)) (ms3 m hg t) (hstage0_3 (((cfgM m hg).slots t 3).cast nbuf0_3))
    (ms4 m hg t) (hstage0_4 (((cfgM m hg).slots t 4).cast nbuf0_4)) (ms5 m hg t) (hstage0_5 (((cfgM m hg).slots t 5).cast nbuf0_5))

theorem body_row (t : Fin (cfgM m hg).N) :
    defs₀ (F := F) .tc (cfgM m hg).body ((cfgM m hg).bodyArgs t ((cfgM m hg).slots t)) = bodyAt m hg t := by
  unfold defs₀; rw [Defs.onTc_tc]

/-- What the body is called with at point `t`. -/
def bodyPre (c : Dev nD) (t : Fin (cfgM m hg).N) : sProp 𝕄 :=
  iprop((dats m hg 0 c).Φ t.castSucc ∗ (dats m hg 0 c).owesAt () t.castSucc
    ∗ (∃ d, owns (c : Thread nD τ) (ms0 m hg t) fullShare ((dats m hg 0 c).before 0 t d))
    ∗ (∃ d, owns (c : Thread nD τ) (ms1 m hg t) fullShare ((dats m hg 0 c).before 1 t d))
    ∗ (∃ d, owns (c : Thread nD τ) (ms2 m hg t) fullShare ((dats m hg 0 c).before 2 t d))
    ∗ (∃ d, owns (c : Thread nD τ) (ms3 m hg t) fullShare ((dats m hg 0 c).before 3 t d))
    ∗ (∃ d, owns (c : Thread nD τ) (ms4 m hg t) fullShare ((dats m hg 0 c).before 4 t d))
    ∗ (∃ d, owns (c : Thread nD τ) (ms5 m hg t) fullShare ((dats m hg 0 c).before 5 t d)))

/-- What the result's buffer must hold after the body: where the body is idle and the block is not written back, what it
    held; else what the proof data says. -/
def post5 (c : Dev nD) (t : Fin (cfgM m hg).N) : sProp 𝕄 :=
  match (cfgM m hg).idle 5 ((cfgM m hg).grid.coords t) with
  | true =>
    match ((cfgM m hg).win 5).flush t with
    | false => iprop(∃ d, owns (c : Thread nD τ) (ms5 m hg t) fullShare ((dats m hg 0 c).before 5 t d))
    | true => owns (c : Thread nD τ) (ms5 m hg t) fullShare ((dats m hg 0 c).after 5 t)
  | false => owns (c : Thread nD τ) (ms5 m hg t) fullShare ((dats m hg 0 c).after 5 t)

/-- What the body returns. -/
def bodyPost (c : Dev nD) (t : Fin (cfgM m hg).N) : sProp 𝕄 :=
  iprop((dats m hg 0 c).Φ t.succ ∗ (dats m hg 0 c).owesAt () t.succ
    ∗ owns (c : Thread nD τ) (ms0 m hg t) fullShare ((dats m hg 0 c).after 0 t)
    ∗ owns (c : Thread nD τ) (ms1 m hg t) fullShare ((dats m hg 0 c).after 1 t)
    ∗ owns (c : Thread nD τ) (ms2 m hg t) fullShare ((dats m hg 0 c).after 2 t)
    ∗ owns (c : Thread nD τ) (ms3 m hg t) fullShare ((dats m hg 0 c).after 3 t)
    ∗ owns (c : Thread nD τ) (ms4 m hg t) fullShare ((dats m hg 0 c).after 4 t)
    ∗ post5 m hg c t)

/-- At an active point what is stored satisfies the requirement; -/
theorem post5_active (c : Dev nD) (t : Fin (cfgM m hg).N) (ht : t.val < (count (tbl m)).toNat) :
    post5 m hg c t = owns (c : Thread nD τ) (ms5 m hg t) fullShare (stored m hg c t) := by
  have e : cl m hg t = t := by
    unfold cl
    apply Fin.ext
    show min t.val _ = t.val
    omega
  unfold post5
  rw [idle_iff hg t, decide_eq_false (by omega), after_5, e]

/-- at any other point, so does leaving the last active point's block. -/
theorem post5_idle (c : Dev nD) (t : Fin (cfgM m hg).N) (ht : (count (tbl m)).toNat ≤ t.val) :
    (owns (c : Thread nD τ) (ms5 m hg t) fullShare (stored m hg c (cl m hg t)) : sProp 𝕄) ⊢ post5 m hg c t := by
  unfold post5
  rw [idle_iff hg t, decide_eq_true ht, after_5]
  cases ((cfgM m hg).win 5).flush t
  · simp only [before_5 m hg c t ht]
    iintro H; iexists (stored m hg c t); iexact H
  · exact .rfl

/-- The body at any point meets its requirement. -/
theorem sound_body (c : Dev nD) (t : Fin (cfgM m hg).N) :
    bodyPre m hg c t ⊢ wp frame (wpE (defs₀ (F := F)) Variants.none c none) Set.univ (bodyAt m hg t) (fun _ => bodyPost m hg c t) := by
  have hc := cond_iff (grid0.coords t) (count (tbl m)) hg.le
  rw [coords_val t] at hc
  unfold bodyPre bodyPost bodyAt
  simp only [before_0, before_1, before_2, before_3, before_4]
  rw [show (dats m hg 0 c).Φ t.succ = (dats m hg 0 c).Φ t.castSucc from rfl,
    show (dats m hg 0 c).owesAt () t.succ = (dats m hg 0 c).owesAt () t.castSucc from rfl,
    after_0, after_1, after_2, after_3, after_4]
  rw [show (dats m hg 0 c).Φ t.castSucc = iprop(Pipeline.ΦA spec0 c ∗ Pipeline.ΦT pre0 (tbl m) c) from rfl, tables_eq]
  by_cases ht : t.val < (count (tbl m)).toNat
  · rw [post5_active m hg c t ht]
    unfold stored
    iintro ⟨⟨HΦ, ⟨HT0, HT1⟩⟩, Ho, ⟨%d0, H0⟩, ⟨%d1, H1⟩, ⟨%d2, H2⟩, ⟨%d3, H3⟩, ⟨%d4, H4⟩, ⟨%d5, H5⟩⟩
    iapply (run_active c (grid0.coords t) _ _ _ _ _ _ _ _ _ _ _ _ (iblk m hg c 0 t) (iblk m hg c 1 t) (iblk m hg c 2 t) (iblk m hg c 3 t) (iblk m hg c 4 t) (tbl m 0) (tbl m 1) (hc.2 ht) _)
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]; · iexists _; iexact H5
    iintro ⟨H0, H1, H2, H3, H4, HT0, HT1, H5⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexact H5
  · have ht' : (count (tbl m)).toNat ≤ t.val := by omega
    simp only [before_5 m hg c t ht']
    iintro ⟨⟨HΦ, ⟨HT0, HT1⟩⟩, Ho, ⟨%d0, H0⟩, ⟨%d1, H1⟩, ⟨%d2, H2⟩, ⟨%d3, H3⟩, ⟨%d4, H4⟩, ⟨%d5, H5⟩⟩
    iapply (run_idle c (grid0.coords t) _ _ _ _ _ _ _ _ _ _ _ _ (iblk m hg c 0 t) (iblk m hg c 1 t) (iblk m hg c 2 t) (iblk m hg c 3 t) (iblk m hg c 4 t) (tbl m 0) (tbl m 1) (fun h => ht (hc.1 h)) (stored m hg c (cl m hg t)) _)
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]; · iexact H5
    iintro ⟨H0, H1, H2, H3, H4, HT0, HT1, H5⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iapply (post5_idle m hg c t ht'); iexact H5

/-- The pipeline's requirement of the body, at every point. -/
theorem body_obligation (c : Dev nD) : BodyObligation (dats (F := F) m hg 0 c) (defs₀ (F := F)) Variants.none () Set.univ := fun t => by
  rw [bigSep_W0, bigSep_W0, body_row m hg]
  exact triple_restated (sound_body m hg c t) rfl .rfl fun _ => .rfl

set_option backward.isDefEq.respectTransparency.types false in
/-- Every execution terminates with the arrays as the pipeline leaves them and every semaphore counter at zero. -/
theorem run_main_quiescent : θ_run defs (onTc (τ := τ) (main (F := F))) (s₀ m ρ) (fun r => (Pipeline.FramePost (Pipeline.pin pcfgs fun _ => adm m hg) (dats m hg) 0 (V m)) r ∧ r.2.sem = fun _ => 0) :=
  Pipeline.θ_run_frameP (Q' := _) pcfgs (fun _ => adm m hg) (dats m hg) (0 : Fin 1) launch0 defs₀ Variants.none m ρ main
    (hbody := fun c => (body_obligation m hg c).loose) (hshare := fun c => (dats m hg 0 c).share_full fun _ => rfl)
    (howed := fun _ _ => rfl) (V := V m) (hmain := hmain m Variants.none) (hA := A_eq m hg) (hpf := V_pre m)
    (hΦ := fun _ _ => rfl)

/-- The frame with the result: the arguments end unchanged, the result array at what the pipeline leaves, every counter
    at zero. -/
theorem run_result : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)
      ∧ ∀ c : Dev nD, r.2.mem ((c.tc : Thread nD τ).loc main_v0) = (dats m hg 0 c).arrAt 5 (cfgM m hg).N) :=
  (θ_run defs _ _).mono (fun _ h => ⟨⟨fun c => ⟨(h.1 c).2 main_arg0 (by decide : main_arg0 ∈ Pipeline.restRefs sig spec0),
      (h.1 c).2 main_arg1 (by decide : main_arg1 ∈ Pipeline.restRefs sig spec0),
      ((h.1 c).1 0).trans (((dats m hg 0 c).arrAt_in 0 rfl _).trans (A_eq m hg c 0)),
      ((h.1 c).1 1).trans (((dats m hg 0 c).arrAt_in 1 rfl _).trans (A_eq m hg c 1)),
      ((h.1 c).1 2).trans (((dats m hg 0 c).arrAt_in 2 rfl _).trans (A_eq m hg c 2)),
      ((h.1 c).1 3).trans (((dats m hg 0 c).arrAt_in 3 rfl _).trans (A_eq m hg c 3)),
      ((h.1 c).1 4).trans (((dats m hg 0 c).arrAt_in 4 rfl _).trans (A_eq m hg c 4))⟩, h.2⟩,
    fun c => (h.1 c).1 5⟩) (run_main_quiescent m ρ hg)

end Cert.MoeIdeal.Hand

end
-- ==== Proof.MoeValue.lean ====
/-
  The experts' kernel's result array: every row of an active block is the row through the expert that the table names for
  the block.
-/
module

public import proofs.«01_k».proof.Proof.MoeRow
public import proofs.«01_k».proof.Proof.MoeIdealFrame

@[expose] public section

set_option maxRecDepth 16384

noncomputable section

open Idealize.ShloMosaic Idealize.ShloMosaic.TcCoe Idealize.SL.Sem
open Idealize.ShloMosaic.Pipeline (Dat Cfg Window)

namespace Cert.MoeIdeal.Hand

open Cert.MoeIdeal Cert.MoeIdeal.Gen Cert.MoeRow

/-- The block an active point stores, at an index. -/
theorem ffn_apply (x0 : Vec Ideal S512x1024 .bf16) (x1 : Vec Ideal S1x1024x2048 .bf16) (x2 : Vec Ideal S1x1x2048 .f32)
    (x3 : Vec Ideal S1x1024x1024 .bf16) (x4 : Vec Ideal S1x1x1024 .f32) (r : Fin 512) (l : Fin 1024) :
    ffn x0 x1 x2 x3 x4 (ix2 r l) = row (fun k => x0 (ix2 r k)) (fun k j => x1 (ix3 (0 : Fin 1) k j)) (fun j => x2 (ix3 (0 : Fin 1) (0 : Fin 1) j))
      (fun f l => x3 (ix3 (0 : Fin 1) f l)) (fun l => x4 (ix3 (0 : Fin 1) (0 : Fin 1) l)) l := by
  unfold ffn
  rw [View.canon_cons_unit_zero]
  · unfold k0_pay1 row act hid
    pointwise
  · funext a; fin_cases a <;> rfl

variable (m : (ℓ : Loc nD τ sig) → Buf (Elt Ideal) ℓ) (hg : Good (tbl m))

theorem lt_N (t : Fin (cfgM m hg).N) : t.val < 288 := t_lt t

/-- The number of active blocks. -/
def num : ℕ := (count (tbl m)).toNat

/-- The expert of a grid point. -/
def ex (t : Fin (cfgM m hg).N) : Fin 32 := ⟨(expert (tbl m) (grid0.coords t)).toNat, hg.expert_lt _⟩

/-- The row of the arrays that row `r` of an active point handles. -/
def rowAt (t : Fin (cfgM m hg).N) (r : Fin 512) : Fin 147456 :=
  ⟨min t.val (num m - 1) * 512 + r.val, by have := lt_N m hg t; omega⟩

theorem at0 (t : Fin (cfgM m hg).N) : ((cfgM m hg).win 0).index t = ![min t.val (num m - 1), 0] := by
  refine (index_x hg (grid0.coords t)).trans ?_
  rw [coords_val]
  rfl

theorem at5 (t : Fin (cfgM m hg).N) : ((cfgM m hg).win 5).index t = ![min t.val (num m - 1), 0] := index5 hg t

theorem blk0 (c : Dev nD) (t : Fin (cfgM m hg).N) (r : Fin 512) (k : Fin 1024) :
    (iblk m hg c 0 t : Vec Ideal S512x1024 .bf16) (ix2 r k) = m ((c : Thread nD τ).loc main_arg2) (ix2 (n0 := 147456) (n1 := 1024) (rowAt m hg t r) k) := by
  have h0 : (((cfgM m hg).win 0).index t : Fin 2 → ℕ) (0 : Fin 2) = min t.val (num m - 1) := congrFun (at0 m hg t) (0 : Fin 2)
  have h1 : (((cfgM m hg).win 0).index t : Fin 2 → ℕ) (1 : Fin 2) = 0 := congrFun (at0 m hg t) (1 : Fin 2)
  unfold iblk
  refine (View.read_apply _ _).trans ?_
  show V m c main_arg2 _ = m (c.tc.loc main_arg2) _
  unfold V
  congr 1
  funext a
  apply Fin.ext
  match a with
  | ⟨0, _⟩ => show (((cfgM m hg).win 0).index t : Fin 2 → ℕ) (0 : Fin 2) * 512 + 1 * r.val = _; rw [h0, one_mul]; rfl
  | ⟨1, _⟩ => show (((cfgM m hg).win 0).index t : Fin 2 → ℕ) (1 : Fin 2) * 1024 + 1 * k.val = _; rw [h1, zero_mul, zero_add, one_mul]; rfl

theorem blk1 (c : Dev nD) (t : Fin (cfgM m hg).N) (k : Fin 1024) (j : Fin 2048) :
    (iblk m hg c 1 t : Vec Ideal S1x1024x2048 .bf16) (ix3 (0 : Fin 1) k j) = m ((c : Thread nD τ).loc main_arg3) (ix3 (n0 := 32) (n1 := 1024) (n2 := 2048) (ex m hg t) k j) := by
  unfold iblk
  refine (View.read_apply _ _).trans ?_
  show V m c main_arg3 _ = m (c.tc.loc main_arg3) _
  unfold V
  congr 1
  funext a
  apply Fin.ext
  match a with
  | ⟨0, _⟩ => show (expert (tbl m) (grid0.coords t)).toNat * 1 + 1 * 0 = _; rw [mul_one]; rfl
  | ⟨1, _⟩ => show 0 * 1024 + 1 * k.val = k.val; omega
  | ⟨2, _⟩ => show 0 * 2048 + 1 * j.val = j.val; omega

theorem blk2 (c : Dev nD) (t : Fin (cfgM m hg).N) (j : Fin 2048) :
    (iblk m hg c 2 t : Vec Ideal S1x1x2048 .f32) (ix3 (0 : Fin 1) (0 : Fin 1) j) = m ((c : Thread nD τ).loc main_arg4) (ix3 (n0 := 32) (n1 := 1) (n2 := 2048) (ex m hg t) 0 j) := by
  unfold iblk
  refine (View.read_apply _ _).trans ?_
  show V m c main_arg4 _ = m (c.tc.loc main_arg4) _
  unfold V
  congr 1
  funext a
  apply Fin.ext
  match a with
  | ⟨0, _⟩ => show (expert (tbl m) (grid0.coords t)).toNat * 1 + 1 * 0 = _; rw [mul_one]; rfl
  | ⟨1, _⟩ => rfl
  | ⟨2, _⟩ => show 0 * 2048 + 1 * j.val = j.val; omega

theorem blk3 (c : Dev nD) (t : Fin (cfgM m hg).N) (f : Fin 1024) (l : Fin 1024) :
    (iblk m hg c 3 t : Vec Ideal S1x1024x1024 .bf16) (ix3 (0 : Fin 1) f l) = m ((c : Thread nD τ).loc main_arg5) (ix3 (n0 := 32) (n1 := 1024) (n2 := 1024) (ex m hg t) f l) := by
  unfold iblk
  refine (View.read_apply _ _).trans ?_
  show V m c main_arg5 _ = m (c.tc.loc main_arg5) _
  unfold V
  congr 1
  funext a
  apply Fin.ext
  match a with
  | ⟨0, _⟩ => show (expert (tbl m) (grid0.coords t)).toNat * 1 + 1 * 0 = _; rw [mul_one]; rfl
  | ⟨1, _⟩ => show 0 * 1024 + 1 * f.val = f.val; omega
  | ⟨2, _⟩ => show 0 * 1024 + 1 * l.val = l.val; omega

theorem blk4 (c : Dev nD) (t : Fin (cfgM m hg).N) (l : Fin 1024) :
    (iblk m hg c 4 t : Vec Ideal S1x1x1024 .f32) (ix3 (0 : Fin 1) (0 : Fin 1) l) = m ((c : Thread nD τ).loc main_arg6) (ix3 (n0 := 32) (n1 := 1) (n2 := 1024) (ex m hg t) 0 l) := by
  unfold iblk
  refine (View.read_apply _ _).trans ?_
  show V m c main_arg6 _ = m (c.tc.loc main_arg6) _
  unfold V
  congr 1
  funext a
  apply Fin.ext
  match a with
  | ⟨0, _⟩ => show (expert (tbl m) (grid0.coords t)).toNat * 1 + 1 * 0 = _; rw [mul_one]; rfl
  | ⟨1, _⟩ => rfl
  | ⟨2, _⟩ => show 0 * 1024 + 1 * l.val = l.val; omega

/-- Row `R` of the activations through expert `e`. -/
def rowOf (c : Dev nD) (R : Fin 147456) (e : Fin 32) (l : Fin 1024) : EReal :=
  row (fun k => m ((c : Thread nD τ).loc main_arg2) (ix2 (n0 := 147456) (n1 := 1024) R k))
    (fun k j => m ((c : Thread nD τ).loc main_arg3) (ix3 (n0 := 32) (n1 := 1024) (n2 := 2048) e k j))
    (fun j => m ((c : Thread nD τ).loc main_arg4) (ix3 (n0 := 32) (n1 := 1) (n2 := 2048) e 0 j))
    (fun f l => m ((c : Thread nD τ).loc main_arg5) (ix3 (n0 := 32) (n1 := 1024) (n2 := 1024) e f l))
    (fun l => m ((c : Thread nD τ).loc main_arg6) (ix3 (n0 := 32) (n1 := 1) (n2 := 1024) e 0 l)) l

/-- What an active point stores, from the arguments. -/
theorem stored_apply (c : Dev nD) (t : Fin (cfgM m hg).N) (r : Fin 512) (l : Fin 1024) :
    stored m hg c t (ix2 r l) = rowOf m c (rowAt m hg t r) (ex m hg t) l := by
  unfold stored rowOf
  refine (ffn_apply _ _ _ _ _ r l).trans ?_
  simp only [blk0, blk1, blk2, blk3, blk4]

/-- The grid point that handles row `R`. -/
def pt (R : Fin 147456) : Fin (cfgM m hg).N := ⟨R.val / 512, lt_of_lt_of_eq (b := 288) (by omega) N_0.symm⟩

/-- What the result array holds at an active row. -/
def G (c : Dev nD) : FVec Ideal S147456x1024 .f32 := fun i => rowOf m c (i 0) (ex m hg (pt m hg (i 0))) (i 1)

/-- Where the result's block at a grid point lies. -/
theorem emb5 (t : Fin (cfgM m hg).N) (r : Fin 512) (l : Fin 1024) :
    ((((cfgM m hg).win 5).blk t).view.emb (ix2 (n0 := 512) (n1 := 1024) r l) : S147456x1024.Idx) = ix2 (rowAt m hg t r) l := by
  have h0 : (((cfgM m hg).win 5).index t : Fin 2 → ℕ) (0 : Fin 2) = min t.val (num m - 1) := congrFun (at5 m hg t) (0 : Fin 2)
  have h1 : (((cfgM m hg).win 5).index t : Fin 2 → ℕ) (1 : Fin 2) = 0 := congrFun (at5 m hg t) (1 : Fin 2)
  funext a
  apply Fin.ext
  match a with
  | ⟨0, _⟩ => show (((cfgM m hg).win 5).index t : Fin 2 → ℕ) (0 : Fin 2) * 512 + 1 * r.val = _; rw [h0, one_mul]; rfl
  | ⟨1, _⟩ => show (((cfgM m hg).win 5).index t : Fin 2 → ℕ) (1 : Fin 2) * 1024 + 1 * l.val = _; rw [h1, zero_mul, zero_add, one_mul]; rfl

/-- What is written back to the result array is `G`'s block there. -/
theorem flushed_eq (c : Dev nD) (t : Fin (cfgM m hg).N) :
    (dats m hg 0 c).flushed 5 t = (((cfgM m hg).win 5).blk t).view.read (Elt Ideal) (G m hg c) := by
  have ec : rowAt m hg (cl m hg t) = rowAt m hg t := funext fun r => Fin.ext (by
    show min (min t.val (num m - 1)) (num m - 1) * 512 + r.val = min t.val (num m - 1) * 512 + r.val
    rw [Nat.min_assoc, Nat.min_self])
  have ep : ∀ r, pt m hg (rowAt m hg t r) = cl m hg t := fun r => Fin.ext (by
    show (min t.val (num m - 1) * 512 + r.val) / 512 = min t.val (num m - 1)
    omega)
  have h : ∀ y : S512x1024.Idx, stored m hg c (cl m hg t) y = G m hg c ((((cfgM m hg).win 5).blk t).view.emb y) := by
    intro y
    obtain ⟨r, l, rfl⟩ : ∃ (r : Fin 512) (l : Fin 1024), y = ix2 r l := ⟨y 0, y 1, ValueIdx.eq_ix2 y⟩
    refine Eq.trans ?_ (congrArg (G m hg c) (emb5 m hg t r l).symm)
    rw [stored_apply, ec]
    show _ = rowOf m c (rowAt m hg t r) (ex m hg (pt m hg (rowAt m hg t r))) l
    rw [ep]
  funext y
  refine Eq.trans ?_ (View.read_apply _ _).symm
  refine Eq.trans ?_ (h y)
  show ((cfgM m hg).win 5).cut ((cfgM m hg).grid.coords t) ((dats m hg 0 c).after 5 t) y = _
  rw [after_5]

/-- The grid point after which an active row's block is written back: its own, or the last one for the last block. -/
def wr (i : S147456x1024.Idx) : Fin (cfgM m hg).N :=
  if (i 0).val / 512 + 1 < num m then pt m hg (i 0) else ⟨287, lt_of_lt_of_eq (b := 288) (by omega) N_0.symm⟩

theorem wr_min (i : S147456x1024.Idx) (h : (i 0).val < num m * 512) : min (wr m hg i).val (num m - 1) = (i 0).val / 512 := by
  have hn : num m ≤ 288 := hg.le
  unfold wr
  split
  · show min ((i 0).val / 512) _ = _; omega
  · show min 287 _ = _; omega

theorem wr_flush (i : S147456x1024.Idx) : ((cfgM m hg).win 5).flush (wr m hg i) = true := by
  refine (flush_iff hg _).trans (decide_eq_true ?_)
  unfold wr
  split
  · next h => exact .inr h
  · exact .inl rfl

/-- Every row of a grid point's block is covered by it. -/
theorem mem_blk (t : Fin (cfgM m hg).N) (r : Fin 512) (l : Fin 1024) :
    (ix2 (rowAt m hg t r) l : S147456x1024.Idx) ∈ (((cfgM m hg).win 5).blk t).view.set :=
  (congrArg (· ∈ (((cfgM m hg).win 5).blk t).view.set) (emb5 m hg t r l)).mp
    ((((cfgM m hg).win 5).blk t).view.emb_mem_set (ix2 (n0 := 512) (n1 := 1024) r l))

/-- Every row of an active block is covered. -/
theorem covered (i : S147456x1024.Idx) (h : (i 0).val < num m * 512) : i ∈ (((cfgM m hg).win 5).blk (wr m hg i)).view.set := by
  obtain ⟨R, l, rfl⟩ : ∃ (R : Fin 147456) (l : Fin 1024), i = ix2 R l := ⟨i 0, i 1, ValueIdx.eq_ix2 i⟩
  have hr : R = rowAt m hg (wr m hg (ix2 R l)) ⟨R.val % 512, Nat.mod_lt _ (by decide)⟩ := Fin.ext (by
    have hw := wr_min m hg (ix2 R l) h
    show R.val = min (wr m hg (ix2 R l)).val (num m - 1) * 512 + R.val % 512
    rw [hw]
    show R.val = R.val / 512 * 512 + R.val % 512
    omega)
  generalize wr m hg (ix2 R l) = t at hr ⊢
  rw [hr]
  exact mem_blk m hg t _ l

/-- The result array at an active row. -/
theorem result_apply (c : Dev nD) (i : S147456x1024.Idx) (h : (i 0).val < num m * 512) :
    (dats m hg 0 c).arrAt 5 (cfgM m hg).N i = G m hg c i :=
  (dats m hg 0 c).arrAt_apply_of_mem 5 (G m hg c) (fun t _ => flushed_eq m hg c t) (cfgM m hg).N (wr m hg i) i (wr m hg i).isLt
    (wr_flush m hg i) (covered m hg i h)

end Cert.MoeIdeal.Hand

end
-- ==== Proof.MoeRef.lean ====
/-
  The experts' reference, read at an index: every block's rows through the expert that the table names for the block.
-/
module

public import proofs.«01_k».proof.Proof.MoeRow
public import proofs.«01_k».proof.Proof.Gen.MoeRefIdeal.Run
public import Idealize.ShloMosaic.Lib.WordCmp

@[expose] public section

set_option maxRecDepth 16384

noncomputable section

open Idealize.ShloMosaic Idealize.ShloMosaic.TcCoe Idealize.SL.Sem

namespace Cert.MoeRefIdeal.Hand

open Cert.MoeRefIdeal Cert.MoeRefIdeal.Gen Cert.MoeRow

/-- The table of experts as a column of indices, a negative one counted from the end. -/
def idx (E : IVec S288 32) : IVec S288x1 32 :=
  broadcastInDim S288x1 ![0] bcast_S288_S288x1_0 (select (cmpi .slt E (broadcastInDim S288 ![] bcast_S_S288 (constantI S_ 32 0#32))) (addi E (broadcastInDim S288 ![] bcast_S_S288 (constantI S_ 32 32#32))) E)

/-- The first product of every block of rows, with its bias. -/
def hidden (X : FVec Ideal S147456x1024 .bf16) (W : FVec Ideal S288x1024x2048 .f32) (B : FVec Ideal S288x1x2048 .f32) : FVec Ideal S288x512x2048 .f32 :=
  addf (Host.dotGeneral dot_S288x512x1024_S288x1024x2048_S288x512x2048_2_1_1_2_0_0 none (shapeCast _ (extf .f32 X bitsLt_bf16_f32) shapeCasts_S147456x1024_S288x512x1024) W)
    (broadcastInDim S288x512x2048 ![0, 1, 2] bcast_S288x1x2048_S288x512x2048_0_1_2 B)

/-- The clipped gate. -/
def gate (H : FVec Ideal S288x512x2048 .f32) : FVec Ideal S288x512x1024 .f32 :=
  minimumf (extractStridedSlice S288x512x1024 ![0, 0, 0] H slices_S288x512x2048_S288x512x1024_0_0_0) (broadcastInDim S288x512x1024 ![] bcast_S_S288x512x1024 (constant S_ .f32 0x40E00000#32))

/-- The gated unit of every block of rows. -/
def gated (H : FVec Ideal S288x512x2048 .f32) : FVec Ideal S288x512x1024 .f32 :=
  mulf (mulf (gate H) (Host.divf (broadcastInDim S288x512x1024 ![] bcast_S_S288x512x1024 (constant S_ .f32 0x3F800000#32)) (addf (broadcastInDim S288x512x1024 ![] bcast_S_S288x512x1024 (constant S_ .f32 0x3F800000#32)) (Host.exp (Host.negf (mulf (broadcastInDim S288x512x1024 ![] bcast_S_S288x512x1024 (constant S_ .f32 0x3FD9DB23#32)) (gate H)))))))
    (addf (minimumf (broadcastInDim S288x512x1024 ![] bcast_S_S288x512x1024 (id (constant S_ .f32 0x40E00000#32))) (maximumf (broadcastInDim S288x512x1024 ![] bcast_S_S288x512x1024 (id (constant S_ .f32 0xC0E00000#32))) (extractStridedSlice S288x512x1024 ![0, 0, 1024] H slices_S288x512x2048_S288x512x1024_0_0_1024))) (broadcastInDim S288x512x1024 ![] bcast_S_S288x512x1024 (constant S_ .f32 0x3F800000#32)))

/-- The second product of every block of rows, with its bias, as rows. -/
def outs (A : FVec Ideal S288x512x1024 .f32) (W : FVec Ideal S288x1024x1024 .f32) (B : FVec Ideal S288x1x1024 .f32) : FVec Ideal S147456x1024 .f32 :=
  shapeCast _ (addf (Host.dotGeneral dot_S288x512x1024_S288x1024x1024_S288x512x1024_2_1_1_2_0_0 none A W)
    (broadcastInDim S288x512x1024 ![0, 1, 2] bcast_S288x1x1024_S288x512x1024_0_1_2 B)) shapeCasts_S288x512x1024_S147456x1024

/-- An index in range is the table's word. -/
theorem idx_apply (E : IVec S288 32) (p : Fin 288) (h : (E (ix1 p)).toNat < 32) : ((idx E) (ix2 p (0 : Fin 1))).toInt.toNat = (E (ix1 p)).toNat := by
  have e : idx E (ix2 p (0 : Fin 1)) = Scalar.select (IntOp.cmpi .slt (E (ix1 p)) 0#32) (E (ix1 p) + 32#32) (E (ix1 p)) := by
    unfold idx
    pointwise
    rfl
  rw [e]
  generalize E (ix1 p) = w at h ⊢
  have hw : w.toInt = (w.toNat : ℤ) := BitVec.toInt_eq_toNat_of_lt (by omega)
  have hc : IntOp.cmpi .slt w 0#32 = 0#1 := by
    simp only [IntOp.cmpi, BitVec.slt, hw, BitVec.toInt_zero, decide_eq_false (show ¬ (w.toNat : ℤ) < 0 by omega)]
    rfl
  rw [hc, ValueIdx.select_zero, hw]
  rfl

theorem hidden_apply (X : FVec Ideal S147456x1024 .bf16) (W : FVec Ideal S288x1024x2048 .f32) (B : FVec Ideal S288x1x2048 .f32) (p : Fin 288) (r : Fin 512) (j : Fin 2048) :
    hidden X W B (ix3 p r j) = hid (fun k => X (ix2 (n0 := 147456) (n1 := 1024) ⟨p.val * 512 + r.val, by omega⟩ k)) (fun k j => W (ix3 p k j)) (fun j => B (ix3 p (0 : Fin 1) j)) j := by
  unfold hidden hid
  pointwise

theorem gated_apply (H : FVec Ideal S288x512x2048 .f32) (p : Fin 288) (r : Fin 512) (f : Fin 1024) :
    gated H (ix3 p r f) = act (H (ix3 (n0 := 288) (n1 := 512) (n2 := 2048) p r ⟨f.val, by omega⟩)) (H (ix3 (n0 := 288) (n1 := 512) (n2 := 2048) p r ⟨1024 + f.val, by omega⟩)) := by
  unfold gated gate act Ideal.logistic
  pointwise
  rfl

theorem outs_apply (A : FVec Ideal S288x512x1024 .f32) (W : FVec Ideal S288x1024x1024 .f32) (B : FVec Ideal S288x1x1024 .f32) (p : Fin 288) (r : Fin 512) (l : Fin 1024) :
    outs A W B (ix2 (n0 := 147456) (n1 := 1024) ⟨p.val * 512 + r.val, by omega⟩ l) = (∑ f : Fin 1024, A (ix3 p r f) * W (ix3 p f l)) + B (ix3 p (0 : Fin 1) l) := by
  unfold outs
  pointwise

variable (m : (ℓ : Loc nD τ sig) → Buf (Elt Ideal) ℓ)

/-- The result over the arguments. -/
def final (E : IVec S288 32) (X : FVec Ideal S147456x1024 .bf16) (W : FVec Ideal S32x1024x2048 .bf16) (B : FVec Ideal S32x1x2048 .f32)
    (D : FVec Ideal S32x1024x1024 .bf16) (C : FVec Ideal S32x1x1024 .f32) : FVec Ideal S147456x1024 .f32 :=
  outs (gated (hidden X (Host.gather gather_S32x1024x2048_S288x1_S288x1024x2048_12_0_n_n_0_1_110242048 (extf .f32 W bitsLt_bf16_f32) (idx E))
      (Host.gather gather_S32x1x2048_S288x1_S288x1x2048_12_0_n_n_0_1_112048 B (idx E))))
    (Host.gather gather_S32x1024x1024_S288x1_S288x1024x1024_12_0_n_n_0_1_110241024 (extf .f32 D bitsLt_bf16_f32) (idx E))
    (Host.gather gather_S32x1x1024_S288x1_S288x1x1024_12_0_n_n_0_1_111024 C (idx E))

/-- The generated result is that function of the arguments. -/
theorem res0 (c : Dev nD) : Value.res_main_v55 m c = final (m ((c.tc : Thread nD τ).loc main_arg0)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) := rfl

/-- The result at row `r` of block `p`: the row through the expert the table names for the block. -/
theorem final_apply (E : IVec S288 32) (X : FVec Ideal S147456x1024 .bf16) (W : FVec Ideal S32x1024x2048 .bf16) (B : FVec Ideal S32x1x2048 .f32)
    (D : FVec Ideal S32x1024x1024 .bf16) (C : FVec Ideal S32x1x1024 .f32) (p : Fin 288) (r : Fin 512) (l : Fin 1024) (e : Fin 32)
    (he : (E (ix1 p)).toNat = e.val) :
    final E X W B D C (ix2 (n0 := 147456) (n1 := 1024) ⟨p.val * 512 + r.val, by omega⟩ l)
      = row (fun k => X (ix2 (n0 := 147456) (n1 := 1024) ⟨p.val * 512 + r.val, by omega⟩ k)) (fun k j => W (ix3 e k j)) (fun j => B (ix3 e (0 : Fin 1) j))
          (fun f l => D (ix3 e f l)) (fun l => C (ix3 e (0 : Fin 1) l)) l := by
  have hi : ((idx E) (ix2 p (0 : Fin 1))).toInt.toNat = e.val := (idx_apply E p (he ▸ e.isLt)).trans he
  have hW : ∀ k j, Host.gather gather_S32x1024x2048_S288x1_S288x1024x2048_12_0_n_n_0_1_110242048 (extf .f32 W bitsLt_bf16_f32) (idx E) (ix3 p k j) = W (ix3 e k j) :=
    fun k j => look_apply _ _ _ p k j e hi
  have hB : ∀ j, Host.gather gather_S32x1x2048_S288x1_S288x1x2048_12_0_n_n_0_1_112048 B (idx E) (ix3 p (0 : Fin 1) j) = B (ix3 e (0 : Fin 1) j) :=
    fun j => look_apply _ _ _ p 0 j e hi
  have hD : ∀ f l, Host.gather gather_S32x1024x1024_S288x1_S288x1024x1024_12_0_n_n_0_1_110241024 (extf .f32 D bitsLt_bf16_f32) (idx E) (ix3 p f l) = D (ix3 e f l) :=
    fun f l => look_apply _ _ _ p f l e hi
  have hC : ∀ l, Host.gather gather_S32x1x1024_S288x1_S288x1x1024_12_0_n_n_0_1_111024 C (idx E) (ix3 p (0 : Fin 1) l) = C (ix3 e (0 : Fin 1) l) :=
    fun l => look_apply _ _ _ p 0 l e hi
  unfold final
  rw [outs_apply]
  simp only [gated_apply, hidden_apply, hW, hB, hD, hC]
  rfl

end Cert.MoeRefIdeal.Hand

end
-- ==== Proof.MoeInputs.lean ====
/-
  What the experts' precondition and mask say of the arguments: the table's words name experts, the count is between 1 and
  288, and the mask's rows are those of the active blocks.
-/
module

public import proofs.«01_k».proof.Proof.InputsOk
public import proofs.«01_k».proof.Proof.MoeFrame
public import proofs.«01_k».proof.Proof.MoeIdealFrame
public import Idealize.ShloMosaic.Lib.WordCmp

@[expose] public section

set_option maxRecDepth 16384

noncomputable section

open Idealize.ShloMosaic Idealize.ShloMosaic.TcCoe Idealize.SL.Sem

namespace Cert.MoeWords

/-- A word from 0 up to 31, read signed, is below 32 unsigned. -/
theorem lt_of_range (w : BitVec 32) (h0 : IntOp.cmpi .sge w 0#32 = 1#1) (h1 : IntOp.cmpi .slt w 32#32 = 1#1) : w.toNat < 32 := by
  rw [IntOp.cmpi_sge, show (0#32 : BitVec 32).toInt = 0 from by decide, BitVec.toInt_eq_toNat_cond] at h0
  rw [IntOp.cmpi_slt, show (32#32 : BitVec 32).toInt = 32 from by decide, BitVec.toInt_eq_toNat_cond] at h1
  split at h0 <;> omega

/-- A word from 1 up to 288, read signed, is in that range unsigned. -/
theorem count_of_range (w : BitVec 32) (h0 : IntOp.cmpi .sge w 1#32 = 1#1) (h1 : IntOp.cmpi .sle w 288#32 = 1#1) : 1 ≤ w.toNat ∧ w.toNat ≤ 288 := by
  rw [IntOp.cmpi_sge, show (1#32 : BitVec 32).toInt = 1 from by decide, BitVec.toInt_eq_toNat_cond] at h0
  rw [IntOp.cmpi_sle, show (288#32 : BitVec 32).toInt = 288 from by decide, BitVec.toInt_eq_toNat_cond] at h1
  split at h0 <;> omega

end Cert.MoeWords

namespace Cert.Pre_moe_inputs_ok

open Cert.Attention Cert.MoeWords Facts

/-- What the precondition says. -/
theorem decode {F : FTy → Type} [FloatOps F] [Facts] (E : IVec S288 32) (C : IVec S1 32) (X : FVec F S147456x1024 .bf16) (W : FVec F S32x1024x2048 .bf16)
    (B : FVec F S32x1x2048 .f32) (D : FVec F S32x1024x1024 .bf16) (G : FVec F S32x1x1024 .f32) (h : fn (F := F) E C X W B D G = fun _ => 1#1) :
    (∀ i, (E i).toNat < 32) ∧ ∀ i, 1 ≤ (C i).toNat ∧ (C i).toNat ≤ 288 := by
  have h0 := congrFun h ix0
  unfold fn at h0
  obtain ⟨h1, h2⟩ := and_split h0
  refine ⟨fun i => ?_, fun i => ?_⟩
  · obtain ⟨a, b⟩ := and_split (Host.reduce_andi_all _ _ _ _ _ h1 i)
    exact lt_of_range _ a b
  · obtain ⟨a, b⟩ := and_split (Host.reduce_andi_all _ _ _ _ _ h2 i)
    exact count_of_range _ a b

end Cert.Pre_moe_inputs_ok

namespace Cert.On_active_rows

open Cert.Attention Cert.MoeWords Facts

/-- What the mask says of an index: its row is one of the active blocks'. -/
theorem decode {F : FTy → Type} [FloatOps F] [Facts] (E : IVec S288 32) (C : IVec S1 32) (X : FVec F S147456x1024 .bf16) (W : FVec F S32x1024x2048 .bf16)
    (B : FVec F S32x1x2048 .f32) (D : FVec F S32x1024x1024 .bf16) (G : FVec F S32x1x1024 .f32) (R : Fin 147456) (l : Fin 1024)
    (hC : (C (ix1 (0 : Fin 1))).toNat ≤ 288) (h : fn (F := F) E C X W B D G (ix2 R l) = 1#1) : R.val < (C (ix1 (0 : Fin 1))).toNat * 512 := by
  have e : fn (F := F) E C X W B D G (ix2 R l) = IntOp.cmpi .slt (BitVec.ofNat 32 R.val) (IntOp.muli (C (ix1 (0 : Fin 1))) 512#32) := by
    unfold fn
    pointwise
  rw [e] at h
  obtain ⟨n, hn, hw⟩ : ∃ n, n ≤ 288 ∧ C (ix1 (0 : Fin 1)) = BitVec.ofNat 32 n := ⟨_, hC, by simp⟩
  rw [hw] at h ⊢
  have en : (BitVec.ofNat 32 n).toNat = n := WordCmp.toNat_ofNat_of_lt (by omega)
  rw [en]
  have em : IntOp.muli (BitVec.ofNat 32 n) 512#32 = BitVec.ofNat 32 (n * 512) := by
    show BitVec.ofNat 32 n * 512#32 = _
    rw [BitVec.ofNat_mul]
  rw [em, WordCmp.cmpi_slt_ofNat (by omega) (by omega)] at h
  by_contra hc
  rw [decide_eq_false hc] at h
  exact absurd h (by decide)

end Cert.On_active_rows

namespace Cert.Moe.Hand

open Cert.Moe Cert.Moe.Gen

variable {F : FTy → Type} [FloatOps F] (m : (ℓ : Loc nD τ sig) → Buf (Elt F) ℓ)

/-- The count and the experts, as the arguments hold them. -/
theorem count_tbl : count (tbl m) = (m ((0 : Dev nD).tc.loc main_arg1) : IVec S1 32) (ix1 (0 : Fin 1)) := by
  show (m ((0 : Dev nD).tc.loc main_arg1) : IVec S1 32) _ = _
  congr 1
  refine funext fun (a : Fin 1) => ?_
  match a with
  | ⟨0, _⟩ => exact Subsingleton.elim (α := Fin 1) _ _

theorem expert_tbl (i : grid0.Coords) : ∃ p, expert (tbl m) i = (m ((0 : Dev nD).tc.loc main_arg0) : IVec S288 32) p := ⟨_, rfl⟩

/-- Words in range make the tables good. -/
theorem good_of (h0 : ∀ i, ((m ((0 : Dev nD).tc.loc main_arg0) : IVec S288 32) i).toNat < 32)
    (h1 : ∀ i, 1 ≤ ((m ((0 : Dev nD).tc.loc main_arg1) : IVec S1 32) i).toNat ∧ ((m ((0 : Dev nD).tc.loc main_arg1) : IVec S1 32) i).toNat ≤ 288) : Good (tbl m) where
  pos := by rw [count_tbl]; exact (h1 _).1
  le := by rw [count_tbl]; exact (h1 _).2
  expert_lt i := by obtain ⟨p, hp⟩ := expert_tbl m i; rw [hp]; exact h0 p

end Cert.Moe.Hand

namespace Cert.MoeIdeal.Hand

open Cert.MoeIdeal Cert.MoeIdeal.Gen

variable {F : FTy → Type} [FloatOps F] (m : (ℓ : Loc nD τ sig) → Buf (Elt F) ℓ)

/-- The count and the experts, as the arguments hold them. -/
theorem count_tbl : count (tbl m) = (m ((0 : Dev nD).tc.loc main_arg1) : IVec S1 32) (ix1 (0 : Fin 1)) := by
  show (m ((0 : Dev nD).tc.loc main_arg1) : IVec S1 32) _ = _
  congr 1
  refine funext fun (a : Fin 1) => ?_
  match a with
  | ⟨0, _⟩ => exact Subsingleton.elim (α := Fin 1) _ _

theorem expert_tbl (i : grid0.Coords) : expert (tbl m) i = (m ((0 : Dev nD).tc.loc main_arg0) : IVec S288 32) (ix1 (n0 := 288) ⟨(i 0).val, (i 0).isLt⟩) := by
  have hi : (i 0).val < 288 := (i 0).isLt
  have e : k0_off1 i (0 : Fin 1) = (i 0).val := by
    show (BitVec.ofNat 32 (i 0).val).toNat = _
    exact WordCmp.toNat_ofNat_of_lt (by omega)
  show (m ((0 : Dev nD).tc.loc main_arg0) : IVec S288 32) _ = _
  congr 1
  refine funext fun (a : Fin 1) => ?_
  match a with
  | ⟨0, _⟩ =>
    apply Fin.ext
    show k0_off1 i (0 : Fin 1) + 1 * 0 = (i 0).val
    rw [e, Nat.mul_zero, Nat.add_zero]

/-- Words in range make the tables good. -/
theorem good_of (h0 : ∀ i, ((m ((0 : Dev nD).tc.loc main_arg0) : IVec S288 32) i).toNat < 32)
    (h1 : ∀ i, 1 ≤ ((m ((0 : Dev nD).tc.loc main_arg1) : IVec S1 32) i).toNat ∧ ((m ((0 : Dev nD).tc.loc main_arg1) : IVec S1 32) i).toNat ≤ 288) : Good (tbl m) where
  pos := by rw [count_tbl]; exact (h1 _).1
  le := by rw [count_tbl]; exact (h1 _).2
  expert_lt i := by rw [expert_tbl]; exact h0 _

end Cert.MoeIdeal.Hand

end
-- ==== Proof.MoeClaim.lean ====
/-
  The claims of the experts' kernel.
-/
module

public import proofs.«01_k».proof.Proof.MoeValue
public import proofs.«01_k».proof.Proof.MoeRef
public import proofs.«01_k».proof.Proof.MoeInputs
public import proofs.«01_k».proof.Proof.Gen.Pre_moe_inputs_ok
public import proofs.«01_k».proof.Proof.Gen.On_active_rows
public import Idealize.ShloMosaic.Lib.Quiescent

@[expose] public section

noncomputable section

open Idealize.ShloMosaic Idealize.ShloMosaic.TcCoe Idealize.SL.Sem

namespace Cert.MoeProof

open Cert.MoeRow

/-- Under the precondition the kernel's tables are in range. -/
theorem good (m : (ℓ : Loc Cert.Moe.nD Cert.Moe.τ Cert.Moe.sig) → Buf (Elt Bits) ℓ) (h : Cert.Pre_Moe m) : Cert.Moe.Hand.Good (Cert.Moe.Hand.tbl m) :=
  have d := Cert.Pre_moe_inputs_ok.decode _ _ _ _ _ _ _ (h 0)
  Cert.Moe.Hand.good_of m d.1 d.2

/-- So are the idealized kernel's. -/
theorem good_ideal (m : (ℓ : Loc Cert.MoeIdeal.nD Cert.MoeIdeal.τ Cert.MoeIdeal.sig) → Buf (Elt Ideal) ℓ) (h : Cert.Pre_MoeIdeal m) :
    Cert.MoeIdeal.Hand.Good (Cert.MoeIdeal.Hand.tbl m) :=
  have d := Cert.Pre_moe_inputs_ok.decode _ _ _ _ _ _ _ (h 0)
  Cert.MoeIdeal.Hand.good_of m d.1 d.2

/-- The kernel runs, leaves its arguments and every semaphore as they were. -/
theorem frame : Cert.quiescent_Moe := fun m ρ h =>
  (θ_run Cert.Moe.defs _ _).mono (fun r q => q.1) (Cert.Moe.Hand.run_result m ρ (good m h))

/-- So does the idealized kernel. -/
theorem frame_ideal : Cert.quiescent_MoeIdeal := fun m ρ h =>
  (θ_run Cert.MoeIdeal.defs _ _).mono (fun r q => q.1) (Cert.MoeIdeal.Hand.run_result m ρ (good_ideal m h))

/-- So does the reference. -/
theorem frame_ref : Cert.quiescent_MoeRefIdeal := fun m ρ _ =>
  (θ_run Cert.MoeRefIdeal.defs _ _).mono (fun r h => ⟨fun c => (h c).2,
      Idealize.ShloMosaic.sem_eq_zero_of_no_sems (by decide) r.2⟩)
    (Cert.MoeRefIdeal.Value.run (F := Ideal) m ρ)

/-- The same under the precondition. -/
theorem frame_ref_pre : Cert.quiescent_MoeRefIdeal_pre_moe_inputs_ok := fun m ρ _ => frame_ref m ρ trivial

/-- Kernel and reference end with equal rows in every active block. -/
theorem algebraic : Cert.algebraic_MoeIdeal_MoeRefIdeal_on_active_rows := by
  intro m ρ m' ρ' hpre hagree
  have hg := good_ideal m hpre
  refine ⟨fun c => Cert.MoeIdeal.Hand.G m hg c, ?_, ?_⟩
  · refine (θ_run _ _ _).mono (fun r h c => ⟨fun i hi => ?_, h.1.1 c⟩) (Cert.MoeIdeal.Hand.run_result m ρ hg)
    rw [h.2 c]
    obtain rfl : c = 0 := Subsingleton.elim _ _
    obtain ⟨R, l, rfl⟩ : ∃ (R : Fin 147456) (l : Fin 1024), i = ix2 R l := ⟨i 0, i 1, ValueIdx.eq_ix2 i⟩
    have d := Cert.Pre_moe_inputs_ok.decode _ _ _ _ _ _ _ (hpre 0)
    have hR := Cert.On_active_rows.decode _ _ _ _ _ _ _ R l (d.2 _).2 hi
    refine Cert.MoeIdeal.Hand.result_apply m hg 0 (ix2 R l) ?_
    unfold Cert.MoeIdeal.Hand.num
    rw [Cert.MoeIdeal.Hand.count_tbl]
    exact hR
  · refine (θ_run _ _ _).mono (fun r h c => ⟨fun i hi => ?_, (h c).2⟩) (Cert.MoeRefIdeal.Value.run (F := Ideal) m' ρ')
    rw [(h c).1]
    obtain rfl : c = 0 := Subsingleton.elim _ _
    obtain ⟨h0, h1, h2, h3, h4, h5, h6⟩ := hagree 0
    obtain ⟨R, l, rfl⟩ : ∃ (R : Fin 147456) (l : Fin 1024), i = ix2 R l := ⟨i 0, i 1, ValueIdx.eq_ix2 i⟩
    refine (congrFun (Cert.MoeRefIdeal.Hand.res0 m' 0) _).trans ?_
    rw [h0, h2, h3, h4, h5, h6]
    have hR : R = (⟨(⟨R.val / 512, by omega⟩ : Fin 288).val * 512 + (⟨R.val % 512, by omega⟩ : Fin 512).val, by
        show R.val / 512 * 512 + R.val % 512 < 147456
        omega⟩ : Fin 147456) := Fin.ext (by
      show R.val = R.val / 512 * 512 + R.val % 512
      omega)
    have he : ((m ((0 : Dev Cert.MoeIdeal.nD).tc.loc Cert.MoeIdeal.main_arg0) : IVec Cert.MoeIdeal.S288 32) (ix1 (⟨R.val / 512, by omega⟩ : Fin 288))).toNat
        = (Cert.MoeIdeal.Hand.ex m hg (Cert.MoeIdeal.Hand.pt m hg R)).val := by
      show _ = (Cert.MoeIdeal.Hand.expert (Cert.MoeIdeal.Hand.tbl m) _).toNat
      rw [Cert.MoeIdeal.Hand.expert_tbl]
      congr 2
      refine congrArg ix1 (Fin.ext ?_)
      exact (Cert.MoeIdeal.Hand.coords_val (Cert.MoeIdeal.Hand.pt m hg R)).symm
    have key := Cert.MoeRefIdeal.Hand.final_apply (m ((0 : Dev Cert.MoeIdeal.nD).tc.loc Cert.MoeIdeal.main_arg0))
      (m ((0 : Dev Cert.MoeIdeal.nD).tc.loc Cert.MoeIdeal.main_arg2)) (m ((0 : Dev Cert.MoeIdeal.nD).tc.loc Cert.MoeIdeal.main_arg3))
      (m ((0 : Dev Cert.MoeIdeal.nD).tc.loc Cert.MoeIdeal.main_arg4)) (m ((0 : Dev Cert.MoeIdeal.nD).tc.loc Cert.MoeIdeal.main_arg5))
      (m ((0 : Dev Cert.MoeIdeal.nD).tc.loc Cert.MoeIdeal.main_arg6)) ⟨R.val / 512, by omega⟩ ⟨R.val % 512, by omega⟩ l _ he
    rw [← hR] at key
    exact key

end Cert.MoeProof

end
-- ==== Proof.QkvRow.lean ====
/-
  One row of the projections, as arithmetic. A head is 128 lanes wide in the kernel: past the head's own lanes stand
  rotated copies, so that one multiplication with a table and one addition of the row shifted make the rotary embedding.
  The reference takes the head's own lanes, norms them and rotates their two halves. Both give the same lanes.
-/
module

public import proofs.«01_k».proof.Proof.MergeRow

@[expose] public section

noncomputable section

open Idealize.ShloMosaic

namespace Cert.QkvRow

/-- A matrix, by its rows. -/
def mat (n k : ℕ) (x : (⟨2, ![n, k]⟩ : Shape).Idx → EReal) (i : Fin n) (j : Fin k) : EReal := x (ix2 i j)

/-- The norm's small constant. -/
def eps : EReal := Ideal.ofBits .f32 0x358637BD#32

/-- The factor that norms a row, whose mean square is the sum over `w`. -/
def scale {n : ℕ} (w : EReal) (y : Fin n → EReal) : EReal := Ideal.rsqrt (Ideal.div (∑ k, y k * y k) w + eps)

/-- A row normed, times its gain. -/
def rms {n : ℕ} (w : EReal) (y g : Fin n → EReal) (l : Fin n) : EReal := y l * scale w y * g l

/-- A row of products. -/
def proj {n k : ℕ} (x : Fin n → EReal) (w : Fin n → Fin k → EReal) (l : Fin k) : EReal := ∑ i, x i * w i l

/-- The kernel's head: the normed row times gain and table, added to itself shifted by half its lanes. -/
def headK (y g t : Fin 128 → EReal) (l : Fin 128) : EReal :=
  if h : l.val < 64 then
    y l * scale (Ideal.ofBits .f32 0x43000000#32) y * (g l * t l)
      + y ⟨l.val + 64, by omega⟩ * scale (Ideal.ofBits .f32 0x43000000#32) y * (g ⟨l.val + 64, by omega⟩ * t ⟨l.val + 64, by omega⟩)
  else 0

/-- The kernel's rotation of the second part of a head. -/
def tailK (y t : Fin 128 → EReal) (l : Fin 128) : EReal :=
  if l.val < 64 then y l * t l
  else if h : l.val < 96 then y l * t l + y ⟨l.val + 32, by omega⟩ * t ⟨l.val + 32, by omega⟩ else 0

/-- The rotary embedding of a row whose halves are `n` wide. -/
def rope {n k : ℕ} (e : k = n + n) (y : Fin k → EReal) (c s : Fin n → EReal) (l : Fin k) : EReal :=
  if h : l.val < n then y l * c ⟨l.val, h⟩ - y ⟨l.val + n, by omega⟩ * s ⟨l.val, h⟩
  else y ⟨l.val - n, by omega⟩ * s ⟨l.val - n, by omega⟩ + y l * c ⟨l.val - n, by omega⟩

/-- A head of 64 lanes, rotated, in 128 lanes. -/
def headR (y : Fin 64 → EReal) (c s : Fin 32 → EReal) (l : Fin 128) : EReal :=
  if h : l.val < 64 then rope rfl y c s ⟨l.val, h⟩ else 0

/-- A head of 64 lanes as they are and 32 lanes rotated, in 128 lanes. -/
def tailR (z : Fin 64 → EReal) (y : Fin 32 → EReal) (c s : Fin 16 → EReal) (l : Fin 128) : EReal :=
  if h : l.val < 64 then z ⟨l.val, h⟩ else if h' : l.val < 96 then rope rfl y c s ⟨l.val - 64, by omega⟩ else 0

/-- A head of 64 values and a one, in 128 lanes. -/
def oneR (z : Fin 64 → EReal) (l : Fin 128) : EReal :=
  if h : l.val < 64 then z ⟨l.val, h⟩ else if l.val < 65 then 1 else 0

/-- A lane below 64, among the 128. -/
def lo (l : Fin 64) : Fin 128 := ⟨l.val, by omega⟩

/-- A row of 128 lanes whose last 64 are the first 64 with their halves exchanged. -/
def Swapped (y : Fin 128 → EReal) : Prop :=
  (∀ j : Fin 32, y ⟨64 + j.val, by omega⟩ = y ⟨32 + j.val, by omega⟩) ∧ ∀ j : Fin 32, y ⟨96 + j.val, by omega⟩ = y ⟨j.val, by omega⟩

/-- A row of 128 lanes whose last 32 are the 32 before them with their halves exchanged. -/
def SwappedTail (y : Fin 128 → EReal) : Prop :=
  (∀ j : Fin 16, y ⟨96 + j.val, by omega⟩ = y ⟨80 + j.val, by omega⟩) ∧ ∀ j : Fin 16, y ⟨112 + j.val, by omega⟩ = y ⟨64 + j.val, by omega⟩

/-- A table of 128 lanes: cosines twice, then the sines with both signs. -/
def Rotary (t : Fin 128 → EReal) : Prop :=
  (∀ j : Fin 32, t ⟨32 + j.val, by omega⟩ = t ⟨j.val, by omega⟩) ∧ ∀ j : Fin 32, t ⟨64 + j.val, by omega⟩ = -t ⟨96 + j.val, by omega⟩

/-- A table whose lanes from 64 on are cosines twice, then the sines with both signs. -/
def RotaryTail (t : Fin 128 → EReal) : Prop :=
  (∀ j : Fin 16, t ⟨80 + j.val, by omega⟩ = t ⟨64 + j.val, by omega⟩) ∧ ∀ j : Fin 16, t ⟨96 + j.val, by omega⟩ = -t ⟨112 + j.val, by omega⟩

theorem word128 : Ideal.ofBits .f32 0x43000000#32 = ((128 : ℝ) : EReal) := by
  simp [Ideal.ofBits, Ideal.ieee, -EReal.coe_mul]
  norm_num

theorem word64 : Ideal.ofBits .f32 0x42800000#32 = ((64 : ℝ) : EReal) := by
  simp [Ideal.ofBits, Ideal.ieee, -EReal.coe_mul]
  norm_num

/-- A sum over 128 is twice the sum over 64. -/
theorem double_div (S : EReal) : Ideal.div (S + S) ((128 : ℝ) : EReal) = Ideal.div S ((64 : ℝ) : EReal) := by
  have h1 : ((128 : ℝ) : EReal) ≠ 0 := by norm_num
  have h2 : ((64 : ℝ) : EReal) ≠ 0 := by norm_num
  unfold Ideal.div
  rw [if_neg h1, if_neg h2, ← EReal.coe_inv, ← EReal.coe_inv]
  induction S using EReal.rec with
  | bot => rw [EReal.bot_add, EReal.bot_mul_coe_of_pos (by norm_num), EReal.bot_mul_coe_of_pos (by norm_num)]
  | top => rw [EReal.top_add_top, EReal.top_mul_coe_of_pos (by norm_num), EReal.top_mul_coe_of_pos (by norm_num)]
  | coe a =>
    rw [← EReal.coe_add, ← EReal.coe_mul, ← EReal.coe_mul]
    congr 1
    ring

/-- The sum of a swapped row is twice the sum of its first half. -/
theorem sum_swapped {f : Fin 128 → EReal} (h : Swapped f) : ∑ k, f k = (∑ k, f (lo k)) + ∑ k, f (lo k) := by
  have e1 : ∑ k, f k = (∑ k : Fin 64, f (lo k)) + ∑ k : Fin 64, f ⟨64 + k.val, by omega⟩ := Fin.sum_univ_add (a := 64) (b := 64) f
  have e2 : ∑ k : Fin 64, f ⟨64 + k.val, by omega⟩ = (∑ k : Fin 32, f ⟨32 + k.val, by omega⟩) + ∑ k : Fin 32, f ⟨k.val, by omega⟩ := by
    refine (Fin.sum_univ_add (a := 32) (b := 32) fun k : Fin 64 => f ⟨64 + k.val, by omega⟩).trans ?_
    congr 1
    · exact Finset.sum_congr rfl fun k _ => h.1 k
    · refine Finset.sum_congr rfl fun k _ => ?_
      rw [← h.2 k]
      exact congrArg f (Fin.ext (by show 64 + (32 + k.val) = 96 + k.val; omega))
  have e3 : ∑ k : Fin 64, f (lo k) = (∑ k : Fin 32, f ⟨k.val, by omega⟩) + ∑ k : Fin 32, f ⟨32 + k.val, by omega⟩ :=
    Fin.sum_univ_add (a := 32) (b := 32) fun k : Fin 64 => f (lo k)
  rw [e1, e2, add_comm (∑ k : Fin 32, f ⟨32 + k.val, by omega⟩), ← e3]

/-- A swapped row has the norm of its first half. -/
theorem scale_swapped {y : Fin 128 → EReal} (h : Swapped y) :
    scale (Ideal.ofBits .f32 0x43000000#32) y = scale (Ideal.ofBits .f32 0x42800000#32) fun k => y (lo k) := by
  have hs : Swapped fun k => y k * y k := ⟨fun j => by simp only [h.1], fun j => by simp only [h.2]⟩
  unfold scale
  rw [sum_swapped hs, word128, word64, double_div]

/-- The kernel's head is the normed head rotated. -/
theorem headK_eq {y g t : Fin 128 → EReal} (hy : Swapped y) (hg : Swapped g) (ht : Rotary t) :
    headK y g t = headR (rms (Ideal.ofBits .f32 0x42800000#32) (fun k => y (lo k)) fun k => g (lo k)) (fun j => t ⟨j.val, by omega⟩)
      fun j => t ⟨96 + j.val, by omega⟩ := by
  funext l
  unfold headK headR rope rms lo
  rw [scale_swapped hy]
  unfold lo
  generalize scale (Ideal.ofBits .f32 0x42800000#32) (fun k : Fin 64 => y ⟨k.val, by omega⟩) = r
  split_ifs with h h'
  · replace h' : l.val < 32 := h'
    have a1 : y ⟨l.val + 64, by omega⟩ = y ⟨l.val + 32, by omega⟩ := by
      have := hy.1 ⟨l.val, h'⟩; simpa only [add_comm] using this
    have a2 : g ⟨l.val + 64, by omega⟩ = g ⟨l.val + 32, by omega⟩ := by
      have := hg.1 ⟨l.val, h'⟩; simpa only [add_comm] using this
    have a3 : t ⟨l.val + 64, by omega⟩ = -t ⟨96 + l.val, by omega⟩ := by
      have := ht.2 ⟨l.val, h'⟩; simpa only [add_comm] using this
    rw [a1, a2, a3, mul_neg, mul_neg, ← sub_eq_add_neg, ← mul_assoc, ← mul_assoc]
  · replace h' : ¬l.val < 32 := h'
    have a0 : l.val - 32 < 32 := by omega
    have e1 : (⟨96 + (l.val - 32), by omega⟩ : Fin 128) = ⟨l.val + 64, by omega⟩ := Fin.ext (by show 96 + (l.val - 32) = l.val + 64; omega)
    have e2 : (⟨32 + (l.val - 32), by omega⟩ : Fin 128) = l := Fin.ext (by show 32 + (l.val - 32) = l.val; omega)
    have a1 : y ⟨l.val + 64, by omega⟩ = y ⟨l.val - 32, by omega⟩ := by
      have := hy.2 ⟨l.val - 32, a0⟩; rw [← this]; exact congrArg y e1.symm
    have a2 : g ⟨l.val + 64, by omega⟩ = g ⟨l.val - 32, by omega⟩ := by
      have := hg.2 ⟨l.val - 32, a0⟩; rw [← this]; exact congrArg g e1.symm
    have a3 : t l = t ⟨l.val - 32, by omega⟩ := by
      have := ht.1 ⟨l.val - 32, a0⟩; rw [← this]; exact congrArg t e2.symm
    show _ = y ⟨l.val - 32, by omega⟩ * r * g ⟨l.val - 32, by omega⟩ * t ⟨96 + (l.val - 32), by omega⟩ + y l * r * g l * t ⟨l.val - 32, by omega⟩
    rw [a1, a2, a3, e1, add_comm, ← mul_assoc, ← mul_assoc]
  · rfl

/-- The kernel's rotation of a head's second part is the rotary embedding of its 32 lanes. -/
theorem tailK_eq {y t : Fin 128 → EReal} (hy : SwappedTail y) (ht : RotaryTail t) :
    tailK y t = tailR (fun k => y (lo k) * t (lo k)) (fun j => y ⟨64 + j.val, by omega⟩) (fun j => t ⟨64 + j.val, by omega⟩)
      fun j => t ⟨112 + j.val, by omega⟩ := by
  funext l
  unfold tailK tailR rope lo
  by_cases h : l.val < 64
  · rw [if_pos h, dif_pos h]
  rw [if_neg h, dif_neg h]
  by_cases h1 : l.val < 96
  · rw [dif_pos h1, dif_pos h1]
    by_cases h2 : l.val - 64 < 16
    · rw [dif_pos h2]
      have e0 : (⟨64 + (l.val - 64), by omega⟩ : Fin 128) = l := Fin.ext (by show 64 + (l.val - 64) = l.val; omega)
      have e1 : (⟨l.val + 32, by omega⟩ : Fin 128) = ⟨96 + (l.val - 64), by omega⟩ := Fin.ext (by show l.val + 32 = 96 + (l.val - 64); omega)
      have e2 : (⟨64 + (l.val - 64 + 16), by omega⟩ : Fin 128) = ⟨80 + (l.val - 64), by omega⟩ := Fin.ext (by show 64 + (l.val - 64 + 16) = 80 + (l.val - 64); omega)
      have a1 := hy.1 ⟨l.val - 64, h2⟩
      have a2 := ht.2 ⟨l.val - 64, h2⟩
      simp only at a1 a2 ⊢
      rw [e1, a1, a2, mul_neg, ← sub_eq_add_neg, e0, e2]
    · rw [dif_neg h2]
      have h3 : l.val - 80 < 16 := by omega
      have e0 : (⟨80 + (l.val - 80), by omega⟩ : Fin 128) = l := Fin.ext (by show 80 + (l.val - 80) = l.val; omega)
      have e1 : (⟨l.val + 32, by omega⟩ : Fin 128) = ⟨112 + (l.val - 80), by omega⟩ := Fin.ext (by show l.val + 32 = 112 + (l.val - 80); omega)
      have e2 : (⟨64 + (l.val - 64), by omega⟩ : Fin 128) = l := Fin.ext (by show 64 + (l.val - 64) = l.val; omega)
      have a1 := hy.2 ⟨l.val - 80, h3⟩
      have a2 := ht.1 ⟨l.val - 80, h3⟩
      have e3 : l.val - 64 - 16 = l.val - 80 := by omega
      simp only [e3] at a1 a2 ⊢
      rw [e0] at a2
      rw [e1, a1, a2, e2, add_comm]
  · rw [dif_neg h1, dif_neg h1]

/-- A row that is zero from lane 64 on, plus the rotated rest of a row that is zero below. -/
theorem tail_add {z y t : Fin 128 → EReal} (hz : ∀ l : Fin 128, 64 ≤ l.val → z l = 0) (h0 : ∀ l : Fin 128, l.val < 64 → y l = 0)
    (hy : SwappedTail y) (ht : RotaryTail t) (l : Fin 128) :
    z l + tailK y t l = tailR (fun k => z (lo k)) (fun j => y ⟨64 + j.val, by omega⟩) (fun j => t ⟨64 + j.val, by omega⟩)
      (fun j => t ⟨112 + j.val, by omega⟩) l := by
  rw [tailK_eq hy ht]
  unfold tailR
  split_ifs with h h1
  · show _ + y l * _ = _
    rw [h0 l h, zero_mul, add_zero]; rfl
  · rw [hz l (by omega), zero_add]
  · rw [hz l (by omega), zero_add]

/-- A row that is zero from lane 64 on, with a one put in that lane. -/
theorem one_eq {z : Fin 128 → EReal} (hz : ∀ l : Fin 128, 64 ≤ l.val → z l = 0) (l : Fin 128) :
    (if l.val = 64 then 1 else z l) = oneR (fun k => z (lo k)) l := by
  unfold oneR
  split_ifs with h1 h2 h3 h2 h3
  · omega
  · rfl
  · omega
  · rfl
  · omega
  · exact hz l (by omega)

/-- Equal columns give equal products. -/
theorem proj_congr {n k : ℕ} (x : Fin n → EReal) (w : Fin n → Fin k → EReal) (l l' : Fin k) (h : ∀ i, w i l = w i l') :
    proj x w l = proj x w l' := Finset.sum_congr rfl fun i _ => by rw [h i]

/-- A column of zeros gives zero. -/
theorem proj_zero {n k : ℕ} (x : Fin n → EReal) (w : Fin n → Fin k → EReal) (l : Fin k) (h : ∀ i, w i l = 0) :
    proj x w l = 0 := Finset.sum_eq_zero fun i _ => by rw [h i, mul_zero]

/-- Swapped columns give a swapped row of products. -/
theorem swapped_proj {n : ℕ} (x : Fin n → EReal) (w : Fin n → Fin 128 → EReal) (h : ∀ i, Swapped (w i)) : Swapped (proj x w) :=
  ⟨fun j => proj_congr x w _ _ fun i => (h i).1 j, fun j => proj_congr x w _ _ fun i => (h i).2 j⟩

/-- So do columns swapped in their second part. -/
theorem swappedTail_proj {n : ℕ} (x : Fin n → EReal) (w : Fin n → Fin 128 → EReal) (h : ∀ i, SwappedTail (w i)) : SwappedTail (proj x w) :=
  ⟨fun j => proj_congr x w _ _ fun i => (h i).1 j, fun j => proj_congr x w _ _ fun i => (h i).2 j⟩

/-- `d` columns of a matrix, from column `s` on. -/
def cols {n k : ℕ} (w : Fin n → Fin k → EReal) (s d : ℕ) (i : Fin n) (l : Fin d) : EReal :=
  if h : s + l.val < k then w i ⟨s + l.val, h⟩ else 0

/-- A column's lane within its head. -/
def lane (c : ℕ) : Fin 128 := ⟨c % 128, Nat.mod_lt _ (by norm_num)⟩

/-- The query's latent row: a product, normed. -/
def qLat (X : Fin 1024 → EReal) (W : Fin 1024 → Fin 3200 → EReal) (nq : Fin 384 → EReal) : Fin 384 → EReal :=
  rms (Ideal.ofBits .f32 0x43C00000#32) (proj X (cols W 2432 384)) nq

/-- The keys' and values' latent row: a product, normed. -/
def kvLat (X : Fin 1024 → EReal) (W : Fin 1024 → Fin 3200 → EReal) (nkv : Fin 256 → EReal) : Fin 256 → EReal :=
  rms (Ideal.ofBits .f32 0x43800000#32) (proj X (cols W 2816 256)) nkv

/-- The products of the head that column `c` lies in, the heads starting at column `s`. -/
def headOf {n k : ℕ} (X : Fin n → EReal) (W : Fin n → Fin k → EReal) (s c : ℕ) : Fin 128 → EReal := proj X (cols W (s + c / 128 * 128) 128)

theorem lane_at (q : ℕ) (l : Fin 128) : lane (q * 128 + l.val) = l := Fin.ext (by show (q * 128 + l.val) % 128 = l.val; omega)

/-- The products of head `q`, lane by lane. -/
theorem headOf_at {n k : ℕ} (X : Fin n → EReal) (W : Fin n → Fin k → EReal) (s q : ℕ) (l j : Fin 128) (h : s + (q * 128 + 128) ≤ k) :
    headOf X W s (q * 128 + l.val) j = proj X W ⟨s + (q * 128 + j.val), by omega⟩ := by
  unfold headOf proj cols
  refine Finset.sum_congr rfl fun i _ => ?_
  have e : s + (q * 128 + l.val) / 128 * 128 + j.val = s + (q * 128 + j.val) := by omega
  rw [dif_pos (by omega)]
  simp only [e]

/-- Columns that lie in the matrix. -/
theorem proj_cols {n k : ℕ} (X : Fin n → EReal) (W : Fin n → Fin k → EReal) (s d : ℕ) (h : s + d ≤ k) (l : Fin d) :
    proj X (cols W s d) l = proj X W ⟨s + l.val, by omega⟩ := by
  unfold proj cols
  refine Finset.sum_congr rfl fun i _ => ?_
  rw [dif_pos (by omega)]

/-- Column `c` of the kernel's rotated heads. -/
def headsK (X : Fin 1024 → EReal) (W : Fin 1024 → Fin 3200 → EReal) (s : ℕ) (g t : Fin 128 → EReal) (c : ℕ) : EReal :=
  headK (headOf X W s c) g t (lane c)

/-- Column `c` of the reference's rotated heads. -/
def headsR (X : Fin 1024 → EReal) (W : Fin 1024 → Fin 3200 → EReal) (s : ℕ) (g t : Fin 128 → EReal) (c : ℕ) : EReal :=
  headR (rms (Ideal.ofBits .f32 0x42800000#32) (fun k => headOf X W s c (lo k)) fun k => g (lo k)) (fun j => t ⟨j.val, by omega⟩)
    (fun j => t ⟨96 + j.val, by omega⟩) (lane c)

/-- Column `c` of the kernel's values with a one, from products `y` of the head. -/
def onesK (y : Fin 128 → EReal) (c : ℕ) : EReal := if (lane c).val = 64 then 1 else y (lane c)

/-- Column `c` of the reference's values with a one. -/
def onesR (y : Fin 128 → EReal) (c : ℕ) : EReal := oneR (fun k => y (lo k)) (lane c)

/-- Column `c` of the kernel's latent queries. -/
def qTailsK (x : Fin 384 → EReal) (U : Fin 384 → Fin 512 → EReal) (t : Fin 128 → EReal) (c : ℕ) : EReal :=
  tailK (headOf x U 0 c) t (lane c)

/-- Column `c` of the reference's latent queries. -/
def qTailsR (x : Fin 384 → EReal) (U : Fin 384 → Fin 512 → EReal) (t : Fin 128 → EReal) (c : ℕ) : EReal :=
  tailR (fun k => headOf x U 0 c (lo k) * t (lo k)) (fun j => headOf x U 0 c ⟨64 + j.val, by omega⟩) (fun j => t ⟨64 + j.val, by omega⟩)
    (fun j => t ⟨112 + j.val, by omega⟩) (lane c)

/-- Column `c` of the kernel's latent keys; `y` is the row of the part the heads share. -/
def kTailsK (x : Fin 256 → EReal) (U : Fin 256 → Fin 512 → EReal) (y t : Fin 128 → EReal) (c : ℕ) : EReal :=
  headOf x U 0 c (lane c) + tailK y t (lane c)

/-- Column `c` of the reference's latent keys. -/
def kTailsR (x : Fin 256 → EReal) (U : Fin 256 → Fin 512 → EReal) (y t : Fin 128 → EReal) (c : ℕ) : EReal :=
  tailR (fun k => headOf x U 0 c (lo k)) (fun j => y ⟨64 + j.val, by omega⟩) (fun j => t ⟨64 + j.val, by omega⟩)
    (fun j => t ⟨112 + j.val, by omega⟩) (lane c)

theorem headsK_eq {X : Fin 1024 → EReal} {W : Fin 1024 → Fin 3200 → EReal} {s : ℕ} {g t : Fin 128 → EReal} {c : ℕ}
    (hW : ∀ i, Swapped (cols W (s + c / 128 * 128) 128 i)) (hg : Swapped g) (ht : Rotary t) : headsK X W s g t c = headsR X W s g t c := by
  unfold headsK headsR
  rw [headK_eq (y := headOf X W s c) (swapped_proj _ _ hW) hg ht]

theorem onesK_eq {y : Fin 128 → EReal} (hy : ∀ l : Fin 128, 64 ≤ l.val → y l = 0) (c : ℕ) : onesK y c = onesR y c := one_eq hy _

theorem qTailsK_eq {x : Fin 384 → EReal} {U : Fin 384 → Fin 512 → EReal} {t : Fin 128 → EReal} {c : ℕ}
    (hU : ∀ i, SwappedTail (cols U (0 + c / 128 * 128) 128 i)) (ht : RotaryTail t) : qTailsK x U t c = qTailsR x U t c := by
  unfold qTailsK qTailsR
  rw [tailK_eq (y := headOf x U 0 c) (swappedTail_proj _ _ hU) ht]

theorem kTailsK_eq {x : Fin 256 → EReal} {U : Fin 256 → Fin 512 → EReal} {y t : Fin 128 → EReal} {c : ℕ}
    (hU : ∀ l : Fin 128, 64 ≤ l.val → headOf x U 0 c l = 0) (h0 : ∀ l : Fin 128, l.val < 64 → y l = 0) (hy : SwappedTail y) (ht : RotaryTail t) :
    kTailsK x U y t c = kTailsR x U y t c := tail_add hU h0 hy ht _

end Cert.QkvRow

end
-- ==== Proof.QkvValue.lean ====
/-
  The projections kernel's nine result arrays, from the arguments. A grid point handles one block of 512 rows; the tables
  of positions repeat with every sequence.
-/
module

public import proofs.«01_k».proof.Proof.QkvRow
public import proofs.«01_k».proof.Proof.Gen.QkvIdeal.Value

@[expose] public section

set_option maxRecDepth 16384

noncomputable section

open Idealize.ShloMosaic Idealize.ShloMosaic.TcCoe Idealize.SL.Sem

namespace Cert.QkvIdeal.Hand

open Cert.QkvIdeal Cert.QkvIdeal.Gen Cert.QkvRow

/-- Whether a lane lies below `n`, as a word. -/
theorem lane_lt (l : Fin 128) (n : ℕ) (hn : n < 128) :
    IntOp.cmpi .slt (BitVec.ofNat 32 l.val) (BitVec.ofNat 32 n) = if l.val < n then 1#1 else 0#1 := by
  rw [WordCmp.cmpi_slt_ofNat (by omega) (by omega)]
  by_cases h : l.val < n <;> simp [h]

/-- Whether a lane is lane `n`, as a word. -/
theorem lane_eq (l : Fin 128) (n : ℕ) (hn : n < 128) :
    IntOp.cmpi .eq (BitVec.ofNat 32 l.val) (BitVec.ofNat 32 n) = if l.val = n then 1#1 else 0#1 := by
  rw [WordCmp.cmpi_eq_ofNat (by omega) (by omega)]
  by_cases h : l.val = n <;> simp [h]

/-- One rotated head over a block, at an index. -/
theorem pay7_apply (v1 : FVec Ideal S512x1024 .bf16) (v15 : Vec Ideal S512x128 .f32) (v16 : Vec Ideal S1x128 .f32)
    (v40 : Vec Ideal S1024x128 .bf16) (r : Fin 512) (l : Fin 128) :
    k0_pay7 v1 (iota .tc S512x128 32 [1] iota_S512x128_d1_w32) v15 v16 v40 (ix2 r l)
      = headK (proj (mat 512 1024 v1 r) (mat 1024 128 v40)) (mat 1 128 v16 0) (mat 512 128 v15 r) l := by
  unfold k0_pay7
  pointwise
  rw [lane_lt l 64 (by norm_num)]
  unfold headK proj mat scale eps
  by_cases h : l.val < 64
  · rw [if_pos h, dif_pos h]
    have e : (⟨(l.val + 128 - 64) % 128, Nat.mod_lt _ (by norm_num)⟩ : Fin 128) = ⟨l.val + 64, by omega⟩ :=
      Fin.ext (by show (l.val + 128 - 64) % 128 = l.val + 64; omega)
    rw [e]
    rfl
  · rw [if_neg h, dif_neg h]
    rfl

/-- One value head with a one, at an index. -/
theorem pay22_apply (v1 : FVec Ideal S512x1024 .bf16) (v40 : Vec Ideal S1024x128 .bf16) (r : Fin 512) (l : Fin 128) :
    k0_pay22 v1 (iota .tc S512x128 32 [1] iota_S512x128_d1_w32) v40 (ix2 r l)
      = if l.val = 64 then 1 else proj (mat 512 1024 v1 r) (mat 1024 128 v40) l := by
  unfold k0_pay22
  pointwise
  rw [lane_eq l 64 (by norm_num)]
  unfold proj mat
  by_cases h : l.val = 64
  · rw [if_pos h, if_pos h]; rfl
  · rw [if_neg h, if_neg h]; rfl

/-- The latent queries' product, at an index. -/
theorem pay23_apply (v1 : FVec Ideal S512x1024 .bf16) (v218 : Vec Ideal S1024x384 .bf16) (v220 : Vec Ideal S1x384 .f32)
    (v234 : Vec Ideal S384x512 .bf16) (r : Fin 512) (c : Fin 512) :
    k0_pay23 v1 v218 v220 v234 (ix2 r c)
      = proj (rms (Ideal.ofBits .f32 0x43C00000#32) (proj (mat 512 1024 v1 r) (mat 1024 384 v218)) (mat 1 384 v220 0)) (mat 384 512 v234) c := by
  unfold k0_pay23 proj rms scale eps mat
  pointwise

/-- The latent keys' product, at an index. -/
theorem pay35_apply (v1 : FVec Ideal S512x1024 .bf16) (v289 : Vec Ideal S1024x256 .bf16) (v291 : Vec Ideal S1x256 .f32)
    (v305 : Vec Ideal S256x512 .bf16) (r : Fin 512) (c : Fin 512) :
    k0_pay35 (k0_pay32 v1 v289) v291 (k0_pay33 v1 v289) v305 (ix2 r c)
      = proj (rms (Ideal.ofBits .f32 0x43800000#32) (proj (mat 512 1024 v1 r) (mat 1024 256 v289)) (mat 1 256 v291 0)) (mat 256 512 v305) c := by
  have e : ∀ x : Fin 256, k0_pay32 v1 v289 (ix2 r x) = ∑ i : Fin 1024, v1 (ix2 r i) * v289 (ix2 i x) := fun x => by
    unfold k0_pay32
    pointwise
  unfold k0_pay35 k0_pay34 k0_pay33 proj rms scale eps mat
  pointwise
  simp only [e]

/-- The choice of lanes that rotates a head's second part. -/
theorem tail_sel (y t : Fin 128 → EReal) (l : Fin 128) :
    Scalar.select (IntOp.cmpi .slt (BitVec.ofNat 32 l.val) 64#32) (y l * t l)
        (Scalar.select (IntOp.cmpi .slt (BitVec.ofNat 32 l.val) 96#32)
          (y l * t l + y ⟨(l.val + 128 - 96) % 128, Nat.mod_lt _ (by norm_num)⟩ * t ⟨(l.val + 128 - 96) % 128, Nat.mod_lt _ (by norm_num)⟩) (0 : EReal))
      = tailK y t l := by
  rw [lane_lt l 64 (by norm_num), lane_lt l 96 (by norm_num)]
  unfold tailK
  by_cases h : l.val < 64
  · rw [if_pos h, if_pos h]; rfl
  · rw [if_neg h, if_neg h]
    by_cases h' : l.val < 96
    · rw [if_pos h', dif_pos h']
      have e : (⟨(l.val + 128 - 96) % 128, Nat.mod_lt _ (by norm_num)⟩ : Fin 128) = ⟨l.val + 32, by omega⟩ :=
        Fin.ext (by show (l.val + 128 - 96) % 128 = l.val + 32; omega)
      rw [e]
      rfl
    · rw [if_neg h', dif_neg h']; rfl

/-- The shared part of the latent keys, at an index. -/
theorem pay37_apply (v1 : FVec Ideal S512x1024 .bf16) (v309 : Vec Ideal S1024x128 .bf16) (v311 : Vec Ideal S512x128 .f32)
    (r : Fin 512) (l : Fin 128) :
    k0_pay37 v1 (iota .tc S512x128 32 [1] iota_S512x128_d1_w32) v309 v311 (ix2 r l)
      = tailK (proj (mat 512 1024 v1 r) (mat 1024 128 v309)) (mat 512 128 v311 r) l := by
  rw [← tail_sel]
  unfold k0_pay37 proj mat
  pointwise

/-- One head of latent queries, at an index. -/
theorem pay30_apply (v235 : FVec Ideal S512x512 .f32) (v236 : Vec Ideal S512x128 .f32) (r : Fin 512) (l : Fin 128) :
    k0_pay30 (iota .tc S512x128 32 [1] iota_S512x128_d1_w32) v235 v236 (ix2 r l)
      = tailK (fun l => mat 512 512 v235 r ⟨256 + l.val, by omega⟩) (mat 512 128 v236 r) l := by
  rw [← tail_sel]
  unfold k0_pay30 mat
  pointwise

/-- One head of latent queries, at an index. -/
theorem pay31_apply (v235 : FVec Ideal S512x512 .f32) (v236 : Vec Ideal S512x128 .f32) (r : Fin 512) (l : Fin 128) :
    k0_pay31 (iota .tc S512x128 32 [1] iota_S512x128_d1_w32) v235 v236 (ix2 r l)
      = tailK (fun l => mat 512 512 v235 r ⟨384 + l.val, by omega⟩) (mat 512 128 v236 r) l := by
  rw [← tail_sel]
  unfold k0_pay31 mat
  pointwise

/-- The first head of latent queries, at an index. -/
theorem pay24_apply (v1 : FVec Ideal S512x1024 .bf16) (v218 : Vec Ideal S1024x384 .bf16) (v220 : Vec Ideal S1x384 .f32)
    (v234 : Vec Ideal S384x512 .bf16) (v236 : Vec Ideal S512x128 .f32) (r : Fin 512) (l : Fin 128) :
    k0_pay24 v1 (iota .tc S512x128 32 [1] iota_S512x128_d1_w32) v218 v220 v234 v236 (ix2 r l)
      = tailK (fun l => mat 512 512 (k0_pay23 v1 v218 v220 v234) r ⟨0 + l.val, by omega⟩) (mat 512 128 v236 r) l := by
  rw [← tail_sel]
  unfold k0_pay24 mat
  pointwise

/-- The second head of latent queries, at an index. -/
theorem pay29_apply (v1 : FVec Ideal S512x1024 .bf16) (v218 : Vec Ideal S1024x384 .bf16) (v220 : Vec Ideal S1x384 .f32)
    (v234 : Vec Ideal S384x512 .bf16) (v236 : Vec Ideal S512x128 .f32) (r : Fin 512) (l : Fin 128) :
    k0_pay29 (k0_pay25 v1 v218 v220 v234 v236) (k0_pay26 v1 v218 v220 v234 v236)
        (k0_pay27 (iota .tc S512x128 32 [1] iota_S512x128_d1_w32)) (k0_pay28 (iota .tc S512x128 32 [1] iota_S512x128_d1_w32)) (ix2 r l)
      = tailK (fun l => mat 512 512 (k0_pay23 v1 v218 v220 v234) r ⟨128 + l.val, by omega⟩) (mat 512 128 v236 r) l := by
  rw [← tail_sel]
  unfold k0_pay29 k0_pay25 k0_pay26 k0_pay27 k0_pay28 k0_pay25 mat
  pointwise

/-- One head of latent keys, at an index. -/
theorem pay40_apply (v306 : FVec Ideal S512x512 .f32) (v321 : FVec Ideal S512x128 .f32) (r : Fin 512) (l : Fin 128) :
    k0_pay40 v306 v321 (ix2 r l) = mat 512 512 v306 r ⟨128 + l.val, by omega⟩ + v321 (ix2 r l) := by
  unfold k0_pay40 mat
  pointwise

/-- One head of latent keys, at an index. -/
theorem pay42_apply (v306 : FVec Ideal S512x512 .f32) (v321 : FVec Ideal S512x128 .f32) (r : Fin 512) (l : Fin 128) :
    k0_pay42 v306 v321 (ix2 r l) = mat 512 512 v306 r ⟨256 + l.val, by omega⟩ + v321 (ix2 r l) := by
  unfold k0_pay42 mat
  pointwise

/-- One head of latent keys, at an index. -/
theorem pay44_apply (v306 : FVec Ideal S512x512 .f32) (v321 : FVec Ideal S512x128 .f32) (r : Fin 512) (l : Fin 128) :
    k0_pay44 v306 v321 (ix2 r l) = mat 512 512 v306 r ⟨384 + l.val, by omega⟩ + v321 (ix2 r l) := by
  unfold k0_pay44 mat
  pointwise

/-- One head of latent values with a one, at an index. -/
theorem pay41_apply (v308 : FVec Ideal S512x512 .f32) (r : Fin 512) (l : Fin 128) :
    k0_pay41 (iota .tc S512x128 32 [1] iota_S512x128_d1_w32) v308 (ix2 r l)
      = if l.val = 64 then 1 else mat 512 512 v308 r ⟨128 + l.val, by omega⟩ := by
  unfold k0_pay41
  pointwise
  rw [lane_eq l 64 (by norm_num)]
  unfold mat
  by_cases h : l.val = 64
  · rw [if_pos h, if_pos h]; rfl
  · rw [if_neg h, if_neg h]; rfl

/-- One head of latent values with a one, at an index. -/
theorem pay43_apply (v308 : FVec Ideal S512x512 .f32) (r : Fin 512) (l : Fin 128) :
    k0_pay43 (iota .tc S512x128 32 [1] iota_S512x128_d1_w32) v308 (ix2 r l)
      = if l.val = 64 then 1 else mat 512 512 v308 r ⟨256 + l.val, by omega⟩ := by
  unfold k0_pay43
  pointwise
  rw [lane_eq l 64 (by norm_num)]
  unfold mat
  by_cases h : l.val = 64
  · rw [if_pos h, if_pos h]; rfl
  · rw [if_neg h, if_neg h]; rfl

/-- One head of latent values with a one, at an index. -/
theorem pay45_apply (v308 : FVec Ideal S512x512 .f32) (r : Fin 512) (l : Fin 128) :
    k0_pay45 (iota .tc S512x128 32 [1] iota_S512x128_d1_w32) v308 (ix2 r l)
      = if l.val = 64 then 1 else mat 512 512 v308 r ⟨384 + l.val, by omega⟩ := by
  unfold k0_pay45
  pointwise
  rw [lane_eq l 64 (by norm_num)]
  unfold mat
  by_cases h : l.val = 64
  · rw [if_pos h, if_pos h]; rfl
  · rw [if_neg h, if_neg h]; rfl

section
variable (x0 : Vec Ideal S512x1024 .f32) (x1 : Vec Ideal S1024x3200 .bf16) (x2 x3 x4 : Vec Ideal S512x128 .f32)
    (x5 x6 : Vec Ideal S1x128 .f32) (x7 : Vec Ideal S1x384 .f32) (x8 : Vec Ideal S1x256 .f32) (x9 : Vec Ideal S384x512 .bf16)
    (x10 x11 : Vec Ideal S256x512 .bf16)

/-- The rows, rounded: exact numbers do not change. -/
theorem ld_x (r : Fin 512) : mat 512 1024 (k0_pay1 (View.ld x0 r0_0)) r = mat 512 1024 x0 r := by
  funext k
  unfold k0_pay1 mat
  pointwise

theorem ld_w1152 : mat 1024 128 (View.ld x1 r0_7) = cols (mat 1024 3200 x1) 1152 128 := by
  funext i l
  unfold cols mat
  rw [dif_pos (by omega)]
  pointwise

theorem ld_w1280 : mat 1024 128 (View.ld x1 r0_9) = cols (mat 1024 3200 x1) 1280 128 := by
  funext i l
  unfold cols mat
  rw [dif_pos (by omega)]
  pointwise

theorem ld_w1408 : mat 1024 128 (View.ld x1 r0_11) = cols (mat 1024 3200 x1) 1408 128 := by
  funext i l
  unfold cols mat
  rw [dif_pos (by omega)]
  pointwise

theorem ld_w1536 : mat 1024 128 (View.ld x1 r0_13) = cols (mat 1024 3200 x1) 1536 128 := by
  funext i l
  unfold cols mat
  rw [dif_pos (by omega)]
  pointwise

theorem ld_w1664 : mat 1024 128 (View.ld x1 r0_15) = cols (mat 1024 3200 x1) 1664 128 := by
  funext i l
  unfold cols mat
  rw [dif_pos (by omega)]
  pointwise

theorem ld_w1792 : mat 1024 128 (View.ld x1 r0_17) = cols (mat 1024 3200 x1) 1792 128 := by
  funext i l
  unfold cols mat
  rw [dif_pos (by omega)]
  pointwise

theorem ld_w1920 : mat 1024 128 (View.ld x1 r0_19) = cols (mat 1024 3200 x1) 1920 128 := by
  funext i l
  unfold cols mat
  rw [dif_pos (by omega)]
  pointwise

theorem ld_w2048 : mat 1024 128 (View.ld x1 r0_22) = cols (mat 1024 3200 x1) 2048 128 := by
  funext i l
  unfold cols mat
  rw [dif_pos (by omega)]
  pointwise

theorem ld_w2176 : mat 1024 128 (View.ld x1 r0_21) = cols (mat 1024 3200 x1) 2176 128 := by
  funext i l
  unfold cols mat
  rw [dif_pos (by omega)]
  pointwise

theorem ld_w2304 : mat 1024 128 (View.ld x1 r0_24) = cols (mat 1024 3200 x1) 2304 128 := by
  funext i l
  unfold cols mat
  rw [dif_pos (by omega)]
  pointwise

theorem ld_w2432 : mat 1024 384 (View.ld x1 r0_25) = cols (mat 1024 3200 x1) 2432 384 := by
  funext i l
  unfold cols mat
  rw [dif_pos (by omega)]
  pointwise

theorem ld_w2816 : mat 1024 256 (View.ld x1 r0_32) = cols (mat 1024 3200 x1) 2816 256 := by
  funext i l
  unfold cols mat
  rw [dif_pos (by omega)]
  pointwise

theorem ld_w3072 : mat 1024 128 (View.ld x1 r0_35) = cols (mat 1024 3200 x1) 3072 128 := by
  funext i l
  unfold cols mat
  rw [dif_pos (by omega)]
  pointwise

/-- Result 0 over a block: a product. -/
theorem out12_apply (r : Fin 512) (l : Fin 384) :
    out0_12 x0 x1 x2 x3 x4 x5 x6 x7 x8 x9 x10 x11 (ix2 r l) = proj (mat 512 1024 x0 r) (cols (mat 1024 3200 x1) 0 384) l := by
  unfold out0_12
  rw [View.canon_cons_unit_zero]
  · rw [proj_cols _ _ _ _ (by norm_num)]
    unfold k0_pay2 k0_pay1 proj mat
    pointwise
  · funext a; fin_cases a <;> rfl

/-- Result 1 over a block: a product. -/
theorem out13_apply (r : Fin 512) (l : Fin 384) :
    out0_13 x0 x1 x2 x3 x4 x5 x6 x7 x8 x9 x10 x11 (ix2 r l) = proj (mat 512 1024 x0 r) (cols (mat 1024 3200 x1) 384 384) l := by
  unfold out0_13
  rw [View.canon_cons_unit_zero]
  · rw [proj_cols _ _ _ _ (by norm_num)]
    unfold k0_pay3 k0_pay1 proj mat
    pointwise
  · funext a; fin_cases a <;> rfl

/-- Result 2 over a block: a product. -/
theorem out14_apply (r : Fin 512) (l : Fin 384) :
    out0_14 x0 x1 x2 x3 x4 x5 x6 x7 x8 x9 x10 x11 (ix2 r l) = proj (mat 512 1024 x0 r) (cols (mat 1024 3200 x1) 768 384) l := by
  unfold out0_14
  rw [View.canon_cons_unit_zero]
  · rw [proj_cols _ _ _ _ (by norm_num)]
    unfold k0_pay4 k0_pay1 proj mat
    pointwise
  · funext a; fin_cases a <;> rfl

/-- The rotated head `j` over a block. -/
theorem head_piece (w : Vec Ideal S1024x128 .bf16) (v15 : Vec Ideal S512x128 .f32) (v16 : Vec Ideal S1x128 .f32) (s j : ℕ)
    (hw : mat 1024 128 w = cols (mat 1024 3200 x1) (s + j * 128) 128)
    (h15 : ∀ r, mat 512 128 v15 r = mat 512 128 x2 r) (h16 : mat 1 128 v16 0 = mat 1 128 x5 0)
    (r : Fin 512) (c : ℕ) (x : S512x128.Idx) (h0 : r.val = (x 0).val) (h1 : c = j * 128 + (x 1).val) :
    k0_pay7 (k0_pay1 (View.ld x0 r0_0)) (iota .tc S512x128 32 [1] iota_S512x128_d1_w32) v15 v16 w x
      = headsK (mat 512 1024 x0 r) (mat 1024 3200 x1) s (mat 1 128 x5 0) (mat 512 128 x2 r) c := by
  obtain ⟨r', l, rfl⟩ : ∃ (r' : Fin 512) (l : Fin 128), x = ix2 r' l := ⟨x 0, x 1, ValueIdx.eq_ix2 x⟩
  obtain rfl : r' = r := Fin.ext (by rw [h0]; rfl)
  replace h1 : c = j * 128 + l.val := h1
  subst h1
  rw [pay7_apply, ld_x, h15, h16, hw]
  unfold headsK headOf
  rw [lane_at, show (j * 128 + l.val) / 128 = j by omega]

theorem ld_row (y : Vec Ideal S512x128 .f32) (r : Fin 512) : mat 512 128 (View.ld y r0_5) r = mat 512 128 y r := by
  funext l
  unfold mat
  pointwise

theorem ld_one (y : Vec Ideal S1x128 .f32) : mat 1 128 (View.ld y r0_6) 0 = mat 1 128 y 0 := by
  funext l
  unfold mat
  pointwise

/-- Result 3 over a block: the query heads. -/
theorem out15_apply (r : Fin 512) (l : Fin 768) :
    out0_15 x0 x1 x2 x3 x4 x5 x6 x7 x8 x9 x10 x11 (ix2 r l)
      = headsK (mat 512 1024 x0 r) (mat 1024 3200 x1) 1152 (mat 1 128 x5 0) (mat 512 128 x2 r) l.val := by
  unfold out0_15
  canon_tiles x h
  · exact head_piece x0 x1 x2 x5 (View.ld x1 r0_17) _ _ 1152 5 (ld_w1792 x1) (ld_row x2) (ld_one x5) r _ x h0 h1
  · exact head_piece x0 x1 x2 x5 (View.ld x1 r0_15) _ _ 1152 4 (ld_w1664 x1) (ld_row x2) (ld_one x5) r _ x h0 h1
  · exact head_piece x0 x1 x2 x5 (View.ld x1 r0_13) _ _ 1152 3 (ld_w1536 x1) (ld_row x2) (ld_one x5) r _ x h0 h1
  · exact head_piece x0 x1 x2 x5 (View.ld x1 r0_11) _ _ 1152 2 (ld_w1408 x1) (ld_row x2) (ld_one x5) r _ x h0 h1
  · exact head_piece x0 x1 x2 x5 (View.ld x1 r0_9) _ _ 1152 1 (ld_w1280 x1) (ld_row x2) (ld_one x5) r _ x h0 h1
  · exact head_piece x0 x1 x2 x5 (View.ld x1 r0_7) _ _ 1152 0 (ld_w1152 x1) (ld_row x2) (ld_one x5) r _ x h0 (h1.trans (by rw [Nat.zero_mul, Nat.zero_add]))

/-- Result 4 over a block: the key heads. -/
theorem out16_apply (r : Fin 512) (l : Fin 256) :
    out0_16 x0 x1 x2 x3 x4 x5 x6 x7 x8 x9 x10 x11 (ix2 r l)
      = headsK (mat 512 1024 x0 r) (mat 1024 3200 x1) 1920 (mat 1 128 x6 0) (mat 512 128 x2 r) l.val := by
  unfold out0_16
  canon_tiles x h
  · exact head_piece x0 x1 x2 x6 (View.ld x1 r0_22) _ _ 1920 1 (ld_w2048 x1) (ld_row x2) (ld_one x6) r _ x h0 h1
  · exact head_piece x0 x1 x2 x6 (View.ld x1 r0_19) _ _ 1920 0 (ld_w1920 x1) (ld_row x2) (ld_one x6) r _ x h0 (h1.trans (by rw [Nat.zero_mul, Nat.zero_add]))

/-- The value head `j` over a block. -/
theorem value_piece (w : Vec Ideal S1024x128 .bf16) (s j : ℕ) (hw : mat 1024 128 w = cols (mat 1024 3200 x1) (s + j * 128) 128)
    (r : Fin 512) (c : ℕ) (x : S512x128.Idx) (h0 : r.val = (x 0).val) (h1 : c = j * 128 + (x 1).val) :
    k0_pay22 (k0_pay1 (View.ld x0 r0_0)) (iota .tc S512x128 32 [1] iota_S512x128_d1_w32) w x
      = onesK (headOf (mat 512 1024 x0 r) (mat 1024 3200 x1) s c) c := by
  obtain ⟨r', l, rfl⟩ : ∃ (r' : Fin 512) (l : Fin 128), x = ix2 r' l := ⟨x 0, x 1, ValueIdx.eq_ix2 x⟩
  obtain rfl : r' = r := Fin.ext (by rw [h0]; rfl)
  replace h1 : c = j * 128 + l.val := h1
  subst h1
  rw [pay22_apply, ld_x, hw]
  unfold onesK headOf
  rw [lane_at, show (j * 128 + l.val) / 128 = j by omega]

/-- Result 5 over a block: the value heads. -/
theorem out17_apply (r : Fin 512) (l : Fin 256) :
    out0_17 x0 x1 x2 x3 x4 x5 x6 x7 x8 x9 x10 x11 (ix2 r l)
      = onesK (headOf (mat 512 1024 x0 r) (mat 1024 3200 x1) 2176 l.val) l.val := by
  unfold out0_17
  canon_tiles x h
  · exact value_piece x0 x1 (View.ld x1 r0_24) 2176 1 (ld_w2304 x1) r _ x h0 h1
  · exact value_piece x0 x1 (View.ld x1 r0_21) 2176 0 (ld_w2176 x1) r _ x h0 (h1.trans (by rw [Nat.zero_mul, Nat.zero_add]))

/-- The latent queries' product over a block. -/
theorem q_block (r : Fin 512) : mat 512 512 (k0_pay23 (k0_pay1 (View.ld x0 r0_0)) (View.ld x1 r0_25) (View.ld x7 r0_26) (View.ld x9 r0_27)) r
    = proj (qLat (mat 512 1024 x0 r) (mat 1024 3200 x1) (mat 1 384 x7 0)) (mat 384 512 x9) := by
  have e7 : mat 1 384 (View.ld x7 r0_26) 0 = mat 1 384 x7 0 := by
    funext l; unfold mat; pointwise
  have e9 : mat 384 512 (View.ld x9 r0_27) = mat 384 512 x9 := by
    funext k l; unfold mat; pointwise
  funext c
  rw [show mat 512 512 (k0_pay23 (k0_pay1 (View.ld x0 r0_0)) (View.ld x1 r0_25) (View.ld x7 r0_26) (View.ld x9 r0_27)) r c = _ from
    pay23_apply _ _ _ _ r c, ld_x, ld_w2432, e7, e9]
  rfl

/-- The latent keys' (or values') product over a block. -/
theorem kv_block (y : Vec Ideal S256x512 .bf16) (r : Fin 512) :
    mat 512 512 (k0_pay35 (k0_pay32 (k0_pay1 (View.ld x0 r0_0)) (View.ld x1 r0_32)) (View.ld x8 r0_33) (k0_pay33 (k0_pay1 (View.ld x0 r0_0)) (View.ld x1 r0_32)) (View.ld y r0_34)) r
    = proj (kvLat (mat 512 1024 x0 r) (mat 1024 3200 x1) (mat 1 256 x8 0)) (mat 256 512 y) := by
  have e8 : mat 1 256 (View.ld x8 r0_33) 0 = mat 1 256 x8 0 := by
    funext l; unfold mat; pointwise
  have ey : mat 256 512 (View.ld y r0_34) = mat 256 512 y := by
    funext k l; unfold mat; pointwise
  funext c
  rw [show mat 512 512 (k0_pay35 (k0_pay32 (k0_pay1 (View.ld x0 r0_0)) (View.ld x1 r0_32)) (View.ld x8 r0_33) (k0_pay33 (k0_pay1 (View.ld x0 r0_0)) (View.ld x1 r0_32)) (View.ld y r0_34)) r c = _ from
    pay35_apply _ _ _ _ r c, ld_x, ld_w2816, e8, ey]
  rfl

/-- The products of head `j`, from the product of all heads. -/
theorem head_cols {n : ℕ} (X : Fin n → EReal) (U : Fin n → Fin 512 → EReal) (j : ℕ) (hj : j < 4) (l : Fin 128) :
    (fun k : Fin 128 => proj X U ⟨j * 128 + k.val, by omega⟩) = headOf X U 0 (j * 128 + l.val) := by
  funext k
  rw [headOf_at _ _ _ _ l k (by omega)]
  simp only [Nat.zero_add]

/-- One of the latent query heads, from the product of all. -/
theorem q_piece (P : FVec Ideal S512x128 .bf16) (j : ℕ) (hj : j < 4)
    (hP : ∀ (r : Fin 512) (l : Fin 128), P (ix2 r l) = tailK (fun k : Fin 128 => proj (qLat (mat 512 1024 x0 r) (mat 1024 3200 x1) (mat 1 384 x7 0)) (mat 384 512 x9) ⟨j * 128 + k.val, by omega⟩) (mat 512 128 x3 r) l)
    (r : Fin 512) (c : ℕ) (x : S512x128.Idx) (h0 : r.val = (x 0).val) (h1 : c = j * 128 + (x 1).val) :
    P x = qTailsK (qLat (mat 512 1024 x0 r) (mat 1024 3200 x1) (mat 1 384 x7 0)) (mat 384 512 x9) (mat 512 128 x3 r) c := by
  obtain ⟨r', l, rfl⟩ : ∃ (r' : Fin 512) (l : Fin 128), x = ix2 r' l := ⟨x 0, x 1, ValueIdx.eq_ix2 x⟩
  obtain rfl : r' = r := Fin.ext (by rw [h0]; rfl)
  replace h1 : c = j * 128 + l.val := h1
  subst h1
  rw [hP]
  unfold qTailsK
  rw [lane_at, head_cols _ _ j hj l]

/-- Result 6 over a block: the latent queries. -/
theorem out18_apply (r : Fin 512) (l : Fin 512) :
    out0_18 x0 x1 x2 x3 x4 x5 x6 x7 x8 x9 x10 x11 (ix2 r l)
      = qTailsK (qLat (mat 512 1024 x0 r) (mat 1024 3200 x1) (mat 1 384 x7 0)) (mat 384 512 x9) (mat 512 128 x3 r) l.val := by
  unfold out0_18
  canon_tiles x h
  · refine q_piece x0 x1 x3 x7 x9 _ 3 (by norm_num) (fun r l => ?_) r _ x h0 h1
    exact (pay31_apply _ _ r l).trans (congrArg₂ (fun u v => tailK u v l) (funext fun k => congrFun (q_block x0 x1 x7 x9 r) _) (ld_row x3 r))
  · refine q_piece x0 x1 x3 x7 x9 _ 2 (by norm_num) (fun r l => ?_) r _ x h0 h1
    exact (pay30_apply _ _ r l).trans (congrArg₂ (fun u v => tailK u v l) (funext fun k => congrFun (q_block x0 x1 x7 x9 r) _) (ld_row x3 r))
  · refine q_piece x0 x1 x3 x7 x9 _ 1 (by norm_num) (fun r l => ?_) r _ x h0 h1
    exact (pay29_apply _ _ _ _ _ r l).trans (congrArg₂ (fun u v => tailK u v l) (funext fun k => congrFun (q_block x0 x1 x7 x9 r) _) (ld_row x3 r))
  · refine q_piece x0 x1 x3 x7 x9 _ 0 (by norm_num) (fun r l => ?_) r _ x h0 (h1.trans (by rw [Nat.zero_mul, Nat.zero_add]))
    exact (pay24_apply _ _ _ _ _ r l).trans (congrArg₂ (fun u v => tailK u v l) (funext fun k => congrFun (q_block x0 x1 x7 x9 r) _) (ld_row x3 r))

/-- One of the latent key heads, from the product of all and the shared part. -/
theorem k_piece (P : FVec Ideal S512x128 .bf16) (j : ℕ) (hj : j < 4)
    (hP : ∀ (r : Fin 512) (l : Fin 128), P (ix2 r l) = proj (kvLat (mat 512 1024 x0 r) (mat 1024 3200 x1) (mat 1 256 x8 0)) (mat 256 512 x10) ⟨j * 128 + l.val, by omega⟩
      + tailK (proj (mat 512 1024 x0 r) (cols (mat 1024 3200 x1) 3072 128)) (mat 512 128 x4 r) l)
    (r : Fin 512) (c : ℕ) (x : S512x128.Idx) (h0 : r.val = (x 0).val) (h1 : c = j * 128 + (x 1).val) :
    P x = kTailsK (kvLat (mat 512 1024 x0 r) (mat 1024 3200 x1) (mat 1 256 x8 0)) (mat 256 512 x10)
      (proj (mat 512 1024 x0 r) (cols (mat 1024 3200 x1) 3072 128)) (mat 512 128 x4 r) c := by
  obtain ⟨r', l, rfl⟩ : ∃ (r' : Fin 512) (l : Fin 128), x = ix2 r' l := ⟨x 0, x 1, ValueIdx.eq_ix2 x⟩
  obtain rfl : r' = r := Fin.ext (by rw [h0]; rfl)
  replace h1 : c = j * 128 + l.val := h1
  subst h1
  rw [hP]
  unfold kTailsK
  rw [lane_at, ← head_cols _ _ j hj l]

/-- The shared part over a block. -/
theorem shared_block (r : Fin 512) (l : Fin 128) :
    k0_pay37 (k0_pay1 (View.ld x0 r0_0)) (iota .tc S512x128 32 [1] iota_S512x128_d1_w32) (View.ld x1 r0_35) (View.ld x4 r0_5) (ix2 r l)
      = tailK (proj (mat 512 1024 x0 r) (cols (mat 1024 3200 x1) 3072 128)) (mat 512 128 x4 r) l := by
  rw [pay37_apply, ld_x, ld_w3072, ld_row]

/-- The first head of latent keys, at an index. -/
theorem pay38_apply (v1 : FVec Ideal S512x1024 .bf16) (v14 : IVec S512x128 32) (v290 : FVec Ideal S512x256 .f32) (v291 : Vec Ideal S1x256 .f32)
    (v293 : FVec Ideal S512 .f32) (v305 : Vec Ideal S256x512 .bf16) (v309 : Vec Ideal S1024x128 .bf16) (v311 : Vec Ideal S512x128 .f32)
    (r : Fin 512) (l : Fin 128) :
    k0_pay38 v1 v14 v290 v291 v293 v305 v309 v311 (ix2 r l)
      = mat 512 512 (k0_pay35 v290 v291 v293 v305) r ⟨0 + l.val, by omega⟩ + k0_pay37 v1 v14 v309 v311 (ix2 r l) := by
  unfold k0_pay38 mat
  generalize k0_pay35 v290 v291 v293 v305 = A
  generalize k0_pay37 v1 v14 v309 v311 = B
  pointwise

/-- The first head of latent values, at an index. -/
theorem pay39_apply (v290 : FVec Ideal S512x256 .f32) (v291 : Vec Ideal S1x256 .f32) (v293 : FVec Ideal S512 .f32)
    (v307 : Vec Ideal S256x512 .bf16) (r : Fin 512) (l : Fin 128) :
    k0_pay39 (iota .tc S512x128 32 [1] iota_S512x128_d1_w32) v290 v291 v293 v307 (ix2 r l)
      = if l.val = 64 then 1 else mat 512 512 (k0_pay36 v290 v291 v293 v307) r ⟨0 + l.val, by omega⟩ := by
  unfold k0_pay39 mat
  generalize k0_pay36 v290 v291 v293 v307 = A
  pointwise
  rw [lane_eq l 64 (by norm_num)]
  by_cases h : l.val = 64
  · rw [if_pos h, if_pos h]; rfl
  · rw [if_neg h, if_neg h]; rfl

/-- Result 7 over a block: the latent keys. -/
theorem out19_apply (r : Fin 512) (l : Fin 512) :
    out0_19 x0 x1 x2 x3 x4 x5 x6 x7 x8 x9 x10 x11 (ix2 r l)
      = kTailsK (kvLat (mat 512 1024 x0 r) (mat 1024 3200 x1) (mat 1 256 x8 0)) (mat 256 512 x10)
          (proj (mat 512 1024 x0 r) (cols (mat 1024 3200 x1) 3072 128)) (mat 512 128 x4 r) l.val := by
  unfold out0_19
  canon_tiles x h
  · refine k_piece x0 x1 x4 x8 x10 _ 3 (by norm_num) (fun r l => ?_) r _ x h0 h1
    exact (pay44_apply _ _ r l).trans (congrArg₂ (· + ·) (congrFun (kv_block x0 x1 x8 x10 r) _) (shared_block x0 x1 x4 r l))
  · refine k_piece x0 x1 x4 x8 x10 _ 2 (by norm_num) (fun r l => ?_) r _ x h0 h1
    exact (pay42_apply _ _ r l).trans (congrArg₂ (· + ·) (congrFun (kv_block x0 x1 x8 x10 r) _) (shared_block x0 x1 x4 r l))
  · refine k_piece x0 x1 x4 x8 x10 _ 1 (by norm_num) (fun r l => ?_) r _ x h0 h1
    exact (pay40_apply _ _ r l).trans (congrArg₂ (· + ·) (congrFun (kv_block x0 x1 x8 x10 r) _) (shared_block x0 x1 x4 r l))
  · refine k_piece x0 x1 x4 x8 x10 _ 0 (by norm_num) (fun r l => ?_) r _ x h0 (h1.trans (by rw [Nat.zero_mul, Nat.zero_add]))
    exact (pay38_apply _ _ _ _ _ _ _ _ r l).trans (congrArg₂ (· + ·) (congrFun (kv_block x0 x1 x8 x10 r) _) (shared_block x0 x1 x4 r l))

/-- One of the latent value heads, from the product of all. -/
theorem v_piece (P : FVec Ideal S512x128 .bf16) (j : ℕ) (hj : j < 4)
    (hP : ∀ (r : Fin 512) (l : Fin 128), P (ix2 r l) = if l.val = 64 then 1 else proj (kvLat (mat 512 1024 x0 r) (mat 1024 3200 x1) (mat 1 256 x8 0)) (mat 256 512 x11) ⟨j * 128 + l.val, by omega⟩)
    (r : Fin 512) (c : ℕ) (x : S512x128.Idx) (h0 : r.val = (x 0).val) (h1 : c = j * 128 + (x 1).val) :
    P x = onesK (headOf (kvLat (mat 512 1024 x0 r) (mat 1024 3200 x1) (mat 1 256 x8 0)) (mat 256 512 x11) 0 c) c := by
  obtain ⟨r', l, rfl⟩ : ∃ (r' : Fin 512) (l : Fin 128), x = ix2 r' l := ⟨x 0, x 1, ValueIdx.eq_ix2 x⟩
  obtain rfl : r' = r := Fin.ext (by rw [h0]; rfl)
  replace h1 : c = j * 128 + l.val := h1
  subst h1
  rw [hP]
  unfold onesK
  rw [lane_at, ← head_cols _ _ j hj l]

/-- Result 8 over a block: the latent values. -/
theorem out20_apply (r : Fin 512) (l : Fin 512) :
    out0_20 x0 x1 x2 x3 x4 x5 x6 x7 x8 x9 x10 x11 (ix2 r l)
      = onesK (headOf (kvLat (mat 512 1024 x0 r) (mat 1024 3200 x1) (mat 1 256 x8 0)) (mat 256 512 x11) 0 l.val) l.val := by
  unfold out0_20
  canon_tiles x h
  · refine v_piece x0 x1 x8 x11 _ 3 (by norm_num) (fun r l => ?_) r _ x h0 h1
    exact (pay45_apply _ r l).trans (if_congr Iff.rfl rfl (congrFun (kv_block x0 x1 x8 x11 r) _))
  · refine v_piece x0 x1 x8 x11 _ 2 (by norm_num) (fun r l => ?_) r _ x h0 h1
    exact (pay43_apply _ r l).trans (if_congr Iff.rfl rfl (congrFun (kv_block x0 x1 x8 x11 r) _))
  · refine v_piece x0 x1 x8 x11 _ 1 (by norm_num) (fun r l => ?_) r _ x h0 h1
    exact (pay41_apply _ r l).trans (if_congr Iff.rfl rfl (congrFun (kv_block x0 x1 x8 x11 r) _))
  · refine v_piece x0 x1 x8 x11 _ 0 (by norm_num) (fun r l => ?_) r _ x h0 (h1.trans (by rw [Nat.zero_mul, Nat.zero_add]))
    exact (pay39_apply _ _ _ _ r l).trans (if_congr Iff.rfl rfl (congrFun (kv_block x0 x1 x8 x11 r) _))

end

variable (m : (ℓ : Loc nD τ sig) → Buf (Elt Ideal) ℓ)

/-- The rows move with the grid; the rotary tables start over every sixteen grid points. -/
theorem index_row : ∀ t : Fin grid0.N, (win0_0.index t 0 = t.val ∧ win0_0.index t 1 = 0) ∧ (win0_2.index t 0 = t.val % 16 ∧ win0_2.index t 1 = 0)
    ∧ (win0_3.index t 0 = t.val % 16 ∧ win0_3.index t 1 = 0) ∧ (win0_4.index t 0 = t.val % 16 ∧ win0_4.index t 1 = 0) := by decide +kernel

/-- The results' blocks move with the grid. -/
theorem index_out : ∀ t : Fin grid0.N, (win0_12.index t 0 = t.val ∧ win0_12.index t 1 = 0)
    ∧ (win0_13.index t 0 = t.val ∧ win0_13.index t 1 = 0)
    ∧ (win0_14.index t 0 = t.val ∧ win0_14.index t 1 = 0)
    ∧ (win0_15.index t 0 = t.val ∧ win0_15.index t 1 = 0)
    ∧ (win0_16.index t 0 = t.val ∧ win0_16.index t 1 = 0)
    ∧ (win0_17.index t 0 = t.val ∧ win0_17.index t 1 = 0)
    ∧ (win0_18.index t 0 = t.val ∧ win0_18.index t 1 = 0)
    ∧ (win0_19.index t 0 = t.val ∧ win0_19.index t 1 = 0)
    ∧ (win0_20.index t 0 = t.val ∧ win0_20.index t 1 = 0) := by decide +kernel

/-- The weights are whole at every grid point. -/
theorem index_whole : ∀ t : Fin grid0.N, (∀ a, win0_1.index t a = 0)
    ∧ (∀ a, win0_5.index t a = 0)
    ∧ (∀ a, win0_6.index t a = 0)
    ∧ (∀ a, win0_7.index t a = 0)
    ∧ (∀ a, win0_8.index t a = 0)
    ∧ (∀ a, win0_9.index t a = 0)
    ∧ (∀ a, win0_10.index t a = 0)
    ∧ (∀ a, win0_11.index t a = 0) := by decide +kernel

theorem lt_N (t : Fin cfg0.N) : t.val < 64 := lt_of_lt_of_eq t.isLt N_0

/-- The row of the arrays that row `r` of grid point `t` handles. -/
def rowAt (t : Fin cfg0.N) (r : Fin 512) : Fin 32768 := ⟨t.val * 512 + r.val, by have := lt_N t; omega⟩

/-- The position of a row within its sequence. -/
def pos (R : Fin 32768) : Fin 8192 := ⟨R.val % 8192, by omega⟩

theorem pos_rowAt (t : Fin cfg0.N) (r : Fin 512) : (pos (rowAt t r)).val = t.val % 16 * 512 + r.val := by
  show (t.val * 512 + r.val) % 8192 = _
  omega

theorem blk0 (c : Dev nD) (t : Fin cfg0.N) (r : Fin 512) :
    mat 512 1024 (iblk m c 0 t : Vec Ideal S512x1024 .f32) r = mat 32768 1024 (m ((c : Thread nD τ).loc main_arg0)) (rowAt t r) := by
  funext l
  unfold mat iblk
  rw [View.read_apply]
  show V m c main_arg0 _ = m (c.tc.loc main_arg0) _
  unfold V
  congr 1
  funext a
  apply Fin.ext
  match a with
  | ⟨0, _⟩ => show win0_0.index t 0 * 512 + 1 * r.val = _; rw [(index_row t).1.1, one_mul]; rfl
  | ⟨1, _⟩ => show win0_0.index t 1 * 1024 + 1 * l.val = _; rw [(index_row t).1.2, zero_mul, zero_add, one_mul]; rfl

theorem blk2 (c : Dev nD) (t : Fin cfg0.N) (r : Fin 512) :
    mat 512 128 (iblk m c 2 t : Vec Ideal S512x128 .f32) r = mat 8192 128 (m ((c : Thread nD τ).loc main_arg2)) (pos (rowAt t r)) := by
  funext l
  unfold mat iblk
  rw [View.read_apply]
  show V m c main_arg2 _ = m (c.tc.loc main_arg2) _
  unfold V
  congr 1
  funext a
  apply Fin.ext
  match a with
  | ⟨0, _⟩ => show win0_2.index t 0 * 512 + 1 * r.val = (pos (rowAt t r)).val; rw [(index_row t).2.1.1, pos_rowAt, one_mul]
  | ⟨1, _⟩ => show win0_2.index t 1 * 128 + 1 * l.val = _; rw [(index_row t).2.1.2, zero_mul, zero_add, one_mul]; rfl

theorem blk3 (c : Dev nD) (t : Fin cfg0.N) (r : Fin 512) :
    mat 512 128 (iblk m c 3 t : Vec Ideal S512x128 .f32) r = mat 8192 128 (m ((c : Thread nD τ).loc main_arg3)) (pos (rowAt t r)) := by
  funext l
  unfold mat iblk
  rw [View.read_apply]
  show V m c main_arg3 _ = m (c.tc.loc main_arg3) _
  unfold V
  congr 1
  funext a
  apply Fin.ext
  match a with
  | ⟨0, _⟩ => show win0_3.index t 0 * 512 + 1 * r.val = (pos (rowAt t r)).val; rw [(index_row t).2.2.1.1, pos_rowAt, one_mul]
  | ⟨1, _⟩ => show win0_3.index t 1 * 128 + 1 * l.val = _; rw [(index_row t).2.2.1.2, zero_mul, zero_add, one_mul]; rfl

theorem blk4 (c : Dev nD) (t : Fin cfg0.N) (r : Fin 512) :
    mat 512 128 (iblk m c 4 t : Vec Ideal S512x128 .f32) r = mat 8192 128 (m ((c : Thread nD τ).loc main_arg4)) (pos (rowAt t r)) := by
  funext l
  unfold mat iblk
  rw [View.read_apply]
  show V m c main_arg4 _ = m (c.tc.loc main_arg4) _
  unfold V
  congr 1
  funext a
  apply Fin.ext
  match a with
  | ⟨0, _⟩ => show win0_4.index t 0 * 512 + 1 * r.val = (pos (rowAt t r)).val; rw [(index_row t).2.2.2.1, pos_rowAt, one_mul]
  | ⟨1, _⟩ => show win0_4.index t 1 * 128 + 1 * l.val = _; rw [(index_row t).2.2.2.2, zero_mul, zero_add, one_mul]; rfl

theorem blk1 (c : Dev nD) (t : Fin cfg0.N) : (iblk m c 1 t : Vec Ideal S1024x3200 .bf16) = m ((c : Thread nD τ).loc main_arg1) := by
  funext y
  unfold iblk
  rw [View.read_apply]
  show V m c main_arg1 _ = m (c.tc.loc main_arg1) _
  unfold V
  congr 1
  funext a
  apply Fin.ext
  have h := (index_whole t).1
  match a with
  | ⟨0, _⟩ => show win0_1.index t 0 * 1024 + 1 * (y 0).val = _; rw [h, zero_mul, zero_add, one_mul]; rfl
  | ⟨1, _⟩ => show win0_1.index t 1 * 3200 + 1 * (y 1).val = _; rw [h, zero_mul, zero_add, one_mul]; rfl

theorem blk5 (c : Dev nD) (t : Fin cfg0.N) : (iblk m c 5 t : Vec Ideal S1x128 .f32) = m ((c : Thread nD τ).loc main_arg5) := by
  funext y
  unfold iblk
  rw [View.read_apply]
  show V m c main_arg5 _ = m (c.tc.loc main_arg5) _
  unfold V
  congr 1
  funext a
  apply Fin.ext
  have h := (index_whole t).2.1
  match a with
  | ⟨0, _⟩ => show win0_5.index t 0 * 1 + 1 * (y 0).val = _; rw [h, zero_mul, zero_add, one_mul]; rfl
  | ⟨1, _⟩ => show win0_5.index t 1 * 128 + 1 * (y 1).val = _; rw [h, zero_mul, zero_add, one_mul]; rfl

theorem blk6 (c : Dev nD) (t : Fin cfg0.N) : (iblk m c 6 t : Vec Ideal S1x128 .f32) = m ((c : Thread nD τ).loc main_arg6) := by
  funext y
  unfold iblk
  rw [View.read_apply]
  show V m c main_arg6 _ = m (c.tc.loc main_arg6) _
  unfold V
  congr 1
  funext a
  apply Fin.ext
  have h := (index_whole t).2.2.1
  match a with
  | ⟨0, _⟩ => show win0_6.index t 0 * 1 + 1 * (y 0).val = _; rw [h, zero_mul, zero_add, one_mul]; rfl
  | ⟨1, _⟩ => show win0_6.index t 1 * 128 + 1 * (y 1).val = _; rw [h, zero_mul, zero_add, one_mul]; rfl

theorem blk7 (c : Dev nD) (t : Fin cfg0.N) : (iblk m c 7 t : Vec Ideal S1x384 .f32) = m ((c : Thread nD τ).loc main_arg7) := by
  funext y
  unfold iblk
  rw [View.read_apply]
  show V m c main_arg7 _ = m (c.tc.loc main_arg7) _
  unfold V
  congr 1
  funext a
  apply Fin.ext
  have h := (index_whole t).2.2.2.1
  match a with
  | ⟨0, _⟩ => show win0_7.index t 0 * 1 + 1 * (y 0).val = _; rw [h, zero_mul, zero_add, one_mul]; rfl
  | ⟨1, _⟩ => show win0_7.index t 1 * 384 + 1 * (y 1).val = _; rw [h, zero_mul, zero_add, one_mul]; rfl

theorem blk8 (c : Dev nD) (t : Fin cfg0.N) : (iblk m c 8 t : Vec Ideal S1x256 .f32) = m ((c : Thread nD τ).loc main_arg8) := by
  funext y
  unfold iblk
  rw [View.read_apply]
  show V m c main_arg8 _ = m (c.tc.loc main_arg8) _
  unfold V
  congr 1
  funext a
  apply Fin.ext
  have h := (index_whole t).2.2.2.2.1
  match a with
  | ⟨0, _⟩ => show win0_8.index t 0 * 1 + 1 * (y 0).val = _; rw [h, zero_mul, zero_add, one_mul]; rfl
  | ⟨1, _⟩ => show win0_8.index t 1 * 256 + 1 * (y 1).val = _; rw [h, zero_mul, zero_add, one_mul]; rfl

theorem blk9 (c : Dev nD) (t : Fin cfg0.N) : (iblk m c 9 t : Vec Ideal S384x512 .bf16) = m ((c : Thread nD τ).loc main_arg9) := by
  funext y
  unfold iblk
  rw [View.read_apply]
  show V m c main_arg9 _ = m (c.tc.loc main_arg9) _
  unfold V
  congr 1
  funext a
  apply Fin.ext
  have h := (index_whole t).2.2.2.2.2.1
  match a with
  | ⟨0, _⟩ => show win0_9.index t 0 * 384 + 1 * (y 0).val = _; rw [h, zero_mul, zero_add, one_mul]; rfl
  | ⟨1, _⟩ => show win0_9.index t 1 * 512 + 1 * (y 1).val = _; rw [h, zero_mul, zero_add, one_mul]; rfl

theorem blk10 (c : Dev nD) (t : Fin cfg0.N) : (iblk m c 10 t : Vec Ideal S256x512 .bf16) = m ((c : Thread nD τ).loc main_arg10) := by
  funext y
  unfold iblk
  rw [View.read_apply]
  show V m c main_arg10 _ = m (c.tc.loc main_arg10) _
  unfold V
  congr 1
  funext a
  apply Fin.ext
  have h := (index_whole t).2.2.2.2.2.2.1
  match a with
  | ⟨0, _⟩ => show win0_10.index t 0 * 256 + 1 * (y 0).val = _; rw [h, zero_mul, zero_add, one_mul]; rfl
  | ⟨1, _⟩ => show win0_10.index t 1 * 512 + 1 * (y 1).val = _; rw [h, zero_mul, zero_add, one_mul]; rfl

theorem blk11 (c : Dev nD) (t : Fin cfg0.N) : (iblk m c 11 t : Vec Ideal S256x512 .bf16) = m ((c : Thread nD τ).loc main_arg11) := by
  funext y
  unfold iblk
  rw [View.read_apply]
  show V m c main_arg11 _ = m (c.tc.loc main_arg11) _
  unfold V
  congr 1
  funext a
  apply Fin.ext
  have h := (index_whole t).2.2.2.2.2.2.2
  match a with
  | ⟨0, _⟩ => show win0_11.index t 0 * 256 + 1 * (y 0).val = _; rw [h, zero_mul, zero_add, one_mul]; rfl
  | ⟨1, _⟩ => show win0_11.index t 1 * 512 + 1 * (y 1).val = _; rw [h, zero_mul, zero_add, one_mul]; rfl

/-- Result 0 after the run. -/
def G12 (c : Dev nD) : FVec Ideal S32768x384 .bf16 := fun i =>
  proj (mat 32768 1024 (m ((c : Thread nD τ).loc main_arg0)) (i 0)) (cols (mat 1024 3200 (m ((c : Thread nD τ).loc main_arg1))) 0 384) (i 1)

/-- What a grid point writes back to result 0 is its block of `G12`. -/
theorem flushed_eq12 (c : Dev nD) (t : Fin cfg0.N) :
    (dats m 0 c).flushed 12 t = ((cfg0.win 12).blk t).view.read (Elt Ideal) (G12 m c) := by
  rw [Value.flushed12]
  funext y
  obtain ⟨r, l, rfl⟩ : ∃ (r : Fin 512) (l : Fin 384), y = ix2 r l := ⟨y 0, y 1, ValueIdx.eq_ix2 y⟩
  rw [View.read_apply]
  refine (show _ = out0_12 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (ix2 r l) from rfl).trans ?_
  have e0 : (((cfg0.win 12).blk t).view.emb (ix2 r l)) 0 = rowAt t r := by
    apply Fin.ext
    show win0_12.index t 0 * 512 + 1 * r.val = _; rw [(index_out t).1.1, one_mul]; rfl
  have e1 : (((cfg0.win 12).blk t).view.emb (ix2 r l)) 1 = l := by
    apply Fin.ext
    show win0_12.index t 1 * 384 + 1 * l.val = _; rw [(index_out t).1.2, zero_mul, zero_add, one_mul]
  show _ = G12 m c (((cfg0.win 12).blk t).view.emb (ix2 r l))
  unfold G12
  rw [e0, e1, out12_apply, blk0, blk1]

/-- Where the block of result 0 that holds an index sends it. -/
theorem emb12 (t : Fin cfg0.N) (i : S32768x384.Idx) (hv : t.val = (i 0).val / 512) :
    ((cfg0.win 12).blk t).view.emb (ix2 (n0 := 512) (n1 := 384) ⟨(i 0).val % 512, by omega⟩ (i 1)) = i := by
  funext a
  apply Fin.ext
  match a with
  | ⟨0, _⟩ => show win0_12.index t 0 * 512 + 1 * ((i 0).val % 512) = (i 0).val; rw [(index_out t).1.1, hv]; omega
  | ⟨1, _⟩ => show win0_12.index t 1 * 384 + 1 * (i 1).val = (i 1).val; rw [(index_out t).1.2]; omega

/-- Result 0 after the run. -/
theorem final12 (c : Dev nD) : (dats m 0 c).arrAt 12 cfg0.N = G12 m c :=
  (dats m 0 c).arrAt_eq_of_cover 12 (G12 m c) (fun t _ => flushed_eq12 m c t) fun i => by
    have h0 : (i 0).val < 32768 := (i 0).isLt
    refine ⟨⟨(i 0).val / 512, lt_of_lt_of_eq (b := 64) (by omega) N_0.symm⟩, flush0_12 _, ?_⟩
    have hm := ((cfg0.win 12).blk ⟨(i 0).val / 512, lt_of_lt_of_eq (b := 64) (by omega) N_0.symm⟩).view.emb_mem_set
      (ix2 (n0 := 512) (n1 := 384) ⟨(i 0).val % 512, by omega⟩ (i 1))
    rwa [emb12 _ i rfl] at hm

/-- Result 1 after the run. -/
def G13 (c : Dev nD) : FVec Ideal S32768x384 .bf16 := fun i =>
  proj (mat 32768 1024 (m ((c : Thread nD τ).loc main_arg0)) (i 0)) (cols (mat 1024 3200 (m ((c : Thread nD τ).loc main_arg1))) 384 384) (i 1)

/-- What a grid point writes back to result 1 is its block of `G13`. -/
theorem flushed_eq13 (c : Dev nD) (t : Fin cfg0.N) :
    (dats m 0 c).flushed 13 t = ((cfg0.win 13).blk t).view.read (Elt Ideal) (G13 m c) := by
  rw [Value.flushed13]
  funext y
  obtain ⟨r, l, rfl⟩ : ∃ (r : Fin 512) (l : Fin 384), y = ix2 r l := ⟨y 0, y 1, ValueIdx.eq_ix2 y⟩
  rw [View.read_apply]
  refine (show _ = out0_13 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (ix2 r l) from rfl).trans ?_
  have e0 : (((cfg0.win 13).blk t).view.emb (ix2 r l)) 0 = rowAt t r := by
    apply Fin.ext
    show win0_13.index t 0 * 512 + 1 * r.val = _; rw [(index_out t).2.1.1, one_mul]; rfl
  have e1 : (((cfg0.win 13).blk t).view.emb (ix2 r l)) 1 = l := by
    apply Fin.ext
    show win0_13.index t 1 * 384 + 1 * l.val = _; rw [(index_out t).2.1.2, zero_mul, zero_add, one_mul]
  show _ = G13 m c (((cfg0.win 13).blk t).view.emb (ix2 r l))
  unfold G13
  rw [e0, e1, out13_apply, blk0, blk1]

/-- Where the block of result 1 that holds an index sends it. -/
theorem emb13 (t : Fin cfg0.N) (i : S32768x384.Idx) (hv : t.val = (i 0).val / 512) :
    ((cfg0.win 13).blk t).view.emb (ix2 (n0 := 512) (n1 := 384) ⟨(i 0).val % 512, by omega⟩ (i 1)) = i := by
  funext a
  apply Fin.ext
  match a with
  | ⟨0, _⟩ => show win0_13.index t 0 * 512 + 1 * ((i 0).val % 512) = (i 0).val; rw [(index_out t).2.1.1, hv]; omega
  | ⟨1, _⟩ => show win0_13.index t 1 * 384 + 1 * (i 1).val = (i 1).val; rw [(index_out t).2.1.2]; omega

/-- Result 1 after the run. -/
theorem final13 (c : Dev nD) : (dats m 0 c).arrAt 13 cfg0.N = G13 m c :=
  (dats m 0 c).arrAt_eq_of_cover 13 (G13 m c) (fun t _ => flushed_eq13 m c t) fun i => by
    have h0 : (i 0).val < 32768 := (i 0).isLt
    refine ⟨⟨(i 0).val / 512, lt_of_lt_of_eq (b := 64) (by omega) N_0.symm⟩, flush0_13 _, ?_⟩
    have hm := ((cfg0.win 13).blk ⟨(i 0).val / 512, lt_of_lt_of_eq (b := 64) (by omega) N_0.symm⟩).view.emb_mem_set
      (ix2 (n0 := 512) (n1 := 384) ⟨(i 0).val % 512, by omega⟩ (i 1))
    rwa [emb13 _ i rfl] at hm

/-- Result 2 after the run. -/
def G14 (c : Dev nD) : FVec Ideal S32768x384 .bf16 := fun i =>
  proj (mat 32768 1024 (m ((c : Thread nD τ).loc main_arg0)) (i 0)) (cols (mat 1024 3200 (m ((c : Thread nD τ).loc main_arg1))) 768 384) (i 1)

/-- What a grid point writes back to result 2 is its block of `G14`. -/
theorem flushed_eq14 (c : Dev nD) (t : Fin cfg0.N) :
    (dats m 0 c).flushed 14 t = ((cfg0.win 14).blk t).view.read (Elt Ideal) (G14 m c) := by
  rw [Value.flushed14]
  funext y
  obtain ⟨r, l, rfl⟩ : ∃ (r : Fin 512) (l : Fin 384), y = ix2 r l := ⟨y 0, y 1, ValueIdx.eq_ix2 y⟩
  rw [View.read_apply]
  refine (show _ = out0_14 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (ix2 r l) from rfl).trans ?_
  have e0 : (((cfg0.win 14).blk t).view.emb (ix2 r l)) 0 = rowAt t r := by
    apply Fin.ext
    show win0_14.index t 0 * 512 + 1 * r.val = _; rw [(index_out t).2.2.1.1, one_mul]; rfl
  have e1 : (((cfg0.win 14).blk t).view.emb (ix2 r l)) 1 = l := by
    apply Fin.ext
    show win0_14.index t 1 * 384 + 1 * l.val = _; rw [(index_out t).2.2.1.2, zero_mul, zero_add, one_mul]
  show _ = G14 m c (((cfg0.win 14).blk t).view.emb (ix2 r l))
  unfold G14
  rw [e0, e1, out14_apply, blk0, blk1]

/-- Where the block of result 2 that holds an index sends it. -/
theorem emb14 (t : Fin cfg0.N) (i : S32768x384.Idx) (hv : t.val = (i 0).val / 512) :
    ((cfg0.win 14).blk t).view.emb (ix2 (n0 := 512) (n1 := 384) ⟨(i 0).val % 512, by omega⟩ (i 1)) = i := by
  funext a
  apply Fin.ext
  match a with
  | ⟨0, _⟩ => show win0_14.index t 0 * 512 + 1 * ((i 0).val % 512) = (i 0).val; rw [(index_out t).2.2.1.1, hv]; omega
  | ⟨1, _⟩ => show win0_14.index t 1 * 384 + 1 * (i 1).val = (i 1).val; rw [(index_out t).2.2.1.2]; omega

/-- Result 2 after the run. -/
theorem final14 (c : Dev nD) : (dats m 0 c).arrAt 14 cfg0.N = G14 m c :=
  (dats m 0 c).arrAt_eq_of_cover 14 (G14 m c) (fun t _ => flushed_eq14 m c t) fun i => by
    have h0 : (i 0).val < 32768 := (i 0).isLt
    refine ⟨⟨(i 0).val / 512, lt_of_lt_of_eq (b := 64) (by omega) N_0.symm⟩, flush0_14 _, ?_⟩
    have hm := ((cfg0.win 14).blk ⟨(i 0).val / 512, lt_of_lt_of_eq (b := 64) (by omega) N_0.symm⟩).view.emb_mem_set
      (ix2 (n0 := 512) (n1 := 384) ⟨(i 0).val % 512, by omega⟩ (i 1))
    rwa [emb14 _ i rfl] at hm

/-- Result 3 after the run. -/
def G15 (c : Dev nD) : FVec Ideal S32768x768 .bf16 := fun i =>
  headsK (mat 32768 1024 (m ((c : Thread nD τ).loc main_arg0)) (i 0)) (mat 1024 3200 (m ((c : Thread nD τ).loc main_arg1))) 1152 (mat 1 128 (m ((c : Thread nD τ).loc main_arg5)) 0) (mat 8192 128 (m ((c : Thread nD τ).loc main_arg2)) (pos (i 0))) (i 1).val

/-- What a grid point writes back to result 3 is its block of `G15`. -/
theorem flushed_eq15 (c : Dev nD) (t : Fin cfg0.N) :
    (dats m 0 c).flushed 15 t = ((cfg0.win 15).blk t).view.read (Elt Ideal) (G15 m c) := by
  rw [Value.flushed15]
  funext y
  obtain ⟨r, l, rfl⟩ : ∃ (r : Fin 512) (l : Fin 768), y = ix2 r l := ⟨y 0, y 1, ValueIdx.eq_ix2 y⟩
  rw [View.read_apply]
  refine (show _ = out0_15 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (ix2 r l) from rfl).trans ?_
  have e0 : (((cfg0.win 15).blk t).view.emb (ix2 r l)) 0 = rowAt t r := by
    apply Fin.ext
    show win0_15.index t 0 * 512 + 1 * r.val = _; rw [(index_out t).2.2.2.1.1, one_mul]; rfl
  have e1 : (((cfg0.win 15).blk t).view.emb (ix2 r l)) 1 = l := by
    apply Fin.ext
    show win0_15.index t 1 * 768 + 1 * l.val = _; rw [(index_out t).2.2.2.1.2, zero_mul, zero_add, one_mul]
  show _ = G15 m c (((cfg0.win 15).blk t).view.emb (ix2 r l))
  unfold G15
  rw [e0, e1, out15_apply, blk0, blk1, blk2, blk5]

/-- Where the block of result 3 that holds an index sends it. -/
theorem emb15 (t : Fin cfg0.N) (i : S32768x768.Idx) (hv : t.val = (i 0).val / 512) :
    ((cfg0.win 15).blk t).view.emb (ix2 (n0 := 512) (n1 := 768) ⟨(i 0).val % 512, by omega⟩ (i 1)) = i := by
  funext a
  apply Fin.ext
  match a with
  | ⟨0, _⟩ => show win0_15.index t 0 * 512 + 1 * ((i 0).val % 512) = (i 0).val; rw [(index_out t).2.2.2.1.1, hv]; omega
  | ⟨1, _⟩ => show win0_15.index t 1 * 768 + 1 * (i 1).val = (i 1).val; rw [(index_out t).2.2.2.1.2]; omega

/-- Result 3 after the run. -/
theorem final15 (c : Dev nD) : (dats m 0 c).arrAt 15 cfg0.N = G15 m c :=
  (dats m 0 c).arrAt_eq_of_cover 15 (G15 m c) (fun t _ => flushed_eq15 m c t) fun i => by
    have h0 : (i 0).val < 32768 := (i 0).isLt
    refine ⟨⟨(i 0).val / 512, lt_of_lt_of_eq (b := 64) (by omega) N_0.symm⟩, flush0_15 _, ?_⟩
    have hm := ((cfg0.win 15).blk ⟨(i 0).val / 512, lt_of_lt_of_eq (b := 64) (by omega) N_0.symm⟩).view.emb_mem_set
      (ix2 (n0 := 512) (n1 := 768) ⟨(i 0).val % 512, by omega⟩ (i 1))
    rwa [emb15 _ i rfl] at hm

/-- Result 4 after the run. -/
def G16 (c : Dev nD) : FVec Ideal S32768x256 .bf16 := fun i =>
  headsK (mat 32768 1024 (m ((c : Thread nD τ).loc main_arg0)) (i 0)) (mat 1024 3200 (m ((c : Thread nD τ).loc main_arg1))) 1920 (mat 1 128 (m ((c : Thread nD τ).loc main_arg6)) 0) (mat 8192 128 (m ((c : Thread nD τ).loc main_arg2)) (pos (i 0))) (i 1).val

/-- What a grid point writes back to result 4 is its block of `G16`. -/
theorem flushed_eq16 (c : Dev nD) (t : Fin cfg0.N) :
    (dats m 0 c).flushed 16 t = ((cfg0.win 16).blk t).view.read (Elt Ideal) (G16 m c) := by
  rw [Value.flushed16]
  funext y
  obtain ⟨r, l, rfl⟩ : ∃ (r : Fin 512) (l : Fin 256), y = ix2 r l := ⟨y 0, y 1, ValueIdx.eq_ix2 y⟩
  rw [View.read_apply]
  refine (show _ = out0_16 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (ix2 r l) from rfl).trans ?_
  have e0 : (((cfg0.win 16).blk t).view.emb (ix2 r l)) 0 = rowAt t r := by
    apply Fin.ext
    show win0_16.index t 0 * 512 + 1 * r.val = _; rw [(index_out t).2.2.2.2.1.1, one_mul]; rfl
  have e1 : (((cfg0.win 16).blk t).view.emb (ix2 r l)) 1 = l := by
    apply Fin.ext
    show win0_16.index t 1 * 256 + 1 * l.val = _; rw [(index_out t).2.2.2.2.1.2, zero_mul, zero_add, one_mul]
  show _ = G16 m c (((cfg0.win 16).blk t).view.emb (ix2 r l))
  unfold G16
  rw [e0, e1, out16_apply, blk0, blk1, blk2, blk6]

/-- Where the block of result 4 that holds an index sends it. -/
theorem emb16 (t : Fin cfg0.N) (i : S32768x256.Idx) (hv : t.val = (i 0).val / 512) :
    ((cfg0.win 16).blk t).view.emb (ix2 (n0 := 512) (n1 := 256) ⟨(i 0).val % 512, by omega⟩ (i 1)) = i := by
  funext a
  apply Fin.ext
  match a with
  | ⟨0, _⟩ => show win0_16.index t 0 * 512 + 1 * ((i 0).val % 512) = (i 0).val; rw [(index_out t).2.2.2.2.1.1, hv]; omega
  | ⟨1, _⟩ => show win0_16.index t 1 * 256 + 1 * (i 1).val = (i 1).val; rw [(index_out t).2.2.2.2.1.2]; omega

/-- Result 4 after the run. -/
theorem final16 (c : Dev nD) : (dats m 0 c).arrAt 16 cfg0.N = G16 m c :=
  (dats m 0 c).arrAt_eq_of_cover 16 (G16 m c) (fun t _ => flushed_eq16 m c t) fun i => by
    have h0 : (i 0).val < 32768 := (i 0).isLt
    refine ⟨⟨(i 0).val / 512, lt_of_lt_of_eq (b := 64) (by omega) N_0.symm⟩, flush0_16 _, ?_⟩
    have hm := ((cfg0.win 16).blk ⟨(i 0).val / 512, lt_of_lt_of_eq (b := 64) (by omega) N_0.symm⟩).view.emb_mem_set
      (ix2 (n0 := 512) (n1 := 256) ⟨(i 0).val % 512, by omega⟩ (i 1))
    rwa [emb16 _ i rfl] at hm

/-- Result 5 after the run. -/
def G17 (c : Dev nD) : FVec Ideal S32768x256 .bf16 := fun i =>
  onesK (headOf (mat 32768 1024 (m ((c : Thread nD τ).loc main_arg0)) (i 0)) (mat 1024 3200 (m ((c : Thread nD τ).loc main_arg1))) 2176 (i 1).val) (i 1).val

/-- What a grid point writes back to result 5 is its block of `G17`. -/
theorem flushed_eq17 (c : Dev nD) (t : Fin cfg0.N) :
    (dats m 0 c).flushed 17 t = ((cfg0.win 17).blk t).view.read (Elt Ideal) (G17 m c) := by
  rw [Value.flushed17]
  funext y
  obtain ⟨r, l, rfl⟩ : ∃ (r : Fin 512) (l : Fin 256), y = ix2 r l := ⟨y 0, y 1, ValueIdx.eq_ix2 y⟩
  rw [View.read_apply]
  refine (show _ = out0_17 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (ix2 r l) from rfl).trans ?_
  have e0 : (((cfg0.win 17).blk t).view.emb (ix2 r l)) 0 = rowAt t r := by
    apply Fin.ext
    show win0_17.index t 0 * 512 + 1 * r.val = _; rw [(index_out t).2.2.2.2.2.1.1, one_mul]; rfl
  have e1 : (((cfg0.win 17).blk t).view.emb (ix2 r l)) 1 = l := by
    apply Fin.ext
    show win0_17.index t 1 * 256 + 1 * l.val = _; rw [(index_out t).2.2.2.2.2.1.2, zero_mul, zero_add, one_mul]
  show _ = G17 m c (((cfg0.win 17).blk t).view.emb (ix2 r l))
  unfold G17
  rw [e0, e1, out17_apply, blk0, blk1]

/-- Where the block of result 5 that holds an index sends it. -/
theorem emb17 (t : Fin cfg0.N) (i : S32768x256.Idx) (hv : t.val = (i 0).val / 512) :
    ((cfg0.win 17).blk t).view.emb (ix2 (n0 := 512) (n1 := 256) ⟨(i 0).val % 512, by omega⟩ (i 1)) = i := by
  funext a
  apply Fin.ext
  match a with
  | ⟨0, _⟩ => show win0_17.index t 0 * 512 + 1 * ((i 0).val % 512) = (i 0).val; rw [(index_out t).2.2.2.2.2.1.1, hv]; omega
  | ⟨1, _⟩ => show win0_17.index t 1 * 256 + 1 * (i 1).val = (i 1).val; rw [(index_out t).2.2.2.2.2.1.2]; omega

/-- Result 5 after the run. -/
theorem final17 (c : Dev nD) : (dats m 0 c).arrAt 17 cfg0.N = G17 m c :=
  (dats m 0 c).arrAt_eq_of_cover 17 (G17 m c) (fun t _ => flushed_eq17 m c t) fun i => by
    have h0 : (i 0).val < 32768 := (i 0).isLt
    refine ⟨⟨(i 0).val / 512, lt_of_lt_of_eq (b := 64) (by omega) N_0.symm⟩, flush0_17 _, ?_⟩
    have hm := ((cfg0.win 17).blk ⟨(i 0).val / 512, lt_of_lt_of_eq (b := 64) (by omega) N_0.symm⟩).view.emb_mem_set
      (ix2 (n0 := 512) (n1 := 256) ⟨(i 0).val % 512, by omega⟩ (i 1))
    rwa [emb17 _ i rfl] at hm

/-- Result 6 after the run. -/
def G18 (c : Dev nD) : FVec Ideal S32768x512 .bf16 := fun i =>
  qTailsK (qLat (mat 32768 1024 (m ((c : Thread nD τ).loc main_arg0)) (i 0)) (mat 1024 3200 (m ((c : Thread nD τ).loc main_arg1))) (mat 1 384 (m ((c : Thread nD τ).loc main_arg7)) 0)) (mat 384 512 (m ((c : Thread nD τ).loc main_arg9))) (mat 8192 128 (m ((c : Thread nD τ).loc main_arg3)) (pos (i 0))) (i 1).val

/-- What a grid point writes back to result 6 is its block of `G18`. -/
theorem flushed_eq18 (c : Dev nD) (t : Fin cfg0.N) :
    (dats m 0 c).flushed 18 t = ((cfg0.win 18).blk t).view.read (Elt Ideal) (G18 m c) := by
  rw [Value.flushed18]
  funext y
  obtain ⟨r, l, rfl⟩ : ∃ (r : Fin 512) (l : Fin 512), y = ix2 r l := ⟨y 0, y 1, ValueIdx.eq_ix2 y⟩
  rw [View.read_apply]
  refine (show _ = out0_18 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (ix2 r l) from rfl).trans ?_
  have e0 : (((cfg0.win 18).blk t).view.emb (ix2 r l)) 0 = rowAt t r := by
    apply Fin.ext
    show win0_18.index t 0 * 512 + 1 * r.val = _; rw [(index_out t).2.2.2.2.2.2.1.1, one_mul]; rfl
  have e1 : (((cfg0.win 18).blk t).view.emb (ix2 r l)) 1 = l := by
    apply Fin.ext
    show win0_18.index t 1 * 512 + 1 * l.val = _; rw [(index_out t).2.2.2.2.2.2.1.2, zero_mul, zero_add, one_mul]
  show _ = G18 m c (((cfg0.win 18).blk t).view.emb (ix2 r l))
  unfold G18
  rw [e0, e1, out18_apply, blk0, blk1, blk3, blk7, blk9]

/-- Where the block of result 6 that holds an index sends it. -/
theorem emb18 (t : Fin cfg0.N) (i : S32768x512.Idx) (hv : t.val = (i 0).val / 512) :
    ((cfg0.win 18).blk t).view.emb (ix2 (n0 := 512) (n1 := 512) ⟨(i 0).val % 512, by omega⟩ (i 1)) = i := by
  funext a
  apply Fin.ext
  match a with
  | ⟨0, _⟩ => show win0_18.index t 0 * 512 + 1 * ((i 0).val % 512) = (i 0).val; rw [(index_out t).2.2.2.2.2.2.1.1, hv]; omega
  | ⟨1, _⟩ => show win0_18.index t 1 * 512 + 1 * (i 1).val = (i 1).val; rw [(index_out t).2.2.2.2.2.2.1.2]; omega

/-- Result 6 after the run. -/
theorem final18 (c : Dev nD) : (dats m 0 c).arrAt 18 cfg0.N = G18 m c :=
  (dats m 0 c).arrAt_eq_of_cover 18 (G18 m c) (fun t _ => flushed_eq18 m c t) fun i => by
    have h0 : (i 0).val < 32768 := (i 0).isLt
    refine ⟨⟨(i 0).val / 512, lt_of_lt_of_eq (b := 64) (by omega) N_0.symm⟩, flush0_18 _, ?_⟩
    have hm := ((cfg0.win 18).blk ⟨(i 0).val / 512, lt_of_lt_of_eq (b := 64) (by omega) N_0.symm⟩).view.emb_mem_set
      (ix2 (n0 := 512) (n1 := 512) ⟨(i 0).val % 512, by omega⟩ (i 1))
    rwa [emb18 _ i rfl] at hm

/-- Result 7 after the run. -/
def G19 (c : Dev nD) : FVec Ideal S32768x512 .bf16 := fun i =>
  kTailsK (kvLat (mat 32768 1024 (m ((c : Thread nD τ).loc main_arg0)) (i 0)) (mat 1024 3200 (m ((c : Thread nD τ).loc main_arg1))) (mat 1 256 (m ((c : Thread nD τ).loc main_arg8)) 0)) (mat 256 512 (m ((c : Thread nD τ).loc main_arg10)))
    (proj (mat 32768 1024 (m ((c : Thread nD τ).loc main_arg0)) (i 0)) (cols (mat 1024 3200 (m ((c : Thread nD τ).loc main_arg1))) 3072 128)) (mat 8192 128 (m ((c : Thread nD τ).loc main_arg4)) (pos (i 0))) (i 1).val

/-- What a grid point writes back to result 7 is its block of `G19`. -/
theorem flushed_eq19 (c : Dev nD) (t : Fin cfg0.N) :
    (dats m 0 c).flushed 19 t = ((cfg0.win 19).blk t).view.read (Elt Ideal) (G19 m c) := by
  rw [Value.flushed19]
  funext y
  obtain ⟨r, l, rfl⟩ : ∃ (r : Fin 512) (l : Fin 512), y = ix2 r l := ⟨y 0, y 1, ValueIdx.eq_ix2 y⟩
  rw [View.read_apply]
  refine (show _ = out0_19 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (ix2 r l) from rfl).trans ?_
  have e0 : (((cfg0.win 19).blk t).view.emb (ix2 r l)) 0 = rowAt t r := by
    apply Fin.ext
    show win0_19.index t 0 * 512 + 1 * r.val = _; rw [(index_out t).2.2.2.2.2.2.2.1.1, one_mul]; rfl
  have e1 : (((cfg0.win 19).blk t).view.emb (ix2 r l)) 1 = l := by
    apply Fin.ext
    show win0_19.index t 1 * 512 + 1 * l.val = _; rw [(index_out t).2.2.2.2.2.2.2.1.2, zero_mul, zero_add, one_mul]
  show _ = G19 m c (((cfg0.win 19).blk t).view.emb (ix2 r l))
  unfold G19
  rw [e0, e1, out19_apply, blk0, blk1, blk4, blk8, blk10]

/-- Where the block of result 7 that holds an index sends it. -/
theorem emb19 (t : Fin cfg0.N) (i : S32768x512.Idx) (hv : t.val = (i 0).val / 512) :
    ((cfg0.win 19).blk t).view.emb (ix2 (n0 := 512) (n1 := 512) ⟨(i 0).val % 512, by omega⟩ (i 1)) = i := by
  funext a
  apply Fin.ext
  match a with
  | ⟨0, _⟩ => show win0_19.index t 0 * 512 + 1 * ((i 0).val % 512) = (i 0).val; rw [(index_out t).2.2.2.2.2.2.2.1.1, hv]; omega
  | ⟨1, _⟩ => show win0_19.index t 1 * 512 + 1 * (i 1).val = (i 1).val; rw [(index_out t).2.2.2.2.2.2.2.1.2]; omega

/-- Result 7 after the run. -/
theorem final19 (c : Dev nD) : (dats m 0 c).arrAt 19 cfg0.N = G19 m c :=
  (dats m 0 c).arrAt_eq_of_cover 19 (G19 m c) (fun t _ => flushed_eq19 m c t) fun i => by
    have h0 : (i 0).val < 32768 := (i 0).isLt
    refine ⟨⟨(i 0).val / 512, lt_of_lt_of_eq (b := 64) (by omega) N_0.symm⟩, flush0_19 _, ?_⟩
    have hm := ((cfg0.win 19).blk ⟨(i 0).val / 512, lt_of_lt_of_eq (b := 64) (by omega) N_0.symm⟩).view.emb_mem_set
      (ix2 (n0 := 512) (n1 := 512) ⟨(i 0).val % 512, by omega⟩ (i 1))
    rwa [emb19 _ i rfl] at hm

/-- Result 8 after the run. -/
def G20 (c : Dev nD) : FVec Ideal S32768x512 .bf16 := fun i =>
  onesK (headOf (kvLat (mat 32768 1024 (m ((c : Thread nD τ).loc main_arg0)) (i 0)) (mat 1024 3200 (m ((c : Thread nD τ).loc main_arg1))) (mat 1 256 (m ((c : Thread nD τ).loc main_arg8)) 0)) (mat 256 512 (m ((c : Thread nD τ).loc main_arg11))) 0 (i 1).val) (i 1).val

/-- What a grid point writes back to result 8 is its block of `G20`. -/
theorem flushed_eq20 (c : Dev nD) (t : Fin cfg0.N) :
    (dats m 0 c).flushed 20 t = ((cfg0.win 20).blk t).view.read (Elt Ideal) (G20 m c) := by
  rw [Value.flushed20]
  funext y
  obtain ⟨r, l, rfl⟩ : ∃ (r : Fin 512) (l : Fin 512), y = ix2 r l := ⟨y 0, y 1, ValueIdx.eq_ix2 y⟩
  rw [View.read_apply]
  refine (show _ = out0_20 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (ix2 r l) from rfl).trans ?_
  have e0 : (((cfg0.win 20).blk t).view.emb (ix2 r l)) 0 = rowAt t r := by
    apply Fin.ext
    show win0_20.index t 0 * 512 + 1 * r.val = _; rw [(index_out t).2.2.2.2.2.2.2.2.1, one_mul]; rfl
  have e1 : (((cfg0.win 20).blk t).view.emb (ix2 r l)) 1 = l := by
    apply Fin.ext
    show win0_20.index t 1 * 512 + 1 * l.val = _; rw [(index_out t).2.2.2.2.2.2.2.2.2, zero_mul, zero_add, one_mul]
  show _ = G20 m c (((cfg0.win 20).blk t).view.emb (ix2 r l))
  unfold G20
  rw [e0, e1, out20_apply, blk0, blk1, blk8, blk11]

/-- Where the block of result 8 that holds an index sends it. -/
theorem emb20 (t : Fin cfg0.N) (i : S32768x512.Idx) (hv : t.val = (i 0).val / 512) :
    ((cfg0.win 20).blk t).view.emb (ix2 (n0 := 512) (n1 := 512) ⟨(i 0).val % 512, by omega⟩ (i 1)) = i := by
  funext a
  apply Fin.ext
  match a with
  | ⟨0, _⟩ => show win0_20.index t 0 * 512 + 1 * ((i 0).val % 512) = (i 0).val; rw [(index_out t).2.2.2.2.2.2.2.2.1, hv]; omega
  | ⟨1, _⟩ => show win0_20.index t 1 * 512 + 1 * (i 1).val = (i 1).val; rw [(index_out t).2.2.2.2.2.2.2.2.2]; omega

/-- Result 8 after the run. -/
theorem final20 (c : Dev nD) : (dats m 0 c).arrAt 20 cfg0.N = G20 m c :=
  (dats m 0 c).arrAt_eq_of_cover 20 (G20 m c) (fun t _ => flushed_eq20 m c t) fun i => by
    have h0 : (i 0).val < 32768 := (i 0).isLt
    refine ⟨⟨(i 0).val / 512, lt_of_lt_of_eq (b := 64) (by omega) N_0.symm⟩, flush0_20 _, ?_⟩
    have hm := ((cfg0.win 20).blk ⟨(i 0).val / 512, lt_of_lt_of_eq (b := 64) (by omega) N_0.symm⟩).view.emb_mem_set
      (ix2 (n0 := 512) (n1 := 512) ⟨(i 0).val % 512, by omega⟩ (i 1))
    rwa [emb20 _ i rfl] at hm

end Cert.QkvIdeal.Hand

end
-- ==== Proof.QkvRef.lean ====
/-
  The reference's nine projections, read at an index: a token is sequence `b`, position `s`; a column is head `q`, lane `l`.
-/
module

public import proofs.«01_k».proof.Proof.QkvRow
public import proofs.«01_k».proof.Proof.Gen.QkvRefIdeal.Run

@[expose] public section

set_option maxRecDepth 16384

noncomputable section

open Idealize.ShloMosaic Idealize.ShloMosaic.TcCoe Idealize.SL.Sem

namespace Cert.QkvRefIdeal.Hand

open Cert.QkvRefIdeal Cert.QkvRefIdeal.Gen Cert.QkvRefIdeal.Value Cert.QkvRow

/-- The row of token `s` of sequence `b`. -/
def tok (b : Fin 4) (s : Fin 8192) : Fin 32768 := ⟨b.val * 8192 + s.val, by omega⟩

/-- The first product, of all columns. -/
def prod (X : FVec Ideal S32768x1024 .f32) (W : FVec Ideal S1024x3200 .bf16) : FVec Ideal S32768x3200 .f32 :=
  Host.dotGeneral dot_S32768x1024_S1024x3200_S32768x3200_1_0_0_1_n_n none X (extf .f32 W bitsLt_bf16_f32)

theorem prod_apply (X : FVec Ideal S32768x1024 .f32) (W : FVec Ideal S1024x3200 .bf16) (R : Fin 32768) (c : Fin 3200) :
    prod X W (ix2 R c) = proj (mat 32768 1024 X R) (mat 1024 3200 W) c := by
  unfold prod proj mat
  pointwise

/-- The first lanes of the cosines' table. -/
def cos32 (T : FVec Ideal S8192x128 .f32) : FVec Ideal S8192x1x32 .f32 :=
  broadcastInDim S8192x1x32 ![0, 2] bcast_S8192x32_S8192x1x32_0_2 (extractStridedSlice S8192x32 ![0, 0] T slices_S8192x128_S8192x32_0_0)

/-- The last lanes of the table: the sines. -/
def sin32 (T : FVec Ideal S8192x128 .f32) : FVec Ideal S8192x1x32 .f32 :=
  broadcastInDim S8192x1x32 ![0, 2] bcast_S8192x32_S8192x1x32_0_2 (extractStridedSlice S8192x32 ![0, 96] T slices_S8192x128_S8192x32_0_96)

/-- Sixteen cosines of a table's second half. -/
def cos16 (T : FVec Ideal S8192x128 .f32) : FVec Ideal S8192x1x16 .f32 :=
  broadcastInDim S8192x1x16 ![0, 2] bcast_S8192x16_S8192x1x16_0_2 (extractStridedSlice S8192x16 ![0, 64] T slices_S8192x128_S8192x16_0_64)

/-- Sixteen sines of a table's second half. -/
def sin16 (T : FVec Ideal S8192x128 .f32) : FVec Ideal S8192x1x16 .f32 :=
  broadcastInDim S8192x1x16 ![0, 2] bcast_S8192x16_S8192x1x16_0_2 (extractStridedSlice S8192x16 ![0, 112] T slices_S8192x128_S8192x16_0_112)

theorem cos32_apply (T : FVec Ideal S8192x128 .f32) (s : Fin 8192) (j : Fin 32) :
    cos32 T (ix3 s 0 j) = mat 8192 128 T s ⟨j.val, by omega⟩ := by
  unfold cos32 mat; pointwise

theorem sin32_apply (T : FVec Ideal S8192x128 .f32) (s : Fin 8192) (j : Fin 32) :
    sin32 T (ix3 s 0 j) = mat 8192 128 T s ⟨96 + j.val, by omega⟩ := by
  unfold sin32 mat; pointwise

theorem cos16_apply (T : FVec Ideal S8192x128 .f32) (s : Fin 8192) (j : Fin 16) :
    cos16 T (ix3 s 0 j) = mat 8192 128 T s ⟨64 + j.val, by omega⟩ := by
  unfold cos16 mat; pointwise

theorem sin16_apply (T : FVec Ideal S8192x128 .f32) (s : Fin 8192) (j : Fin 16) :
    sin16 T (ix3 s 0 j) = mat 8192 128 T s ⟨112 + j.val, by omega⟩ := by
  unfold sin16 mat; pointwise

/-- The six query heads' own lanes. -/
def head6 (H : FVec Ideal S32768x3200 .f32) : FVec Ideal S4x8192x6x64 .f32 :=
  extractStridedSlice S4x8192x6x64 ![0, 0, 0, 0] (shapeCast _ (extractStridedSlice S32768x768 ![0, 1152] H slices_S32768x3200_S32768x768_0_1152) shapeCasts_S32768x768_S4x8192x6x128) slices_S4x8192x6x128_S4x8192x6x64_0_0_0_0

theorem head6_apply (H : FVec Ideal S32768x3200 .f32) (b : Fin 4) (s : Fin 8192) (q : Fin 6) (l : Fin 64) :
    head6 H (ix4 b s q l) = H (ix2 (tok b s) ⟨1152 + (q.val * 128 + l.val), by omega⟩) := by
  unfold head6 tok
  pointwise

/-- The six query heads, normed. -/
def normed6 (Y : FVec Ideal S4x8192x6x64 .f32) (G : FVec Ideal S1x128 .f32) : FVec Ideal S4x8192x6x64 .f32 :=
  mulf (mulf Y (broadcastInDim S4x8192x6x64 ![0, 1, 2, 3] bcast_S4x8192x6x1_S4x8192x6x64_0_1_2_3 (Host.rsqrt (addf (Host.divf (broadcastInDim S4x8192x6x1 ![0, 1, 2] bcast_S4x8192x6_S4x8192x6x1_0_1_2 (Host.reduceAdd (mulf Y Y) (constant S_ .f32 0x00000000#32) reducesTo_S4x8192x6x64_S4x8192x6_d3 h_S_)) (broadcastInDim S4x8192x6x1 ![] bcast_S_S4x8192x6x1 (constant S_ .f32 0x42800000#32))) (broadcastInDim S4x8192x6x1 ![] bcast_S_S4x8192x6x1 (constant S_ .f32 0x358637BD#32)))))) (broadcastInDim S4x8192x6x64 ![0, 1, 2, 3] bcast_S1x1x1x64_S4x8192x6x64_0_1_2_3 (broadcastInDim S1x1x1x64 ![3] bcast_S64_S1x1x1x64_3 (shapeCast _ (extractStridedSlice S1x64 ![0, 0] G slices_S1x128_S1x64_0_0) shapeCasts_S1x64_S64)))

theorem normed6_apply (Y : FVec Ideal S4x8192x6x64 .f32) (G : FVec Ideal S1x128 .f32) (b : Fin 4) (s : Fin 8192) (q : Fin 6) (l : Fin 64) :
    normed6 Y G (ix4 b s q l) = rms (Ideal.ofBits .f32 0x42800000#32) (fun k => Y (ix4 b s q k)) (fun k => mat 1 128 G 0 (lo k)) l := by
  unfold normed6 rms scale eps mat lo
  pointwise

/-- The six query heads, rotated. -/
def rot6 (N : FVec Ideal S4x8192x6x64 .f32) (c s : FVec Ideal S8192x1x32 .f32) : FVec Ideal S4x8192x6x64 .f32 :=
  concatenate S4x8192x6x64 3 [⟨S4x8192x6x32, (subf (mulf (extractStridedSlice S4x8192x6x32 ![0, 0, 0, 0] N slices_S4x8192x6x64_S4x8192x6x32_0_0_0_0) (broadcastInDim S4x8192x6x32 ![0, 1, 2, 3] bcast_S1x8192x1x32_S4x8192x6x32_0_1_2_3 (broadcastInDim S1x8192x1x32 ![1, 2, 3] bcast_S8192x1x32_S1x8192x1x32_1_2_3 c))) (mulf (extractStridedSlice S4x8192x6x32 ![0, 0, 0, 32] N slices_S4x8192x6x64_S4x8192x6x32_0_0_0_32) (broadcastInDim S4x8192x6x32 ![0, 1, 2, 3] bcast_S1x8192x1x32_S4x8192x6x32_0_1_2_3 (broadcastInDim S1x8192x1x32 ![1, 2, 3] bcast_S8192x1x32_S1x8192x1x32_1_2_3 s))))⟩,
    ⟨S4x8192x6x32, (addf (mulf (extractStridedSlice S4x8192x6x32 ![0, 0, 0, 0] N slices_S4x8192x6x64_S4x8192x6x32_0_0_0_0) (broadcastInDim S4x8192x6x32 ![0, 1, 2, 3] bcast_S1x8192x1x32_S4x8192x6x32_0_1_2_3 (broadcastInDim S1x8192x1x32 ![1, 2, 3] bcast_S8192x1x32_S1x8192x1x32_1_2_3 s))) (mulf (extractStridedSlice S4x8192x6x32 ![0, 0, 0, 32] N slices_S4x8192x6x64_S4x8192x6x32_0_0_0_32) (broadcastInDim S4x8192x6x32 ![0, 1, 2, 3] bcast_S1x8192x1x32_S4x8192x6x32_0_1_2_3 (broadcastInDim S1x8192x1x32 ![1, 2, 3] bcast_S8192x1x32_S1x8192x1x32_1_2_3 c))))⟩]
    concatenates_S4x8192x6x32_S4x8192x6x32_S4x8192x6x64_d3

theorem rot6_apply (N : FVec Ideal S4x8192x6x64 .f32) (c sn : FVec Ideal S8192x1x32 .f32) (b : Fin 4) (s : Fin 8192) (q : Fin 6) (l : Fin 64) :
    rot6 N c sn (ix4 b s q l) = rope rfl (fun k => N (ix4 b s q k)) (fun j => c (ix3 s 0 j)) (fun j => sn (ix3 s 0 j)) l := by
  unfold rot6 rope
  pointwise
  by_cases h : l.val < 32
  · have e : (⟨32 + l.val, by omega⟩ : Fin 64) = ⟨l.val + 32, by omega⟩ := Fin.ext (Nat.add_comm _ _)
    rw [dif_pos h, dif_pos h, e]
  · have e : (⟨32 + (l.val - 32), by omega⟩ : Fin 64) = l := Fin.ext (by show 32 + (l.val - 32) = l.val; omega)
    rw [dif_neg h, dif_neg h, e]

/-- The six query heads in 128 lanes each, as rows and columns. -/
def wide6 (Z : FVec Ideal S4x8192x6x64 .f32) : FVec Ideal S32768x768 .bf16 :=
  truncf .bf16 (shapeCast _ (concatenate S4x8192x6x128 3 [⟨S4x8192x6x64, Z⟩, ⟨S4x8192x6x64, (broadcastInDim S4x8192x6x64 ![] bcast_S_S4x8192x6x64 (constant S_ .f32 0x00000000#32))⟩] concatenates_S4x8192x6x64_S4x8192x6x64_S4x8192x6x128_d3) shapeCasts_S4x8192x6x128_S32768x768) bitsLt_bf16_f32

theorem wide6_apply (Z : FVec Ideal S4x8192x6x64 .f32) (b : Fin 4) (s : Fin 8192) (q : Fin 6) (l : Fin 128) :
    wide6 Z (ix2 (n0 := 32768) (n1 := 768) (tok b s) ⟨q.val * 128 + l.val, by omega⟩) = if h : l.val < 64 then Z (ix4 b s q ⟨l.val, h⟩) else 0 := by
  unfold wide6 tok
  pointwise

/-- The two key heads' own lanes. -/
def head2 (H : FVec Ideal S32768x3200 .f32) : FVec Ideal S4x8192x2x64 .f32 :=
  extractStridedSlice S4x8192x2x64 ![0, 0, 0, 0] (shapeCast _ (extractStridedSlice S32768x256 ![0, 1920] H slices_S32768x3200_S32768x256_0_1920) shapeCasts_S32768x256_S4x8192x2x128) slices_S4x8192x2x128_S4x8192x2x64_0_0_0_0

theorem head2_apply (H : FVec Ideal S32768x3200 .f32) (b : Fin 4) (s : Fin 8192) (q : Fin 2) (l : Fin 64) :
    head2 H (ix4 b s q l) = H (ix2 (tok b s) ⟨1920 + (q.val * 128 + l.val), by omega⟩) := by
  unfold head2 tok
  pointwise

/-- The two key heads, normed. -/
def normed2 (Y : FVec Ideal S4x8192x2x64 .f32) (G : FVec Ideal S1x128 .f32) : FVec Ideal S4x8192x2x64 .f32 :=
  mulf (mulf Y (broadcastInDim S4x8192x2x64 ![0, 1, 2, 3] bcast_S4x8192x2x1_S4x8192x2x64_0_1_2_3 (Host.rsqrt (addf (Host.divf (broadcastInDim S4x8192x2x1 ![0, 1, 2] bcast_S4x8192x2_S4x8192x2x1_0_1_2 (Host.reduceAdd (mulf Y Y) (constant S_ .f32 0x00000000#32) reducesTo_S4x8192x2x64_S4x8192x2_d3 h_S_)) (broadcastInDim S4x8192x2x1 ![] bcast_S_S4x8192x2x1 (constant S_ .f32 0x42800000#32))) (broadcastInDim S4x8192x2x1 ![] bcast_S_S4x8192x2x1 (constant S_ .f32 0x358637BD#32)))))) (broadcastInDim S4x8192x2x64 ![0, 1, 2, 3] bcast_S1x1x1x64_S4x8192x2x64_0_1_2_3 (broadcastInDim S1x1x1x64 ![3] bcast_S64_S1x1x1x64_3 (shapeCast _ (extractStridedSlice S1x64 ![0, 0] G slices_S1x128_S1x64_0_0) shapeCasts_S1x64_S64)))

theorem normed2_apply (Y : FVec Ideal S4x8192x2x64 .f32) (G : FVec Ideal S1x128 .f32) (b : Fin 4) (s : Fin 8192) (q : Fin 2) (l : Fin 64) :
    normed2 Y G (ix4 b s q l) = rms (Ideal.ofBits .f32 0x42800000#32) (fun k => Y (ix4 b s q k)) (fun k => mat 1 128 G 0 (lo k)) l := by
  unfold normed2 rms scale eps mat lo
  pointwise

/-- The two key heads, rotated. -/
def rot2 (N : FVec Ideal S4x8192x2x64 .f32) (c s : FVec Ideal S8192x1x32 .f32) : FVec Ideal S4x8192x2x64 .f32 :=
  concatenate S4x8192x2x64 3 [⟨S4x8192x2x32, (subf (mulf (extractStridedSlice S4x8192x2x32 ![0, 0, 0, 0] N slices_S4x8192x2x64_S4x8192x2x32_0_0_0_0) (broadcastInDim S4x8192x2x32 ![0, 1, 2, 3] bcast_S1x8192x1x32_S4x8192x2x32_0_1_2_3 (broadcastInDim S1x8192x1x32 ![1, 2, 3] bcast_S8192x1x32_S1x8192x1x32_1_2_3 c))) (mulf (extractStridedSlice S4x8192x2x32 ![0, 0, 0, 32] N slices_S4x8192x2x64_S4x8192x2x32_0_0_0_32) (broadcastInDim S4x8192x2x32 ![0, 1, 2, 3] bcast_S1x8192x1x32_S4x8192x2x32_0_1_2_3 (broadcastInDim S1x8192x1x32 ![1, 2, 3] bcast_S8192x1x32_S1x8192x1x32_1_2_3 s))))⟩,
    ⟨S4x8192x2x32, (addf (mulf (extractStridedSlice S4x8192x2x32 ![0, 0, 0, 0] N slices_S4x8192x2x64_S4x8192x2x32_0_0_0_0) (broadcastInDim S4x8192x2x32 ![0, 1, 2, 3] bcast_S1x8192x1x32_S4x8192x2x32_0_1_2_3 (broadcastInDim S1x8192x1x32 ![1, 2, 3] bcast_S8192x1x32_S1x8192x1x32_1_2_3 s))) (mulf (extractStridedSlice S4x8192x2x32 ![0, 0, 0, 32] N slices_S4x8192x2x64_S4x8192x2x32_0_0_0_32) (broadcastInDim S4x8192x2x32 ![0, 1, 2, 3] bcast_S1x8192x1x32_S4x8192x2x32_0_1_2_3 (broadcastInDim S1x8192x1x32 ![1, 2, 3] bcast_S8192x1x32_S1x8192x1x32_1_2_3 c))))⟩]
    concatenates_S4x8192x2x32_S4x8192x2x32_S4x8192x2x64_d3

theorem rot2_apply (N : FVec Ideal S4x8192x2x64 .f32) (c sn : FVec Ideal S8192x1x32 .f32) (b : Fin 4) (s : Fin 8192) (q : Fin 2) (l : Fin 64) :
    rot2 N c sn (ix4 b s q l) = rope rfl (fun k => N (ix4 b s q k)) (fun j => c (ix3 s 0 j)) (fun j => sn (ix3 s 0 j)) l := by
  unfold rot2 rope
  pointwise
  by_cases h : l.val < 32
  · have e : (⟨32 + l.val, by omega⟩ : Fin 64) = ⟨l.val + 32, by omega⟩ := Fin.ext (Nat.add_comm _ _)
    rw [dif_pos h, dif_pos h, e]
  · have e : (⟨32 + (l.val - 32), by omega⟩ : Fin 64) = l := Fin.ext (by show 32 + (l.val - 32) = l.val; omega)
    rw [dif_neg h, dif_neg h, e]

/-- The two key heads in 128 lanes each, as rows and columns. -/
def wide2 (Z : FVec Ideal S4x8192x2x64 .f32) : FVec Ideal S32768x256 .bf16 :=
  truncf .bf16 (shapeCast _ (concatenate S4x8192x2x128 3 [⟨S4x8192x2x64, Z⟩, ⟨S4x8192x2x64, (broadcastInDim S4x8192x2x64 ![] bcast_S_S4x8192x2x64 (constant S_ .f32 0x00000000#32))⟩] concatenates_S4x8192x2x64_S4x8192x2x64_S4x8192x2x128_d3) shapeCasts_S4x8192x2x128_S32768x256) bitsLt_bf16_f32

theorem wide2_apply (Z : FVec Ideal S4x8192x2x64 .f32) (b : Fin 4) (s : Fin 8192) (q : Fin 2) (l : Fin 128) :
    wide2 Z (ix2 (n0 := 32768) (n1 := 256) (tok b s) ⟨q.val * 128 + l.val, by omega⟩) = if h : l.val < 64 then Z (ix4 b s q ⟨l.val, h⟩) else 0 := by
  unfold wide2 tok
  pointwise

/-- The two value heads' own lanes. -/
def vHead (H : FVec Ideal S32768x3200 .f32) : FVec Ideal S4x8192x2x64 .f32 :=
  extractStridedSlice S4x8192x2x64 ![0, 0, 0, 0] (shapeCast _ (extractStridedSlice S32768x256 ![0, 2176] H slices_S32768x3200_S32768x256_0_2176) shapeCasts_S32768x256_S4x8192x2x128) slices_S4x8192x2x128_S4x8192x2x64_0_0_0_0

theorem vHead_apply (H : FVec Ideal S32768x3200 .f32) (b : Fin 4) (s : Fin 8192) (q : Fin 2) (l : Fin 64) :
    vHead H (ix4 b s q l) = H (ix2 (tok b s) ⟨2176 + (q.val * 128 + l.val), by omega⟩) := by
  unfold vHead tok
  pointwise

/-- 2 heads' values and a one, in 128 lanes each, as rows and columns. -/
def ones2 (Z : FVec Ideal S4x8192x2x64 .f32) : FVec Ideal S32768x256 .bf16 :=
  truncf .bf16 (shapeCast _ (concatenate S4x8192x2x128 3 [⟨S4x8192x2x65, (concatenate S4x8192x2x65 3 [⟨S4x8192x2x64, Z⟩, ⟨S4x8192x2x1, (broadcastInDim S4x8192x2x1 ![] bcast_S_S4x8192x2x1 (constant S_ .f32 0x3F800000#32))⟩] concatenates_S4x8192x2x64_S4x8192x2x1_S4x8192x2x65_d3)⟩, ⟨S4x8192x2x63, (broadcastInDim S4x8192x2x63 ![] bcast_S_S4x8192x2x63 (constant S_ .f32 0x00000000#32))⟩] concatenates_S4x8192x2x65_S4x8192x2x63_S4x8192x2x128_d3) shapeCasts_S4x8192x2x128_S32768x256) bitsLt_bf16_f32

theorem ones2_apply (Z : FVec Ideal S4x8192x2x64 .f32) (b : Fin 4) (s : Fin 8192) (q : Fin 2) (l : Fin 128) :
    ones2 Z (ix2 (n0 := 32768) (n1 := 256) (tok b s) ⟨q.val * 128 + l.val, by omega⟩) = oneR (fun k => Z (ix4 b s q k)) l := by
  unfold ones2 tok oneR
  pointwise
  by_cases h : l.val < 64
  · rw [dif_pos (show l.val < 65 by omega), dif_pos h, dif_pos h]
  · by_cases h' : l.val < 65
    · rw [dif_pos h', dif_neg h, dif_neg h, if_pos h']
    · rw [dif_neg h', dif_neg h, if_neg h']

/-- 4 heads' values and a one, in 128 lanes each, as rows and columns. -/
def ones4 (Z : FVec Ideal S4x8192x4x64 .f32) : FVec Ideal S32768x512 .bf16 :=
  truncf .bf16 (shapeCast _ (concatenate S4x8192x4x128 3 [⟨S4x8192x4x65, (concatenate S4x8192x4x65 3 [⟨S4x8192x4x64, Z⟩, ⟨S4x8192x4x1, (broadcastInDim S4x8192x4x1 ![] bcast_S_S4x8192x4x1 (constant S_ .f32 0x3F800000#32))⟩] concatenates_S4x8192x4x64_S4x8192x4x1_S4x8192x4x65_d3)⟩, ⟨S4x8192x4x63, (broadcastInDim S4x8192x4x63 ![] bcast_S_S4x8192x4x63 (constant S_ .f32 0x00000000#32))⟩] concatenates_S4x8192x4x65_S4x8192x4x63_S4x8192x4x128_d3) shapeCasts_S4x8192x4x128_S32768x512) bitsLt_bf16_f32

theorem ones4_apply (Z : FVec Ideal S4x8192x4x64 .f32) (b : Fin 4) (s : Fin 8192) (q : Fin 4) (l : Fin 128) :
    ones4 Z (ix2 (n0 := 32768) (n1 := 512) (tok b s) ⟨q.val * 128 + l.val, by omega⟩) = oneR (fun k => Z (ix4 b s q k)) l := by
  unfold ones4 tok oneR
  pointwise
  by_cases h : l.val < 64
  · rw [dif_pos (show l.val < 65 by omega), dif_pos h, dif_pos h]
  · by_cases h' : l.val < 65
    · rw [dif_pos h', dif_neg h, dif_neg h, if_pos h']
    · rw [dif_neg h', dif_neg h, if_neg h']

/-- The latent queries, normed. -/
def cq (H : FVec Ideal S32768x3200 .f32) (G : FVec Ideal S1x384 .f32) : FVec Ideal S32768x384 .f32 :=
  let Y : FVec Ideal S32768x384 .f32 := extractStridedSlice S32768x384 ![0, 2432] H slices_S32768x3200_S32768x384_0_2432
  mulf (mulf Y (broadcastInDim S32768x384 ![0, 1] bcast_S32768x1_S32768x384_0_1 (Host.rsqrt (addf (Host.divf (broadcastInDim S32768x1 ![0] bcast_S32768_S32768x1_0 (Host.reduceAdd (mulf Y Y) (constant S_ .f32 0x00000000#32) reducesTo_S32768x384_S32768_d1 h_S_)) (broadcastInDim S32768x1 ![] bcast_S_S32768x1 (constant S_ .f32 0x43C00000#32))) (broadcastInDim S32768x1 ![] bcast_S_S32768x1 (constant S_ .f32 0x358637BD#32)))))) (broadcastInDim S32768x384 ![0, 1] bcast_S1x384_S32768x384_0_1 G)

theorem cq_apply (H : FVec Ideal S32768x3200 .f32) (G : FVec Ideal S1x384 .f32) (R : Fin 32768) (l : Fin 384) :
    cq H G (ix2 R l) = rms (Ideal.ofBits .f32 0x43C00000#32) (fun k => H (ix2 R ⟨2432 + k.val, by omega⟩)) (mat 1 384 G 0) l := by
  unfold cq rms scale eps mat
  pointwise

/-- The latent keys and values, normed. -/
def ckv (H : FVec Ideal S32768x3200 .f32) (G : FVec Ideal S1x256 .f32) : FVec Ideal S32768x256 .f32 :=
  let Y : FVec Ideal S32768x256 .f32 := extractStridedSlice S32768x256 ![0, 2816] H slices_S32768x3200_S32768x256_0_2816
  mulf (mulf Y (broadcastInDim S32768x256 ![0, 1] bcast_S32768x1_S32768x256_0_1 (Host.rsqrt (addf (Host.divf (broadcastInDim S32768x1 ![0] bcast_S32768_S32768x1_0 (Host.reduceAdd (mulf Y Y) (constant S_ .f32 0x00000000#32) reducesTo_S32768x256_S32768_d1 h_S_)) (broadcastInDim S32768x1 ![] bcast_S_S32768x1 (constant S_ .f32 0x43800000#32))) (broadcastInDim S32768x1 ![] bcast_S_S32768x1 (constant S_ .f32 0x358637BD#32)))))) (broadcastInDim S32768x256 ![0, 1] bcast_S1x256_S32768x256_0_1 G)

theorem ckv_apply (H : FVec Ideal S32768x3200 .f32) (G : FVec Ideal S1x256 .f32) (R : Fin 32768) (l : Fin 256) :
    ckv H G (ix2 R l) = rms (Ideal.ofBits .f32 0x43800000#32) (fun k => H (ix2 R ⟨2816 + k.val, by omega⟩)) (mat 1 256 G 0) l := by
  unfold ckv rms scale eps mat
  pointwise

/-- 4 heads of 32 lanes, rotated. -/
def turn4 (N : FVec Ideal S4x8192x4x32 .f32) (c s : FVec Ideal S8192x1x16 .f32) : FVec Ideal S4x8192x4x32 .f32 :=
  concatenate S4x8192x4x32 3 [⟨S4x8192x4x16, (subf (mulf (extractStridedSlice S4x8192x4x16 ![0, 0, 0, 0] N slices_S4x8192x4x32_S4x8192x4x16_0_0_0_0) (broadcastInDim S4x8192x4x16 ![0, 1, 2, 3] bcast_S1x8192x1x16_S4x8192x4x16_0_1_2_3 (broadcastInDim S1x8192x1x16 ![1, 2, 3] bcast_S8192x1x16_S1x8192x1x16_1_2_3 c))) (mulf (extractStridedSlice S4x8192x4x16 ![0, 0, 0, 16] N slices_S4x8192x4x32_S4x8192x4x16_0_0_0_16) (broadcastInDim S4x8192x4x16 ![0, 1, 2, 3] bcast_S1x8192x1x16_S4x8192x4x16_0_1_2_3 (broadcastInDim S1x8192x1x16 ![1, 2, 3] bcast_S8192x1x16_S1x8192x1x16_1_2_3 s))))⟩,
    ⟨S4x8192x4x16, (addf (mulf (extractStridedSlice S4x8192x4x16 ![0, 0, 0, 0] N slices_S4x8192x4x32_S4x8192x4x16_0_0_0_0) (broadcastInDim S4x8192x4x16 ![0, 1, 2, 3] bcast_S1x8192x1x16_S4x8192x4x16_0_1_2_3 (broadcastInDim S1x8192x1x16 ![1, 2, 3] bcast_S8192x1x16_S1x8192x1x16_1_2_3 s))) (mulf (extractStridedSlice S4x8192x4x16 ![0, 0, 0, 16] N slices_S4x8192x4x32_S4x8192x4x16_0_0_0_16) (broadcastInDim S4x8192x4x16 ![0, 1, 2, 3] bcast_S1x8192x1x16_S4x8192x4x16_0_1_2_3 (broadcastInDim S1x8192x1x16 ![1, 2, 3] bcast_S8192x1x16_S1x8192x1x16_1_2_3 c))))⟩]
    concatenates_S4x8192x4x16_S4x8192x4x16_S4x8192x4x32_d3

theorem turn4_apply (N : FVec Ideal S4x8192x4x32 .f32) (c sn : FVec Ideal S8192x1x16 .f32) (b : Fin 4) (s : Fin 8192) (q : Fin 4) (l : Fin 32) :
    turn4 N c sn (ix4 b s q l) = rope rfl (fun k => N (ix4 b s q k)) (fun j => c (ix3 s 0 j)) (fun j => sn (ix3 s 0 j)) l := by
  have hq := q.isLt
  unfold turn4 rope
  pointwise
  by_cases h : l.val < 16
  · have e : (⟨16 + l.val, by omega⟩ : Fin 32) = ⟨l.val + 16, by omega⟩ := Fin.ext (Nat.add_comm _ _)
    rw [dif_pos h, dif_pos h, e]
  · have e : (⟨16 + (l.val - 16), by omega⟩ : Fin 32) = l := Fin.ext (by show 16 + (l.val - 16) = l.val; omega)
    rw [dif_neg h, dif_neg h, e]

/-- 1 heads of 32 lanes, rotated. -/
def turn1 (N : FVec Ideal S4x8192x1x32 .f32) (c s : FVec Ideal S8192x1x16 .f32) : FVec Ideal S4x8192x1x32 .f32 :=
  concatenate S4x8192x1x32 3 [⟨S4x8192x1x16, (subf (mulf (extractStridedSlice S4x8192x1x16 ![0, 0, 0, 0] N slices_S4x8192x1x32_S4x8192x1x16_0_0_0_0) (broadcastInDim S4x8192x1x16 ![0, 1, 2, 3] bcast_S1x8192x1x16_S4x8192x1x16_0_1_2_3 (broadcastInDim S1x8192x1x16 ![1, 2, 3] bcast_S8192x1x16_S1x8192x1x16_1_2_3 c))) (mulf (extractStridedSlice S4x8192x1x16 ![0, 0, 0, 16] N slices_S4x8192x1x32_S4x8192x1x16_0_0_0_16) (broadcastInDim S4x8192x1x16 ![0, 1, 2, 3] bcast_S1x8192x1x16_S4x8192x1x16_0_1_2_3 (broadcastInDim S1x8192x1x16 ![1, 2, 3] bcast_S8192x1x16_S1x8192x1x16_1_2_3 s))))⟩,
    ⟨S4x8192x1x16, (addf (mulf (extractStridedSlice S4x8192x1x16 ![0, 0, 0, 0] N slices_S4x8192x1x32_S4x8192x1x16_0_0_0_0) (broadcastInDim S4x8192x1x16 ![0, 1, 2, 3] bcast_S1x8192x1x16_S4x8192x1x16_0_1_2_3 (broadcastInDim S1x8192x1x16 ![1, 2, 3] bcast_S8192x1x16_S1x8192x1x16_1_2_3 s))) (mulf (extractStridedSlice S4x8192x1x16 ![0, 0, 0, 16] N slices_S4x8192x1x32_S4x8192x1x16_0_0_0_16) (broadcastInDim S4x8192x1x16 ![0, 1, 2, 3] bcast_S1x8192x1x16_S4x8192x1x16_0_1_2_3 (broadcastInDim S1x8192x1x16 ![1, 2, 3] bcast_S8192x1x16_S1x8192x1x16_1_2_3 c))))⟩]
    concatenates_S4x8192x1x16_S4x8192x1x16_S4x8192x1x32_d3

theorem turn1_apply (N : FVec Ideal S4x8192x1x32 .f32) (c sn : FVec Ideal S8192x1x16 .f32) (b : Fin 4) (s : Fin 8192) (q : Fin 1) (l : Fin 32) :
    turn1 N c sn (ix4 b s q l) = rope rfl (fun k => N (ix4 b s q k)) (fun j => c (ix3 s 0 j)) (fun j => sn (ix3 s 0 j)) l := by
  obtain rfl : q = 0 := Subsingleton.elim _ _
  unfold turn1 rope
  pointwise
  by_cases h : l.val < 16
  · have e : (⟨16 + l.val, by omega⟩ : Fin 32) = ⟨l.val + 16, by omega⟩ := Fin.ext (Nat.add_comm _ _)
    rw [dif_pos h, dif_pos h, e]
  · have e : (⟨16 + (l.val - 16), by omega⟩ : Fin 32) = l := Fin.ext (by show 16 + (l.val - 16) = l.val; omega)
    rw [dif_neg h, dif_neg h, e]

/-- The latent queries' four heads. -/
def qHeads (C : FVec Ideal S32768x384 .f32) (U : FVec Ideal S384x512 .bf16) : FVec Ideal S4x8192x4x128 .f32 :=
  shapeCast _ (Host.dotGeneral dot_S32768x384_S384x512_S32768x512_1_0_0_1_n_n none C (extf .f32 U bitsLt_bf16_f32)) shapeCasts_S32768x512_S4x8192x4x128

theorem qHeads_apply (C : FVec Ideal S32768x384 .f32) (U : FVec Ideal S384x512 .bf16) (b : Fin 4) (s : Fin 8192) (q : Fin 4) (l : Fin 128) :
    qHeads C U (ix4 b s q l) = proj (fun k => C (ix2 (tok b s) k)) (mat 384 512 U) ⟨q.val * 128 + l.val, by omega⟩ := by
  unfold qHeads proj mat tok
  pointwise

/-- The own lanes of the four heads of latent keys or values. -/
def kvHeads (C : FVec Ideal S32768x256 .f32) (U : FVec Ideal S256x512 .bf16) : FVec Ideal S4x8192x4x64 .f32 :=
  extractStridedSlice S4x8192x4x64 ![0, 0, 0, 0] (shapeCast _ (Host.dotGeneral dot_S32768x256_S256x512_S32768x512_1_0_0_1_n_n none C (extf .f32 U bitsLt_bf16_f32)) shapeCasts_S32768x512_S4x8192x4x128) slices_S4x8192x4x128_S4x8192x4x64_0_0_0_0

theorem kvHeads_apply (C : FVec Ideal S32768x256 .f32) (U : FVec Ideal S256x512 .bf16) (b : Fin 4) (s : Fin 8192) (q : Fin 4) (l : Fin 64) :
    kvHeads C U (ix4 b s q l) = proj (fun k => C (ix2 (tok b s) k)) (mat 256 512 U) ⟨q.val * 128 + l.val, by omega⟩ := by
  unfold kvHeads proj mat tok
  pointwise

/-- The latent queries' lanes that are not rotated, times their table. -/
def qNope (Q : FVec Ideal S4x8192x4x128 .f32) (T : FVec Ideal S8192x128 .f32) : FVec Ideal S4x8192x4x64 .f32 :=
  mulf (extractStridedSlice S4x8192x4x64 ![0, 0, 0, 0] Q slices_S4x8192x4x128_S4x8192x4x64_0_0_0_0) (broadcastInDim S4x8192x4x64 ![0, 1, 2, 3] bcast_S1x8192x1x64_S4x8192x4x64_0_1_2_3 (broadcastInDim S1x8192x1x64 ![1, 2, 3] bcast_S8192x1x64_S1x8192x1x64_1_2_3 (broadcastInDim S8192x1x64 ![0, 2] bcast_S8192x64_S8192x1x64_0_2 (extractStridedSlice S8192x64 ![0, 0] T slices_S8192x128_S8192x64_0_0))))

theorem qNope_apply (Q : FVec Ideal S4x8192x4x128 .f32) (T : FVec Ideal S8192x128 .f32) (b : Fin 4) (s : Fin 8192) (q : Fin 4) (l : Fin 64) :
    qNope Q T (ix4 b s q l) = Q (ix4 b s q (lo l)) * mat 8192 128 T s (lo l) := by
  unfold qNope mat lo
  pointwise

/-- The latent queries' lanes that are rotated. -/
def qRope (Q : FVec Ideal S4x8192x4x128 .f32) : FVec Ideal S4x8192x4x32 .f32 :=
  extractStridedSlice S4x8192x4x32 ![0, 0, 0, 64] Q slices_S4x8192x4x128_S4x8192x4x32_0_0_0_64

theorem qRope_apply (Q : FVec Ideal S4x8192x4x128 .f32) (b : Fin 4) (s : Fin 8192) (q : Fin 4) (l : Fin 32) :
    qRope Q (ix4 b s q l) = Q (ix4 b s q ⟨64 + l.val, by omega⟩) := by
  unfold qRope
  pointwise

/-- The part of the latent keys that the heads share, before its rotation. -/
def kRope (H : FVec Ideal S32768x3200 .f32) : FVec Ideal S4x8192x1x32 .f32 :=
  extractStridedSlice S4x8192x1x32 ![0, 0, 0, 64] (shapeCast _ (extractStridedSlice S32768x128 ![0, 3072] H slices_S32768x3200_S32768x128_0_3072) shapeCasts_S32768x128_S4x8192x1x128) slices_S4x8192x1x128_S4x8192x1x32_0_0_0_64

theorem kRope_apply (H : FVec Ideal S32768x3200 .f32) (b : Fin 4) (s : Fin 8192) (l : Fin 32) :
    kRope H (ix4 b s 0 l) = H (ix2 (tok b s) ⟨3072 + (64 + l.val), by omega⟩) := by
  unfold kRope tok
  pointwise

/-- Heads of 64 and 32 lanes, in 128 lanes each, as rows and columns. -/
def join (Z : FVec Ideal S4x8192x4x64 .f32) (Y : FVec Ideal S4x8192x4x32 .f32) : FVec Ideal S32768x512 .bf16 :=
  truncf .bf16 (shapeCast _ (concatenate S4x8192x4x128 3 [⟨S4x8192x4x96, (concatenate S4x8192x4x96 3 [⟨S4x8192x4x64, Z⟩, ⟨S4x8192x4x32, Y⟩] concatenates_S4x8192x4x64_S4x8192x4x32_S4x8192x4x96_d3)⟩, ⟨S4x8192x4x32, (broadcastInDim S4x8192x4x32 ![] bcast_S_S4x8192x4x32 (constant S_ .f32 0x00000000#32))⟩] concatenates_S4x8192x4x96_S4x8192x4x32_S4x8192x4x128_d3) shapeCasts_S4x8192x4x128_S32768x512) bitsLt_bf16_f32

theorem join_apply (Z : FVec Ideal S4x8192x4x64 .f32) (Y : FVec Ideal S4x8192x4x32 .f32) (b : Fin 4) (s : Fin 8192) (q : Fin 4) (l : Fin 128) :
    join Z Y (ix2 (n0 := 32768) (n1 := 512) (tok b s) ⟨q.val * 128 + l.val, by omega⟩)
      = if h : l.val < 64 then Z (ix4 b s q ⟨l.val, h⟩) else if h' : l.val < 96 then Y (ix4 b s q ⟨l.val - 64, by omega⟩) else 0 := by
  unfold join tok
  pointwise
  by_cases h : l.val < 64
  · rw [dif_pos (show l.val < 96 by omega), dif_pos h, dif_pos h]
  · by_cases h' : l.val < 96
    · rw [dif_pos h', dif_neg h, dif_neg h, dif_pos h']
    · rw [dif_neg h', dif_neg h, dif_neg h']

/-- The shared part, for each of the four heads. -/
def share (Y : FVec Ideal S4x8192x1x32 .f32) : FVec Ideal S4x8192x4x32 .f32 :=
  broadcastInDim S4x8192x4x32 ![0, 1, 2, 3] bcast_S4x8192x1x32_S4x8192x4x32_0_1_2_3 Y

theorem share_apply (Y : FVec Ideal S4x8192x1x32 .f32) (b : Fin 4) (s : Fin 8192) (q : Fin 4) (l : Fin 32) :
    share Y (ix4 b s q l) = Y (ix4 b s 0 l) := by
  unfold share
  pointwise

section
variable (X : FVec Ideal S32768x1024 .f32) (W : FVec Ideal S1024x3200 .bf16) (T : FVec Ideal S8192x128 .f32)

/-- The rotated query heads. -/
theorem heads6 (G : FVec Ideal S1x128 .f32) (b : Fin 4) (s : Fin 8192) (q : Fin 6) (l : Fin 128) :
    wide6 (rot6 (normed6 (head6 (prod X W)) G) (cos32 T) (sin32 T)) (ix2 (n0 := 32768) (n1 := 768) (tok b s) ⟨q.val * 128 + l.val, by omega⟩)
      = headsR (mat 32768 1024 X (tok b s)) (mat 1024 3200 W) 1152 (mat 1 128 G 0) (mat 8192 128 T s) (q.val * 128 + l.val) := by
  have e : ∀ k : Fin 64, headOf (mat 32768 1024 X (tok b s)) (mat 1024 3200 W) 1152 (q.val * 128 + l.val) (lo k)
      = proj (mat 32768 1024 X (tok b s)) (mat 1024 3200 W) ⟨1152 + (q.val * 128 + k.val), by omega⟩ := fun k => headOf_at _ _ _ _ l (lo k) (by omega)
  rw [wide6_apply]
  unfold headsR headR
  rw [lane_at]
  simp only [e, rot6_apply, normed6_apply, head6_apply, prod_apply, cos32_apply, sin32_apply]

/-- The rotated key heads. -/
theorem heads2 (G : FVec Ideal S1x128 .f32) (b : Fin 4) (s : Fin 8192) (q : Fin 2) (l : Fin 128) :
    wide2 (rot2 (normed2 (head2 (prod X W)) G) (cos32 T) (sin32 T)) (ix2 (n0 := 32768) (n1 := 256) (tok b s) ⟨q.val * 128 + l.val, by omega⟩)
      = headsR (mat 32768 1024 X (tok b s)) (mat 1024 3200 W) 1920 (mat 1 128 G 0) (mat 8192 128 T s) (q.val * 128 + l.val) := by
  have e : ∀ k : Fin 64, headOf (mat 32768 1024 X (tok b s)) (mat 1024 3200 W) 1920 (q.val * 128 + l.val) (lo k)
      = proj (mat 32768 1024 X (tok b s)) (mat 1024 3200 W) ⟨1920 + (q.val * 128 + k.val), by omega⟩ := fun k => headOf_at _ _ _ _ l (lo k) (by omega)
  rw [wide2_apply]
  unfold headsR headR
  rw [lane_at]
  simp only [e, rot2_apply, normed2_apply, head2_apply, prod_apply, cos32_apply, sin32_apply]

/-- The value heads, with a one. -/
theorem values2 (b : Fin 4) (s : Fin 8192) (q : Fin 2) (l : Fin 128) :
    ones2 (vHead (prod X W)) (ix2 (n0 := 32768) (n1 := 256) (tok b s) ⟨q.val * 128 + l.val, by omega⟩)
      = onesR (headOf (mat 32768 1024 X (tok b s)) (mat 1024 3200 W) 2176 (q.val * 128 + l.val)) (q.val * 128 + l.val) := by
  have e : ∀ k : Fin 64, headOf (mat 32768 1024 X (tok b s)) (mat 1024 3200 W) 2176 (q.val * 128 + l.val) (lo k)
      = proj (mat 32768 1024 X (tok b s)) (mat 1024 3200 W) ⟨2176 + (q.val * 128 + k.val), by omega⟩ := fun k => headOf_at _ _ _ _ l (lo k) (by omega)
  rw [ones2_apply]
  unfold onesR
  rw [lane_at]
  simp only [e, vHead_apply, prod_apply]

/-- The latent queries' row. -/
theorem cq_row (N : FVec Ideal S1x384 .f32) (R : Fin 32768) :
    (fun k => cq (prod X W) N (ix2 R k)) = qLat (mat 32768 1024 X R) (mat 1024 3200 W) (mat 1 384 N 0) := by
  funext l
  have e : ∀ k : Fin 384, proj (mat 32768 1024 X R) (cols (mat 1024 3200 W) 2432 384) k
      = proj (mat 32768 1024 X R) (mat 1024 3200 W) ⟨2432 + k.val, by omega⟩ := fun k => proj_cols _ _ _ _ (by norm_num) k
  rw [cq_apply]
  unfold qLat
  rw [show proj (mat 32768 1024 X R) (cols (mat 1024 3200 W) 2432 384) = _ from funext e]
  simp only [prod_apply]

/-- The latent keys' and values' row. -/
theorem ckv_row (N : FVec Ideal S1x256 .f32) (R : Fin 32768) :
    (fun k => ckv (prod X W) N (ix2 R k)) = kvLat (mat 32768 1024 X R) (mat 1024 3200 W) (mat 1 256 N 0) := by
  funext l
  have e : ∀ k : Fin 256, proj (mat 32768 1024 X R) (cols (mat 1024 3200 W) 2816 256) k
      = proj (mat 32768 1024 X R) (mat 1024 3200 W) ⟨2816 + k.val, by omega⟩ := fun k => proj_cols _ _ _ _ (by norm_num) k
  rw [ckv_apply]
  unfold kvLat
  rw [show proj (mat 32768 1024 X R) (cols (mat 1024 3200 W) 2816 256) = _ from funext e]
  simp only [prod_apply]

/-- The latent queries. -/
theorem queries4 (N : FVec Ideal S1x384 .f32) (U : FVec Ideal S384x512 .bf16) (b : Fin 4) (s : Fin 8192) (q : Fin 4) (l : Fin 128) :
    join (qNope (qHeads (cq (prod X W) N) U) T) (turn4 (qRope (qHeads (cq (prod X W) N) U)) (cos16 T) (sin16 T))
        (ix2 (n0 := 32768) (n1 := 512) (tok b s) ⟨q.val * 128 + l.val, by omega⟩)
      = qTailsR (qLat (mat 32768 1024 X (tok b s)) (mat 1024 3200 W) (mat 1 384 N 0)) (mat 384 512 U) (mat 8192 128 T s) (q.val * 128 + l.val) := by
  have e : ∀ k : Fin 128, headOf (qLat (mat 32768 1024 X (tok b s)) (mat 1024 3200 W) (mat 1 384 N 0)) (mat 384 512 U) 0 (q.val * 128 + l.val) k
      = proj (qLat (mat 32768 1024 X (tok b s)) (mat 1024 3200 W) (mat 1 384 N 0)) (mat 384 512 U) ⟨q.val * 128 + k.val, by omega⟩ := fun k => by
    rw [headOf_at _ _ _ _ l k (by omega)]
    simp only [Nat.zero_add]
  rw [join_apply]
  unfold qTailsR tailR
  rw [lane_at]
  simp only [e, turn4_apply, qNope_apply, qRope_apply, qHeads_apply, cq_row, cos16_apply, sin16_apply]

/-- The latent keys. -/
theorem keys4 (N : FVec Ideal S1x256 .f32) (U : FVec Ideal S256x512 .bf16) (b : Fin 4) (s : Fin 8192) (q : Fin 4) (l : Fin 128) :
    join (kvHeads (ckv (prod X W) N) U) (share (turn1 (kRope (prod X W)) (cos16 T) (sin16 T)))
        (ix2 (n0 := 32768) (n1 := 512) (tok b s) ⟨q.val * 128 + l.val, by omega⟩)
      = kTailsR (kvLat (mat 32768 1024 X (tok b s)) (mat 1024 3200 W) (mat 1 256 N 0)) (mat 256 512 U)
          (proj (mat 32768 1024 X (tok b s)) (cols (mat 1024 3200 W) 3072 128)) (mat 8192 128 T s) (q.val * 128 + l.val) := by
  have e : ∀ k : Fin 64, headOf (kvLat (mat 32768 1024 X (tok b s)) (mat 1024 3200 W) (mat 1 256 N 0)) (mat 256 512 U) 0 (q.val * 128 + l.val) (lo k)
      = proj (kvLat (mat 32768 1024 X (tok b s)) (mat 1024 3200 W) (mat 1 256 N 0)) (mat 256 512 U) ⟨q.val * 128 + k.val, by omega⟩ := fun k => by
    rw [headOf_at _ _ _ _ l (lo k) (by omega)]
    simp only [Nat.zero_add, lo]
  have e' : ∀ k : Fin 128, proj (mat 32768 1024 X (tok b s)) (cols (mat 1024 3200 W) 3072 128) k
      = proj (mat 32768 1024 X (tok b s)) (mat 1024 3200 W) ⟨3072 + k.val, by omega⟩ := fun k => proj_cols _ _ _ _ (by norm_num) k
  rw [join_apply]
  unfold kTailsR tailR
  rw [lane_at]
  simp only [e, e', share_apply, turn1_apply, kvHeads_apply, kRope_apply, prod_apply, ckv_row, cos16_apply, sin16_apply]

/-- The latent values, with a one. -/
theorem values4 (N : FVec Ideal S1x256 .f32) (U : FVec Ideal S256x512 .bf16) (b : Fin 4) (s : Fin 8192) (q : Fin 4) (l : Fin 128) :
    ones4 (kvHeads (ckv (prod X W) N) U) (ix2 (n0 := 32768) (n1 := 512) (tok b s) ⟨q.val * 128 + l.val, by omega⟩)
      = onesR (headOf (kvLat (mat 32768 1024 X (tok b s)) (mat 1024 3200 W) (mat 1 256 N 0)) (mat 256 512 U) 0 (q.val * 128 + l.val)) (q.val * 128 + l.val) := by
  have e : ∀ k : Fin 64, headOf (kvLat (mat 32768 1024 X (tok b s)) (mat 1024 3200 W) (mat 1 256 N 0)) (mat 256 512 U) 0 (q.val * 128 + l.val) (lo k)
      = proj (kvLat (mat 32768 1024 X (tok b s)) (mat 1024 3200 W) (mat 1 256 N 0)) (mat 256 512 U) ⟨q.val * 128 + k.val, by omega⟩ := fun k => by
    rw [headOf_at _ _ _ _ l (lo k) (by omega)]
    simp only [Nat.zero_add, lo]
  rw [ones4_apply]
  unfold onesR
  rw [lane_at]
  simp only [e, kvHeads_apply, ckv_row]

/-- The neighbourhood's queries. -/
theorem na0 (R : Fin 32768) (l : Fin 384) :
    truncf .bf16 (extractStridedSlice S32768x384 ![0, 0] (prod X W) slices_S32768x3200_S32768x384_0_0) bitsLt_bf16_f32 (ix2 R l)
      = proj (mat 32768 1024 X R) (cols (mat 1024 3200 W) 0 384) l := by
  rw [proj_cols _ _ _ _ (by norm_num)]
  pointwise
  rw [prod_apply]

/-- The neighbourhood's keys. -/
theorem na1 (R : Fin 32768) (l : Fin 384) :
    truncf .bf16 (extractStridedSlice S32768x384 ![0, 384] (prod X W) slices_S32768x3200_S32768x384_0_384) bitsLt_bf16_f32 (ix2 R l)
      = proj (mat 32768 1024 X R) (cols (mat 1024 3200 W) 384 384) l := by
  rw [proj_cols _ _ _ _ (by norm_num)]
  pointwise
  rw [prod_apply]

/-- The neighbourhood's values. -/
theorem na2 (R : Fin 32768) (l : Fin 384) :
    truncf .bf16 (extractStridedSlice S32768x384 ![0, 768] (prod X W) slices_S32768x3200_S32768x384_0_768) bitsLt_bf16_f32 (ix2 R l)
      = proj (mat 32768 1024 X R) (cols (mat 1024 3200 W) 768 384) l := by
  rw [proj_cols _ _ _ _ (by norm_num)]
  pointwise
  rw [prod_apply]

end

end Cert.QkvRefIdeal.Hand

end
-- ==== Proof.QkvInputs.lean ====
/-
  What the projections' precondition says of the arguments: the rotated copies among the weights' columns, the signs of
  the rotary tables and the zero lanes lie where the kernel takes them from.
-/
module

public import proofs.«01_k».proof.Proof.InputsOk
public import proofs.«01_k».proof.Proof.QkvRow

@[expose] public section

set_option maxRecDepth 16384

noncomputable section

open Idealize.ShloMosaic Idealize.ShloMosaic.TcCoe Idealize.SL.Sem

namespace Cert.Pre_qkv_inputs_ok

open Cert.Attention Cert.QkvRow Facts

theorem zero_word : Ideal.ofBits .f32 0x00000000#32 = (0 : EReal) := by
  simp [Ideal.ofBits, Ideal.ieee, -EReal.coe_mul]

/-- The lanes from 64 on, counted from there. -/
theorem upper (l : Fin 128) (hl : 64 ≤ l.val) : ∃ j : Fin 64, l = ⟨64 + j.val, Nat.add_lt_add_left j.isLt 64⟩ := by
  refine ⟨⟨l.val - 64, by omega⟩, Fin.ext ?_⟩
  show l.val = 64 + (l.val - 64)
  omega

/-- The columns of a head hold its rotated copy. -/
def HeadsOk (W : Fin 1024 → Fin 3200 → EReal) : Prop :=
  ∀ q : ℕ, q < 8 → ∀ i, Swapped (cols W (1152 + q * 128) 128 i)

/-- What the precondition of the projections' claim says. -/
theorem decode [Facts] (a0 : FVec Ideal S32768x1024 .f32) (a1 : FVec Ideal S1024x3200 .bf16) (a2 a3 a4 : FVec Ideal S8192x128 .f32)
    (a5 a6 : FVec Ideal S1x128 .f32) (a7 : FVec Ideal S1x384 .f32) (a8 : FVec Ideal S1x256 .f32) (a9 : FVec Ideal S384x512 .bf16)
    (a10 a11 : FVec Ideal S256x512 .bf16)
    (h : fn (F := Ideal) a0 a1 a2 a3 a4 a5 a6 a7 a8 a9 a10 a11 = fun _ => 1#1) :
    (HeadsOk (mat 1024 3200 a1) ∧ Swapped (mat 1 128 a5 0) ∧ Swapped (mat 1 128 a6 0))
    ∧ ((∀ q : ℕ, q < 4 → ∀ i, SwappedTail (cols (mat 384 512 a9) (0 + q * 128) 128 i)) ∧ ∀ i, SwappedTail (cols (mat 1024 3200 a1) 3072 128 i))
    ∧ ((∀ s, Rotary (mat 8192 128 a2 s)) ∧ (∀ s, RotaryTail (mat 8192 128 a3 s)) ∧ ∀ s, RotaryTail (mat 8192 128 a4 s))
    ∧ (∀ q : ℕ, q < 2 → ∀ i (l : Fin 128), 64 ≤ l.val → cols (mat 1024 3200 a1) (2176 + q * 128) 128 i l = 0)
    ∧ (∀ i (l : Fin 128), l.val < 64 → cols (mat 1024 3200 a1) 3072 128 i l = 0)
    ∧ (∀ q : ℕ, q < 4 → ∀ i (l : Fin 128), 64 ≤ l.val → cols (mat 256 512 a10) (0 + q * 128) 128 i l = 0)
    ∧ (∀ q : ℕ, q < 4 → ∀ i (l : Fin 128), 64 ≤ l.val → cols (mat 256 512 a11) (0 + q * 128) 128 i l = 0) := by
  have h0 := congrFun h ix0
  unfold fn fn_part1 fn_part2 fn_part3 fn_part4 fn_part5 at h0
  obtain ⟨h0, q12⟩ := and_split h0
  obtain ⟨h0, q11⟩ := and_split h0
  obtain ⟨h0, q10⟩ := and_split h0
  obtain ⟨h0, q9⟩ := and_split h0
  obtain ⟨h0, p8⟩ := and_split h0
  obtain ⟨h0, p7⟩ := and_split h0
  obtain ⟨h0, p6⟩ := and_split h0
  obtain ⟨h0, p5⟩ := and_split h0
  obtain ⟨h0, p4⟩ := and_split h0
  obtain ⟨h0, p3⟩ := and_split h0
  obtain ⟨p1, p2⟩ := and_split h0
  obtain ⟨u1, v1⟩ := and_split p1
  obtain ⟨u2, v2⟩ := and_split p2
  obtain ⟨u3, v3⟩ := and_split p3
  obtain ⟨u4, v4⟩ := and_split p4
  obtain ⟨u5, v5⟩ := and_split p5
  obtain ⟨u6, v6⟩ := and_split p6
  obtain ⟨u7, v7⟩ := and_split p7
  obtain ⟨u8, v8⟩ := and_split p8
  clear h p1 p2 p3 p4 p5 p6 p7 p8
  refine ⟨⟨fun q hq i => ⟨fun j => ?_, fun j => ?_⟩, ⟨fun j => ?_, fun j => ?_⟩, ⟨fun j => ?_, fun j => ?_⟩⟩, ⟨fun q hq i => ⟨fun j => ?_, fun j => ?_⟩, fun i => ⟨fun j => ?_, fun j => ?_⟩⟩, ⟨fun s => ⟨fun j => ?_, fun j => ?_⟩, fun s => ⟨fun j => ?_, fun j => ?_⟩, fun s => ⟨fun j => ?_, fun j => ?_⟩⟩, fun q hq i l hl => ?_, fun i l hl => ?_, fun q hq i l hl => ?_, fun q hq i l hl => ?_⟩
  · have e := eq_of_oeq _ _ (Host.reduce_andi_all _ _ _ _ _ u1 (ix3 (n0 := 1024) (n1 := 8) (n2 := 32) i ⟨q, hq⟩ j))
    refine Eq.trans ?_ (e.trans ?_)
    · unfold cols mat; rw [dif_pos (by omega)]; pointwise; exact congrArg (fun k => a1 (ix2 i k)) (Fin.ext (by show _ + _ = _ + _; omega))
    · unfold cols mat; rw [dif_pos (by omega)]; pointwise; exact congrArg (fun k => a1 (ix2 i k)) (Fin.ext (by show _ + _ = _ + _; omega))
  · have e := eq_of_oeq _ _ (Host.reduce_andi_all _ _ _ _ _ v1 (ix3 (n0 := 1024) (n1 := 8) (n2 := 32) i ⟨q, hq⟩ j))
    refine Eq.trans ?_ (e.trans ?_)
    · unfold cols mat; rw [dif_pos (by omega)]; pointwise; exact congrArg (fun k => a1 (ix2 i k)) (Fin.ext (by show _ + _ = _ + _; omega))
    · unfold cols mat; rw [dif_pos (by omega)]; pointwise; exact congrArg (fun k => a1 (ix2 i k)) (Fin.ext (by show _ + _ = _ + _; omega))
  · have e := eq_of_oeq _ _ (Host.reduce_andi_all _ _ _ _ _ u2 (ix2 (n0 := 1) (n1 := 32) 0 j))
    refine Eq.trans ?_ (e.trans ?_)
    · unfold mat; pointwise
    · unfold mat; pointwise
  · have e := eq_of_oeq _ _ (Host.reduce_andi_all _ _ _ _ _ v2 (ix2 (n0 := 1) (n1 := 32) 0 j))
    refine Eq.trans ?_ (e.trans ?_)
    · unfold mat; pointwise
    · unfold mat; pointwise
  · have e := eq_of_oeq _ _ (Host.reduce_andi_all _ _ _ _ _ u3 (ix2 (n0 := 1) (n1 := 32) 0 j))
    refine Eq.trans ?_ (e.trans ?_)
    · unfold mat; pointwise
    · unfold mat; pointwise
  · have e := eq_of_oeq _ _ (Host.reduce_andi_all _ _ _ _ _ v3 (ix2 (n0 := 1) (n1 := 32) 0 j))
    refine Eq.trans ?_ (e.trans ?_)
    · unfold mat; pointwise
    · unfold mat; pointwise
  · have e := eq_of_oeq _ _ (Host.reduce_andi_all _ _ _ _ _ u4 (ix3 (n0 := 384) (n1 := 4) (n2 := 16) i ⟨q, hq⟩ j))
    refine Eq.trans ?_ (e.trans ?_)
    · unfold cols mat; rw [dif_pos (by omega)]; pointwise
    · unfold cols mat; rw [dif_pos (by omega)]; pointwise
  · have e := eq_of_oeq _ _ (Host.reduce_andi_all _ _ _ _ _ v4 (ix3 (n0 := 384) (n1 := 4) (n2 := 16) i ⟨q, hq⟩ j))
    refine Eq.trans ?_ (e.trans ?_)
    · unfold cols mat; rw [dif_pos (by omega)]; pointwise
    · unfold cols mat; rw [dif_pos (by omega)]; pointwise
  · have e := eq_of_oeq _ _ (Host.reduce_andi_all _ _ _ _ _ u5 (ix2 (n0 := 1024) (n1 := 16) i j))
    refine Eq.trans ?_ (e.trans ?_)
    · unfold cols mat; rw [dif_pos (by omega)]; pointwise
    · unfold cols mat; rw [dif_pos (by omega)]; pointwise
  · have e := eq_of_oeq _ _ (Host.reduce_andi_all _ _ _ _ _ v5 (ix2 (n0 := 1024) (n1 := 16) i j))
    refine Eq.trans ?_ (e.trans ?_)
    · unfold cols mat; rw [dif_pos (by omega)]; pointwise
    · unfold cols mat; rw [dif_pos (by omega)]; pointwise
  · have e := eq_of_oeq _ _ (Host.reduce_andi_all _ _ _ _ _ u6 (ix2 (n0 := 8192) (n1 := 32) s j))
    refine Eq.trans ?_ (e.trans ?_)
    · unfold mat; pointwise
    · unfold mat; pointwise
  · have e := eq_of_oeq _ _ (Host.reduce_andi_all _ _ _ _ _ v6 (ix2 (n0 := 8192) (n1 := 32) s j))
    refine Eq.trans ?_ (e.trans ?_)
    · unfold mat; pointwise
    · unfold mat; pointwise
  · have e := eq_of_oeq _ _ (Host.reduce_andi_all _ _ _ _ _ u7 (ix2 (n0 := 8192) (n1 := 16) s j))
    refine Eq.trans ?_ (e.trans ?_)
    · unfold mat; pointwise
    · unfold mat; pointwise
  · have e := eq_of_oeq _ _ (Host.reduce_andi_all _ _ _ _ _ v7 (ix2 (n0 := 8192) (n1 := 16) s j))
    refine Eq.trans ?_ (e.trans ?_)
    · unfold mat; pointwise
    · unfold mat; pointwise
  · have e := eq_of_oeq _ _ (Host.reduce_andi_all _ _ _ _ _ u8 (ix2 (n0 := 8192) (n1 := 16) s j))
    refine Eq.trans ?_ (e.trans ?_)
    · unfold mat; pointwise
    · unfold mat; pointwise
  · have e := eq_of_oeq _ _ (Host.reduce_andi_all _ _ _ _ _ v8 (ix2 (n0 := 8192) (n1 := 16) s j))
    refine Eq.trans ?_ (e.trans ?_)
    · unfold mat; pointwise
    · unfold mat; pointwise
  · obtain ⟨j, rfl⟩ := upper l hl
    have e := eq_of_oeq _ _ (Host.reduce_andi_all _ _ _ _ _ q9 (ix3 (n0 := 1024) (n1 := 2) (n2 := 64) i ⟨q, hq⟩ j))
    refine Eq.trans ?_ (e.trans ?_)
    · unfold cols mat; rw [dif_pos (by omega)]; pointwise; exact congrArg (fun k => a1 (ix2 i k)) (Fin.ext (by show _ + _ = _ + _; omega))
    · exact zero_word
  · have e := eq_of_oeq _ _ (Host.reduce_andi_all _ _ _ _ _ q10 (ix2 (n0 := 1024) (n1 := 64) i ⟨l.val, hl⟩))
    refine Eq.trans ?_ (e.trans ?_)
    · unfold cols mat; rw [dif_pos (by omega)]; pointwise
    · exact zero_word
  · obtain ⟨j, rfl⟩ := upper l hl
    have e := eq_of_oeq _ _ (Host.reduce_andi_all _ _ _ _ _ q11 (ix3 (n0 := 256) (n1 := 4) (n2 := 64) i ⟨q, hq⟩ j))
    refine Eq.trans ?_ (e.trans ?_)
    · unfold cols mat; rw [dif_pos (by omega)]; pointwise
    · exact zero_word
  · obtain ⟨j, rfl⟩ := upper l hl
    have e := eq_of_oeq _ _ (Host.reduce_andi_all _ _ _ _ _ q12 (ix3 (n0 := 256) (n1 := 4) (n2 := 64) i ⟨q, hq⟩ j))
    refine Eq.trans ?_ (e.trans ?_)
    · unfold cols mat; rw [dif_pos (by omega)]; pointwise
    · exact zero_word

end Cert.Pre_qkv_inputs_ok

end
-- ==== Proof.QkvClaim.lean ====
/-
  The claims of the projections' kernel.
-/
module

public import proofs.«01_k».proof.Proof.QkvValue
public import proofs.«01_k».proof.Proof.QkvRef
public import proofs.«01_k».proof.Proof.QkvInputs
public import proofs.«01_k».proof.Proof.Gen.Pre_qkv_inputs_ok
public import Idealize.ShloMosaic.Lib.Quiescent

@[expose] public section

set_option maxRecDepth 16384

noncomputable section

open Idealize.ShloMosaic Idealize.ShloMosaic.TcCoe Idealize.SL.Sem

namespace Cert.QkvProof

open Cert.QkvRow
open Cert.QkvRefIdeal.Hand (tok)
open Cert.QkvIdeal.Hand (pos)

/-- The reference runs, leaves its arguments and every semaphore as they were. -/
theorem frame_ref : Cert.quiescent_QkvRefIdeal := fun m ρ _ =>
  (θ_run Cert.QkvRefIdeal.defs _ _).mono (fun r h => ⟨fun c => (h c).2.2.2.2.2.2.2.2.2,
      Idealize.ShloMosaic.sem_eq_zero_of_no_sems (by decide) r.2⟩)
    (Cert.QkvRefIdeal.Value.run (F := Ideal) m ρ)

/-- The same under the precondition. -/
theorem frame_ref_pre : Cert.quiescent_QkvRefIdeal_pre_qkv_inputs_ok := fun m ρ _ => frame_ref m ρ trivial

/-- A row is a position of a sequence. -/
theorem row_split (R : Fin 32768) : ∃ (b : Fin 4) (s : Fin 8192), R = tok b s := by
  refine ⟨⟨R.val / 8192, by omega⟩, ⟨R.val % 8192, by omega⟩, Fin.ext ?_⟩
  show R.val = R.val / 8192 * 8192 + R.val % 8192
  omega

theorem pos_tok (b : Fin 4) (s : Fin 8192) : pos (tok b s) = s := by
  apply Fin.ext
  show (b.val * 8192 + s.val) % 8192 = s.val
  omega

/-- A column is a lane of a head. -/
theorem lane_split {n k : ℕ} (hk : k = n * 128) (c : Fin k) :
    ∃ (q : Fin n) (l : Fin 128), c.val = q.val * 128 + l.val := by
  refine ⟨⟨c.val / 128, by omega⟩, ⟨c.val % 128, by omega⟩, ?_⟩
  show c.val = c.val / 128 * 128 + c.val % 128
  omega

/-- The index of a lane of a head in a row. -/
theorem index_split {n k : ℕ} (hk : k = n * 128) (i : Shape.Idx ⟨2, ![32768, k]⟩) :
    ∃ (b : Fin 4) (s : Fin 8192) (q : Fin n) (l : Fin 128), i = ix2 (n0 := 32768) (n1 := k) (tok b s) ⟨q.val * 128 + l.val, by omega⟩ := by
  obtain ⟨b, s, hb⟩ := row_split (i 0)
  obtain ⟨q, l, hl⟩ := lane_split hk (i 1)
  refine ⟨b, s, q, l, (ValueIdx.eq_ix2 i).trans ?_⟩
  rw [hb]
  congr 1
  exact Fin.ext hl

theorem head_no (n l : ℕ) (h : l < 128) : (n * 128 + l) / 128 = n := by omega

/-- Kernel and reference end with equal results: the neighbourhood's queries, keys and values, the rotated query and key
heads and the value heads, and the latent attention's queries, keys and values. -/
theorem algebraic : Cert.algebraic_QkvIdeal_QkvRefIdeal_pre_qkv_inputs_ok := by
  intro m ρ m' ρ' hpre hagree
  refine ⟨_, _, _, _, _, _, _, _, _, Cert.QkvIdeal.Value.run_blocks (F := Ideal) m ρ, ?_⟩
  refine (θ_run _ _ _).mono (fun _ h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2.1.trans ?_, (h c).2.2.2.2.2.2.2.1.trans ?_,
      (h c).2.2.2.2.2.2.2.2.1.trans ?_, (h c).2.2.2.2.2.2.2.2.2⟩)
    (Cert.QkvRefIdeal.Value.run (F := Ideal) m' ρ')
  all_goals
    obtain ⟨⟨dW, d5, d6⟩, ⟨d9, dR⟩, ⟨d2, d3, d4⟩, zV, zR, z10, z11⟩ := Cert.Pre_qkv_inputs_ok.decode _ _ _ _ _ _ _ _ _ _ _ _ (hpre c)
    obtain ⟨h0, h1, h2, h3, h4, h5, h6, h7, h8, h9, h10, h11⟩ := hagree c
  · rw [Cert.QkvIdeal.Hand.final12 m c]
    funext i
    obtain ⟨R, l, rfl⟩ : ∃ (R : Fin 32768) (l : Fin 384), i = ix2 R l := ⟨i 0, i 1, ValueIdx.eq_ix2 i⟩
    refine (Cert.QkvRefIdeal.Hand.na0 (m' (c.tc.loc Cert.QkvRefIdeal.main_arg0)) (m' (c.tc.loc Cert.QkvRefIdeal.main_arg1)) R l).trans ?_
    rw [h0, h1]
    rfl
  · rw [Cert.QkvIdeal.Hand.final13 m c]
    funext i
    obtain ⟨R, l, rfl⟩ : ∃ (R : Fin 32768) (l : Fin 384), i = ix2 R l := ⟨i 0, i 1, ValueIdx.eq_ix2 i⟩
    refine (Cert.QkvRefIdeal.Hand.na1 (m' (c.tc.loc Cert.QkvRefIdeal.main_arg0)) (m' (c.tc.loc Cert.QkvRefIdeal.main_arg1)) R l).trans ?_
    rw [h0, h1]
    rfl
  · rw [Cert.QkvIdeal.Hand.final14 m c]
    funext i
    obtain ⟨R, l, rfl⟩ : ∃ (R : Fin 32768) (l : Fin 384), i = ix2 R l := ⟨i 0, i 1, ValueIdx.eq_ix2 i⟩
    refine (Cert.QkvRefIdeal.Hand.na2 (m' (c.tc.loc Cert.QkvRefIdeal.main_arg0)) (m' (c.tc.loc Cert.QkvRefIdeal.main_arg1)) R l).trans ?_
    rw [h0, h1]
    rfl
  · rw [Cert.QkvIdeal.Hand.final15 m c]
    funext i
    obtain ⟨b, s, q, l, rfl⟩ := index_split (n := 6) (k := 768) rfl i
    refine (Cert.QkvRefIdeal.Hand.heads6 (m' (c.tc.loc Cert.QkvRefIdeal.main_arg0)) (m' (c.tc.loc Cert.QkvRefIdeal.main_arg1)) (m' (c.tc.loc Cert.QkvRefIdeal.main_arg2)) (m' (c.tc.loc Cert.QkvRefIdeal.main_arg5)) b s q l).trans ?_
    rw [h0, h1, h2, h5]
    refine Eq.trans ?_ (show _ = Cert.QkvIdeal.Hand.G15 m c (ix2 (n0 := 32768) (n1 := 768) (tok b s) ⟨q.val * 128 + l.val, by omega⟩) from rfl)
    unfold Cert.QkvIdeal.Hand.G15
    simp only [show (ix2 (n0 := 32768) (n1 := 768) (tok b s) ⟨q.val * 128 + l.val, by omega⟩) 0 = tok b s from rfl, pos_tok]
    refine (headsK_eq (fun i => ?_) d5 (d2 _)).symm
    rw [head_no _ _ l.isLt]
    exact dW q.val (by omega) i
  · rw [Cert.QkvIdeal.Hand.final16 m c]
    funext i
    obtain ⟨b, s, q, l, rfl⟩ := index_split (n := 2) (k := 256) rfl i
    refine (Cert.QkvRefIdeal.Hand.heads2 (m' (c.tc.loc Cert.QkvRefIdeal.main_arg0)) (m' (c.tc.loc Cert.QkvRefIdeal.main_arg1)) (m' (c.tc.loc Cert.QkvRefIdeal.main_arg2)) (m' (c.tc.loc Cert.QkvRefIdeal.main_arg6)) b s q l).trans ?_
    rw [h0, h1, h2, h6]
    refine Eq.trans ?_ (show _ = Cert.QkvIdeal.Hand.G16 m c (ix2 (n0 := 32768) (n1 := 256) (tok b s) ⟨q.val * 128 + l.val, by omega⟩) from rfl)
    unfold Cert.QkvIdeal.Hand.G16
    simp only [show (ix2 (n0 := 32768) (n1 := 256) (tok b s) ⟨q.val * 128 + l.val, by omega⟩) 0 = tok b s from rfl, pos_tok]
    refine (headsK_eq (fun i => ?_) d6 (d2 _)).symm
    rw [head_no _ _ l.isLt]
    have hq := dW (q.val + 6) (by omega) i
    rwa [show 1152 + (q.val + 6) * 128 = 1920 + q.val * 128 by omega] at hq
  · rw [Cert.QkvIdeal.Hand.final17 m c]
    funext i
    obtain ⟨b, s, q, l, rfl⟩ := index_split (n := 2) (k := 256) rfl i
    refine (Cert.QkvRefIdeal.Hand.values2 (m' (c.tc.loc Cert.QkvRefIdeal.main_arg0)) (m' (c.tc.loc Cert.QkvRefIdeal.main_arg1)) b s q l).trans ?_
    rw [h0, h1]
    refine Eq.trans ?_ (show _ = Cert.QkvIdeal.Hand.G17 m c (ix2 (n0 := 32768) (n1 := 256) (tok b s) ⟨q.val * 128 + l.val, by omega⟩) from rfl)
    unfold Cert.QkvIdeal.Hand.G17
    simp only [show (ix2 (n0 := 32768) (n1 := 256) (tok b s) ⟨q.val * 128 + l.val, by omega⟩) 0 = tok b s from rfl, pos_tok]
    refine (onesK_eq (fun k hk => proj_zero _ _ _ fun i => ?_) _).symm
    rw [head_no _ _ l.isLt]
    exact zV q.val q.isLt i k hk
  · rw [Cert.QkvIdeal.Hand.final18 m c]
    funext i
    obtain ⟨b, s, q, l, rfl⟩ := index_split (n := 4) (k := 512) rfl i
    refine (Cert.QkvRefIdeal.Hand.queries4 (m' (c.tc.loc Cert.QkvRefIdeal.main_arg0)) (m' (c.tc.loc Cert.QkvRefIdeal.main_arg1)) (m' (c.tc.loc Cert.QkvRefIdeal.main_arg3)) (m' (c.tc.loc Cert.QkvRefIdeal.main_arg7)) (m' (c.tc.loc Cert.QkvRefIdeal.main_arg9)) b s q l).trans ?_
    rw [h0, h1, h3, h7, h9]
    refine Eq.trans ?_ (show _ = Cert.QkvIdeal.Hand.G18 m c (ix2 (n0 := 32768) (n1 := 512) (tok b s) ⟨q.val * 128 + l.val, by omega⟩) from rfl)
    unfold Cert.QkvIdeal.Hand.G18
    simp only [show (ix2 (n0 := 32768) (n1 := 512) (tok b s) ⟨q.val * 128 + l.val, by omega⟩) 0 = tok b s from rfl, pos_tok]
    refine (qTailsK_eq (fun i => ?_) (d3 _)).symm
    rw [head_no _ _ l.isLt]
    exact d9 q.val q.isLt i
  · rw [Cert.QkvIdeal.Hand.final19 m c]
    funext i
    obtain ⟨b, s, q, l, rfl⟩ := index_split (n := 4) (k := 512) rfl i
    refine (Cert.QkvRefIdeal.Hand.keys4 (m' (c.tc.loc Cert.QkvRefIdeal.main_arg0)) (m' (c.tc.loc Cert.QkvRefIdeal.main_arg1)) (m' (c.tc.loc Cert.QkvRefIdeal.main_arg4)) (m' (c.tc.loc Cert.QkvRefIdeal.main_arg8)) (m' (c.tc.loc Cert.QkvRefIdeal.main_arg10)) b s q l).trans ?_
    rw [h0, h1, h4, h8, h10]
    refine Eq.trans ?_ (show _ = Cert.QkvIdeal.Hand.G19 m c (ix2 (n0 := 32768) (n1 := 512) (tok b s) ⟨q.val * 128 + l.val, by omega⟩) from rfl)
    unfold Cert.QkvIdeal.Hand.G19
    simp only [show (ix2 (n0 := 32768) (n1 := 512) (tok b s) ⟨q.val * 128 + l.val, by omega⟩) 0 = tok b s from rfl, pos_tok]
    refine (kTailsK_eq (fun k hk => proj_zero _ _ _ fun i => ?_) (fun k hk => proj_zero _ _ _ fun i => zR i k hk)
      (swappedTail_proj _ _ dR) (d4 _)).symm
    rw [head_no _ _ l.isLt]
    exact z10 q.val q.isLt i k hk
  · rw [Cert.QkvIdeal.Hand.final20 m c]
    funext i
    obtain ⟨b, s, q, l, rfl⟩ := index_split (n := 4) (k := 512) rfl i
    refine (Cert.QkvRefIdeal.Hand.values4 (m' (c.tc.loc Cert.QkvRefIdeal.main_arg0)) (m' (c.tc.loc Cert.QkvRefIdeal.main_arg1)) (m' (c.tc.loc Cert.QkvRefIdeal.main_arg8)) (m' (c.tc.loc Cert.QkvRefIdeal.main_arg11)) b s q l).trans ?_
    rw [h0, h1, h8, h11]
    refine Eq.trans ?_ (show _ = Cert.QkvIdeal.Hand.G20 m c (ix2 (n0 := 32768) (n1 := 512) (tok b s) ⟨q.val * 128 + l.val, by omega⟩) from rfl)
    unfold Cert.QkvIdeal.Hand.G20
    simp only [show (ix2 (n0 := 32768) (n1 := 512) (tok b s) ⟨q.val * 128 + l.val, by omega⟩) 0 = tok b s from rfl, pos_tok]
    refine (onesK_eq (fun k hk => proj_zero _ _ _ fun i => ?_) _).symm
    rw [head_no _ _ l.isLt]
    exact z11 q.val q.isLt i k hk

end Cert.QkvProof

end
-- ==== Proof.FinalRef.lean ====
/-
  The final call's reference, read at an index: the chosen experts' rows summed under their weights, and the layer norm
  of the residual.
-/
module

public import proofs.«01_k».proof.Proof.MergeRow
public import proofs.«01_k».proof.Proof.Gen.FinalRefIdeal.Run

@[expose] public section

set_option maxRecDepth 16384

noncomputable section

open Idealize.ShloMosaic Idealize.ShloMosaic.TcCoe Idealize.SL.Sem

namespace Cert.MergeRow

/-- One row of the residual: the scaled row plus the four experts' rows under their weights. -/
def comb (x : Fin 1024 → EReal) (y : Fin 4096 → EReal) (w : Fin 4 → EReal) (l : Fin 1024) : EReal :=
  Ideal.ofBits .f32 0x3FB504F3#32 * x l + ∑ j : Fin 4, y ⟨j.val * 1024 + l.val, by omega⟩ * w j

end Cert.MergeRow

namespace Cert.FinalRefIdeal.Hand

open Cert.FinalRefIdeal Cert.FinalRefIdeal.Gen Cert.MergeRow

/-- The residual of every row. -/
def resid (X : FVec Ideal S32768x1024 .f32) (E : FVec Ideal S32768x4096 .f32) (W : FVec Ideal S32768x4 .f32) : FVec Ideal S32768x1024 .f32 :=
  addf (mulf (broadcastInDim S32768x1024 ![] bcast_S_S32768x1024 (constant S_ .f32 0x3FB504F3#32)) X) (Host.reduceAdd (mulf (shapeCast _ E shapeCasts_S32768x4096_S32768x4x1024) (broadcastInDim S32768x4x1024 ![0, 1, 2] bcast_S32768x4x1_S32768x4x1024_0_1_2 (broadcastInDim S32768x4x1 ![0, 1] bcast_S32768x4_S32768x4x1_0_1 W))) (constant S_ .f32 0x00000000#32) reducesTo_S32768x4x1024_S32768x1024_d1 h_S_)

/-- The mean of every row, as a column. -/
def means (Y : FVec Ideal S32768x1024 .f32) : FVec Ideal S32768x1 .f32 :=
  Host.divf (broadcastInDim S32768x1 ![0] bcast_S32768_S32768x1_0 (Host.reduceAdd Y (constant S_ .f32 0x00000000#32) reducesTo_S32768x1024_S32768_d1 h_S_)) (broadcastInDim S32768x1 ![] bcast_S_S32768x1 (constant S_ .f32 0x44800000#32))

/-- The rows less their means. -/
def centred (Y : FVec Ideal S32768x1024 .f32) : FVec Ideal S32768x1024 .f32 :=
  subf Y (broadcastInDim S32768x1024 ![0, 1] bcast_S32768x1_S32768x1024_0_1 (means Y))

/-- The layer norm of every row. -/
def normed (Y : FVec Ideal S32768x1024 .f32) (G B : FVec Ideal S1x1024 .f32) : FVec Ideal S32768x1024 .f32 :=
  addf (mulf (mulf (centred Y) (broadcastInDim S32768x1024 ![0, 1] bcast_S32768x1_S32768x1024_0_1 (Host.rsqrt (addf (means (mulf (centred Y) (centred Y))) (broadcastInDim S32768x1 ![] bcast_S_S32768x1 (constant S_ .f32 0x3727C5AC#32))))))
    (broadcastInDim S32768x1024 ![0, 1] bcast_S1x1024_S32768x1024_0_1 G)) (broadcastInDim S32768x1024 ![0, 1] bcast_S1x1024_S32768x1024_0_1 B)

theorem resid_apply (X : FVec Ideal S32768x1024 .f32) (E : FVec Ideal S32768x4096 .f32) (W : FVec Ideal S32768x4 .f32) (R : Fin 32768) (l : Fin 1024) :
    resid X E W (ix2 R l) = comb (fun k => X (ix2 R k)) (fun k => E (ix2 R k)) (fun k => W (ix2 R k)) l := by
  unfold resid comb
  pointwise

theorem means_apply (Y : FVec Ideal S32768x1024 .f32) (R : Fin 32768) (z : Fin 1) :
    means Y (ix2 R z) = mean (fun k => Y (ix2 R k)) := by
  unfold means mean
  pointwise

theorem centred_apply (Y : FVec Ideal S32768x1024 .f32) (R : Fin 32768) (l : Fin 1024) :
    centred Y (ix2 R l) = Y (ix2 R l) - mean (fun k => Y (ix2 R k)) := by
  rw [← means_apply Y R 0]
  unfold centred
  pointwise

theorem normed_apply (Y : FVec Ideal S32768x1024 .f32) (G B : FVec Ideal S1x1024 .f32) (R : Fin 32768) (l : Fin 1024) :
    normed Y G B (ix2 R l) = layerNorm (fun k => Y (ix2 R k)) (fun l => G (ix2 0 l)) (fun l => B (ix2 0 l)) l := by
  have h : normed Y G B (ix2 R l) = centred Y (ix2 R l) * Ideal.rsqrt (means (mulf (centred Y) (centred Y)) (ix2 R (0 : Fin 1))
      + Ideal.ofBits .f32 0x3727C5AC#32) * G (ix2 (0 : Fin 1) l) + B (ix2 (0 : Fin 1) l) := by
    unfold normed
    pointwise
  have hs : ∀ k : Fin 1024, mulf (centred Y) (centred Y) (ix2 R k) = centred Y (ix2 R k) * centred Y (ix2 R k) := fun _ => rfl
  rw [h, means_apply]
  simp only [hs, centred_apply]
  rfl

variable (m : (ℓ : Loc nD τ sig) → Buf (Elt Ideal) ℓ)

/-- The result is the layer norm of the residual. -/
theorem res0 (c : Dev nD) : Value.res_main_v29 m c
    = normed (resid (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4)) := rfl

end Cert.FinalRefIdeal.Hand

end
-- ==== Proof.FinalValue.lean ====
/-
  The final kernel's result array, from the arguments. A grid point handles one block of 512 rows.
-/
module

public import proofs.«01_k».proof.Proof.FinalRef
public import proofs.«01_k».proof.Proof.Gen.FinalIdeal.Value

@[expose] public section

set_option maxRecDepth 16384

noncomputable section

open Idealize.ShloMosaic Idealize.ShloMosaic.TcCoe Idealize.SL.Sem

namespace Cert.FinalIdeal.Hand

open Cert.FinalIdeal Cert.FinalIdeal.Gen Cert.MergeRow

/-- One row of the result, from a row of each array. -/
def row (X : Fin 1024 → EReal) (E : Fin 4096 → EReal) (W : Fin 4 → EReal) (G B : FVec Ideal S1x1024 .f32) : Fin 1024 → EReal :=
  layerNorm (comb X E W) (fun l => G (ix2 0 l)) (fun l => B (ix2 0 l))

section
variable (x0 : Vec Ideal S512x1024 .f32) (x1 : Vec Ideal S512x4096 .f32) (x2 : Vec Ideal S512x4 .f32) (x3 x4 : Vec Ideal S1x1024 .f32)

/-- The four experts' sum, written out. -/
theorem comb_four (x : Fin 1024 → EReal) (y : Fin 4096 → EReal) (w : Fin 4 → EReal) (l : Fin 1024) :
    comb x y w l = Ideal.ofBits .f32 0x3FB504F3#32 * x l + (y ⟨0 + l.val, by omega⟩ * w 0 + y ⟨1024 + l.val, by omega⟩ * w 1
      + y ⟨2048 + l.val, by omega⟩ * w 2 + y ⟨3072 + l.val, by omega⟩ * w 3) := by
  unfold comb
  rw [Fin.sum_univ_four]
  rfl

/-- The centred residual over a block, at an index. -/
theorem pay2_apply (r : Fin 512) (l : Fin 1024) :
    k0_pay2 (View.ld x2 r0_0) (View.ld x1 r0_1) (View.ld x1 r0_2) (View.ld x1 r0_3) (View.ld x1 r0_4) (View.ld x0 r0_5) (ix2 r l)
      = comb (fun k => x0 (ix2 r k)) (fun k => x1 (ix2 r k)) (fun k => x2 (ix2 r k)) l
        - mean (comb (fun k => x0 (ix2 r k)) (fun k => x1 (ix2 r k)) (fun k => x2 (ix2 r k))) := by
  unfold k0_pay2 mean
  simp only [comb_four]
  pointwise

/-- The variance over a block, at an index. -/
theorem pay3_apply (r : Fin 512) (z : Fin 1) :
    k0_pay3 (View.ld x2 r0_0) (View.ld x1 r0_1) (View.ld x1 r0_2) (View.ld x1 r0_3) (View.ld x1 r0_4) (View.ld x0 r0_5) (ix2 r z)
      = Ideal.div (∑ k : Fin 1024, k0_pay2 (View.ld x2 r0_0) (View.ld x1 r0_1) (View.ld x1 r0_2) (View.ld x1 r0_3) (View.ld x1 r0_4) (View.ld x0 r0_5) (ix2 r k)
          * k0_pay2 (View.ld x2 r0_0) (View.ld x1 r0_1) (View.ld x1 r0_2) (View.ld x1 r0_3) (View.ld x1 r0_4) (View.ld x0 r0_5) (ix2 r k)) (Ideal.ofBits .f32 0x44800000#32) := by
  unfold k0_pay3
  pointwise

/-- The scaling of a centred block, at an index. -/
theorem pay1_apply (v31 : FVec Ideal S512x1024 .f32) (v36 : FVec Ideal S512x1 .f32) (e : EReal) (r : Fin 512) (l : Fin 1024) :
    k0_pay1 (F := Ideal) (View.ld x3 r0_6) (View.ld x4 r0_6) v31 v36 e (ix2 r l)
      = v31 (ix2 r l) * Ideal.rsqrt (v36 (ix2 r (0 : Fin 1)) + e) * x3 (ix2 (0 : Fin 1) l) + x4 (ix2 (0 : Fin 1) l) := by
  unfold k0_pay1
  pointwise

/-- The result's block, at an index. -/
theorem out5_apply (r : Fin 512) (l : Fin 1024) :
    out0_5 x0 x1 x2 x3 x4 (ix2 r l) = row (fun k => x0 (ix2 r k)) (fun k => x1 (ix2 r k)) (fun k => x2 (ix2 r k)) x3 x4 l := by
  unfold out0_5
  rw [View.canon_cons_unit_zero]
  · rw [pay1_apply, pay3_apply]
    simp only [pay2_apply]
    rfl
  · funext a; fin_cases a <;> rfl

end

variable (m : (ℓ : Loc nD τ sig) → Buf (Elt Ideal) ℓ)

/-- The blocks that move with the grid lie at the grid point's own rows. -/
theorem index_row : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) := by decide +kernel

/-- So does the result's block. -/
theorem index_out : ∀ t : Fin grid0.N, win0_5.index t 0 = t.val ∧ win0_5.index t 1 = 0 := by decide +kernel

/-- The norm's scale and shift are whole at every grid point. -/
theorem index_whole : ∀ t : Fin grid0.N, (∀ a, win0_3.index t a = 0) ∧ (∀ a, win0_4.index t a = 0) := by decide +kernel

theorem lt_N (t : Fin cfg0.N) : t.val < 64 := lt_of_lt_of_eq t.isLt N_0

/-- The row of the arrays that row `r` of grid point `t` handles. -/
def rowAt (t : Fin cfg0.N) (r : Fin 512) : Fin 32768 := ⟨t.val * 512 + r.val, by have := lt_N t; omega⟩

theorem blk0 (c : Dev nD) (t : Fin cfg0.N) (r : Fin 512) (l : Fin 1024) :
    (iblk m c 0 t : Vec Ideal S512x1024 .f32) (ix2 r l) = m ((c : Thread nD τ).loc main_arg0) (ix2 (n0 := 32768) (n1 := 1024) (rowAt t r) l) := by
  unfold iblk
  rw [View.read_apply]
  show V m c main_arg0 _ = m (c.tc.loc main_arg0) _
  unfold V
  congr 1
  funext a
  apply Fin.ext
  match a with
  | ⟨0, _⟩ => show win0_0.index t 0 * 512 + 1 * r.val = _; rw [(index_row t).1.1, one_mul]; rfl
  | ⟨1, _⟩ => show win0_0.index t 1 * 1024 + 1 * l.val = _; rw [(index_row t).1.2, zero_mul, zero_add, one_mul]; rfl

theorem blk1 (c : Dev nD) (t : Fin cfg0.N) (r : Fin 512) (l : Fin 4096) :
    (iblk m c 1 t : Vec Ideal S512x4096 .f32) (ix2 r l) = m ((c : Thread nD τ).loc main_arg1) (ix2 (n0 := 32768) (n1 := 4096) (rowAt t r) l) := by
  unfold iblk
  rw [View.read_apply]
  show V m c main_arg1 _ = m (c.tc.loc main_arg1) _
  unfold V
  congr 1
  funext a
  apply Fin.ext
  match a with
  | ⟨0, _⟩ => show win0_1.index t 0 * 512 + 1 * r.val = _; rw [(index_row t).2.1.1, one_mul]; rfl
  | ⟨1, _⟩ => show win0_1.index t 1 * 4096 + 1 * l.val = _; rw [(index_row t).2.1.2, zero_mul, zero_add, one_mul]; rfl

theorem blk2 (c : Dev nD) (t : Fin cfg0.N) (r : Fin 512) (l : Fin 4) :
    (iblk m c 2 t : Vec Ideal S512x4 .f32) (ix2 r l) = m ((c : Thread nD τ).loc main_arg2) (ix2 (n0 := 32768) (n1 := 4) (rowAt t r) l) := by
  unfold iblk
  rw [View.read_apply]
  show V m c main_arg2 _ = m (c.tc.loc main_arg2) _
  unfold V
  congr 1
  funext a
  apply Fin.ext
  match a with
  | ⟨0, _⟩ => show win0_2.index t 0 * 512 + 1 * r.val = _; rw [(index_row t).2.2.1, one_mul]; rfl
  | ⟨1, _⟩ => show win0_2.index t 1 * 4 + 1 * l.val = _; rw [(index_row t).2.2.2, zero_mul, zero_add, one_mul]; rfl

theorem blk3 (c : Dev nD) (t : Fin cfg0.N) : (iblk m c 3 t : Vec Ideal S1x1024 .f32) = m ((c : Thread nD τ).loc main_arg3) := by
  funext y
  unfold iblk
  rw [View.read_apply]
  show V m c main_arg3 _ = m (c.tc.loc main_arg3) _
  unfold V
  congr 1
  funext a
  apply Fin.ext
  have h := (index_whole t).1
  match a with
  | ⟨0, _⟩ => show win0_3.index t 0 * 1 + 1 * (y 0).val = _; rw [h, zero_mul, zero_add, one_mul]; rfl
  | ⟨1, _⟩ => show win0_3.index t 1 * 1024 + 1 * (y 1).val = _; rw [h, zero_mul, zero_add, one_mul]; rfl

theorem blk4 (c : Dev nD) (t : Fin cfg0.N) : (iblk m c 4 t : Vec Ideal S1x1024 .f32) = m ((c : Thread nD τ).loc main_arg4) := by
  funext y
  unfold iblk
  rw [View.read_apply]
  show V m c main_arg4 _ = m (c.tc.loc main_arg4) _
  unfold V
  congr 1
  funext a
  apply Fin.ext
  have h := (index_whole t).2
  match a with
  | ⟨0, _⟩ => show win0_4.index t 0 * 1 + 1 * (y 0).val = _; rw [h, zero_mul, zero_add, one_mul]; rfl
  | ⟨1, _⟩ => show win0_4.index t 1 * 1024 + 1 * (y 1).val = _; rw [h, zero_mul, zero_add, one_mul]; rfl

/-- One row of the result, from the arguments in memory. -/
def rowOf (c : Dev nD) (R : Fin 32768) : Fin 1024 → EReal :=
  row (fun k => m ((c : Thread nD τ).loc main_arg0) (ix2 (n0 := 32768) (n1 := 1024) R k)) (fun k => m ((c : Thread nD τ).loc main_arg1) (ix2 (n0 := 32768) (n1 := 4096) R k))
    (fun k => m ((c : Thread nD τ).loc main_arg2) (ix2 (n0 := 32768) (n1 := 4) R k)) (m ((c : Thread nD τ).loc main_arg3)) (m ((c : Thread nD τ).loc main_arg4))

/-- The result's contents after the run. -/
def G5 (c : Dev nD) : FVec Ideal S32768x1024 .f32 := fun i => rowOf m c (i 0) (i 1)

/-- What a grid point writes back is its block of `G5`. -/
theorem flushed_eq5 (c : Dev nD) (t : Fin cfg0.N) :
    (dats m 0 c).flushed 5 t = ((cfg0.win 5).blk t).view.read (Elt Ideal) (G5 m c) := by
  have ht := lt_N t
  rw [Value.flushed5]
  funext y
  obtain ⟨r, l, rfl⟩ : ∃ (r : Fin 512) (l : Fin 1024), y = ix2 r l := ⟨y 0, y 1, ValueIdx.eq_ix2 y⟩
  rw [View.read_apply]
  refine (show _ = out0_5 (iblk m c 0 t) (iblk m c 1 t) (iblk m c 2 t) (iblk m c 3 t) (iblk m c 4 t) (ix2 r l) from rfl).trans ?_
  have e0 : (((cfg0.win 5).blk t).view.emb (ix2 r l)) 0 = rowAt t r := by
    apply Fin.ext
    show win0_5.index t 0 * 512 + 1 * r.val = _; rw [(index_out t).1, one_mul]; rfl
  have e1 : (((cfg0.win 5).blk t).view.emb (ix2 r l)) 1 = l := by
    apply Fin.ext
    show win0_5.index t 1 * 1024 + 1 * l.val = _; rw [(index_out t).2, zero_mul, zero_add, one_mul]
  show _ = G5 m c (((cfg0.win 5).blk t).view.emb (ix2 r l))
  unfold G5 rowOf
  rw [e0, e1, out5_apply, blk3, blk4]
  simp only [blk0, blk1, blk2]

/-- Every index of the result lies in the block of a grid point. -/
theorem covered5 (i : S32768x1024.Idx) :
    ∃ t : Fin cfg0.N, (cfg0.win 5).flush t = true ∧ i ∈ ((cfg0.win 5).blk t).view.set := by
  have h0 : (i 0).val < 32768 := (i 0).isLt
  have h1 : (i 1).val < 1024 := (i 1).isLt
  refine ⟨⟨(i 0).val / 512, lt_of_lt_of_eq (b := 64) (by omega) N_0.symm⟩, flush0_5 _, ?_⟩
  set t : Fin cfg0.N := ⟨(i 0).val / 512, lt_of_lt_of_eq (b := 64) (by omega) N_0.symm⟩ with ht
  have hv : t.val = (i 0).val / 512 := rfl
  have hm := ((cfg0.win 5).blk t).view.emb_mem_set (ix2 (n0 := 512) (n1 := 1024) ⟨(i 0).val % 512, by omega⟩ (i 1))
  have he : ((cfg0.win 5).blk t).view.emb (ix2 (n0 := 512) (n1 := 1024) ⟨(i 0).val % 512, by omega⟩ (i 1)) = i := by
    funext a
    apply Fin.ext
    match a with
    | ⟨0, _⟩ => show win0_5.index t 0 * 512 + 1 * ((i 0).val % 512) = (i 0).val; rw [(index_out t).1, hv]; omega
    | ⟨1, _⟩ => show win0_5.index t 1 * 1024 + 1 * (i 1).val = (i 1).val; rw [(index_out t).2]; omega
  rwa [he] at hm

/-- The result after the run. -/
theorem final5 (c : Dev nD) : (dats m 0 c).arrAt 5 cfg0.N = G5 m c :=
  (dats m 0 c).arrAt_eq_of_cover 5 (G5 m c) (fun t _ => flushed_eq5 m c t) covered5

end Cert.FinalIdeal.Hand

end
-- ==== Proof.FinalClaim.lean ====
/-
  The claims of the final kernel.
-/
module

public import proofs.«01_k».proof.Proof.FinalValue
public import proofs.«01_k».proof.Defs
public import Idealize.ShloMosaic.Lib.Quiescent

@[expose] public section

noncomputable section

open Idealize.ShloMosaic Idealize.ShloMosaic.TcCoe Idealize.SL.Sem

namespace Cert.FinalProof

/-- The reference runs, leaves its arguments and every semaphore as they were. -/
theorem frame_ref : Cert.quiescent_FinalRefIdeal := fun m ρ _ =>
  (θ_run Cert.FinalRefIdeal.defs _ _).mono (fun r h => ⟨fun c => (h c).2,
      Idealize.ShloMosaic.sem_eq_zero_of_no_sems (by decide) r.2⟩)
    (Cert.FinalRefIdeal.Value.run (F := Ideal) m ρ)

/-- Kernel and reference end with equal results. -/
theorem algebraic : Cert.algebraic_FinalIdeal_FinalRefIdeal := by
  intro m ρ m' ρ' _ hagree
  refine ⟨_, Cert.FinalIdeal.Value.run_blocks (F := Ideal) m ρ, ?_⟩
  refine (θ_run _ _ _).mono (fun _ h c => ⟨(h c).1.trans ?_, (h c).2⟩)
    (Cert.FinalRefIdeal.Value.run (F := Ideal) m' ρ')
  obtain ⟨h0, h1, h2, h3, h4⟩ := hagree c
  rw [Cert.FinalIdeal.Hand.final5 m c]
  refine (Cert.FinalRefIdeal.Hand.res0 m' c).trans ?_
  rw [h0, h1, h2, h3, h4]
  funext i
  obtain ⟨R, l, rfl⟩ : ∃ (R : Fin 32768) (l : Fin 1024), i = ix2 R l := ⟨i 0, i 1, ValueIdx.eq_ix2 i⟩
  rw [Cert.FinalRefIdeal.Hand.normed_apply]
  simp only [Cert.FinalRefIdeal.Hand.resid_apply]
  rfl

end Cert.FinalProof

end
-- ==== Proof.NaRow.lean ====
/-
  The arithmetic of one query of the neighbourhood attention: the mean of the values under the softmax of its 512 scores,
  whether the weights are divided by their sum before or after they weigh the values. The values may be infinite.
-/
module

public import proofs.«01_k».proof.Proof.OnlineSoftmax

@[expose] public section

set_option maxRecDepth 16384

noncomputable section

open Idealize.ShloMosaic Idealize.ShloMosaic.TcCoe Idealize.SL.Sem

namespace Cert.NaRow

open Cert.Attention

/-- The mean of `v` under the softmax of the scores `s`. -/
def mean (s v : Fin 512 → EReal) : EReal :=
  ∑ x, ((Real.exp (s x).toReal / ∑ y, Real.exp (s y).toReal : ℝ) : EReal) * v x

/-- The weights do not depend on the shift. -/
theorem weight (f : Fin 512 → ℝ) (M : ℝ) (x : Fin 512) :
    Real.exp (f x - M) / ∑ y, Real.exp (f y - M) = Real.exp (f x) / ∑ y, Real.exp (f y) := by
  have h : ∀ y, Real.exp (f y - M) = Real.exp (f y) * Real.exp (-M) := fun y => by rw [sub_eq_add_neg, Real.exp_add]
  simp only [h]
  rw [← Finset.sum_mul, mul_div_mul_right _ _ (Real.exp_pos _).ne']

theorem sum_pos (f : Fin 512 → ℝ) (M : ℝ) : 0 < ∑ y, Real.exp (f y - M) :=
  Finset.sum_pos (fun y _ => Real.exp_pos _) ⟨0, Finset.mem_univ _⟩

/-- A factor that is a nonnegative real goes into a sum. -/
theorem sum_mul_real {ι : Type} (t : Finset ι) (f : ι → EReal) (c : ℝ) (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha, ← ih]
    exact EReal.right_distrib_of_nonneg_of_ne_top (by exact_mod_cast hc) (EReal.coe_ne_top c) _ _

/-- Weights divided first. -/
theorem ref_row (s v : Fin 512 → EReal) (M : ℝ) (hs : ∀ x, ∃ r : ℝ, s x = (r : EReal)) :
    ∑ x, v x * Ideal.div (Ideal.exp (s x - (M : EReal))) (∑ y, Ideal.exp (s y - (M : EReal))) = mean s v := by
  choose f hf using hs
  obtain rfl : s = fun x => (f x : EReal) := funext hf
  unfold mean
  refine Finset.sum_congr rfl fun x _ => ?_
  simp only [exp_sub, EReal.toReal_coe]
  rw [coe_sum, div_real _ _ (sum_pos f M), weight, mul_comm]

/-- Weights divided last. -/
theorem kernel_row (s v : Fin 512 → EReal) (hs : ∀ x, ∃ r : ℝ, s x = (r : EReal)) :
    Ideal.div (∑ x, Ideal.exp (s x - Finset.univ.fold max (⊥ : EReal) s) * v x)
      (∑ y, Ideal.exp (s y - Finset.univ.fold max (⊥ : EReal) s)) = mean s v := by
  choose f hf using hs
  obtain rfl : s = fun x => (f x : EReal) := funext hf
  obtain ⟨M, hM⟩ := fold_max_real_of_nonempty (Finset.univ : Finset (Fin 512)) ⟨0, Finset.mem_univ _⟩ f
  rw [hM]
  unfold mean
  simp only [exp_sub, EReal.toReal_coe]
  rw [coe_sum]
  have hp := sum_pos f M
  have h : ((∑ y, Real.exp (f y - M) : ℝ) : EReal) ≠ 0 := by exact_mod_cast hp.ne'
  unfold Ideal.div
  rw [if_neg h, ← EReal.coe_inv, sum_mul_real _ _ _ (inv_nonneg.mpr hp.le)]
  refine Finset.sum_congr rfl fun x _ => ?_
  rw [mul_right_comm, ← EReal.coe_mul, ← div_eq_mul_inv, weight]

/-- The entry of an array at `(r, c)`, 0 outside it. -/
def at2 {a b : ℕ} {φ : FTy} (X : FVec Ideal ⟨2, ![a, b]⟩ φ) (r c : ℕ) : EReal :=
  if h : r < a ∧ c < b then X (ix2 ⟨r, h.1⟩ ⟨c, h.2⟩) else 0

theorem eq_at2 {a b : ℕ} {φ : FTy} (X : FVec Ideal ⟨2, ![a, b]⟩ φ) (r : Fin a) (c : Fin b) : X (ix2 r c) = at2 X r.val c.val := by
  unfold at2; rw [dif_pos ⟨r.isLt, c.isLt⟩]

/-- The entry of an array at `(p, q, r, c)`, 0 outside it. -/
def at4 {a b c d : ℕ} {φ : FTy} (X : FVec Ideal ⟨4, ![a, b, c, d]⟩ φ) (p q r s : ℕ) : EReal :=
  if h : (p < a ∧ q < b) ∧ (r < c ∧ s < d) then X (ix4 ⟨p, h.1.1⟩ ⟨q, h.1.2⟩ ⟨r, h.2.1⟩ ⟨s, h.2.2⟩) else 0

theorem eq_at4 {a b c d : ℕ} {φ : FTy} (X : FVec Ideal ⟨4, ![a, b, c, d]⟩ φ) (p : Fin a) (q : Fin b) (r : Fin c) (s : Fin d) :
    X (ix4 p q r s) = at4 X p.val q.val r.val s.val := by
  unfold at4; rw [dif_pos ⟨⟨p.isLt, q.isLt⟩, r.isLt, s.isLt⟩]

theorem at2_real {a b : ℕ} {φ : FTy} {X : FVec Ideal ⟨2, ![a, b]⟩ φ} (h : Finite X) (r c : ℕ) : ∃ x : ℝ, at2 X r c = (x : EReal) := by
  unfold at2; split
  · exact h _
  · exact ⟨0, rfl⟩

theorem at4_real {a b c d : ℕ} {φ : FTy} {X : FVec Ideal ⟨4, ![a, b, c, d]⟩ φ} (h : Finite X) (p q r s : ℕ) :
    ∃ x : ℝ, at4 X p q r s = (x : EReal) := by
  unfold at4; split
  · exact h _
  · exact ⟨0, rfl⟩

/-- The first row of the window of grid row `r`. -/
def start (r : ℕ) : ℕ := min 120 (r - 4)

section
variable {φ ψ χ : FTy} (Q : FVec Ideal ⟨2, ![32768, 384]⟩ φ) (K V : FVec Ideal ⟨2, ![32768, 384]⟩ ψ) (B : FVec Ideal ⟨4, ![8, 6, 64, 512]⟩ χ)

/-- The scores of position `p` of row `r` of image `b` in head `h`. -/
def scores (b r p h : ℕ) (x : Fin 512) : EReal :=
  (∑ d : Fin 64, at2 Q (b * 8192 + r * 64 + p) (h * 64 + d.val) * at2 K (b * 8192 + start r * 64 + x.val) (h * 64 + d.val))
    + at4 B (r - start r) h p x.val

/-- The attention of position `p` of row `r` of image `b` in head `h`, lane `l`. -/
def attnNa (b r p h l : ℕ) : EReal :=
  mean (scores Q K B b r p h) fun x => at2 V (b * 8192 + start r * 64 + x.val) (h * 64 + l)

theorem scores_real (hQ : Finite Q) (hK : Finite K) (hB : Finite B) (b r p h : ℕ) (x : Fin 512) :
    ∃ y : ℝ, scores Q K B b r p h x = (y : EReal) := by
  choose f hf using fun r c => at2_real hQ r c
  choose g hg using fun r c => at2_real hK r c
  choose e he using fun p q r s => at4_real hB p q r s
  unfold scores
  simp only [hf, hg, he, ← EReal.coe_mul]
  rw [coe_sum, ← EReal.coe_add]
  exact ⟨_, rfl⟩
end

end Cert.NaRow

end
-- ==== Proof.NaBlock.lean ====
/-
  One row of queries of the neighbourhood attention kernel: for two heads of 64 lanes each, side by side in 128 columns,
  the means of the values. Masking a head's queries to zero leaves the other head's 64 products.
-/
module

public import proofs.«01_k».proof.Proof.NaRow
public import proofs.«01_k».proof.Proof.MlaBlock
public import proofs.«01_k».proof.Proof.Gen.NaIdeal.Value

@[expose] public section

set_option maxRecDepth 16384

noncomputable section

open Idealize.ShloMosaic Idealize.ShloMosaic.TcCoe Idealize.SL.Sem

namespace Cert.NaIdeal.Hand

open Cert.NaIdeal Cert.NaIdeal.Gen Cert.Attention Cert.NaRow

/-- What a trip stores for a pair of heads. -/
abbrev pair (q : Vec Ideal S64x128 .bf16) (kx vx : Vec Ideal S512x128 .bf16) (b0 b1 : Vec Ideal S1x1x64x512 .f32) :
    FVec Ideal S64x128 .bf16 :=
  k0_pay5 k0_pay1 vx (k0_pay3 k0_pay1 q kx vx b0) (k0_pay4 k0_pay1 q kx) b1

theorem pair1 (q : Vec Ideal S64x128 .bf16) (kx vx : Vec Ideal S512x128 .bf16) (b0 b1 : Vec Ideal S1x1x64x512 .f32) :
    k0_pay9 k0_pay1 q kx vx (k0_pay7 k0_pay1 q kx vx b0) (k0_pay8 k0_pay1 q kx b0) b1 = pair q kx vx b0 b1 := rfl

theorem pair2 (q : Vec Ideal S64x128 .bf16) (kx vx : Vec Ideal S512x128 .bf16) (b0 b1 : Vec Ideal S1x1x64x512 .f32) :
    k0_pay2 q kx vx (k0_pay10 k0_pay1 q kx b0) (k0_pay11 k0_pay1 q kx b0) b1 = pair q kx vx b0 b1 := rfl

/-- The lower lanes. -/
theorem low (p : Fin 64) (d : Fin 128) : k0_pay1 (ix2 p d) = if d.val < 64 then 1#1 else 0#1 := by
  have h : k0_pay1 (ix2 p d) = IntOp.cmpi .slt (BitVec.ofNat 32 d.val) 64#32 := by
    unfold k0_pay1
    pointwise
  rw [h]
  clear h
  revert d
  decide

/-- The upper lanes. -/
theorem high (p : Fin 64) (d : Fin 128) : IntOp.xori (k0_pay1 (ix2 p d)) 1#1 = if d.val < 64 then 0#1 else 1#1 := by
  rw [low]
  split <;> rfl

/-- One head's result from its scores. -/
def attend (s : FVec Ideal S64x512 .f32) (vx : Vec Ideal S512x128 .bf16) : FVec Ideal S64x128 .f32 :=
  have e : FVec Ideal S64x512 .f32 := exp (subf s (broadcastTo S64x512 (shapeCast S64x1 (multiReduction .maximumf [1] S64 s 0xFF800000#32 reduces_S64x512_S64 (.inl rfl) rfl) shapeCasts_S64_S64x1) broadcasts_S64x1_S64x512))
  divf (matmul (φ₂ := .bf16) dot_S64x512_S512x128_S64x128_1_0_0_1_n_n none (truncf .bf16 e bitsLt_bf16_f32) vx (constant S64x128 .f32 0x00000000#32))
    (broadcastTo S64x128 (shapeCast S64x1 (multiReduction .add [1] S64 e 0x00000000#32 reduces_S64x512_S64 (.inl rfl) rfl) shapeCasts_S64_S64x1) broadcasts_S64x1_S64x128)

/-- One head's scores: the lanes of the other are masked. -/
def masked (w : IVec S64x128 1) (q : Vec Ideal S64x128 .bf16) (kx : Vec Ideal S512x128 .bf16) (b : Vec Ideal S1x1x64x512 .f32) : FVec Ideal S64x512 .f32 :=
  addf (matmul (φ₂ := .bf16) dot_S64x128_S512x128_S64x512_1_1_0_0_n_n none (select w q (broadcast S64x128 (Scalar.ofBits .bf16 0x0000#16)) : FVec Ideal S64x128 .bf16) kx (constant S64x512 .f32 0x00000000#32))
    (shapeCast S64x512 b shapeCasts_S1x1x64x512_S64x512)

/-- A pair is the two heads' results side by side. -/
theorem pair_eq (q : Vec Ideal S64x128 .bf16) (kx vx : Vec Ideal S512x128 .bf16) (b0 b1 : Vec Ideal S1x1x64x512 .f32) :
    pair q kx vx b0 b1 = truncf .bf16 (select k0_pay1 (attend (masked k0_pay1 q kx b0) vx)
      (attend (masked (xori k0_pay1 (constantI S64x128 1 1#1)) q kx b1) vx) : FVec Ideal S64x128 .f32) bitsLt_bf16_f32 := rfl

theorem attend_apply (s : FVec Ideal S64x512 .f32) (vx : Vec Ideal S512x128 .bf16) (p : Fin 64) (l : Fin 128) :
    attend s vx (ix2 p l) = Ideal.div (∑ x : Fin 512, Ideal.exp (s (ix2 p x) - Finset.univ.fold max (⊥ : EReal) fun y : Fin 512 => s (ix2 p y)) * vx (ix2 x l))
      (∑ x : Fin 512, Ideal.exp (s (ix2 p x) - Finset.univ.fold max (⊥ : EReal) fun y : Fin 512 => s (ix2 p y))) := by
  unfold attend
  pointwise
  rw [Cert.MlaIdeal.Hand.negInf]

theorem masked_apply (w : IVec S64x128 1) (q : Vec Ideal S64x128 .bf16) (kx : Vec Ideal S512x128 .bf16) (b : Vec Ideal S1x1x64x512 .f32)
    (p : Fin 64) (x : Fin 512) :
    masked w q kx b (ix2 p x) = (∑ d : Fin 128, Scalar.select (w (ix2 p d)) (q (ix2 p d) * kx (ix2 x d)) (0 : EReal)) + b (ix4 0 0 p x) := by
  unfold masked
  pointwise

/-- The lower lanes' half of a masked sum. -/
theorem sum_low (f : Fin 128 → EReal) :
    ∑ d : Fin 128, Scalar.select (if d.val < 64 then 1#1 else 0#1) (f d) (0 : EReal)
      = ∑ d : Fin 64, f ⟨d.val, by omega⟩ := by
  refine (Fin.sum_univ_add (a := 64) (b := 64) _).trans ?_
  have z : ∑ i : Fin 64, Scalar.select (if (Fin.natAdd 64 i).val < 64 then 1#1 else 0#1) (f (Fin.natAdd 64 i)) (0 : EReal) = 0 :=
    Finset.sum_eq_zero fun i _ => by
      rw [if_neg (by simp)]
      rfl
  rw [z, add_zero]
  refine Finset.sum_congr rfl fun i _ => ?_
  rw [if_pos (by exact i.isLt)]
  rfl

/-- The upper lanes' half of a masked sum. -/
theorem sum_high (f : Fin 128 → EReal) :
    ∑ d : Fin 128, Scalar.select (if d.val < 64 then 0#1 else 1#1) (f d) (0 : EReal)
      = ∑ d : Fin 64, f ⟨64 + d.val, by omega⟩ := by
  refine (Fin.sum_univ_add (a := 64) (b := 64) _).trans ?_
  have z : ∑ i : Fin 64, Scalar.select (if (Fin.castAdd 64 i).val < 64 then 0#1 else 1#1) (f (Fin.castAdd 64 i)) (0 : EReal) = 0 :=
    Finset.sum_eq_zero fun i _ => by
      rw [if_pos (by exact i.isLt)]
      rfl
  rw [z, zero_add]
  refine Finset.sum_congr rfl fun i _ => ?_
  rw [if_neg (by simp)]
  rfl

/-- The lower head's result. -/
theorem pair_low (q : Vec Ideal S64x128 .bf16) (kx vx : Vec Ideal S512x128 .bf16) (b0 b1 : Vec Ideal S1x1x64x512 .f32)
    (p : Fin 64) (l : Fin 128) (hl : l.val < 64) {s v : Fin 512 → EReal}
    (hs : ∀ x, (∑ d : Fin 64, q (ix2 (n0 := 64) (n1 := 128) p ⟨d.val, by omega⟩) * kx (ix2 (n0 := 512) (n1 := 128) x ⟨d.val, by omega⟩)) + b0 (ix4 0 0 p x) = s x)
    (hv : ∀ x, vx (ix2 x l) = v x) (hr : ∀ x, ∃ r : ℝ, s x = (r : EReal)) :
    pair q kx vx b0 b1 (ix2 p l) = mean s v := by
  rw [pair_eq]
  have e : (truncf .bf16 (select k0_pay1 (attend (masked k0_pay1 q kx b0) vx)
      (attend (masked (xori k0_pay1 (constantI S64x128 1 1#1)) q kx b1) vx) : FVec Ideal S64x128 .f32) bitsLt_bf16_f32 : FVec Ideal S64x128 .bf16) (ix2 p l)
      = Scalar.select (k0_pay1 (ix2 p l)) (attend (masked k0_pay1 q kx b0) vx (ix2 p l)) (attend (masked (xori k0_pay1 (constantI S64x128 1 1#1)) q kx b1) vx (ix2 p l)) := rfl
  have hm : ∀ x, masked k0_pay1 q kx b0 (ix2 p x) = s x := fun x => by
    rw [masked_apply]
    simp only [low]
    rw [sum_low (fun d => q (ix2 p d) * kx (ix2 x d))]
    exact hs x
  rw [e, low, if_pos hl]
  refine (attend_apply _ _ _ _).trans ?_
  simp only [hm, hv]
  exact kernel_row s v hr

/-- The upper head's result. -/
theorem pair_high (q : Vec Ideal S64x128 .bf16) (kx vx : Vec Ideal S512x128 .bf16) (b0 b1 : Vec Ideal S1x1x64x512 .f32)
    (p : Fin 64) (l : Fin 128) (hl : ¬ l.val < 64) {s v : Fin 512 → EReal}
    (hs : ∀ x, (∑ d : Fin 64, q (ix2 (n0 := 64) (n1 := 128) p ⟨64 + d.val, by omega⟩) * kx (ix2 (n0 := 512) (n1 := 128) x ⟨64 + d.val, by omega⟩)) + b1 (ix4 0 0 p x) = s x)
    (hv : ∀ x, vx (ix2 x l) = v x) (hr : ∀ x, ∃ r : ℝ, s x = (r : EReal)) :
    pair q kx vx b0 b1 (ix2 p l) = mean s v := by
  rw [pair_eq]
  have e : (truncf .bf16 (select k0_pay1 (attend (masked k0_pay1 q kx b0) vx)
      (attend (masked (xori k0_pay1 (constantI S64x128 1 1#1)) q kx b1) vx) : FVec Ideal S64x128 .f32) bitsLt_bf16_f32 : FVec Ideal S64x128 .bf16) (ix2 p l)
      = Scalar.select (k0_pay1 (ix2 p l)) (attend (masked k0_pay1 q kx b0) vx (ix2 p l)) (attend (masked (xori k0_pay1 (constantI S64x128 1 1#1)) q kx b1) vx (ix2 p l)) := rfl
  have hm : ∀ x, masked (xori k0_pay1 (constantI S64x128 1 1#1)) q kx b1 (ix2 p x) = s x := fun x => by
    rw [masked_apply]
    have hx : ∀ d : Fin 128, xori k0_pay1 (constantI S64x128 1 1#1) (ix2 p d) = if d.val < 64 then 0#1 else 1#1 := high p
    simp only [hx]
    rw [sum_high (fun d => q (ix2 p d) * kx (ix2 x d))]
    exact hs x
  rw [e, low, if_neg hl]
  refine (attend_apply _ _ _ _).trans ?_
  simp only [hm, hv]
  exact kernel_row s v hr

end Cert.NaIdeal.Hand

end
-- ==== Proof.NaLoop.lean ====
/-
  The neighbourhood attention kernel's loop: each trip computes one grid row of 64 positions, its six heads in three pairs,
  and stores them in its rows of the result block.
-/
module

public import proofs.«01_k».proof.Proof.NaBlock
public import proofs.«01_k».proof.Proof.Gen.NaIdeal.Value
public import Idealize.ShloMosaic.Lib.VecWindow
public import Idealize.ShloMosaic.Lib.WritesUnit

@[expose] public section

set_option maxRecDepth 16384

noncomputable section

open Idealize.ShloMosaic Idealize.ShloMosaic.TcCoe Idealize.SL.Sem

namespace Cert.NaIdeal.Hand

open Cert.NaIdeal Cert.NaIdeal.Gen Cert.Attention Cert.NaRow

/-- Where a trip's loads of keys and values lie. -/
theorem off_k : ∀ (i : grid0.Coords) (k : Fin k0_t1_loop.trips),
    ((k0_off2 i k 0 = start ((i 1).val * 8 + k.val) * 64 ∧ k0_off2 i k 1 = 0)
      ∧ (k0_off6 i k 0 = start ((i 1).val * 8 + k.val) * 64 ∧ k0_off6 i k 1 = 128))
      ∧ (k0_off10 i k 0 = start ((i 1).val * 8 + k.val) * 64 ∧ k0_off10 i k 1 = 256) := by decide +kernel

/-- Where a trip's loads of the bias lie. -/
theorem off_b : ∀ (i : grid0.Coords) (k : Fin k0_t1_loop.trips),
    (k0_off3 i k = ![(i 1).val * 8 + k.val - start ((i 1).val * 8 + k.val), 0, 0, 0] ∧ k0_off4 i k = ![(i 1).val * 8 + k.val - start ((i 1).val * 8 + k.val), 1, 0, 0])
      ∧ (k0_off7 i k = ![(i 1).val * 8 + k.val - start ((i 1).val * 8 + k.val), 2, 0, 0] ∧ k0_off8 i k = ![(i 1).val * 8 + k.val - start ((i 1).val * 8 + k.val), 3, 0, 0])
      ∧ (k0_off11 i k = ![(i 1).val * 8 + k.val - start ((i 1).val * 8 + k.val), 4, 0, 0] ∧ k0_off12 i k = ![(i 1).val * 8 + k.val - start ((i 1).val * 8 + k.val), 5, 0, 0]) := by decide +kernel

/-- Where a trip's loads of queries and its stores lie. -/
theorem off_q : ∀ (k : Fin k0_t1_loop.trips),
    (k0_off1 k = ![k.val * 64, 0] ∧ k0_off5 k = ![k.val * 64, 128]) ∧ k0_off9 k = ![k.val * 64, 256] := by decide +kernel

theorem ld2 {a b p q : ℕ} (X : Vec Ideal ⟨2, ![a, b]⟩ .bf16) (o : Fin 2 → ℕ) (inb) (r : Fin p) (d : Fin q)
    (y : Fin a) (z : Fin b) (hy : y.val = o 0 + r.val) (hz : z.val = o 1 + d.val) :
    View.ld X (Rect.unit (s := ⟨2, ![a, b]⟩) o ![p, q] inb) (ix2 r d) = X (ix2 y z) :=
  View.ld_unit_apply_of X _ _ _ _ _ fun e => by
    match e with
    | ⟨0, _⟩ => exact hy
    | ⟨1, _⟩ => exact hz

theorem ld4 (X : Vec Ideal S8x6x64x512 .f32) (o : Fin 4 → ℕ) (inb) (p : Fin 64) (x : Fin 512)
    (v : Fin 8) (h : Fin 6) (ho : o = ![v.val, h.val, 0, 0]) :
    View.ld X (Rect.unit (s := S8x6x64x512) o S1x1x64x512.size inb) (ix4 0 0 p x) = X (ix4 v h p x) :=
  View.ld_unit_apply_of X _ _ _ _ _ fun e => by
    subst ho
    match e with
    | ⟨0, _⟩ => rfl
    | ⟨1, _⟩ => rfl
    | ⟨2, _⟩ => exact (Nat.zero_add _).symm
    | ⟨3, _⟩ => exact (Nat.zero_add _).symm

section
variable (𝒱 : Variants) (c : Dev nD) (bd : Option 𝒱.V) (i : grid0.Coords)
  (arg2 : Memref sig .tc .vmem S512x384 .bf16) (harg2 : arg2.IsWhole)
  (arg3 : Memref sig .tc .vmem S8192x384 .bf16) (harg3 : arg3.IsWhole)
  (arg4 : Memref sig .tc .vmem S8192x384 .bf16) (harg4 : arg4.IsWhole)
  (arg5 : Memref sig .tc .vmem S8x6x64x512 .f32) (harg5 : arg5.IsWhole)
  (arg6 : Memref sig .tc .vmem S512x384 .bf16) (harg6 : arg6.IsWhole)
  (arg1 : BitVec 32)

/-- What one trip stores: the three pairs of heads. -/
theorem trip_pieces (X2 : BufTy.Contents (Elt Ideal) arg2.view.ty) (X3 : BufTy.Contents (Elt Ideal) arg3.view.ty)
    (X4 : BufTy.Contents (Elt Ideal) arg4.view.ty) (X5 : BufTy.Contents (Elt Ideal) arg5.view.ty) (k : Fin k0_t1_loop.trips) :
    tripL_k0_t1 𝒱 c bd i arg2 harg2 arg3 harg3 arg4 harg4 arg5 harg5 arg6 harg6 arg1 X2 X3 X4 X5 k
      = [⟨Rect.unit (s := S512x384) (k0_off9 k) S64x128.size (k0_off9_inb k),
          pair (View.ld (arg2.view.read (Elt Ideal) X2) (Rect.unit (s := S512x384) (k0_off9 k) S64x128.size (k0_off9_inb k)))
            (View.ld (arg3.view.read (Elt Ideal) X3) (Rect.unit (s := S8192x384) (k0_off10 i k) S512x128.size (k0_off10_inb i k)))
            (View.ld (arg4.view.read (Elt Ideal) X4) (Rect.unit (s := S8192x384) (k0_off10 i k) S512x128.size (k0_off10_inb i k)))
            (View.ld (arg5.view.read (Elt Ideal) X5) (Rect.unit (s := S8x6x64x512) (k0_off11 i k) S1x1x64x512.size (k0_off11_inb i k)))
            (View.ld (arg5.view.read (Elt Ideal) X5) (Rect.unit (s := S8x6x64x512) (k0_off12 i k) S1x1x64x512.size (k0_off12_inb i k)))⟩,
        ⟨Rect.unit (s := S512x384) (k0_off5 k) S64x128.size (k0_off5_inb k),
          pair (View.ld (arg2.view.read (Elt Ideal) X2) (Rect.unit (s := S512x384) (k0_off5 k) S64x128.size (k0_off5_inb k)))
            (View.ld (arg3.view.read (Elt Ideal) X3) (Rect.unit (s := S8192x384) (k0_off6 i k) S512x128.size (k0_off6_inb i k)))
            (View.ld (arg4.view.read (Elt Ideal) X4) (Rect.unit (s := S8192x384) (k0_off6 i k) S512x128.size (k0_off6_inb i k)))
            (View.ld (arg5.view.read (Elt Ideal) X5) (Rect.unit (s := S8x6x64x512) (k0_off7 i k) S1x1x64x512.size (k0_off7_inb i k)))
            (View.ld (arg5.view.read (Elt Ideal) X5) (Rect.unit (s := S8x6x64x512) (k0_off8 i k) S1x1x64x512.size (k0_off8_inb i k)))⟩,
        ⟨Rect.unit (s := S512x384) (k0_off1 k) S64x128.size (k0_off1_inb k),
          pair (View.ld (arg2.view.read (Elt Ideal) X2) (Rect.unit (s := S512x384) (k0_off1 k) S64x128.size (k0_off1_inb k)))
            (View.ld (arg3.view.read (Elt Ideal) X3) (Rect.unit (s := S8192x384) (k0_off2 i k) S512x128.size (k0_off2_inb i k)))
            (View.ld (arg4.view.read (Elt Ideal) X4) (Rect.unit (s := S8192x384) (k0_off2 i k) S512x128.size (k0_off2_inb i k)))
            (View.ld (arg5.view.read (Elt Ideal) X5) (Rect.unit (s := S8x6x64x512) (k0_off3 i k) S1x1x64x512.size (k0_off3_inb i k)))
            (View.ld (arg5.view.read (Elt Ideal) X5) (Rect.unit (s := S8x6x64x512) (k0_off4 i k) S1x1x64x512.size (k0_off4_inb i k)))⟩] := by
  unfold tripL_k0_t1 trip_k0_t1
  dsimp only
  sl_unfold_words
  rfl

/-- The scores of position `p` of block row `k`, head `h`, from the block's arrays. -/
def blkScores (x0 : Vec Ideal S512x384 .bf16) (x1 : Vec Ideal S8192x384 .bf16) (x3 : Vec Ideal S8x6x64x512 .f32) (g k p h : ℕ) (x : Fin 512) : EReal :=
  (∑ d : Fin 64, at2 (φ := .bf16) x0 (k * 64 + p) (h * 64 + d.val) * at2 (φ := .bf16) x1 (start (g * 8 + k) * 64 + x.val) (h * 64 + d.val))
    + at4 (φ := .f32) x3 (g * 8 + k - start (g * 8 + k)) h p x.val

/-- The result block, at a row and column. -/
def blkOut (x0 : Vec Ideal S512x384 .bf16) (x1 x2 : Vec Ideal S8192x384 .bf16) (x3 : Vec Ideal S8x6x64x512 .f32) (g R C : ℕ) : EReal :=
  mean (blkScores x0 x1 x3 g (R / 64) (R % 64) (C / 64)) fun x => at2 (φ := .bf16) x2 (start (g * 8 + R / 64) * 64 + x.val) C

theorem blkScores_real (x0 : Vec Ideal S512x384 .bf16) (x1 : Vec Ideal S8192x384 .bf16) (x3 : Vec Ideal S8x6x64x512 .f32)
    (h0 : Finite (φ := .bf16) x0) (h1 : Finite (φ := .bf16) x1) (h3 : Finite (φ := .f32) x3) (g k p h : ℕ) (x : Fin 512) :
    ∃ y : ℝ, blkScores x0 x1 x3 g k p h x = (y : EReal) := by
  choose f hf using fun r c => at2_real h0 r c
  choose e he using fun r c => at2_real h1 r c
  choose b hb using fun p q r s => at4_real h3 p q r s
  unfold blkScores
  simp only [hf, he, hb, ← EReal.coe_mul]
  rw [coe_sum, ← EReal.coe_add]
  exact ⟨_, rfl⟩

/-- One stored pair, at a row and lane: `j` is the pair. -/
theorem pair_apply (x0 : Vec Ideal S512x384 .bf16) (x1 x2 : Vec Ideal S8192x384 .bf16) (x3 : Vec Ideal S8x6x64x512 .f32)
    (h0 : Finite (φ := .bf16) x0) (h1 : Finite (φ := .bf16) x1) (h3 : Finite (φ := .f32) x3)
    (g k j : ℕ) (hg : g < 16) (hk : k < 8) (hj : j < 3) (oq ok : Fin 2 → ℕ) (o0 o1 : Fin 4 → ℕ) (iq ik i0 i1)
    (eq0 : oq = ![k * 64, j * 128])
    (ek : ok 0 = start (g * 8 + k) * 64 ∧ ok 1 = j * 128)
    (e0 : o0 = ![g * 8 + k - start (g * 8 + k), 2 * j, 0, 0]) (e1 : o1 = ![g * 8 + k - start (g * 8 + k), 2 * j + 1, 0, 0])
    (p : Fin 64) (l : Fin 128) :
    pair (View.ld x0 (Rect.unit (s := S512x384) oq S64x128.size iq)) (View.ld x1 (Rect.unit (s := S8192x384) ok S512x128.size ik))
      (View.ld x2 (Rect.unit (s := S8192x384) ok S512x128.size ik)) (View.ld x3 (Rect.unit (s := S8x6x64x512) o0 S1x1x64x512.size i0))
      (View.ld x3 (Rect.unit (s := S8x6x64x512) o1 S1x1x64x512.size i1)) (ix2 p l)
      = blkOut x0 x1 x2 x3 g (k * 64 + p.val) (j * 128 + l.val) := by
  have hs : start (g * 8 + k) ≤ 120 := min_le_left _ _
  have hv : g * 8 + k - start (g * 8 + k) < 8 := by unfold start; omega
  have hp := p.isLt
  have hl := l.isLt
  have a0 : (k * 64 + p.val) / 64 = k := by omega
  have a1 : (k * 64 + p.val) % 64 = p.val := by omega
  have lq : ∀ d : Fin 128, View.ld x0 (Rect.unit (s := S512x384) oq S64x128.size iq) (ix2 p d) = at2 (φ := .bf16) x0 (k * 64 + p.val) (j * 128 + d.val) := fun d =>
    (ld2 x0 oq iq p d ⟨k * 64 + p.val, by omega⟩ ⟨j * 128 + d.val, by omega⟩ (by rw [eq0]; rfl) (by rw [eq0]; rfl)).trans (eq_at2 (φ := .bf16) x0 _ _)
  have lk : ∀ (X : Vec Ideal S8192x384 .bf16) (x : Fin 512) (d : Fin 128), View.ld X (Rect.unit (s := S8192x384) ok S512x128.size ik) (ix2 x d) = at2 (φ := .bf16) X (start (g * 8 + k) * 64 + x.val) (j * 128 + d.val) := fun X x d =>
    (ld2 X ok ik x d ⟨start (g * 8 + k) * 64 + x.val, by omega⟩ ⟨j * 128 + d.val, by omega⟩ (by rw [ek.1]) (by rw [ek.2])).trans (eq_at2 (φ := .bf16) X _ _)
  have l0 : ∀ x : Fin 512, View.ld x3 (Rect.unit (s := S8x6x64x512) o0 S1x1x64x512.size i0) (ix4 0 0 p x) = at4 (φ := .f32) x3 (g * 8 + k - start (g * 8 + k)) (2 * j) p.val x.val := fun x =>
    (ld4 x3 o0 i0 p x ⟨_, hv⟩ ⟨2 * j, by omega⟩ e0).trans (eq_at4 (φ := .f32) x3 _ _ _ _)
  have l1 : ∀ x : Fin 512, View.ld x3 (Rect.unit (s := S8x6x64x512) o1 S1x1x64x512.size i1) (ix4 0 0 p x) = at4 (φ := .f32) x3 (g * 8 + k - start (g * 8 + k)) (2 * j + 1) p.val x.val := fun x =>
    (ld4 x3 o1 i1 p x ⟨_, hv⟩ ⟨2 * j + 1, by omega⟩ e1).trans (eq_at4 (φ := .f32) x3 _ _ _ _)
  unfold blkOut
  rw [a0, a1]
  by_cases h : l.val < 64
  · have a2 : (j * 128 + l.val) / 64 = 2 * j := by omega
    rw [a2]
    refine pair_low _ _ _ _ _ p l h (fun x => ?_) (fun x => lk x2 x l) (fun x => blkScores_real x0 x1 x3 h0 h1 h3 g k p.val (2 * j) x)
    rw [l0]
    unfold blkScores
    refine congrArg (· + _) (Finset.sum_congr rfl fun d _ => ?_)
    rw [lq, lk, show 2 * j * 64 + d.val = j * 128 + d.val from by omega]
  · have a2 : (j * 128 + l.val) / 64 = 2 * j + 1 := by omega
    rw [a2]
    refine pair_high _ _ _ _ _ p l h (fun x => ?_) (fun x => lk x2 x l) (fun x => blkScores_real x0 x1 x3 h0 h1 h3 g k p.val (2 * j + 1) x)
    rw [l1]
    unfold blkScores
    refine congrArg (· + _) (Finset.sum_congr rfl fun d _ => ?_)
    rw [lq, lk, show (2 * j + 1) * 64 + d.val = j * 128 + (64 + d.val) from by omega]

/-- Before trip `k` the first `64 * k` rows of the result block are computed. -/
theorem loop_inv {κ : Kind} {sp : Space} (v : View sig κ sp S512x384 .bf16) (f : v.ty.Contents (Elt Ideal))
    (X2 : BufTy.Contents (Elt Ideal) arg2.view.ty) (X3 : BufTy.Contents (Elt Ideal) arg3.view.ty)
    (X4 : BufTy.Contents (Elt Ideal) arg4.view.ty) (X5 : BufTy.Contents (Elt Ideal) arg5.view.ty)
    (h0 : Finite (φ := .bf16) (arg2.view.read (Elt Ideal) X2)) (h1 : Finite (φ := .bf16) (arg3.view.read (Elt Ideal) X3))
    (h3 : Finite (φ := .f32) (arg5.view.read (Elt Ideal) X5)) :
    ∀ k : ℕ, k ≤ k0_t1_loop.trips → ∀ (R : Fin 512) (C : Fin 384), R.val < 64 * k →
      v.read (Elt Ideal) (v.writes (Elt Ideal) f (pb_k0_t1 𝒱 c bd i arg2 harg2 arg3 harg3 arg4 harg4 arg5 harg5 arg6 harg6 arg1 X2 X3 X4 X5 k)) (ix2 R C)
        = blkOut (arg2.view.read (Elt Ideal) X2) (arg3.view.read (Elt Ideal) X3) (arg4.view.read (Elt Ideal) X4) (arg5.view.read (Elt Ideal) X5) (i 1).val R.val C.val := by
  intro k
  induction k with
  | zero => intro _ R C h; exact absurd h (by omega)
  | succ k ih =>
    intro hk R C hR
    have hk8 : k < 8 := lt_of_lt_of_le hk k0_t1_abs.2.1
    have hg : (i 1).val < 16 := (i 1).isLt
    have ih' := ih (Nat.le_of_succ_le hk)
    have hq := off_q ⟨k, hk⟩
    have hkk := off_k i ⟨k, hk⟩
    have hb := off_b i ⟨k, hk⟩
    rw [pb_k0_t1_succ 𝒱 c bd i arg2 harg2 arg3 harg3 arg4 harg4 arg5 harg5 arg6 harg6 arg1 X2 X3 X4 X5 ⟨k, hk⟩,
      trip_pieces 𝒱 c bd i arg2 harg2 arg3 harg3 arg4 harg4 arg5 harg5 arg6 harg6 arg1 X2 X3 X4 X5 ⟨k, hk⟩]
    simp only [List.cons_append, List.nil_append]
    have hC := C.isLt
    by_cases hr : R.val < 64 * k
    · refine (View.read_writes_cons_unit_of_not_mem v f _ _ _ _ rfl 0 (Or.inl (by rw [hq.2]; show R.val < k * 64; omega))).trans ?_
      refine (View.read_writes_cons_unit_of_not_mem v f _ _ _ _ rfl 0 (Or.inl (by rw [hq.1.2]; show R.val < k * 64; omega))).trans ?_
      refine (View.read_writes_cons_unit_of_not_mem v f _ _ _ _ rfl 0 (Or.inl (by rw [hq.1.1]; show R.val < k * 64; omega))).trans ?_
      exact ih' R C hr
    · by_cases c2 : 256 ≤ C.val
      · refine (View.read_writes_cons_unit_of_mem v f _ _ _ _ (ix2 (n0 := 64) (n1 := 128) ⟨R.val - k * 64, by omega⟩ ⟨C.val - 256, by omega⟩) rfl (fun a => ?_)).trans ?_
        · refine Eq.trans ?_ (congrArg (· + _) (congrFun hq.2 a).symm)
          match a with
          | ⟨0, _⟩ => show R.val = k * 64 + (R.val - k * 64); omega
          | ⟨1, _⟩ => show C.val = 256 + (C.val - 256); omega
        · refine (pair_apply _ _ _ _ h0 h1 h3 (i 1).val k 2 hg hk8 (by decide) _ _ _ _ _ _ _ _ hq.2 hkk.2 hb.2.2.1 hb.2.2.2 _ _).trans ?_
          show blkOut _ _ _ _ _ (k * 64 + (R.val - k * 64)) (2 * 128 + (C.val - 256)) = _
          rw [show k * 64 + (R.val - k * 64) = R.val from by omega, show 2 * 128 + (C.val - 256) = C.val from by omega]
      · refine (View.read_writes_cons_unit_of_not_mem v f _ _ _ _ rfl 1 (Or.inl (by rw [hq.2]; show C.val < 256; omega))).trans ?_
        by_cases c1 : 128 ≤ C.val
        · refine (View.read_writes_cons_unit_of_mem v f _ _ _ _ (ix2 (n0 := 64) (n1 := 128) ⟨R.val - k * 64, by omega⟩ ⟨C.val - 128, by omega⟩) rfl (fun a => ?_)).trans ?_
          · refine Eq.trans ?_ (congrArg (· + _) (congrFun hq.1.2 a).symm)
            match a with
            | ⟨0, _⟩ => show R.val = k * 64 + (R.val - k * 64); omega
            | ⟨1, _⟩ => show C.val = 128 + (C.val - 128); omega
          · refine (pair_apply _ _ _ _ h0 h1 h3 (i 1).val k 1 hg hk8 (by decide) _ _ _ _ _ _ _ _ hq.1.2 hkk.1.2 hb.2.1.1 hb.2.1.2 _ _).trans ?_
            show blkOut _ _ _ _ _ (k * 64 + (R.val - k * 64)) (1 * 128 + (C.val - 128)) = _
            rw [show k * 64 + (R.val - k * 64) = R.val from by omega, show 1 * 128 + (C.val - 128) = C.val from by omega]
        · refine (View.read_writes_cons_unit_of_not_mem v f _ _ _ _ rfl 1 (Or.inl (by rw [hq.1.2]; show C.val < 128; omega))).trans ?_
          refine (View.read_writes_cons_unit_of_mem v f _ _ _ _ (ix2 (n0 := 64) (n1 := 128) ⟨R.val - k * 64, by omega⟩ ⟨C.val, by omega⟩) rfl (fun a => ?_)).trans ?_
          · refine Eq.trans ?_ (congrArg (· + _) (congrFun hq.1.1 a).symm)
            match a with
            | ⟨0, _⟩ => show R.val = k * 64 + (R.val - k * 64); omega
            | ⟨1, _⟩ => show C.val = 0 + C.val; omega
          · refine (pair_apply _ _ _ _ h0 h1 h3 (i 1).val k 0 hg hk8 (by decide) _ _ _ _ _ _ _ _ hq.1.1 hkk.1.1 hb.1.1 hb.1.2 _ _).trans ?_
            show blkOut _ _ _ _ _ (k * 64 + (R.val - k * 64)) (0 * 128 + C.val) = _
            rw [show k * 64 + (R.val - k * 64) = R.val from by omega, show 0 * 128 + C.val = C.val from by omega]

/-- What the body leaves in its result block. -/
theorem out_apply (x0 : Vec Ideal S512x384 .bf16) (x1 x2 : Vec Ideal S8192x384 .bf16) (x3 : Vec Ideal S8x6x64x512 .f32)
    (h0 : Finite (φ := .bf16) x0) (h1 : Finite (φ := .bf16) x1) (h3 : Finite (φ := .f32) x3) (R : Fin 512) (C : Fin 384) :
    out0_A_4 c i arg2 harg2 arg3 harg3 arg4 harg4 arg5 harg5 arg6 harg6 x0 x1 x2 x3 (ix2 R C)
      = blkOut x0 x1 x2 x3 (i 1).val R.val C.val := by
  unfold out0_A_4 kernelRun0_A
  dsimp only
  sl_unfold_words
  have hR := R.isLt
  have h := loop_inv Variants.none c none i arg2 harg2 arg3 harg3 arg4 harg4 arg5 harg5 arg6 harg6 (BitVec.ofNat 32 (i 1).val) VO0_4 VO0_4.junk
    (harg2.unread x0) (harg3.unread x1) (harg4.unread x2) (harg5.unread x3)
    (by rw [harg2.read_unread]; exact h0) (by rw [harg3.read_unread]; exact h1) (by rw [harg5.read_unread]; exact h3)
    8 (by decide) R C (by omega)
  rw [harg2.read_unread, harg3.read_unread, harg4.read_unread, harg5.read_unread] at h
  exact h
end

end Cert.NaIdeal.Hand

end
-- ==== Proof.NaValue.lean ====
/-
  The neighbourhood attention kernel's result array. A grid point handles eight grid rows of one image.
-/
module

public import proofs.«01_k».proof.Proof.NaLoop
public import proofs.«01_k».proof.Proof.Gen.NaIdeal.Value

@[expose] public section

set_option maxRecDepth 16384

noncomputable section

open Idealize.ShloMosaic Idealize.ShloMosaic.TcCoe Idealize.SL.Sem

namespace Cert.NaIdeal.Hand

open Cert.NaIdeal Cert.NaIdeal.Gen Cert.Attention Cert.NaRow

variable (m : (ℓ : Loc nD τ sig) → Buf (Elt Ideal) ℓ)

/-- Where the query block and the result block of a grid point lie. -/
theorem index_q : ∀ t : Fin grid0.N, (win0_0.index t 0 = t.val ∧ win0_0.index t 1 = 0)
    ∧ (win0_4.index t 0 = t.val ∧ win0_4.index t 1 = 0) := by decide +kernel

/-- Where the key and value blocks of a grid point lie. -/
theorem index_kv : ∀ t : Fin grid0.N, (win0_1.index t 0 = t.val / 16 ∧ win0_1.index t 1 = 0)
    ∧ (win0_2.index t 0 = t.val / 16 ∧ win0_2.index t 1 = 0) := by decide +kernel

/-- The bias table is whole at every grid point. -/
theorem index_b : ∀ t : Fin grid0.N, (win0_3.index t 0 = 0 ∧ win0_3.index t 1 = 0)
    ∧ (win0_3.index t 2 = 0 ∧ win0_3.index t 3 = 0) := by decide +kernel

/-- The block of eight rows a grid point handles. -/
theorem coord1 : ∀ t : Fin grid0.N, (grid0.coords t 1).val = t.val % 16 := by decide +kernel

theorem lt_N (t : Fin cfg0.N) : t.val < 64 := lt_of_lt_of_eq t.isLt N_0

/-- The query block, at an index. -/
theorem blk_q (c : Dev nD) (t : Fin cfg0.N) (r : Fin 512) (l : Fin 384) :
    (iblk m c 0 t : Vec Ideal S512x384 .bf16) (ix2 r l) = m ((c : Thread nD τ).loc main_arg0)
      (ix2 (n0 := 32768) (n1 := 384) ⟨t.val * 512 + r.val, by have := lt_N t; omega⟩ l) := by
  unfold iblk
  rw [View.read_apply]
  show V m c main_arg0 _ = m (c.tc.loc main_arg0) _
  unfold V
  congr 1
  funext a
  apply Fin.ext
  match a with
  | ⟨0, _⟩ => show win0_0.index t 0 * 512 + 1 * r.val = _; rw [(index_q t).1.1, one_mul]; rfl
  | ⟨1, _⟩ => show win0_0.index t 1 * 384 + 1 * l.val = _; rw [(index_q t).1.2, one_mul, zero_mul, zero_add]; rfl

/-- The key block, at an index. -/
theorem blk_k (c : Dev nD) (t : Fin cfg0.N) (r : Fin 8192) (l : Fin 384) :
    (iblk m c 1 t : Vec Ideal S8192x384 .bf16) (ix2 r l) = m ((c : Thread nD τ).loc main_arg1)
      (ix2 (n0 := 32768) (n1 := 384) ⟨t.val / 16 * 8192 + r.val, by have := lt_N t; omega⟩ l) := by
  unfold iblk
  rw [View.read_apply]
  show V m c main_arg1 _ = m (c.tc.loc main_arg1) _
  unfold V
  congr 1
  funext a
  apply Fin.ext
  match a with
  | ⟨0, _⟩ => show win0_1.index t 0 * 8192 + 1 * r.val = _; rw [(index_kv t).1.1, one_mul]; rfl
  | ⟨1, _⟩ => show win0_1.index t 1 * 384 + 1 * l.val = _; rw [(index_kv t).1.2, one_mul, zero_mul, zero_add]; rfl

/-- The value block, at an index. -/
theorem blk_v (c : Dev nD) (t : Fin cfg0.N) (r : Fin 8192) (l : Fin 384) :
    (iblk m c 2 t : Vec Ideal S8192x384 .bf16) (ix2 r l) = m ((c : Thread nD τ).loc main_arg2)
      (ix2 (n0 := 32768) (n1 := 384) ⟨t.val / 16 * 8192 + r.val, by have := lt_N t; omega⟩ l) := by
  unfold iblk
  rw [View.read_apply]
  show V m c main_arg2 _ = m (c.tc.loc main_arg2) _
  unfold V
  congr 1
  funext a
  apply Fin.ext
  match a with
  | ⟨0, _⟩ => show win0_2.index t 0 * 8192 + 1 * r.val = _; rw [(index_kv t).2.1, one_mul]; rfl
  | ⟨1, _⟩ => show win0_2.index t 1 * 384 + 1 * l.val = _; rw [(index_kv t).2.2, one_mul, zero_mul, zero_add]; rfl

/-- The bias table, at an index. -/
theorem blk_b (c : Dev nD) (t : Fin cfg0.N) (w : Fin 8) (h : Fin 6) (p : Fin 64) (x : Fin 512) :
    (iblk m c 3 t : Vec Ideal S8x6x64x512 .f32) (ix4 w h p x) = m ((c : Thread nD τ).loc main_arg3) (ix4 w h p x) := by
  unfold iblk
  rw [View.read_apply]
  show V m c main_arg3 _ = m (c.tc.loc main_arg3) _
  unfold V
  congr 1
  funext a
  apply Fin.ext
  match a with
  | ⟨0, _⟩ => show win0_3.index t 0 * 8 + 1 * w.val = _; rw [(index_b t).1.1, one_mul, zero_mul, zero_add]; rfl
  | ⟨1, _⟩ => show win0_3.index t 1 * 6 + 1 * h.val = _; rw [(index_b t).1.2, one_mul, zero_mul, zero_add]; rfl
  | ⟨2, _⟩ => show win0_3.index t 2 * 64 + 1 * p.val = _; rw [(index_b t).2.1, one_mul, zero_mul, zero_add]; rfl
  | ⟨3, _⟩ => show win0_3.index t 3 * 512 + 1 * x.val = _; rw [(index_b t).2.2, one_mul, zero_mul, zero_add]; rfl

/-- The result array's contents after the run. -/
def G (Q K V : FVec Ideal S32768x384 .bf16) (B : FVec Ideal S8x6x64x512 .f32) : FVec Ideal S32768x384 .bf16 :=
  fun i => attnNa Q K V B ((i 0).val / 8192) ((i 0).val / 64 % 128) ((i 0).val % 64) ((i 1).val / 64) ((i 1).val % 64)

/-- What a grid point computes, from the arguments. -/
theorem blkOut_eq (Q K V : FVec Ideal S32768x384 .bf16) (B : FVec Ideal S8x6x64x512 .f32)
    (x0 : Vec Ideal S512x384 .bf16) (x1 x2 : Vec Ideal S8192x384 .bf16) (x3 : Vec Ideal S8x6x64x512 .f32) (b g : ℕ) (hb : b < 4) (hg : g < 16)
    (h0 : ∀ (r : Fin 512) (l : Fin 384), x0 (ix2 r l) = at2 Q ((b * 16 + g) * 512 + r.val) l.val)
    (h1 : ∀ (r : Fin 8192) (l : Fin 384), x1 (ix2 r l) = at2 K (b * 8192 + r.val) l.val)
    (h2 : ∀ (r : Fin 8192) (l : Fin 384), x2 (ix2 r l) = at2 V (b * 8192 + r.val) l.val)
    (h3 : x3 = B) (R : Fin 512) (C : Fin 384) :
    blkOut x0 x1 x2 x3 g R.val C.val = attnNa Q K V B b (g * 8 + R.val / 64) (R.val % 64) (C.val / 64) (C.val % 64) := by
  subst h3
  have hR := R.isLt
  have hC := C.isLt
  have hs : start (g * 8 + R.val / 64) ≤ 120 := min_le_left _ _
  have e0 : ∀ d : Fin 64, at2 (φ := .bf16) x0 (R.val / 64 * 64 + R.val % 64) (C.val / 64 * 64 + d.val)
      = at2 Q (b * 8192 + (g * 8 + R.val / 64) * 64 + R.val % 64) (C.val / 64 * 64 + d.val) := fun d => by
    have := (eq_at2 (φ := .bf16) x0 ⟨R.val / 64 * 64 + R.val % 64, by omega⟩ ⟨C.val / 64 * 64 + d.val, by omega⟩).symm.trans (h0 _ _)
    refine this.trans ?_
    show at2 Q ((b * 16 + g) * 512 + (R.val / 64 * 64 + R.val % 64)) _ = _
    rw [show (b * 16 + g) * 512 + (R.val / 64 * 64 + R.val % 64) = b * 8192 + (g * 8 + R.val / 64) * 64 + R.val % 64 from by omega]
  have e1 : ∀ (x : Fin 512) (d : ℕ), d < 384 → at2 (φ := .bf16) x1 (start (g * 8 + R.val / 64) * 64 + x.val) d = at2 K (b * 8192 + start (g * 8 + R.val / 64) * 64 + x.val) d := fun x d hd => by
    have := (eq_at2 (φ := .bf16) x1 ⟨start (g * 8 + R.val / 64) * 64 + x.val, by omega⟩ ⟨d, hd⟩).symm.trans (h1 _ _)
    refine this.trans ?_
    show at2 K (b * 8192 + (start (g * 8 + R.val / 64) * 64 + x.val)) _ = _
    rw [← Nat.add_assoc]
  have e2 : ∀ (x : Fin 512) (d : ℕ), d < 384 → at2 (φ := .bf16) x2 (start (g * 8 + R.val / 64) * 64 + x.val) d = at2 V (b * 8192 + start (g * 8 + R.val / 64) * 64 + x.val) d := fun x d hd => by
    have := (eq_at2 (φ := .bf16) x2 ⟨start (g * 8 + R.val / 64) * 64 + x.val, by omega⟩ ⟨d, hd⟩).symm.trans (h2 _ _)
    refine this.trans ?_
    show at2 V (b * 8192 + (start (g * 8 + R.val / 64) * 64 + x.val)) _ = _
    rw [← Nat.add_assoc]
  unfold blkOut attnNa
  refine congrArg₂ mean (funext fun x => ?_) (funext fun x => ?_)
  · unfold blkScores scores
    refine congrArg (· + _) (Finset.sum_congr rfl fun d _ => ?_)
    rw [e0, e1 x _ (by omega)]
  · rw [e2 x _ hC, show C.val / 64 * 64 + C.val % 64 = C.val from by omega]

/-- What a grid point writes back is its block of `G`. -/
theorem flushed_eq (c : Dev nD) (Q K W : FVec Ideal S32768x384 .bf16) (B : FVec Ideal S8x6x64x512 .f32)
    (hQe : m ((c : Thread nD τ).loc main_arg0) = Q) (hKe : m ((c : Thread nD τ).loc main_arg1) = K)
    (hWe : m ((c : Thread nD τ).loc main_arg2) = W) (hBe : m ((c : Thread nD τ).loc main_arg3) = B)
    (hQ : Finite Q) (hK : Finite K) (hB : Finite B) (t : Fin cfg0.N) :
    (dats m 0 c).flushed 4 t = ((cfg0.win 4).blk t).view.read (Elt Ideal) (G Q K W B) := by
  have ht := lt_N t
  rw [Value.flushed4_A]
  funext y
  obtain ⟨r, l, rfl⟩ : ∃ (r : Fin 512) (l : Fin 384), y = ix2 r l := ⟨y 0, y 1, ValueIdx.eq_ix2 y⟩
  rw [View.read_apply]
  have f0 : Finite (φ := .bf16) (iblk m c 0 t : Vec Ideal S512x384 .bf16) := fun i => by
    obtain ⟨r, l, rfl⟩ : ∃ (r : Fin 512) (l : Fin 384), i = ix2 r l := ⟨i 0, i 1, ValueIdx.eq_ix2 i⟩
    rw [blk_q, hQe]; exact hQ _
  have f1 : Finite (φ := .bf16) (iblk m c 1 t : Vec Ideal S8192x384 .bf16) := fun i => by
    obtain ⟨r, l, rfl⟩ : ∃ (r : Fin 8192) (l : Fin 384), i = ix2 r l := ⟨i 0, i 1, ValueIdx.eq_ix2 i⟩
    rw [blk_k, hKe]; exact hK _
  have f3e : (iblk m c 3 t : Vec Ideal S8x6x64x512 .f32) = B := funext fun i => by
    obtain ⟨w, h, p, x, rfl⟩ : ∃ (w : Fin 8) (h : Fin 6) (p : Fin 64) (x : Fin 512), i = ix4 w h p x := ⟨i 0, i 1, i 2, i 3, ValueIdx.eq_ix4 i⟩
    rw [blk_b, hBe]
  have f3 : Finite (φ := .f32) (iblk m c 3 t : Vec Ideal S8x6x64x512 .f32) := by rw [f3e]; exact hB
  refine (out_apply c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t) f0 f1 f3 r l).trans ?_
  rw [coord1 t]
  refine (blkOut_eq Q K W B _ _ _ _ (t.val / 16) (t.val % 16) (by omega) (by omega) (fun r l => ?_) (fun r l => ?_) (fun r l => ?_) f3e r l).trans ?_
  · rw [blk_q, hQe]
    refine (eq_at2 Q _ _).trans ?_
    show at2 Q (t.val * 512 + r.val) _ = _
    rw [show t.val / 16 * 16 + t.val % 16 = t.val from by omega]
  · rw [blk_k, hKe]; exact eq_at2 K _ _
  · rw [blk_v, hWe]; exact eq_at2 W _ _
  have e0 : ((((cfg0.win 4).blk t).view.emb (ix2 (n0 := 512) (n1 := 384) r l)) 0).val = t.val * 512 + r.val := by
    show win0_4.index t 0 * 512 + 1 * r.val = _; rw [(index_q t).2.1, one_mul]
  have e1 : ((((cfg0.win 4).blk t).view.emb (ix2 (n0 := 512) (n1 := 384) r l)) 1).val = l.val := by
    show win0_4.index t 1 * 384 + 1 * l.val = _; rw [(index_q t).2.2, one_mul, zero_mul, zero_add]
  show _ = G Q K W B (((cfg0.win 4).blk t).view.emb (ix2 (n0 := 512) (n1 := 384) r l))
  unfold G
  rw [e0, e1]
  have hr := r.isLt
  have a0 : (t.val * 512 + r.val) / 8192 = t.val / 16 := by omega
  have a1 : (t.val * 512 + r.val) / 64 % 128 = t.val % 16 * 8 + r.val / 64 := by omega
  have a2 : (t.val * 512 + r.val) % 64 = r.val % 64 := by omega
  rw [a0, a1, a2]

/-- Every index of the result array lies in the block of a grid point. -/
theorem covered (i : S32768x384.Idx) :
    ∃ t : Fin cfg0.N, (cfg0.win 4).flush t = true ∧ i ∈ ((cfg0.win 4).blk t).view.set := by
  have h0 : (i 0).val < 32768 := (i 0).isLt
  have h1 : (i 1).val < 384 := (i 1).isLt
  refine ⟨⟨(i 0).val / 512, lt_of_lt_of_eq (b := 64) (by omega) N_0.symm⟩, flush0_4 _, ?_⟩
  set t : Fin cfg0.N := ⟨(i 0).val / 512, lt_of_lt_of_eq (b := 64) (by omega) N_0.symm⟩ with ht
  have hv : t.val = (i 0).val / 512 := rfl
  have hm := ((cfg0.win 4).blk t).view.emb_mem_set (ix2 (n0 := 512) (n1 := 384) ⟨(i 0).val % 512, by omega⟩ ⟨(i 1).val, h1⟩)
  have he : ((cfg0.win 4).blk t).view.emb (ix2 (n0 := 512) (n1 := 384) ⟨(i 0).val % 512, by omega⟩ ⟨(i 1).val, h1⟩) = i := by
    funext a
    apply Fin.ext
    match a with
    | ⟨0, _⟩ => show win0_4.index t 0 * 512 + 1 * ((i 0).val % 512) = (i 0).val; rw [(index_q t).2.1, hv]; omega
    | ⟨1, _⟩ => show win0_4.index t 1 * 384 + 1 * (i 1).val = (i 1).val; rw [(index_q t).2.2]; omega
  rwa [he] at hm

/-- The result array after the run. -/
theorem final (c : Dev nD) (Q K W : FVec Ideal S32768x384 .bf16) (B : FVec Ideal S8x6x64x512 .f32)
    (hQe : m ((c : Thread nD τ).loc main_arg0) = Q) (hKe : m ((c : Thread nD τ).loc main_arg1) = K)
    (hWe : m ((c : Thread nD τ).loc main_arg2) = W) (hBe : m ((c : Thread nD τ).loc main_arg3) = B)
    (hQ : Finite Q) (hK : Finite K) (hB : Finite B) :
    (dats m 0 c).arrAt 4 cfg0.N = G Q K W B :=
  (dats m 0 c).arrAt_eq_of_cover 4 (G Q K W B) (fun t _ => flushed_eq m c Q K W B hQe hKe hWe hBe hQ hK hB t) covered

end Cert.NaIdeal.Hand

end
-- ==== Proof.NaRef.lean ====
/-
  The reference of the neighbourhood attention, read at an index: for each position the mean of the values of the eight
  rows of its window, under the softmax of its 512 scores.
-/
module

public import proofs.«01_k».proof.Proof.NaRow
public import proofs.«01_k».proof.Proof.MlaRef
public import proofs.«01_k».proof.Proof.Gen.NaRefIdeal.Run

@[expose] public section

set_option maxRecDepth 16384

noncomputable section

open Idealize.ShloMosaic Idealize.ShloMosaic.TcCoe Idealize.SL.Sem

namespace Cert.NaRefIdeal.Hand

open Cert.NaRefIdeal Cert.NaRefIdeal.Gen Cert.Attention Cert.NaRow

/-- The first row of every row's window. -/
def starts : IVec S128 32 :=
  minsi (broadcastInDim S128 ![] bcast_S_S128 (id (constantI S_ 32 120#32))) (maxsi (broadcastInDim S128 ![] bcast_S_S128 (id (constantI S_ 32 0#32))) (subi (iotaInDim S128 32 0) (broadcastInDim S128 ![] bcast_S_S128 (constantI S_ 32 4#32))))

/-- The rows of every row's window. -/
def rowIdx : IVec S128x8 32 :=
  addi (broadcastInDim S128x8 ![0, 1] bcast_S128x1_S128x8_0_1 (broadcastInDim S128x1 ![0] bcast_S128_S128x1_0 starts)) (broadcastInDim S128x8 ![0, 1] bcast_S1x8_S128x8_0_1 (broadcastInDim S1x8 ![1] bcast_S8_S1x8_1 (iotaInDim S8 32 0)))

/-- The same as indices, a negative one counted from the end. -/
def rowCol : IVec S128x8x1 32 :=
  broadcastInDim S128x8x1 ![0, 1] bcast_S128x8_S128x8x1_0_1 (select (cmpi .slt rowIdx (broadcastInDim S128x8 ![] bcast_S_S128x8 (constantI S_ 32 0#32))) (addi rowIdx (broadcastInDim S128x8 ![] bcast_S_S128x8 (constantI S_ 32 128#32))) rowIdx)

/-- A row's place in its window. -/
def placeIdx : IVec S128 32 := subi (iotaInDim S128 32 0) starts

/-- The same as indices. -/
def placeCol : IVec S128x1 32 :=
  broadcastInDim S128x1 ![0] bcast_S128_S128x1_0 (select (cmpi .slt placeIdx (broadcastInDim S128 ![] bcast_S_S128 (constantI S_ 32 0#32))) (addi placeIdx (broadcastInDim S128 ![] bcast_S_S128 (constantI S_ 32 8#32))) placeIdx)

/-- The keys or values of every row's window. -/
def window (X : FVec Ideal S32768x384 .bf16) : FVec Ideal S4x128x512x6x64 .f32 :=
  shapeCast _ (Host.gather gather_S4x128x24576_S128x8x1_S4x128x8x24576_03_1_n_n_1_2_4124576 (shapeCast _ (extf .f32 X bitsLt_bf16_f32) shapeCasts_S32768x384_S4x128x24576) rowCol) shapeCasts_S4x128x8x24576_S4x128x512x6x64

/-- The scores. -/
def logits (Q K : FVec Ideal S32768x384 .bf16) (B : FVec Ideal S8x6x64x512 .f32) : FVec Ideal S4x128x6x64x512 .f32 :=
  addf (Host.dotGeneral dot_S4x128x64x6x64_S4x128x512x6x64_S4x128x6x64x512_4_4_2_2_013_013 none (shapeCast _ (extf .f32 Q bitsLt_bf16_f32) shapeCasts_S32768x384_S4x128x64x6x64) (window K))
    (broadcastInDim S4x128x6x64x512 ![0, 1, 2, 3, 4] bcast_S1x128x6x64x512_S4x128x6x64x512_0_1_2_3_4 (broadcastInDim S1x128x6x64x512 ![1, 2, 3, 4] bcast_S128x6x64x512_S1x128x6x64x512_1_2_3_4 (Host.gather gather_S8x6x64x512_S128x1_S128x6x64x512_123_0_n_n_0_1_1664512 B placeCol)))

/-- The maximum of every row of scores. -/
def rowMax (S : FVec Ideal S4x128x6x64x512 .f32) : FVec Ideal S4x128x6x64 .f32 :=
  maximumf (broadcastInDim S4x128x6x64 ![] bcast_S_S4x128x6x64 (constant S_ .f32 0xFF800000#32)) (Host.reduce FloatOps.maximumf S (constant S_ .f32 0xFF800000#32) reducesTo_S4x128x6x64x512_S4x128x6x64_d4 h_S_)

/-- The exponentials of the scores less their row's maximum. -/
def expo (S : FVec Ideal S4x128x6x64x512 .f32) : FVec Ideal S4x128x6x64x512 .f32 :=
  Host.exp (subf S (broadcastInDim S4x128x6x64x512 ![0, 1, 2, 3, 4] bcast_S4x128x6x64x1_S4x128x6x64x512_0_1_2_3_4 (broadcastInDim S4x128x6x64x1 ![0, 1, 2, 3] bcast_S4x128x6x64_S4x128x6x64x1_0_1_2_3 (rowMax S))))

/-- The softmax of every row. -/
def softmax (E : FVec Ideal S4x128x6x64x512 .f32) : FVec Ideal S4x128x6x64x512 .f32 :=
  Host.divf E (broadcastInDim S4x128x6x64x512 ![0, 1, 2, 3, 4] bcast_S4x128x6x64x1_S4x128x6x64x512_0_1_2_3_4 (broadcastInDim S4x128x6x64x1 ![0, 1, 2, 3] bcast_S4x128x6x64_S4x128x6x64x1_0_1_2_3 (Host.reduceAdd E (constant S_ .f32 0x00000000#32) reducesTo_S4x128x6x64x512_S4x128x6x64_d4 h_S_)))

/-- The weighted values, back in rows and columns. -/
def weigh (W : FVec Ideal S4x128x512x6x64 .f32) (P : FVec Ideal S4x128x6x64x512 .f32) : FVec Ideal S32768x384 .bf16 :=
  truncf .bf16 (shapeCast _ (transpose S4x128x64x6x64 [0, 1, 4, 2, 3] (Host.dotGeneral dot_S4x128x512x6x64_S4x128x6x64x512_S4x128x6x64x64_2_4_4_3_013_012 none W P) transposes_S4x128x6x64x64_S4x128x64x6x64_0_1_4_2_3) shapeCasts_S4x128x64x6x64_S32768x384) bitsLt_bf16_f32

/-- The whole reference. -/
def out (Q K V : FVec Ideal S32768x384 .bf16) (B : FVec Ideal S8x6x64x512 .f32) : FVec Ideal S32768x384 .bf16 :=
  weigh (window V) (softmax (expo (logits Q K B)))

/-- The generated result is that function of the arguments. -/
theorem res0 (m : (ℓ : Loc nD τ sig) → Buf (Elt Ideal) ℓ) (c : Dev nD) : Value.res_out0 m c
    = out (m ((c.tc : Thread nD τ).loc main_arg0)) (m ((c.tc : Thread nD τ).loc main_arg1)) (m ((c.tc : Thread nD τ).loc main_arg2)) (m ((c.tc : Thread nD τ).loc main_arg3)) := rfl

/-- The word of a row's window's first row. -/
def startW (r : Fin 128) : BitVec 32 := IntOp.minsi 120#32 (IntOp.maxsi 0#32 (BitVec.ofNat 32 r.val - 4#32))

theorem startW_eq : ∀ r : Fin 128, startW r = BitVec.ofNat 32 (start r.val) := by decide +kernel

theorem starts_apply (r : Fin 128) : starts (ix1 r) = startW r := by
  unfold starts startW
  pointwise
  rfl

theorem rowIdx_apply (r : Fin 128) (k : Fin 8) : rowIdx (ix2 r k) = BitVec.ofNat 32 (start r.val) + BitVec.ofNat 32 k.val := by
  rw [← startW_eq, ← starts_apply]
  unfold rowIdx
  pointwise
  rfl

theorem rowWord : ∀ (r : Fin 128) (k : Fin 8),
    (Scalar.select (IntOp.cmpi .slt (BitVec.ofNat 32 (start r.val) + BitVec.ofNat 32 k.val) 0#32) (BitVec.ofNat 32 (start r.val) + BitVec.ofNat 32 k.val + 128#32)
      (BitVec.ofNat 32 (start r.val) + BitVec.ofNat 32 k.val)).toInt.toNat = start r.val + k.val := by decide +kernel

theorem rowCol_apply (r : Fin 128) (k : Fin 8) : (rowCol (ix3 r k (0 : Fin 1))).toInt.toNat = start r.val + k.val := by
  have e : rowCol (ix3 r k (0 : Fin 1)) = Scalar.select (IntOp.cmpi .slt (rowIdx (ix2 r k)) 0#32) (rowIdx (ix2 r k) + 128#32) (rowIdx (ix2 r k)) := by
    unfold rowCol
    pointwise
    rfl
  rw [e, rowIdx_apply]
  exact rowWord r k

theorem placeWord : ∀ (r : Fin 128),
    (Scalar.select (IntOp.cmpi .slt (BitVec.ofNat 32 r.val - BitVec.ofNat 32 (start r.val)) 0#32) (BitVec.ofNat 32 r.val - BitVec.ofNat 32 (start r.val) + 8#32)
      (BitVec.ofNat 32 r.val - BitVec.ofNat 32 (start r.val))).toInt.toNat = r.val - start r.val := by decide +kernel

theorem placeCol_apply (r : Fin 128) : (placeCol (ix2 r (0 : Fin 1))).toInt.toNat = r.val - start r.val := by
  have e' : placeIdx (ix1 r) = BitVec.ofNat 32 r.val - BitVec.ofNat 32 (start r.val) := by
    rw [← startW_eq, ← starts_apply]
    unfold placeIdx
    pointwise
    rfl
  have e : placeCol (ix2 r (0 : Fin 1)) = Scalar.select (IntOp.cmpi .slt (placeIdx (ix1 r)) 0#32) (placeIdx (ix1 r) + 8#32) (placeIdx (ix1 r)) := by
    unfold placeCol
    pointwise
    rfl
  rw [e, e']
  exact placeWord r

/-- A look-up of a window's row. -/
theorem look_row (X : FVec Ideal S4x128x24576 .f32) (I : IVec S128x8x1 32) (b : Fin 4) (r : Fin 128) (k : Fin 8) (c : Fin 24576) (e : Fin 128)
    (he : (I (ix3 r k (0 : Fin 1))).toInt.toNat = e.val) :
    Host.gather gather_S4x128x24576_S128x8x1_S4x128x8x24576_03_1_n_n_1_2_4124576 X I (ix4 b r k c) = X (ix3 b e c) := by
  set D := gather_S4x128x24576_S128x8x1_S4x128x8x24576_03_1_n_n_1_2_4124576 with hD
  unfold Host.gather
  congr 1
  funext q
  refine Fin.ext ?_
  show D.start (ix4 b r k c) I q + D.batchCoord (ix4 b r k c) q + D.offCoord (ix4 b r k c) q = _
  rw [GatherDims.batchCoord_eq_zero _ _ _ List.not_mem_nil, Nat.add_zero]
  have h3 : q = 0 ∨ q = 1 ∨ q = 2 := by
    match q with
    | ⟨0, _⟩ => exact .inl rfl
    | ⟨1, _⟩ => exact .inr (.inl rfl)
    | ⟨2, _⟩ => exact .inr (.inr rfl)
  rcases h3 with rfl | rfl | rfl
  · unfold GatherDims.start
    rw [dif_neg (show ¬ (0 : Fin 3) ∈ D.startIndexMap from by rw [hD]; decide), Nat.zero_add]
    rfl
  · rw [GatherDims.offCoord_eq_zero _ _ _ (fun h => ((GatherDims.mem_sKept _ _).mp h).1 (List.mem_singleton.mpr rfl)), Nat.add_zero]
    unfold GatherDims.start
    rw [dif_pos (show (1 : Fin 3) ∈ D.startIndexMap from List.mem_singleton.mpr rfl)]
    have hsi : D.siIdx (ix4 b r k c) ⟨List.idxOf (1 : Fin 3) D.startIndexMap,
        List.idxOf_lt_length_iff.2 (List.mem_singleton.mpr rfl)⟩ = ix3 r k (0 : Fin 1) := by
      funext a; refine Fin.ext ?_
      match a with
      | ⟨0, _⟩ => rfl
      | ⟨1, _⟩ => rfl
      | ⟨2, _⟩ => rfl
    rw [hsi, he]
    show min e.val (128 - 1) = e.val
    have := e.isLt
    omega
  · unfold GatherDims.start
    rw [dif_neg (show ¬ (2 : Fin 3) ∈ D.startIndexMap from by rw [hD]; decide), Nat.zero_add]
    rfl

/-- A look-up of the table of a row's place. -/
theorem look_place (X : FVec Ideal S8x6x64x512 .f32) (I : IVec S128x1 32) (r : Fin 128) (h : Fin 6) (p : Fin 64) (x : Fin 512) (e : Fin 8)
    (he : (I (ix2 r (0 : Fin 1))).toInt.toNat = e.val) :
    Host.gather gather_S8x6x64x512_S128x1_S128x6x64x512_123_0_n_n_0_1_1664512 X I (ix4 r h p x) = X (ix4 e h p x) := by
  set D := gather_S8x6x64x512_S128x1_S128x6x64x512_123_0_n_n_0_1_1664512 with hD
  unfold Host.gather
  congr 1
  funext q
  refine Fin.ext ?_
  show D.start (ix4 r h p x) I q + D.batchCoord (ix4 r h p x) q + D.offCoord (ix4 r h p x) q = _
  rw [GatherDims.batchCoord_eq_zero _ _ _ List.not_mem_nil, Nat.add_zero]
  have h3 : q = 0 ∨ q = 1 ∨ q = 2 ∨ q = 3 := by
    match q with
    | ⟨0, _⟩ => exact .inl rfl
    | ⟨1, _⟩ => exact .inr (.inl rfl)
    | ⟨2, _⟩ => exact .inr (.inr (.inl rfl))
    | ⟨3, _⟩ => exact .inr (.inr (.inr rfl))
  rcases h3 with rfl | rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 4) ∈ D.startIndexMap from List.mem_singleton.mpr rfl)]
    have hsi : D.siIdx (ix4 r h p x) ⟨List.idxOf (0 : Fin 4) D.startIndexMap,
        List.idxOf_lt_length_iff.2 (List.mem_singleton.mpr rfl)⟩ = ix2 r (0 : Fin 1) := by
      funext a; refine Fin.ext ?_
      match a with
      | ⟨0, _⟩ => rfl
      | ⟨1, _⟩ => rfl
    rw [hsi, he]
    show min e.val (8 - 1) = e.val
    have := e.isLt
    omega
  · unfold GatherDims.start
    rw [dif_neg (show ¬ (1 : Fin 4) ∈ D.startIndexMap from by rw [hD]; decide), Nat.zero_add]
    rfl
  · unfold GatherDims.start
    rw [dif_neg (show ¬ (2 : Fin 4) ∈ D.startIndexMap from by rw [hD]; decide), Nat.zero_add]
    rfl
  · unfold GatherDims.start
    rw [dif_neg (show ¬ (3 : Fin 4) ∈ D.startIndexMap from by rw [hD]; decide), Nat.zero_add]
    rfl

theorem start_le (r : Fin 128) : start r.val ≤ 120 := min_le_left _ _

theorem place_lt (r : Fin 128) : r.val - start r.val < 8 := by unfold start; omega

/-- The window of row `r`, key `x`. -/
theorem window_apply (X : FVec Ideal S32768x384 .bf16) (b : Fin 4) (r : Fin 128) (x : Fin 512) (h : Fin 6) (d : Fin 64) :
    window X (ix5 b r x h d) = at2 X (b.val * 8192 + start r.val * 64 + x.val) (h.val * 64 + d.val) := by
  have hs := start_le r
  have e : window X (ix5 b r x h d) = Host.gather gather_S4x128x24576_S128x8x1_S4x128x8x24576_03_1_n_n_1_2_4124576 (shapeCast S4x128x24576 (extf .f32 X bitsLt_bf16_f32) shapeCasts_S32768x384_S4x128x24576) rowCol
      (ix4 (n0 := 4) (n1 := 128) (n2 := 8) (n3 := 24576) b r ⟨x.val / 64, by omega⟩ ⟨x.val % 64 * 384 + h.val * 64 + d.val, by omega⟩) := by
    unfold window
    pointwise
  rw [e, look_row _ _ _ _ _ _ ⟨start r.val + x.val / 64, by omega⟩ (rowCol_apply r _)]
  have e2 : shapeCast S4x128x24576 (extf .f32 X bitsLt_bf16_f32) shapeCasts_S32768x384_S4x128x24576
      (ix3 (n0 := 4) (n1 := 128) (n2 := 24576) b ⟨start r.val + x.val / 64, by omega⟩ ⟨x.val % 64 * 384 + h.val * 64 + d.val, by omega⟩)
      = X (ix2 (n0 := 32768) (n1 := 384) ⟨b.val * 8192 + start r.val * 64 + x.val, by omega⟩ ⟨h.val * 64 + d.val, by omega⟩) := by
    pointwise
    refine congrArg X (congrArg₂ (fun a c => ix2 (n0 := 32768) (n1 := 384) a c) (Fin.ext ?_) (Fin.ext ?_)) <;> (dsimp only; omega)
  rw [e2]
  exact eq_at2 X _ _

theorem logits_apply (Q K : FVec Ideal S32768x384 .bf16) (B : FVec Ideal S8x6x64x512 .f32) (b : Fin 4) (r : Fin 128) (h : Fin 6) (p : Fin 64) (x : Fin 512) :
    logits Q K B (ix5 b r h p x) = scores Q K B b.val r.val p.val h.val x := by
  have e : logits Q K B (ix5 b r h p x) = (∑ d : Fin 64, Q (ix2 (n0 := 32768) (n1 := 384) ⟨b.val * 8192 + r.val * 64 + p.val, by omega⟩ ⟨h.val * 64 + d.val, by omega⟩)
      * window K (ix5 b r x h d)) + Host.gather gather_S8x6x64x512_S128x1_S128x6x64x512_123_0_n_n_0_1_1664512 B placeCol (ix4 r h p x) := by
    unfold logits
    pointwise
  rw [e, look_place _ _ _ _ _ _ ⟨r.val - start r.val, place_lt r⟩ (placeCol_apply r)]
  unfold scores
  congr 1
  · refine Finset.sum_congr rfl fun d _ => ?_
    exact congrArg₂ (· * ·) (eq_at2 Q _ _) (window_apply K b r x h d)
  · exact eq_at4 B _ _ _ _

theorem rowMax_real (S : FVec Ideal S4x128x6x64x512 .f32) (hS : Finite S) (j : S4x128x6x64.Idx) :
    ∃ M : ℝ, rowMax S j = (M : EReal) := by
  have hr : S4x128x6x64x512.Reduces [4] S4x128x6x64 := by decide
  have hp : 0 < S4x128x6x64x512.size 4 := by decide
  have hz : constant (F := Ideal) S_ .f32 0xFF800000#32 (Shape.Idx.first h_S_) = (⊥ : EReal) := Cert.MlaIdeal.Hand.negInf
  obtain ⟨M, hM⟩ := Cert.MlaRefIdeal.Hand.reduce_max_real S (constant (F := Ideal) S_ .f32 0xFF800000#32) reducesTo_S4x128x6x64x512_S4x128x6x64_d4 hr h_S_ hz hp hS j
  refine ⟨M, ?_⟩
  unfold rowMax
  rw [Cert.MlaRefIdeal.Hand.maximumf_at]
  rw [show broadcastInDim S4x128x6x64 ![] bcast_S_S4x128x6x64 (constant (F := Ideal) S_ .f32 0xFF800000#32) j = (⊥ : EReal) from Cert.MlaIdeal.Hand.negInf, hM]
  exact max_eq_right bot_le

theorem expo_apply (S : FVec Ideal S4x128x6x64x512 .f32) (b : Fin 4) (r : Fin 128) (h : Fin 6) (p : Fin 64) (x : Fin 512) :
    expo S (ix5 b r h p x) = Ideal.exp (S (ix5 b r h p x) - rowMax S (ix4 b r h p)) := by
  unfold expo
  pointwise

theorem softmax_apply (E : FVec Ideal S4x128x6x64x512 .f32) (b : Fin 4) (r : Fin 128) (h : Fin 6) (p : Fin 64) (x : Fin 512) :
    softmax E (ix5 b r h p x) = Ideal.div (E (ix5 b r h p x)) (∑ y : Fin 512, E (ix5 b r h p y)) := by
  unfold softmax
  pointwise

theorem weigh_apply (W : FVec Ideal S4x128x512x6x64 .f32) (P : FVec Ideal S4x128x6x64x512 .f32) (R : Fin 32768) (C : Fin 384) :
    weigh W P (ix2 R C) = ∑ x : Fin 512, W (ix5 (n0 := 4) (n1 := 128) (n2 := 512) (n3 := 6) (n4 := 64) ⟨R.val / 8192, by omega⟩ ⟨R.val / 64 % 128, by omega⟩ x ⟨C.val / 64, by omega⟩ ⟨C.val % 64, by omega⟩)
      * P (ix5 (n0 := 4) (n1 := 128) (n2 := 6) (n3 := 64) (n4 := 512) ⟨R.val / 8192, by omega⟩ ⟨R.val / 64 % 128, by omega⟩ ⟨C.val / 64, by omega⟩ ⟨R.val % 64, by omega⟩ x) := by
  unfold weigh
  pointwise

/-- The reference's result. -/
theorem out_apply (Q K V : FVec Ideal S32768x384 .bf16) (B : FVec Ideal S8x6x64x512 .f32) (hQ : Finite Q) (hK : Finite K) (hB : Finite B)
    (R : Fin 32768) (C : Fin 384) :
    out Q K V B (ix2 R C) = attnNa Q K V B (R.val / 8192) (R.val / 64 % 128) (R.val % 64) (C.val / 64) (C.val % 64) := by
  have hF : Finite (logits Q K B) := by
    intro j
    rw [ValueIdx.eq_ix5 j]
    obtain ⟨y, hy⟩ := scores_real Q K B hQ hK hB (j 0).val (j 1).val (j 3).val (j 2).val (j 4)
    exact ⟨y, (logits_apply _ _ _ _ _ _ _ _).trans hy⟩
  unfold out
  rw [weigh_apply]
  obtain ⟨M, hM⟩ := rowMax_real (logits Q K B) hF (ix4 (n0 := 4) (n1 := 128) (n2 := 6) (n3 := 64) ⟨R.val / 8192, by omega⟩ ⟨R.val / 64 % 128, by omega⟩ ⟨C.val / 64, by omega⟩ ⟨R.val % 64, by omega⟩)
  simp only [softmax_apply, expo_apply, hM, logits_apply, window_apply]
  exact ref_row _ _ M (fun x => scores_real Q K B hQ hK hB _ _ _ _ x)

end Cert.NaRefIdeal.Hand

end
-- ==== Proof.NaInputs.lean ====
/-
  What the neighbourhood attention's precondition says of the arguments: queries, keys and the bias table hold reals.
-/
module

public import proofs.«01_k».proof.Proof.InputsOk
public import proofs.«01_k».proof.Proof.Gen.Pre_na_inputs_ok

@[expose] public section

set_option maxRecDepth 16384

noncomputable section

open Idealize.ShloMosaic Idealize.ShloMosaic.TcCoe Idealize.SL.Sem

namespace Cert.Pre_na_inputs_ok

open Cert.Attention Facts

/-- What the precondition of the neighbourhood attention's claim says. -/
theorem decode [Facts] (a0 a1 a2 : FVec Ideal S32768x384 .bf16) (a3 : FVec Ideal S8x6x64x512 .f32)
    (h : fn (F := Ideal) a0 a1 a2 a3 = fun _ => 1#1) : Finite a0 ∧ Finite a1 ∧ Finite a3 := by
  have h0 := congrFun h ix0
  unfold fn at h0
  obtain ⟨h0, q3⟩ := and_split h0
  obtain ⟨q0, q1⟩ := and_split h0
  refine ⟨?_, ?_, ?_⟩
  · exact fun i => real_of_abs_lt _ (posInf ▸ Host.reduce_andi_all _ _ _ _ _ q0 i)
  · exact fun i => real_of_abs_lt _ (posInf ▸ Host.reduce_andi_all _ _ _ _ _ q1 i)
  · exact fun i => real_of_abs_lt _ (posInf ▸ Host.reduce_andi_all _ _ _ _ _ q3 i)

end Cert.Pre_na_inputs_ok

end
-- ==== Proof.NaClaim.lean ====
/-
  The claims of the neighbourhood attention kernel.
-/
module

public import proofs.«01_k».proof.Defs
public import proofs.«01_k».proof.Proof.NaValue
public import proofs.«01_k».proof.Proof.NaRef
public import proofs.«01_k».proof.Proof.NaInputs
public import Idealize.ShloMosaic.Lib.Quiescent

@[expose] public section

noncomputable section

open Idealize.ShloMosaic Idealize.ShloMosaic.TcCoe Idealize.SL.Sem

namespace Cert.NaProof

/-- The reference runs, leaves its arguments and every semaphore as they were. -/
theorem frame_ref : Cert.quiescent_NaRefIdeal := fun m ρ _ =>
  (θ_run Cert.NaRefIdeal.defs _ _).mono (fun r h => ⟨fun c => (h c).2,
      Idealize.ShloMosaic.sem_eq_zero_of_no_sems (by decide) r.2⟩)
    (Cert.NaRefIdeal.Value.run (F := Ideal) m ρ)

/-- The same under the precondition. -/
theorem frame_ref_pre : Cert.quiescent_NaRefIdeal_pre_na_inputs_ok := fun m ρ _ => frame_ref m ρ trivial

/-- Kernel and reference end with equal results: both hold, at every row and column, the softmax mean of the values of the
window. -/
theorem algebraic : Cert.algebraic_NaIdeal_NaRefIdeal_pre_na_inputs_ok := by
  intro m ρ m' ρ' hpre hagree
  refine ⟨_, Cert.NaIdeal.Value.run_blocks (F := Ideal) m ρ, ?_⟩
  refine (θ_run _ _ _).mono (fun _ h c => ⟨(h c).1.trans ?_, (h c).2⟩) (Cert.NaRefIdeal.Value.run (F := Ideal) m' ρ')
  obtain ⟨hQ, hK, hB⟩ := Cert.Pre_na_inputs_ok.decode _ _ _ _ (hpre c)
  rw [Cert.NaIdeal.Hand.final m c _ _ _ _ rfl rfl rfl rfl hQ hK hB]
  show Cert.NaRefIdeal.Hand.out (m' (c.tc.loc Cert.NaRefIdeal.main_arg0)) (m' (c.tc.loc Cert.NaRefIdeal.main_arg1))
    (m' (c.tc.loc Cert.NaRefIdeal.main_arg2)) (m' (c.tc.loc Cert.NaRefIdeal.main_arg3)) = _
  rw [(hagree c).1, (hagree c).2.1, (hagree c).2.2.1, (hagree c).2.2.2]
  funext i
  obtain ⟨R, C, rfl⟩ : ∃ (R : Fin 32768) (C : Fin 384), i = ix2 R C := ⟨i 0, i 1, ValueIdx.eq_ix2 i⟩
  exact Cert.NaRefIdeal.Hand.out_apply _ _ _ _ hQ hK hB R C

end Cert.NaProof

end
-- ==== Proof.lean ====
/-
  The proof of every claim about the projections' kernel, the three attention kernels, the merge kernel, the experts'
  kernel and the final kernel: of each kernel and its reference that it runs, leaves its arguments as they were and every semaphore at zero,
  and that kernel and reference hold equal results (the experts' in the rows in use).
-/
module

public import proofs.«01_k».proof.Defs
public import proofs.«01_k».proof.Proof.Gen.Gqa
public import proofs.«01_k».proof.Proof.Gen.Gqa.Skeleton
public import proofs.«01_k».proof.Proof.Gen.Gqa.Loops
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Loops
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaRefIdeal
public import proofs.«01_k».proof.Proof.Gen.Mla
public import proofs.«01_k».proof.Proof.Gen.Mla.Skeleton
public import proofs.«01_k».proof.Proof.Gen.Mla.Loops
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Loops
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.MlaIdeal.Value
public import proofs.«01_k».proof.Proof.Gen.GqaIdeal.Value
public import proofs.«01_k».proof.Proof.Gen.MlaRefIdeal.Run
public import proofs.«01_k».proof.Proof.Gen.GqaRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.Gen.Pre_merge_inputs_ok
public import proofs.«01_k».proof.Proof.Gen.Pre_gqa_inputs_ok
public import proofs.«01_k».proof.Proof.Gen.Pre_mla_inputs_ok
public import proofs.«01_k».proof.Proof.GqaClaim
public import proofs.«01_k».proof.Proof.MlaClaim
public import proofs.«01_k».proof.Proof.MergeClaim
public import proofs.«01_k».proof.Proof.MoeClaim
public import proofs.«01_k».proof.Proof.QkvClaim
public import proofs.«01_k».proof.Proof.FinalClaim
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.Pre_qkv_inputs_ok
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalIdeal.Value
public import proofs.«01_k».proof.Proof.Gen.FinalRefIdeal
public import proofs.«01_k».proof.Proof.Gen.FinalRefIdeal.Run
public import proofs.«01_k».proof.Proof.Gen.Na
public import proofs.«01_k».proof.Proof.Gen.Na.Skeleton
public import proofs.«01_k».proof.Proof.Gen.Na.Launch
public import proofs.«01_k».proof.Proof.Gen.Na.Points
public import proofs.«01_k».proof.Proof.Gen.Na.Frame
public import proofs.«01_k».proof.Proof.Gen.NaIdeal
public import proofs.«01_k».proof.Proof.Gen.NaIdeal.Skeleton
public import proofs.«01_k».proof.Proof.Gen.NaIdeal.Launch
public import proofs.«01_k».proof.Proof.Gen.NaIdeal.Points
public import proofs.«01_k».proof.Proof.Gen.NaIdeal.Frame
public import proofs.«01_k».proof.Proof.Gen.NaIdeal.Value
public import proofs.«01_k».proof.Proof.Gen.NaRefIdeal
public import proofs.«01_k».proof.Proof.Gen.NaRefIdeal.Run
public import proofs.«01_k».proof.Proof.Gen.Pre_na_inputs_ok
public import proofs.«01_k».proof.Proof.NaClaim
public import Idealize.ShloMosaic.Adequacy
public import Idealize.ShloMosaic.Init
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeRefIdeal
public import proofs.«01_k».proof.Proof.Gen.MoeRefIdeal.Run
public import proofs.«01_k».proof.Proof.Gen.On_active_rows
public import proofs.«01_k».proof.Proof.Gen.Pre_moe_inputs_ok

@[expose] public section

noncomputable section

namespace Cert.Proof

open Idealize.ShloMosaic Idealize.SL.Sem Cert.Gqa

/-- Every claim, in the order in which it is stated. -/
theorem claim : Cert.Claim := ⟨Cert.Gqa.Gen.facts, Cert.GqaIdeal.Gen.facts, Cert.GqaRefIdeal.Gen.facts, Cert.Mla.Gen.facts, Cert.MlaIdeal.Gen.facts, Cert.MlaRefIdeal.Gen.facts,
  Cert.Merge.Gen.facts, Cert.MergeIdeal.Gen.facts, Cert.MergeRefIdeal.Gen.facts,
  Cert.Moe.Gen.facts, Cert.MoeIdeal.Gen.facts, Cert.MoeRefIdeal.Gen.facts,
  Cert.Qkv.Gen.facts, Cert.QkvIdeal.Gen.facts, Cert.QkvRefIdeal.Gen.facts,
  Cert.Final.Gen.facts, Cert.FinalIdeal.Gen.facts, Cert.FinalRefIdeal.Gen.facts,
  Cert.Na.Gen.facts, Cert.NaIdeal.Gen.facts, Cert.NaRefIdeal.Gen.facts,
  Cert.Pre_gqa_inputs_ok.Gen.facts, Cert.Pre_mla_inputs_ok.Gen.facts, Cert.Pre_merge_inputs_ok.Gen.facts,
  Cert.Pre_moe_inputs_ok.Gen.facts, Cert.Pre_qkv_inputs_ok.Gen.facts, Cert.Pre_na_inputs_ok.Gen.facts, Cert.On_active_rows.Gen.facts,
  fun m ρ _ => Cert.Gqa.Gen.frame m ρ, fun m ρ _ => Cert.GqaIdeal.Gen.frame m ρ, fun m ρ _ => Cert.GqaIdeal.Gen.frame m ρ,
  Cert.Attention.Gqa.frame_ref, Cert.Attention.Gqa.frame_ref_pre,
  fun m ρ _ => Cert.Mla.Gen.frame m ρ, fun m ρ _ => Cert.MlaIdeal.Gen.frame m ρ, fun m ρ _ => Cert.MlaIdeal.Gen.frame m ρ,
  Cert.Attention.Mla.frame_ref, Cert.Attention.Mla.frame_ref_pre,
  fun m ρ _ => Cert.Merge.Gen.frame m ρ, fun m ρ _ => Cert.MergeIdeal.Gen.frame m ρ, fun m ρ _ => Cert.MergeIdeal.Gen.frame m ρ,
  Cert.MergeProof.frame_ref, Cert.MergeProof.frame_ref_pre,
  Cert.MoeProof.frame, Cert.MoeProof.frame_ideal, Cert.MoeProof.frame_ref, Cert.MoeProof.frame_ref_pre,
  fun m ρ _ => Cert.Qkv.Gen.frame m ρ, fun m ρ _ => Cert.QkvIdeal.Gen.frame m ρ, fun m ρ _ => Cert.QkvIdeal.Gen.frame m ρ,
  Cert.QkvProof.frame_ref, Cert.QkvProof.frame_ref_pre,
  fun m ρ _ => Cert.Final.Gen.frame m ρ, fun m ρ _ => Cert.FinalIdeal.Gen.frame m ρ, Cert.FinalProof.frame_ref,
  fun m ρ _ => Cert.Na.Gen.frame m ρ, fun m ρ _ => Cert.NaIdeal.Gen.frame m ρ, fun m ρ _ => Cert.NaIdeal.Gen.frame m ρ,
  Cert.NaProof.frame_ref, Cert.NaProof.frame_ref_pre,
  trivial, Cert.Attention.Gqa.algebraic, trivial, Cert.Attention.Mla.algebraic, trivial, Cert.MergeProof.algebraic,
  trivial, Cert.MoeProof.algebraic, trivial, Cert.QkvProof.algebraic,
  trivial, Cert.FinalProof.algebraic, trivial, Cert.NaProof.algebraic⟩

end Cert.Proof

end
